-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Op (m : (ℓ : Loc Cert.Op.nD Cert.Op.τ Cert.Op.sig) → Buf (Elt Bits) ℓ) : Prop :=
  True

def Pre_OpIdeal (m : (ℓ : Loc Cert.OpIdeal.nD Cert.OpIdeal.τ Cert.OpIdeal.sig) → Buf (Elt Ideal) ℓ) : Prop :=
  True

def Pre_OpRefIdeal (m : (ℓ : Loc Cert.OpRefIdeal.nD Cert.OpRefIdeal.τ Cert.OpRefIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideRefIdeal (m : (ℓ : Loc Cert.WideRefIdeal.nD Cert.WideRefIdeal.τ Cert.WideRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotRefIdeal (m : (ℓ : Loc Cert.RotRefIdeal.nD Cert.RotRefIdeal.τ Cert.RotRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_qk_finite [hPre_qk_finite : Cert.Pre_qk_finite.Facts] (m : (ℓ : Loc Cert.SbIdeal.nD Cert.SbIdeal.τ Cert.SbIdeal.sig) → Buf (Elt Ideal) ℓ) : Prop :=
  ∀ c : Dev Cert.SbIdeal.nD,
    (Cert.Pre_qk_finite.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_qk_finite [hPre_qk_finite : Cert.Pre_qk_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_qk_finite.fn (F := Ideal) (m ((c.tc : Thread Cert.SbRefIdeal.nD Cert.SbRefIdeal.τ).loc Cert.SbRefIdeal.main_arg0))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnIdeal_kvg_finite [hPre_kvg_finite : Cert.Pre_kvg_finite.Facts] (m : (ℓ : Loc Cert.GdnIdeal.nD Cert.GdnIdeal.τ Cert.GdnIdeal.sig) → Buf (Elt Ideal) ℓ) : Prop :=
  ∀ c : Dev Cert.GdnIdeal.nD,
    (Cert.Pre_kvg_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2))) = (fun _ => 1#1)

def Pre_GdnRefIdeal (m : (ℓ : Loc Cert.GdnRefIdeal.nD Cert.GdnRefIdeal.τ Cert.GdnRefIdeal.sig) → Buf (Elt Ideal) ℓ) : Prop :=
  True

def Pre_GdnRefIdeal_kvg_finite [hPre_kvg_finite : Cert.Pre_kvg_finite.Facts] (m : (ℓ : Loc Cert.GdnRefIdeal.nD Cert.GdnRefIdeal.τ Cert.GdnRefIdeal.sig) → Buf (Elt Ideal) ℓ) : Prop :=
  ∀ c : Dev Cert.GdnRefIdeal.nD,
    (Cert.Pre_kvg_finite.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Op [hOp : Cert.Op.Facts] : Prop :=
  ∀ (m : (ℓ : Loc Cert.Op.nD Cert.Op.τ Cert.Op.sig) → Buf (Elt Bits) ℓ) (g : Dev Cert.Op.nD → PrngReg), Pre_Op m →
    θ_run (Cert.Op.defs (F := Bits)) (onTc (τ := Cert.Op.τ) (Cert.Op.main (F := Bits))) ⟨m, fun _ => 0, g⟩ (fun r => (∀ c : Dev Cert.Op.nD,
      r.2.mem ((c.tc : Thread Cert.Op.nD Cert.Op.τ).loc Cert.Op.main_arg0) = m ((c.tc : Thread Cert.Op.nD Cert.Op.τ).loc Cert.Op.main_arg0)
      ∧ r.2.mem ((c.tc : Thread Cert.Op.nD Cert.Op.τ).loc Cert.Op.main_arg1) = m ((c.tc : Thread Cert.Op.nD Cert.Op.τ).loc Cert.Op.main_arg1)
      ∧ r.2.mem ((c.tc : Thread Cert.Op.nD Cert.Op.τ).loc Cert.Op.main_arg2) = m ((c.tc : Thread Cert.Op.nD Cert.Op.τ).loc Cert.Op.main_arg2))
      ∧ r.2.sem = fun _ => 0)

def quiescent_OpIdeal [hOpIdeal : Cert.OpIdeal.Facts] : Prop :=
  ∀ (m : (ℓ : Loc Cert.OpIdeal.nD Cert.OpIdeal.τ Cert.OpIdeal.sig) → Buf (Elt Ideal) ℓ) (g : Dev Cert.OpIdeal.nD → PrngReg), Pre_OpIdeal m →
    θ_run (Cert.OpIdeal.defs (F := Ideal)) (onTc (τ := Cert.OpIdeal.τ) (Cert.OpIdeal.main (F := Ideal))) ⟨m, fun _ => 0, g⟩ (fun r => (∀ c : Dev Cert.OpIdeal.nD,
      r.2.mem ((c.tc : Thread Cert.OpIdeal.nD Cert.OpIdeal.τ).loc Cert.OpIdeal.main_arg0) = m ((c.tc : Thread Cert.OpIdeal.nD Cert.OpIdeal.τ).loc Cert.OpIdeal.main_arg0)
      ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
      ∧ r.2.mem ((c.tc : Thread Cert.OpIdeal.nD Cert.OpIdeal.τ).loc Cert.OpIdeal.main_arg2) = m ((c.tc : Thread Cert.OpIdeal.nD Cert.OpIdeal.τ).loc Cert.OpIdeal.main_arg2))
      ∧ r.2.sem = fun _ => 0)

def quiescent_OpRefIdeal [hOpRefIdeal : Cert.OpRefIdeal.Facts] : Prop :=
  ∀ (m : (ℓ : Loc Cert.OpRefIdeal.nD Cert.OpRefIdeal.τ Cert.OpRefIdeal.sig) → Buf (Elt Ideal) ℓ) (g : Dev Cert.OpRefIdeal.nD → PrngReg), Pre_OpRefIdeal m →
    θ_run (Cert.OpRefIdeal.defs (F := Ideal)) (onTc (τ := Cert.OpRefIdeal.τ) (Cert.OpRefIdeal.main (F := Ideal))) ⟨m, fun _ => 0, g⟩ (fun r => (∀ c : Dev Cert.OpRefIdeal.nD,
      r.2.mem ((c.tc : Thread Cert.OpRefIdeal.nD Cert.OpRefIdeal.τ).loc Cert.OpRefIdeal.main_arg0) = m ((c.tc : Thread Cert.OpRefIdeal.nD Cert.OpRefIdeal.τ).loc Cert.OpRefIdeal.main_arg0)
      ∧ r.2.mem ((c.tc : Thread Cert.OpRefIdeal.nD Cert.OpRefIdeal.τ).loc Cert.OpRefIdeal.main_arg1) = m ((c.tc : Thread Cert.OpRefIdeal.nD Cert.OpRefIdeal.τ).loc Cert.OpRefIdeal.main_arg1)
      ∧ r.2.mem ((c.tc : Thread Cert.OpRefIdeal.nD Cert.OpRefIdeal.τ).loc Cert.OpRefIdeal.main_arg2) = m ((c.tc : Thread Cert.OpRefIdeal.nD Cert.OpRefIdeal.τ).loc Cert.OpRefIdeal.main_arg2))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1)
      ∧ r.2.mem ((c.tc : Thread Cert.Wide.nD Cert.Wide.τ).loc Cert.Wide.main_arg2) = m ((c.tc : Thread Cert.Wide.nD Cert.Wide.τ).loc Cert.Wide.main_arg2))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1)
      ∧ r.2.mem ((c.tc : Thread Cert.WideIdeal.nD Cert.WideIdeal.τ).loc Cert.WideIdeal.main_arg2) = m ((c.tc : Thread Cert.WideIdeal.nD Cert.WideIdeal.τ).loc Cert.WideIdeal.main_arg2))
      ∧ r.2.sem = fun _ => 0)

def quiescent_WideRefIdeal [hWideRefIdeal : Cert.WideRefIdeal.Facts] : Prop :=
  ∀ (m : (ℓ : Loc Cert.WideRefIdeal.nD Cert.WideRefIdeal.τ Cert.WideRefIdeal.sig) → Buf (Elt Ideal) ℓ) (g : Dev Cert.WideRefIdeal.nD → PrngReg), Pre_WideRefIdeal m →
    θ_run (Cert.WideRefIdeal.defs (F := Ideal)) (onTc (τ := Cert.WideRefIdeal.τ) (Cert.WideRefIdeal.main (F := Ideal))) ⟨m, fun _ => 0, g⟩ (fun r => (∀ c : Dev Cert.WideRefIdeal.nD,
      r.2.mem ((c.tc : Thread Cert.WideRefIdeal.nD Cert.WideRefIdeal.τ).loc Cert.WideRefIdeal.main_arg0) = m ((c.tc : Thread Cert.WideRefIdeal.nD Cert.WideRefIdeal.τ).loc Cert.WideRefIdeal.main_arg0)
      ∧ r.2.mem ((c.tc : Thread Cert.WideRefIdeal.nD Cert.WideRefIdeal.τ).loc Cert.WideRefIdeal.main_arg1) = m ((c.tc : Thread Cert.WideRefIdeal.nD Cert.WideRefIdeal.τ).loc Cert.WideRefIdeal.main_arg1)
      ∧ r.2.mem ((c.tc : Thread Cert.WideRefIdeal.nD Cert.WideRefIdeal.τ).loc Cert.WideRefIdeal.main_arg2) = m ((c.tc : Thread Cert.WideRefIdeal.nD Cert.WideRefIdeal.τ).loc Cert.WideRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0)
      ∧ r.2.mem ((c.tc : Thread Cert.Rot.nD Cert.Rot.τ).loc Cert.Rot.main_arg1) = m ((c.tc : Thread Cert.Rot.nD Cert.Rot.τ).loc Cert.Rot.main_arg1)
      ∧ r.2.mem ((c.tc : Thread Cert.Rot.nD Cert.Rot.τ).loc Cert.Rot.main_arg2) = m ((c.tc : Thread Cert.Rot.nD Cert.Rot.τ).loc Cert.Rot.main_arg2)
      ∧ r.2.mem ((c.tc : Thread Cert.Rot.nD Cert.Rot.τ).loc Cert.Rot.main_arg3) = m ((c.tc : Thread Cert.Rot.nD Cert.Rot.τ).loc Cert.Rot.main_arg3)
      ∧ r.2.mem ((c.tc : Thread Cert.Rot.nD Cert.Rot.τ).loc Cert.Rot.main_arg4) = m ((c.tc : Thread Cert.Rot.nD Cert.Rot.τ).loc Cert.Rot.main_arg4))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
      ∧ r.2.mem ((c.tc : Thread Cert.RotIdeal.nD Cert.RotIdeal.τ).loc Cert.RotIdeal.main_arg2) = m ((c.tc : Thread Cert.RotIdeal.nD Cert.RotIdeal.τ).loc Cert.RotIdeal.main_arg2)
      ∧ r.2.mem ((c.tc : Thread Cert.RotIdeal.nD Cert.RotIdeal.τ).loc Cert.RotIdeal.main_arg3) = m ((c.tc : Thread Cert.RotIdeal.nD Cert.RotIdeal.τ).loc Cert.RotIdeal.main_arg3)
      ∧ r.2.mem ((c.tc : Thread Cert.RotIdeal.nD Cert.RotIdeal.τ).loc Cert.RotIdeal.main_arg4) = m ((c.tc : Thread Cert.RotIdeal.nD Cert.RotIdeal.τ).loc Cert.RotIdeal.main_arg4))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m ((c.tc : Thread Cert.RotRefIdeal.nD Cert.RotRefIdeal.τ).loc Cert.RotRefIdeal.main_arg2)
      ∧ r.2.mem ((c.tc : Thread Cert.RotRefIdeal.nD Cert.RotRefIdeal.τ).loc Cert.RotRefIdeal.main_arg3) = m ((c.tc : Thread Cert.RotRefIdeal.nD Cert.RotRefIdeal.τ).loc Cert.RotRefIdeal.main_arg3)
      ∧ r.2.mem ((c.tc : Thread Cert.RotRefIdeal.nD Cert.RotRefIdeal.τ).loc Cert.RotRefIdeal.main_arg4) = m ((c.tc : Thread Cert.RotRefIdeal.nD Cert.RotRefIdeal.τ).loc Cert.RotRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_qk_finite [hSbIdeal : Cert.SbIdeal.Facts] [hPre_qk_finite : Cert.Pre_qk_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_qk_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_qk_finite [hSbRefIdeal : Cert.SbRefIdeal.Facts] [hPre_qk_finite : Cert.Pre_qk_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_qk_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2))
      ∧ r.2.sem = fun _ => 0)

def quiescent_GdnIdeal_pre_kvg_finite [hGdnIdeal : Cert.GdnIdeal.Facts] [hPre_kvg_finite : Cert.Pre_kvg_finite.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal_kvg_finite m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2))
      ∧ r.2.sem = fun _ => 0)

def quiescent_GdnRefIdeal_pre_kvg_finite [hGdnRefIdeal : Cert.GdnRefIdeal.Facts] [hPre_kvg_finite : Cert.Pre_kvg_finite.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal_kvg_finite m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Op_OpIdeal : Prop :=
  True

def algebraic_OpIdeal_OpRefIdeal [hOpIdeal : Cert.OpIdeal.Facts] [hOpRefIdeal : Cert.OpRefIdeal.Facts] : Prop :=
  ∀ (m : (ℓ : Loc Cert.OpIdeal.nD Cert.OpIdeal.τ Cert.OpIdeal.sig) → Buf (Elt Ideal) ℓ) (g : Dev Cert.OpIdeal.nD → PrngReg)
    (m' : (ℓ : Loc Cert.OpRefIdeal.nD Cert.OpRefIdeal.τ Cert.OpRefIdeal.sig) → Buf (Elt Ideal) ℓ) (g' : Dev Cert.OpRefIdeal.nD → PrngReg), Pre_OpIdeal m →
    (∀ c : Dev Cert.OpIdeal.nD,
      m' ((c.tc : Thread Cert.OpRefIdeal.nD Cert.OpRefIdeal.τ).loc Cert.OpRefIdeal.main_arg0) = m ((c.tc : Thread Cert.OpIdeal.nD Cert.OpIdeal.τ).loc Cert.OpIdeal.main_arg0)
      ∧ m' ((c.tc : Thread Cert.OpRefIdeal.nD Cert.OpRefIdeal.τ).loc Cert.OpRefIdeal.main_arg1) = m ((c.tc : Thread Cert.OpIdeal.nD Cert.OpIdeal.τ).loc Cert.OpIdeal.main_arg1)
      ∧ m' ((c.tc : Thread Cert.OpRefIdeal.nD Cert.OpRefIdeal.τ).loc Cert.OpRefIdeal.main_arg2) = m ((c.tc : Thread Cert.OpIdeal.nD Cert.OpIdeal.τ).loc Cert.OpIdeal.main_arg2)) →
    ∃ (v0 : (c : Dev Cert.OpIdeal.nD) → Buf (Elt Ideal) ((c.tc : Thread Cert.OpIdeal.nD Cert.OpIdeal.τ).loc Cert.OpIdeal.main_v1)),
      θ_run (Cert.OpIdeal.defs (F := Ideal)) (onTc (τ := Cert.OpIdeal.τ) (Cert.OpIdeal.main (F := Ideal))) ⟨m, fun _ => 0, g⟩ (fun r => ∀ c : Dev Cert.OpIdeal.nD,
          r.2.mem ((c.tc : Thread Cert.OpIdeal.nD Cert.OpIdeal.τ).loc Cert.OpIdeal.main_v1) = v0 c
          ∧ r.2.mem ((c.tc : Thread Cert.OpIdeal.nD Cert.OpIdeal.τ).loc Cert.OpIdeal.main_arg0) = m ((c.tc : Thread Cert.OpIdeal.nD Cert.OpIdeal.τ).loc Cert.OpIdeal.main_arg0)
          ∧ r.2.mem ((c.tc : Thread Cert.OpIdeal.nD Cert.OpIdeal.τ).loc Cert.OpIdeal.main_arg1) = m ((c.tc : Thread Cert.OpIdeal.nD Cert.OpIdeal.τ).loc Cert.OpIdeal.main_arg1)
          ∧ r.2.mem ((c.tc : Thread Cert.OpIdeal.nD Cert.OpIdeal.τ).loc Cert.OpIdeal.main_arg2) = m ((c.tc : Thread Cert.OpIdeal.nD Cert.OpIdeal.τ).loc Cert.OpIdeal.main_arg2))
      ∧ θ_run (Cert.OpRefIdeal.defs (F := Ideal)) (onTc (τ := Cert.OpRefIdeal.τ) (Cert.OpRefIdeal.main (F := Ideal))) ⟨m', fun _ => 0, g'⟩ (fun r => ∀ c : Dev Cert.OpRefIdeal.nD,
          r.2.mem ((c.tc : Thread Cert.OpRefIdeal.nD Cert.OpRefIdeal.τ).loc Cert.OpRefIdeal.main_v2) = v0 c
          ∧ r.2.mem ((c.tc : Thread Cert.OpRefIdeal.nD Cert.OpRefIdeal.τ).loc Cert.OpRefIdeal.main_arg0) = m' ((c.tc : Thread Cert.OpRefIdeal.nD Cert.OpRefIdeal.τ).loc Cert.OpRefIdeal.main_arg0)
          ∧ r.2.mem ((c.tc : Thread Cert.OpRefIdeal.nD Cert.OpRefIdeal.τ).loc Cert.OpRefIdeal.main_arg1) = m' ((c.tc : Thread Cert.OpRefIdeal.nD Cert.OpRefIdeal.τ).loc Cert.OpRefIdeal.main_arg1)
          ∧ r.2.mem ((c.tc : Thread Cert.OpRefIdeal.nD Cert.OpRefIdeal.τ).loc Cert.OpRefIdeal.main_arg2) = m' ((c.tc : Thread Cert.OpRefIdeal.nD Cert.OpRefIdeal.τ).loc Cert.OpRefIdeal.main_arg2))

def preserves_Wide_WideIdeal : Prop :=
  True

def algebraic_WideIdeal_WideRefIdeal [hWideIdeal : Cert.WideIdeal.Facts] [hWideRefIdeal : Cert.WideRefIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideRefIdeal.nD Cert.WideRefIdeal.τ Cert.WideRefIdeal.sig) → Buf (Elt Ideal) ℓ) (g' : Dev Cert.WideRefIdeal.nD → PrngReg), Pre_WideIdeal m →
    (∀ c : Dev Cert.WideIdeal.nD,
      m' ((c.tc : Thread Cert.WideRefIdeal.nD Cert.WideRefIdeal.τ).loc Cert.WideRefIdeal.main_arg0) = m ((c.tc : Thread Cert.WideIdeal.nD Cert.WideIdeal.τ).loc Cert.WideIdeal.main_arg0)
      ∧ m' ((c.tc : Thread Cert.WideRefIdeal.nD Cert.WideRefIdeal.τ).loc Cert.WideRefIdeal.main_arg1) = m ((c.tc : Thread Cert.WideIdeal.nD Cert.WideIdeal.τ).loc Cert.WideIdeal.main_arg1)
      ∧ m' ((c.tc : Thread Cert.WideRefIdeal.nD Cert.WideRefIdeal.τ).loc Cert.WideRefIdeal.main_arg2) = m ((c.tc : Thread Cert.WideIdeal.nD Cert.WideIdeal.τ).loc Cert.WideIdeal.main_arg2)) →
    ∃ (v0 : (c : Dev Cert.WideIdeal.nD) → Buf (Elt Ideal) ((c.tc : Thread Cert.WideIdeal.nD Cert.WideIdeal.τ).loc Cert.WideIdeal.main_v1)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v1) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1)
          ∧ r.2.mem ((c.tc : Thread Cert.WideIdeal.nD Cert.WideIdeal.τ).loc Cert.WideIdeal.main_arg2) = m ((c.tc : Thread Cert.WideIdeal.nD Cert.WideIdeal.τ).loc Cert.WideIdeal.main_arg2))
      ∧ θ_run (Cert.WideRefIdeal.defs (F := Ideal)) (onTc (τ := Cert.WideRefIdeal.τ) (Cert.WideRefIdeal.main (F := Ideal))) ⟨m', fun _ => 0, g'⟩ (fun r => ∀ c : Dev Cert.WideRefIdeal.nD,
          r.2.mem ((c.tc : Thread Cert.WideRefIdeal.nD Cert.WideRefIdeal.τ).loc Cert.WideRefIdeal.main_v2) = v0 c
          ∧ r.2.mem ((c.tc : Thread Cert.WideRefIdeal.nD Cert.WideRefIdeal.τ).loc Cert.WideRefIdeal.main_arg0) = m' ((c.tc : Thread Cert.WideRefIdeal.nD Cert.WideRefIdeal.τ).loc Cert.WideRefIdeal.main_arg0)
          ∧ r.2.mem ((c.tc : Thread Cert.WideRefIdeal.nD Cert.WideRefIdeal.τ).loc Cert.WideRefIdeal.main_arg1) = m' ((c.tc : Thread Cert.WideRefIdeal.nD Cert.WideRefIdeal.τ).loc Cert.WideRefIdeal.main_arg1)
          ∧ r.2.mem ((c.tc : Thread Cert.WideRefIdeal.nD Cert.WideRefIdeal.τ).loc Cert.WideRefIdeal.main_arg2) = m' ((c.tc : Thread Cert.WideRefIdeal.nD Cert.WideRefIdeal.τ).loc Cert.WideRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v54) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Rot_RotIdeal : Prop :=
  True

def algebraic_RotIdeal_RotRefIdeal [hRotIdeal : Cert.RotIdeal.Facts] [hRotRefIdeal : Cert.RotRefIdeal.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotIdeal m →
    (∀ c : Dev Cert.RotIdeal.nD,
      m' ((c.tc : Thread Cert.RotRefIdeal.nD Cert.RotRefIdeal.τ).loc Cert.RotRefIdeal.main_arg0) = m ((c.tc : Thread Cert.RotIdeal.nD Cert.RotIdeal.τ).loc Cert.RotIdeal.main_arg0)
      ∧ m' ((c.tc : Thread Cert.RotRefIdeal.nD Cert.RotRefIdeal.τ).loc Cert.RotRefIdeal.main_arg1) = m ((c.tc : Thread Cert.RotIdeal.nD Cert.RotIdeal.τ).loc Cert.RotIdeal.main_arg1)
      ∧ m' ((c.tc : Thread Cert.RotRefIdeal.nD Cert.RotRefIdeal.τ).loc Cert.RotRefIdeal.main_arg2) = m ((c.tc : Thread Cert.RotIdeal.nD Cert.RotIdeal.τ).loc Cert.RotIdeal.main_arg2)
      ∧ m' ((c.tc : Thread Cert.RotRefIdeal.nD Cert.RotRefIdeal.τ).loc Cert.RotRefIdeal.main_arg3) = m ((c.tc : Thread Cert.RotIdeal.nD Cert.RotIdeal.τ).loc Cert.RotIdeal.main_arg3)
      ∧ m' ((c.tc : Thread Cert.RotRefIdeal.nD Cert.RotRefIdeal.τ).loc Cert.RotRefIdeal.main_arg4) = m ((c.tc : Thread Cert.RotIdeal.nD Cert.RotIdeal.τ).loc Cert.RotIdeal.main_arg4)) →
    ∃ (v0 : (c : Dev Cert.RotIdeal.nD) → Buf (Elt Ideal) ((c.tc : Thread Cert.RotIdeal.nD Cert.RotIdeal.τ).loc Cert.RotIdeal.main_v3)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v3) = v0 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0)
          ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
          ∧ r.2.mem ((c.tc : Thread Cert.RotIdeal.nD Cert.RotIdeal.τ).loc Cert.RotIdeal.main_arg2) = m ((c.tc : Thread Cert.RotIdeal.nD Cert.RotIdeal.τ).loc Cert.RotIdeal.main_arg2)
          ∧ r.2.mem ((c.tc : Thread Cert.RotIdeal.nD Cert.RotIdeal.τ).loc Cert.RotIdeal.main_arg3) = m ((c.tc : Thread Cert.RotIdeal.nD Cert.RotIdeal.τ).loc Cert.RotIdeal.main_arg3)
          ∧ r.2.mem ((c.tc : Thread Cert.RotIdeal.nD Cert.RotIdeal.τ).loc Cert.RotIdeal.main_arg4) = m ((c.tc : Thread Cert.RotIdeal.nD Cert.RotIdeal.τ).loc Cert.RotIdeal.main_arg4))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v55) = v0 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
          ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1)
          ∧ r.2.mem ((c.tc : Thread Cert.RotRefIdeal.nD Cert.RotRefIdeal.τ).loc Cert.RotRefIdeal.main_arg2) = m' ((c.tc : Thread Cert.RotRefIdeal.nD Cert.RotRefIdeal.τ).loc Cert.RotRefIdeal.main_arg2)
          ∧ r.2.mem ((c.tc : Thread Cert.RotRefIdeal.nD Cert.RotRefIdeal.τ).loc Cert.RotRefIdeal.main_arg3) = m' ((c.tc : Thread Cert.RotRefIdeal.nD Cert.RotRefIdeal.τ).loc Cert.RotRefIdeal.main_arg3)
          ∧ r.2.mem ((c.tc : Thread Cert.RotRefIdeal.nD Cert.RotRefIdeal.τ).loc Cert.RotRefIdeal.main_arg4) = m' ((c.tc : Thread Cert.RotRefIdeal.nD Cert.RotRefIdeal.τ).loc Cert.RotRefIdeal.main_arg4))

def preserves_Sb_SbIdeal : Prop :=
  True

def algebraic_SbIdeal_SbRefIdeal_pre_qk_finite [hSbIdeal : Cert.SbIdeal.Facts] [hSbRefIdeal : Cert.SbRefIdeal.Facts] [hPre_qk_finite : Cert.Pre_qk_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_qk_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v31) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v74) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v11)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v11) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v84) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_Gdn_GdnIdeal : Prop :=
  True

def algebraic_GdnIdeal_GdnRefIdeal_pre_kvg_finite [hGdnIdeal : Cert.GdnIdeal.Facts] [hGdnRefIdeal : Cert.GdnRefIdeal.Facts] [hPre_kvg_finite : Cert.Pre_kvg_finite.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal_kvg_finite m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)) →
    ∃ (v0 : (c : Dev Cert.GdnIdeal.nD) → Buf (Elt Ideal) ((c.tc : Thread Cert.GdnIdeal.nD Cert.GdnIdeal.τ).loc Cert.GdnIdeal.main_v1)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v1) = v0 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v345) = v0 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v34) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def Claim : Prop :=
  ∃ (hKernel : Cert.Kernel.Facts) (hKernelIdeal : Cert.KernelIdeal.Facts) (hReferenceIdeal : Cert.ReferenceIdeal.Facts) (hOp : Cert.Op.Facts) (hOpIdeal : Cert.OpIdeal.Facts) (hOpRefIdeal : Cert.OpRefIdeal.Facts) (hWide : Cert.Wide.Facts) (hWideIdeal : Cert.WideIdeal.Facts) (hWideRefIdeal : Cert.WideRefIdeal.Facts) (hQkv : Cert.Qkv.Facts) (hQkvIdeal : Cert.QkvIdeal.Facts) (hQkvRefIdeal : Cert.QkvRefIdeal.Facts) (hRot : Cert.Rot.Facts) (hRotIdeal : Cert.RotIdeal.Facts) (hRotRefIdeal : Cert.RotRefIdeal.Facts) (hSb : Cert.Sb.Facts) (hSbIdeal : Cert.SbIdeal.Facts) (hSbRefIdeal : Cert.SbRefIdeal.Facts) (hConv : Cert.Conv.Facts) (hConvIdeal : Cert.ConvIdeal.Facts) (hConvRefIdeal : Cert.ConvRefIdeal.Facts) (hRet : Cert.Ret.Facts) (hRetIdeal : Cert.RetIdeal.Facts) (hRetRefIdeal : Cert.RetRefIdeal.Facts) (hGdn : Cert.Gdn.Facts) (hGdnIdeal : Cert.GdnIdeal.Facts) (hGdnRefIdeal : Cert.GdnRefIdeal.Facts) (hGate : Cert.Gate.Facts) (hGateIdeal : Cert.GateIdeal.Facts) (hGateRefIdeal : Cert.GateRefIdeal.Facts) (hPre_qk_finite : Cert.Pre_qk_finite.Facts) (hPre_kvg_finite : Cert.Pre_kvg_finite.Facts),
    quiescent_Kernel (hKernel := hKernel)
    ∧ quiescent_KernelIdeal (hKernelIdeal := hKernelIdeal)
    ∧ quiescent_ReferenceIdeal (hReferenceIdeal := hReferenceIdeal)
    ∧ quiescent_Op (hOp := hOp)
    ∧ quiescent_OpIdeal (hOpIdeal := hOpIdeal)
    ∧ quiescent_OpRefIdeal (hOpRefIdeal := hOpRefIdeal)
    ∧ quiescent_Wide (hWide := hWide)
    ∧ quiescent_WideIdeal (hWideIdeal := hWideIdeal)
    ∧ quiescent_WideRefIdeal (hWideRefIdeal := hWideRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Rot (hRot := hRot)
    ∧ quiescent_RotIdeal (hRotIdeal := hRotIdeal)
    ∧ quiescent_RotRefIdeal (hRotRefIdeal := hRotRefIdeal)
    ∧ quiescent_Sb (hSb := hSb)
    ∧ quiescent_SbIdeal (hSbIdeal := hSbIdeal)
    ∧ quiescent_SbIdeal_pre_qk_finite (hSbIdeal := hSbIdeal) (hPre_qk_finite := hPre_qk_finite)
    ∧ quiescent_SbRefIdeal (hSbRefIdeal := hSbRefIdeal)
    ∧ quiescent_SbRefIdeal_pre_qk_finite (hSbRefIdeal := hSbRefIdeal) (hPre_qk_finite := hPre_qk_finite)
    ∧ quiescent_Conv (hConv := hConv)
    ∧ quiescent_ConvIdeal (hConvIdeal := hConvIdeal)
    ∧ quiescent_ConvRefIdeal (hConvRefIdeal := hConvRefIdeal)
    ∧ quiescent_Ret (hRet := hRet)
    ∧ quiescent_RetIdeal (hRetIdeal := hRetIdeal)
    ∧ quiescent_RetRefIdeal (hRetRefIdeal := hRetRefIdeal)
    ∧ quiescent_Gdn (hGdn := hGdn)
    ∧ quiescent_GdnIdeal (hGdnIdeal := hGdnIdeal)
    ∧ quiescent_GdnIdeal_pre_kvg_finite (hGdnIdeal := hGdnIdeal) (hPre_kvg_finite := hPre_kvg_finite)
    ∧ quiescent_GdnRefIdeal (hGdnRefIdeal := hGdnRefIdeal)
    ∧ quiescent_GdnRefIdeal_pre_kvg_finite (hGdnRefIdeal := hGdnRefIdeal) (hPre_kvg_finite := hPre_kvg_finite)
    ∧ quiescent_Gate (hGate := hGate)
    ∧ quiescent_GateIdeal (hGateIdeal := hGateIdeal)
    ∧ quiescent_GateRefIdeal (hGateRefIdeal := hGateRefIdeal)
    ∧ preserves_Kernel_KernelIdeal
    ∧ algebraic_KernelIdeal_ReferenceIdeal (hKernelIdeal := hKernelIdeal) (hReferenceIdeal := hReferenceIdeal)
    ∧ preserves_Op_OpIdeal
    ∧ algebraic_OpIdeal_OpRefIdeal (hOpIdeal := hOpIdeal) (hOpRefIdeal := hOpRefIdeal)
    ∧ preserves_Wide_WideIdeal
    ∧ algebraic_WideIdeal_WideRefIdeal (hWideIdeal := hWideIdeal) (hWideRefIdeal := hWideRefIdeal)
    ∧ preserves_Qkv_QkvIdeal
    ∧ algebraic_QkvIdeal_QkvRefIdeal (hQkvIdeal := hQkvIdeal) (hQkvRefIdeal := hQkvRefIdeal)
    ∧ preserves_Rot_RotIdeal
    ∧ algebraic_RotIdeal_RotRefIdeal (hRotIdeal := hRotIdeal) (hRotRefIdeal := hRotRefIdeal)
    ∧ preserves_Sb_SbIdeal
    ∧ algebraic_SbIdeal_SbRefIdeal_pre_qk_finite (hSbIdeal := hSbIdeal) (hSbRefIdeal := hSbRefIdeal) (hPre_qk_finite := hPre_qk_finite)
    ∧ preserves_Conv_ConvIdeal
    ∧ algebraic_ConvIdeal_ConvRefIdeal (hConvIdeal := hConvIdeal) (hConvRefIdeal := hConvRefIdeal)
    ∧ preserves_Ret_RetIdeal
    ∧ algebraic_RetIdeal_RetRefIdeal (hRetIdeal := hRetIdeal) (hRetRefIdeal := hRetRefIdeal)
    ∧ preserves_Gdn_GdnIdeal
    ∧ algebraic_GdnIdeal_GdnRefIdeal_pre_kvg_finite (hGdnIdeal := hGdnIdeal) (hGdnRefIdeal := hGdnRefIdeal) (hPre_kvg_finite := hPre_kvg_finite)
    ∧ preserves_Gate_GateIdeal
    ∧ algebraic_GateIdeal_GateRefIdeal (hGateIdeal := hGateIdeal) (hGateRefIdeal := hGateRefIdeal)
-- ==== Pre_kvg_finite.lean ====
abbrev S8x4096x6144 : Shape := ⟨3, ![8, 4096, 6144]⟩
abbrev S8x4096x128 : Shape := ⟨3, ![8, 4096, 128]⟩
abbrev S256 : Shape := ⟨1, ![256]⟩
abbrev S8x4096x3072 : Shape := ⟨3, ![8, 4096, 3072]⟩
abbrev S_ : Shape := ⟨0, ![]⟩
abbrev S8x4096x16 : Shape := ⟨3, ![8, 4096, 16]⟩
abbrev S8x4096x3088 : Shape := ⟨3, ![8, 4096, 3088]⟩

class Facts : Prop where
  slices_S8x4096x6144_S8x4096x3072_0_0_1024 : S8x4096x6144.Slices ![0, 0, 1024] S8x4096x3072
  bitsLt_bf16_f32 : FTy.bits .bf16 < FTy.bits .f32
  bcast_S_S8x4096x3072 : S_.BroadcastsInDim S8x4096x3072 (![] : Fin 0 → Fin S8x4096x3072.rank)
  slices_S8x4096x128_S8x4096x16_0_0_0 : S8x4096x128.Slices ![0, 0, 0] S8x4096x16
  bcast_S_S8x4096x16 : S_.BroadcastsInDim S8x4096x16 (![] : Fin 0 → Fin S8x4096x16.rank)
  concatenates_S8x4096x3072_S8x4096x16_S8x4096x3088_d2 : Shape.Concatenates [S8x4096x3072, S8x4096x16] S8x4096x3088 2

variable [Facts]

def fn {F : FTy → Type} [FloatOps F] (main_arg0 : FVec F S8x4096x6144 .bf16) (main_arg1 : FVec F S8x4096x128 .f32) (main_arg2 : FVec F S256 .f32) : IVec S8x4096x3088 1 :=
  let main_v0 : FVec F S8x4096x3072 .bf16 := (extractStridedSlice S8x4096x3072 ![0, 0, 1024] · slices_S8x4096x6144_S8x4096x3072_0_0_1024) main_arg0
  let main_v1 : FVec F S8x4096x3072 .f32 := (extf .f32 · bitsLt_bf16_f32) main_v0
  let main_v2 : FVec F S8x4096x3072 .f32 := Host.absf main_v1
  let main_cst : FVec F S_ .f32 := constant S_ .f32 0x7F800000#32
  let main_v3 : FVec F S8x4096x3072 .f32 := broadcastInDim S8x4096x3072 ![] bcast_S_S8x4096x3072 main_cst
  let main_v4 : IVec S8x4096x3072 1 := cmpf .olt main_v2 main_v3
  let main_v5 : FVec F S8x4096x16 .f32 := (extractStridedSlice S8x4096x16 ![0, 0, 0] · slices_S8x4096x128_S8x4096x16_0_0_0) main_arg1
  let main_v6 : FVec F S8x4096x16 .f32 := Host.absf main_v5
  let main_cst_0 : FVec F S_ .f32 := constant S_ .f32 0x7F800000#32
  let main_v7 : FVec F S8x4096x16 .f32 := broadcastInDim S8x4096x16 ![] bcast_S_S8x4096x16 main_cst_0
  let main_v8 : IVec S8x4096x16 1 := cmpf .olt main_v6 main_v7
  let main_v9 : IVec S8x4096x3088 1 := (fun a b => concatenate S8x4096x3088 2 [⟨S8x4096x3072, a⟩, ⟨S8x4096x16, b⟩] concatenates_S8x4096x3072_S8x4096x16_S8x4096x3088_d2) main_v4 main_v8
  main_v9
-- ==== Pre_qk_finite.lean ====
abbrev S8x4096x3072 : Shape := ⟨3, ![8, 4096, 3072]⟩
abbrev S8x4096x2048 : Shape := ⟨3, ![8, 4096, 2048]⟩
abbrev S_ : Shape := ⟨0, ![]⟩

class Facts : Prop where
  slices_S8x4096x3072_S8x4096x2048_0_0_0 : S8x4096x3072.Slices ![0, 0, 0] S8x4096x2048
  bitsLt_bf16_f32 : FTy.bits .bf16 < FTy.bits .f32
  bcast_S_S8x4096x2048 : S_.BroadcastsInDim S8x4096x2048 (![] : Fin 0 → Fin S8x4096x2048.rank)

variable [Facts]

def fn {F : FTy → Type} [FloatOps F] (main_arg0 : FVec F S8x4096x3072 .bf16) : IVec S8x4096x2048 1 :=
  let main_v0 : FVec F S8x4096x2048 .bf16 := (extractStridedSlice S8x4096x2048 ![0, 0, 0] · slices_S8x4096x3072_S8x4096x2048_0_0_0) main_arg0
  let main_v1 : FVec F S8x4096x2048 .f32 := (extf .f32 · bitsLt_bf16_f32) main_v0
  let main_v2 : FVec F S8x4096x2048 .f32 := Host.absf main_v1
  let main_cst : FVec F S_ .f32 := constant S_ .f32 0x7F800000#32
  let main_v3 : FVec F S8x4096x2048 .f32 := broadcastInDim S8x4096x2048 ![] bcast_S_S8x4096x2048 main_cst
  let main_v4 : IVec S8x4096x2048 1 := cmpf .olt main_v2 main_v3
  main_v4
-- ==== Kernel.lean ====
abbrev S8x4096x1024 : Shape := ⟨3, ![8, 4096, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 9
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x4096x1024 : Shape := ⟨3, ![8, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x5632, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S8x4096x2816, .f32⟩
  | .hbm, ⟨25, _⟩ => ⟨S_, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Op.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OpIdeal.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OpRefIdeal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Wide.lean ====
abbrev S32768x2048 : Shape := ⟨2, ![32768, 2048]⟩
abbrev S2048x1024 : Shape := ⟨2, ![2048, 1024]⟩
abbrev S32768x1024 : Shape := ⟨2, ![32768, 1024]⟩
abbrev S512x2048 : Shape := ⟨2, ![512, 2048]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S2048x1024, .bf16⟩
  | .hbm, ⟨4, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== WideRefIdeal.lean ====
abbrev S32768x2048 : Shape := ⟨2, ![32768, 2048]⟩
abbrev S2048x1024 : Shape := ⟨2, ![2048, 1024]⟩
abbrev S32768x1024 : Shape := ⟨2, ![32768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S32768x2048, .f32⟩
  | .hbm, ⟨4, _⟩ => ⟨S32768x1024, .f32⟩
  | .hbm, ⟨5, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Qkv.lean ====
abbrev S8x4096x1024 : Shape := ⟨3, ![8, 4096, 1024]⟩
abbrev S1024 : Shape := ⟨1, ![1024]⟩
abbrev S1024x3072 : Shape := ⟨2, ![1024, 3072]⟩
abbrev S128 : Shape := ⟨1, ![128]⟩
abbrev S32768x1024 : Shape := ⟨2, ![32768, 1024]⟩
abbrev S1x1024 : Shape := ⟨2, ![1, 1024]⟩
abbrev S1x128 : Shape := ⟨2, ![1, 128]⟩
abbrev S32768x3072 : Shape := ⟨2, ![32768, 3072]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S512x128 : Shape := ⟨2, ![512, 128]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S128, .f32⟩
  | .hbm, ⟨4, _⟩ => ⟨S128, .f32⟩
  | .hbm, ⟨5, _⟩ => ⟨S32768x1024, .f32⟩
  | .hbm, ⟨6, _⟩ => ⟨S1024x3072, .bf16⟩
  | .hbm, ⟨7, _⟩ => ⟨S1x1024, .f32⟩
  | .hbm, ⟨8, _⟩ => ⟨S1x128, .f32⟩
  | .hbm, ⟨9, _⟩ => ⟨S1x128, .f32⟩
  | .hbm, ⟨10, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x128, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![64, 3], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .eq arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S8x4096x1024 : Shape := ⟨3, ![8, 4096, 1024]⟩
abbrev S1024 : Shape := ⟨1, ![1024]⟩
abbrev S1024x3072 : Shape := ⟨2, ![1024, 3072]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4096x3x8x128 : Shape := ⟨5, ![8, 4096, 3, 8, 128]⟩
abbrev S8x4096x1x8x128 : Shape := ⟨5, ![8, 4096, 1, 8, 128]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S32768x3072 : Shape := ⟨2, ![32768, 3072]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S128, .f32⟩
  | .hbm, ⟨4, _⟩ => ⟨S128, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x3072, .f32⟩
  | .hbm, ⟨22, _⟩ => ⟨S8x4096x3x8x128, .f32⟩
  | .hbm, ⟨23, _⟩ => ⟨S8x4096x1x8x128, .f32⟩
  | .hbm, ⟨24, _⟩ => ⟨S8x4096x8x128, .f32⟩
  | .hbm, ⟨25, _⟩ => ⟨S8x4096x8x128, .f32⟩
  | .hbm, ⟨26, _⟩ => ⟨S_, .f32⟩
  | .hbm, ⟨27, _⟩ => ⟨S8x4096x8, .f32⟩
  | .hbm, ⟨28, _⟩ => ⟨S8x4096x8x1, .f32⟩
  | .hbm, ⟨29, _⟩ => ⟨S_, .f32⟩
  | .hbm, ⟨30, _⟩ => ⟨S8x4096x8x1, .f32⟩
  | .hbm, ⟨31, _⟩ => ⟨S8x4096x8x1, .f32⟩
  | .hbm, ⟨32, _⟩ => ⟨S_, .f32⟩
  | .hbm, ⟨33, _⟩ => ⟨S8x4096x8x1, .f32⟩
  | .hbm, ⟨34, _⟩ => ⟨S8x4096x8x1, .f32⟩
  | .hbm, ⟨35, _⟩ => ⟨S8x4096x8x1, .f32⟩
  | .hbm, ⟨36, _⟩ => ⟨S8x4096x8x128, .f32⟩
  | .hbm, ⟨37, _⟩ => ⟨S8x4096x8x128, .f32⟩
  | .hbm, ⟨38, _⟩ => ⟨S1x1x1x128, .f32⟩
  | .hbm, ⟨39, _⟩ => ⟨S8x4096x8x128, .f32⟩
  | .hbm, ⟨40, _⟩ => ⟨S8x4096x8x128, .f32⟩
  | .hbm, ⟨41, _⟩ => ⟨S_, .f32⟩
  | .hbm, ⟨42, _⟩ => ⟨S8x4096x8x128, .f32⟩
  | .hbm, ⟨43, _⟩ => ⟨S8x4096x8x128, .f32⟩
  | .hbm, ⟨44, _⟩ => ⟨S8x4096x1x8x128, .f32⟩
  | .hbm, ⟨45, _⟩ => ⟨S8x4096x8x128, .f32⟩
  | .hbm, ⟨46, _⟩ => ⟨S8x4096x8x128, .f32⟩
  | .hbm, ⟨47, _⟩ => ⟨S_, .f32⟩
  | .hbm, ⟨48, _⟩ => ⟨S8x4096x8, .f32⟩
  | .hbm, ⟨49, _⟩ => ⟨S8x4096x8x1, .f32⟩
  | .hbm, ⟨50, _⟩ => ⟨S_, .f32⟩
  | .hbm, ⟨51, _⟩ => ⟨S8x4096x8x1, .f32⟩
  | .hbm, ⟨52, _⟩ => ⟨S8x4096x8x1, .f32⟩
  | .hbm, ⟨53, _⟩ => ⟨S_, .f32⟩
  | .hbm, ⟨54, _⟩ => ⟨S8x4096x8x1, .f32⟩
  | .hbm, ⟨55, _⟩ => ⟨S8x4096x8x1, .f32⟩
  | .hbm, ⟨56, _⟩ => ⟨S8x4096x8x1, .f32⟩
  | .hbm, ⟨57, _⟩ => ⟨S8x4096x8x128, .f32⟩
  | .hbm, ⟨58, _⟩ => ⟨S8x4096x8x128, .f32⟩
  | .hbm, ⟨59, _⟩ => ⟨S1x1x1x128, .f32⟩
  | .hbm, ⟨60, _⟩ => ⟨S8x4096x8x128, .f32⟩
  | .hbm, ⟨61, _⟩ => ⟨S8x4096x8x128, .f32⟩
  | .hbm, ⟨62, _⟩ => ⟨S8x4096x1x8x128, .f32⟩
  | .hbm, ⟨63, _⟩ => ⟨S8x4096x8x128, .f32⟩
  | .hbm, ⟨64, _⟩ => ⟨S8x4096x1x8x128, .f32⟩
  | .hbm, ⟨65, _⟩ => ⟨S8x4096x1x8x128, .f32⟩
  | .hbm, ⟨66, _⟩ => ⟨S8x4096x1x8x128, .f32⟩
  | .hbm, ⟨67, _⟩ => ⟨S8x4096x3x8x128, .f32⟩
  | .hbm, ⟨68, _⟩ => ⟨S32768x3072, .f32⟩
  | .hbm, ⟨69, _⟩ => ⟨S32768x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Rot.lean ====
abbrev S8x4096x1024 : Shape := ⟨3, ![8, 4096, 1024]⟩
abbrev S1024 : Shape := ⟨1, ![1024]⟩
abbrev S1024x6144 : Shape := ⟨2, ![1024, 6144]⟩
abbrev S4096x128 : Shape := ⟨2, ![4096, 128]⟩
abbrev S32768x1024 : Shape := ⟨2, ![32768, 1024]⟩
abbrev S1x1024 : Shape := ⟨2, ![1, 1024]⟩
abbrev S32768x6144 : Shape := ⟨2, ![32768, 6144]⟩
abbrev S512x1024 : Shape := ⟨2, ![512, 1024]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6144, .f32⟩
  | .hbm, ⟨3, _⟩ => ⟨S4096x128, .f32⟩
  | .hbm, ⟨4, _⟩ => ⟨S4096x128, .f32⟩
  | .hbm, ⟨5, _⟩ => ⟨S32768x1024, .f32⟩
  | .hbm, ⟨6, _⟩ => ⟨S1024x6144, .bf16⟩
  | .hbm, ⟨7, _⟩ => ⟨S1x1024, .f32⟩
  | .hbm, ⟨8, _⟩ => ⟨S32768x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 6], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RotRefIdeal.lean ====
abbrev S8x4096x1024 : Shape := ⟨3, ![8, 4096, 1024]⟩
abbrev S1024 : Shape := ⟨1, ![1024]⟩
abbrev S1024x6144 : Shape := ⟨2, ![1024, 6144]⟩
abbrev S4096x128 : Shape := ⟨2, ![4096, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6144 : Shape := ⟨3, ![8, 4096, 6144]⟩
abbrev S8x4096x4096 : Shape := ⟨3, ![8, 4096, 4096]⟩
abbrev S8x4096x4x256 : Shape := ⟨4, ![8, 4096, 4, 256]⟩
abbrev S1x4096x1x128 : Shape := ⟨4, ![1, 4096, 1, 128]⟩
abbrev S8x4096x4x128 : Shape := ⟨4, ![8, 4096, 4, 128]⟩
abbrev S32768x6144 : Shape := ⟨2, ![32768, 6144]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6144, .f32⟩
  | .hbm, ⟨3, _⟩ => ⟨S4096x128, .f32⟩
  | .hbm, ⟨4, _⟩ => ⟨S4096x128, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x6144, .f32⟩
  | .hbm, ⟨22, _⟩ => ⟨S8x4096x1024, .f32⟩
  | .hbm, ⟨23, _⟩ => ⟨S8x4096x1024, .f32⟩
  | .hbm, ⟨24, _⟩ => ⟨S8x4096x4096, .f32⟩
  | .hbm, ⟨25, _⟩ => ⟨S8x4096x4x256, .f32⟩
  | .hbm, ⟨26, _⟩ => ⟨S1x4096x1x128, .f32⟩
  | .hbm, ⟨27, _⟩ => ⟨S1x4096x1x128, .f32⟩
  | .hbm, ⟨28, _⟩ => ⟨S8x4096x4x128, .f32⟩
  | .hbm, ⟨29, _⟩ => ⟨S8x4096x4x128, .f32⟩
  | .hbm, ⟨30, _⟩ => ⟨S8x4096x4x128, .f32⟩
  | .hbm, ⟨31, _⟩ => ⟨S8x4096x4x128, .f32⟩
  | .hbm, ⟨32, _⟩ => ⟨S8x4096x4x128, .f32⟩
  | .hbm, ⟨33, _⟩ => ⟨S8x4096x4x128, .f32⟩
  | .hbm, ⟨34, _⟩ => ⟨S8x4096x4x128, .f32⟩
  | .hbm, ⟨35, _⟩ => ⟨S8x4096x4x128, .f32⟩
  | .hbm, ⟨36, _⟩ => ⟨S8x4096x4x128, .f32⟩
  | .hbm, ⟨37, _⟩ => ⟨S8x4096x4x128, .f32⟩
  | .hbm, ⟨38, _⟩ => ⟨S8x4096x4x128, .f32⟩
  | .hbm, ⟨39, _⟩ => ⟨S8x4096x4x128, .f32⟩
  | .hbm, ⟨40, _⟩ => ⟨S8x4096x4x256, .f32⟩
  | .hbm, ⟨41, _⟩ => ⟨S8x4096x1024, .f32⟩
  | .hbm, ⟨42, _⟩ => ⟨S8x4096x4x256, .f32⟩
  | .hbm, ⟨43, _⟩ => ⟨S1x4096x1x128, .f32⟩
  | .hbm, ⟨44, _⟩ => ⟨S1x4096x1x128, .f32⟩
  | .hbm, ⟨45, _⟩ => ⟨S8x4096x4x128, .f32⟩
  | .hbm, ⟨46, _⟩ => ⟨S8x4096x4x128, .f32⟩
  | .hbm, ⟨47, _⟩ => ⟨S8x4096x4x128, .f32⟩
  | .hbm, ⟨48, _⟩ => ⟨S8x4096x4x128, .f32⟩
  | .hbm, ⟨49, _⟩ => ⟨S8x4096x4x128, .f32⟩
  | .hbm, ⟨50, _⟩ => ⟨S8x4096x4x128, .f32⟩
  | .hbm, ⟨51, _⟩ => ⟨S8x4096x4x128, .f32⟩
  | .hbm, ⟨52, _⟩ => ⟨S8x4096x4x128, .f32⟩
  | .hbm, ⟨53, _⟩ => ⟨S8x4096x4x128, .f32⟩
  | .hbm, ⟨54, _⟩ => ⟨S8x4096x4x128, .f32⟩
  | .hbm, ⟨55, _⟩ => ⟨S8x4096x4x128, .f32⟩
  | .hbm, ⟨56, _⟩ => ⟨S8x4096x4x128, .f32⟩
  | .hbm, ⟨57, _⟩ => ⟨S8x4096x4x256, .f32⟩
  | .hbm, ⟨58, _⟩ => ⟨S_, .f32⟩
  | .hbm, ⟨59, _⟩ => ⟨S8x4096x4x256, .f32⟩
  | .hbm, ⟨60, _⟩ => ⟨S8x4096x4x256, .f32⟩
  | .hbm, ⟨61, _⟩ => ⟨S8x4096x1024, .f32⟩
  | .hbm, ⟨62, _⟩ => ⟨S8x4096x6144, .f32⟩
  | .hbm, ⟨63, _⟩ => ⟨S32768x6144, .f32⟩
  | .hbm, ⟨64, _⟩ => ⟨S32768x6144, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_2 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩

abbrev nD : Nat := 1
abbrev τ : Topo := Topo.v7x

variable {F : FTy → Type} [FloatOps F]
-- ==== Sb.lean ====
abbrev S8x4096x3072 : Shape := ⟨3, ![8, 4096, 3072]⟩
abbrev S8x4096x1024 : Shape := ⟨3, ![8, 4096, 1024]⟩
abbrev S1x128x128 : Shape := ⟨3, ![1, 128, 128]⟩
abbrev S1x4096x128 : Shape := ⟨3, ![1, 4096, 128]⟩
abbrev S128x128 : Shape := ⟨2, ![128, 128]⟩
abbrev S128x256 : Shape := ⟨2, ![128, 256]⟩

abbrev nBuf : Space → Nat
  | .hbm => 2
  | .vmem => 8
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x1024, .bf16⟩
  | .local _ .vmem, ⟨0, _⟩ => ⟨S1x128x128, .bf16⟩
  | .local _ .vmem, ⟨1, _⟩ => ⟨S1x128x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 32], ![false, false, false]⟩

def k0_mult1 (i : grid0.Coords) : BitVec 32 :=
  let arg2 : BitVec 32 := BitVec.ofNat 32 (i 2).val
  let c1_i32 : BitVec 32 := 1#32
  let v19 : BitVec 32 := Scalar.muli arg2 c1_i32
  let c0_i32 : BitVec 32 := 0#32
  let v20 : BitVec 32 := Scalar.addi v19 c0_i32
  let c128_i32_6 : BitVec 32 := 128#32
  let v21 : BitVec 32 := Scalar.muli v20 c128_i32_6
  v21
def k0_off1 (i : grid0.Coords) : Fin 3 → Nat :=
  let c0_7 : Index := 0#32
  let arg2 : BitVec 32 := BitVec.ofNat 32 (i 2).val
  let c1_i32 : BitVec 32 := 1#32
  let v19 : BitVec 32 := Scalar.muli arg2 c1_i32
  let c0_i32 : BitVec 32 := 0#32
  let v20 : BitVec 32 := Scalar.addi v19 c0_i32
  let c128_i32_6 : BitVec 32 := 128#32
  let v21 : BitVec 32 := Scalar.muli v20 c128_i32_6
  let v22 : BitVec 32 := v21
  let v23 : Index := Scalar.indexCast v22
  let c0_8 : Index := 0#32
  ![0, v23.toNat, 0]
@[reducible] def k0_t1_loop (i : grid0.Coords) : Scf.Loop 32 :=
  let c0_i32_22 : BitVec 32 := 0#32
  let arg2 : BitVec 32 := BitVec.ofNat 32 (i 2).val
  let c1_i32 : BitVec 32 := 1#32
  let v19 : BitVec 32 := Scalar.muli arg2 c1_i32
  let v68 : BitVec 32 := Scalar.subi v19 c0_i32_22
  let c1_i32_23 : BitVec 32 := 1#32
  let v70 : BitVec 32 := Scalar.divsi v68 c1_i32_23
  let v71 : BitVec 32 := Scalar.muli v70 c1_i32_23
  let v72 : BitVec 32 := Scalar.addi c0_i32_22 v71
  let c1_i32_24 : BitVec 32 := 1#32
  ⟨c0_i32_22, v72, c1_i32_24⟩
def k0_mult2 (i : grid0.Coords) (k0_t1 : Fin (k0_t1_loop i).trips) : BitVec 32 :=
  let arg2 : BitVec 32 := BitVec.ofNat 32 (i 2).val
  let c1_i32 : BitVec 32 := 1#32
  let v19 : BitVec 32 := Scalar.muli arg2 c1_i32
  let c1_i32_29 : BitVec 32 := 1#32
  let v79 : BitVec 32 := Scalar.subi v19 c1_i32_29
  let c0_i32_22 : BitVec 32 := 0#32
  let c1_i32_24 : BitVec 32 := 1#32
  let arg7 : BitVec 32 := Scf.iv c0_i32_22 c1_i32_24 k0_t1
  let v80 : BitVec 32 := Scalar.subi v79 arg7
  let c128_i32_30 : BitVec 32 := 128#32
  let v81 : BitVec 32 := Scalar.muli v80 c128_i32_30
  v81
def k0_off2 (i : grid0.Coords) (k0_t1 : Fin (k0_t1_loop i).trips) : Fin 3 → Nat :=
  let c0_31 : Index := 0#32
  let arg2 : BitVec 32 := BitVec.ofNat 32 (i 2).val
  let c1_i32 : BitVec 32 := 1#32
  let v19 : BitVec 32 := Scalar.muli arg2 c1_i32
  let c1_i32_29 : BitVec 32 := 1#32
  let v79 : BitVec 32 := Scalar.subi v19 c1_i32_29
  let c0_i32_22 : BitVec 32 := 0#32
  let c1_i32_24 : BitVec 32 := 1#32
  let arg7 : BitVec 32 := Scf.iv c0_i32_22 c1_i32_24 k0_t1
  let v80 : BitVec 32 := Scalar.subi v79 arg7
  let c128_i32_30 : BitVec 32 := 128#32
  let v81 : BitVec 32 := Scalar.muli v80 c128_i32_30
  let v82 : BitVec 32 := v81
  let v83 : Index := Scalar.indexCast v82
  let c0_32 : Index := 0#32
  ![0, v83.toNat, 0]
@[reducible] def k0_t2_loop (i : grid0.Coords) : Scf.Loop 32 :=
  let c0_i32_22 : BitVec 32 := 0#32
  let arg2 : BitVec 32 := BitVec.ofNat 32 (i 2).val
  let c1_i32 : BitVec 32 := 1#32
  let v19 : BitVec 32 := Scalar.muli arg2 c1_i32
  let v68 : BitVec 32 := Scalar.subi v19 c0_i32_22
  let c1_i32_23 : BitVec 32 := 1#32
  let v70 : BitVec 32 := Scalar.divsi v68 c1_i32_23
  let v71 : BitVec 32 := Scalar.muli v70 c1_i32_23
  let v72 : BitVec 32 := Scalar.addi c0_i32_22 v71
  let v69 : BitVec 32 := Scalar.addi c0_i32_22 v68
  let c1_i32_25 : BitVec 32 := 1#32
  ⟨v72, v69, c1_i32_25⟩
def k0_mult3 (i : grid0.Coords) (k0_t2 : Fin (k0_t2_loop i).trips) : BitVec 32 :=
  let arg2 : BitVec 32 := BitVec.ofNat 32 (i 2).val
  let c1_i32 : BitVec 32 := 1#32
  let v19 : BitVec 32 := Scalar.muli arg2 c1_i32
  let c1_i32_29 : BitVec 32 := 1#32
  let v79 : BitVec 32 := Scalar.subi v19 c1_i32_29
  let c0_i32_22 : BitVec 32 := 0#32
  let v68 : BitVec 32 := Scalar.subi v19 c0_i32_22
  let c1_i32_23 : BitVec 32 := 1#32
  let v70 : BitVec 32 := Scalar.divsi v68 c1_i32_23
  let v71 : BitVec 32 := Scalar.muli v70 c1_i32_23
  let v72 : BitVec 32 := Scalar.addi c0_i32_22 v71
  let c1_i32_25 : BitVec 32 := 1#32
  let arg7 : BitVec 32 := Scf.iv v72 c1_i32_25 k0_t2
  let v80 : BitVec 32 := Scalar.subi v79 arg7
  let c128_i32_30 : BitVec 32 := 128#32
  let v81 : BitVec 32 := Scalar.muli v80 c128_i32_30
  v81
def k0_off3 (i : grid0.Coords) (k0_t2 : Fin (k0_t2_loop i).trips) : Fin 3 → Nat :=
  let c0_31 : Index := 0#32
  let arg2 : BitVec 32 := BitVec.ofNat 32 (i 2).val
  let c1_i32 : BitVec 32 := 1#32
  let v19 : BitVec 32 := Scalar.muli arg2 c1_i32
  let c1_i32_29 : BitVec 32 := 1#32
  let v79 : BitVec 32 := Scalar.subi v19 c1_i32_29
  let c0_i32_22 : BitVec 32 := 0#32
  let v68 : BitVec 32 := Scalar.subi v19 c0_i32_22
  let c1_i32_23 : BitVec 32 := 1#32
  let v70 : BitVec 32 := Scalar.divsi v68 c1_i32_23
  let v71 : BitVec 32 := Scalar.muli v70 c1_i32_23
  let v72 : BitVec 32 := Scalar.addi c0_i32_22 v71
  let c1_i32_25 : BitVec 32 := 1#32
  let arg7 : BitVec 32 := Scf.iv v72 c1_i32_25 k0_t2
  let v80 : BitVec 32 := Scalar.subi v79 arg7
  let c128_i32_30 : BitVec 32 := 128#32
  let v81 : BitVec 32 := Scalar.muli v80 c128_i32_30
  let v82 : BitVec 32 := v81
  let v83 : Index := Scalar.indexCast v82
  let c0_32 : Index := 0#32
  ![0, v83.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbRefIdeal.lean ====
abbrev S8x4096x3072 : Shape := ⟨3, ![8, 4096, 3072]⟩
abbrev S8x4096x3x8x128 : Shape := ⟨5, ![8, 4096, 3, 8, 128]⟩
abbrev S8x4096x1x8x128 : Shape := ⟨5, ![8, 4096, 1, 8, 128]⟩
abbrev S8x4096x8x128 : Shape := ⟨4, ![8, 4096, 8, 128]⟩
abbrev S8x8x4096x128 : Shape := ⟨4, ![8, 8, 4096, 128]⟩
abbrev S8x8x4096x4096 : Shape := ⟨4, ![8, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096x1024 : Shape := ⟨3, ![8, 4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S8x4096x3072, .f32⟩
  | .hbm, ⟨2, _⟩ => ⟨S8x4096x3x8x128, .f32⟩
  | .hbm, ⟨3, _⟩ => ⟨S8x4096x1x8x128, .f32⟩
  | .hbm, ⟨4, _⟩ => ⟨S8x4096x8x128, .f32⟩
  | .hbm, ⟨5, _⟩ => ⟨S8x8x4096x128, .f32⟩
  | .hbm, ⟨6, _⟩ => ⟨S8x4096x1x8x128, .f32⟩
  | .hbm, ⟨7, _⟩ => ⟨S8x4096x8x128, .f32⟩
  | .hbm, ⟨8, _⟩ => ⟨S8x8x4096x128, .f32⟩
  | .hbm, ⟨9, _⟩ => ⟨S8x4096x1x8x128, .f32⟩
  | .hbm, ⟨10, _⟩ => ⟨S8x4096x8x128, .f32⟩
  | .hbm, ⟨11, _⟩ => ⟨S8x8x4096x128, .f32⟩
  | .hbm, ⟨12, _⟩ => ⟨S8x8x4096x4096, .f32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x8x4096x4096, .f32⟩
  | .hbm, ⟨21, _⟩ => ⟨S8x8x4096x4096, .f32⟩
  | .hbm, ⟨22, _⟩ => ⟨S_, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .i1⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S_, .f32⟩
  | .hbm, ⟨39, _⟩ => ⟨S8x8x4096x4096, .i1⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S_, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .i1⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S_, .f32⟩
  | .hbm, ⟨65, _⟩ => ⟨S_, .f32⟩
  | .hbm, ⟨66, _⟩ => ⟨S8x8x4096x4096, .i1⟩
  | .hbm, ⟨67, _⟩ => ⟨S8x8x4096x4096, .f32⟩
  | .hbm, ⟨68, _⟩ => ⟨S8x8x4096x4096, .f32⟩
  | .hbm, ⟨69, _⟩ => ⟨S8x8x4096x128, .f32⟩
  | .hbm, ⟨70, _⟩ => ⟨S8x4096x8x128, .f32⟩
  | .hbm, ⟨71, _⟩ => ⟨S8x4096x1024, .f32⟩
  | .hbm, ⟨72, _⟩ => ⟨S8x4096x1024, .bf16⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v20 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_call2_cst : Ref sig .tc := ⟨.hbm, 42, rfl⟩
abbrev main_call2_v0 : Ref sig .tc := ⟨.hbm, 43, rfl⟩
abbrev main_v22 : Ref sig .tc := ⟨.hbm, 44, rfl⟩
abbrev main_v23 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩

abbrev nD : Nat := 1
abbrev τ : Topo := Topo.v7x

variable {F : FTy → Type} [FloatOps F]
-- ==== Conv.lean ====
abbrev S8x4096x1024 : Shape := ⟨3, ![8, 4096, 1024]⟩
abbrev S1024 : Shape := ⟨1, ![1024]⟩
abbrev S1024x6144 : Shape := ⟨2, ![1024, 6144]⟩
abbrev S4x4096 : Shape := ⟨2, ![4, 4096]⟩
abbrev S32768x1024 : Shape := ⟨2, ![32768, 1024]⟩
abbrev S1x1024 : Shape := ⟨2, ![1, 1024]⟩
abbrev S32768x6144 : Shape := ⟨2, ![32768, 6144]⟩
abbrev S512x1024 : Shape := ⟨2, ![512, 1024]⟩
abbrev S1024x1024 : Shape := ⟨2, ![1024, 1024]⟩
abbrev S4x1024 : Shape := ⟨2, ![4, 1024]⟩
abbrev S520x1024 : Shape := ⟨2, ![520, 1024]⟩
abbrev S4x8x1024 : Shape := ⟨3, ![4, 8, 1024]⟩
abbrev S512 : Shape := ⟨1, ![512]⟩
abbrev S512x1 : Shape := ⟨2, ![512, 1]⟩
abbrev S8x1024 : Shape := ⟨2, ![8, 1024]⟩
abbrev S1x8x1024 : Shape := ⟨3, ![1, 8, 1024]⟩
abbrev S512x128 : Shape := ⟨2, ![512, 128]⟩

abbrev nBuf : Space → Nat
  | .hbm => 8
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6144, .f32⟩
  | .hbm, ⟨3, _⟩ => ⟨S4x4096, .f32⟩
  | .hbm, ⟨4, _⟩ => ⟨S32768x1024, .f32⟩
  | .hbm, ⟨5, _⟩ => ⟨S1024x6144, .bf16⟩
  | .hbm, ⟨6, _⟩ => ⟨S1x1024, .f32⟩
  | .hbm, ⟨7, _⟩ => ⟨S32768x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S4x1024, .f32⟩
  | .local _ .vmem, ⟨6, _⟩ => ⟨S4x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S520x1024, .f32⟩
  | .local _ .vmem, ⟨11, _⟩ => ⟨S4x8x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 6], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond4 (i : grid0.Coords) : BitVec 1 :=
  let arg0 : BitVec 32 := BitVec.ofNat 32 (i 0).val
  let c8_i32_13 : BitVec 32 := 8#32
  let c0_i32_14 : BitVec 32 := 0#32
  let v27 : BitVec 1 := Scalar.cmpi .eq c8_i32_13 c0_i32_14
  let c1_i32_15 : BitVec 32 := 1#32
  let v28 : BitVec 32 := Scalar.select v27 c1_i32_15 c8_i32_13
  let v29 : BitVec 32 := Scalar.remsi arg0 v28
  let c0_i32_17 : BitVec 32 := 0#32
  let v31 : BitVec 1 := Scalar.cmpi .slt v29 c0_i32_17
  let c0_i32_18 : BitVec 32 := 0#32
  let v32 : BitVec 1 := Scalar.cmpi .slt v28 c0_i32_18
  let v33 : BitVec 1 := Scalar.xori v31 v32
  let c0_i32_16 : BitVec 32 := 0#32
  let v30 : BitVec 1 := Scalar.cmpi .ne v29 c0_i32_16
  let v34 : BitVec 1 := Scalar.andi v33 v30
  let v35 : BitVec 32 := Scalar.addi v29 v28
  let v36 : BitVec 32 := Scalar.select v34 v35 v29
  let c0_i32_19 : BitVec 32 := 0#32
  let v37 : BitVec 1 := Scalar.cmpi .ne v36 c0_i32_19
  let v38 : BitVec 32 := Scalar.extui v37
  let c0_i32_20 : BitVec 32 := 0#32
  let v39 : BitVec 1 := Scalar.cmpi .ne v38 c0_i32_20
  v39

def k0_off1 (i : grid0.Coords) : Fin 3 → Nat :=
  let arg1 : BitVec 32 := BitVec.ofNat 32 (i 1).val
  let c3_i32 : BitVec 32 := 3#32
  let v13 : BitVec 32 := Scalar.minsi arg1 c3_i32
  let v77 : Index := Scalar.indexCast v13
  let c0_38 : Index := 0#32
  let c0_39 : Index := 0#32
  ![v77.toNat, 0, 0]
def k0_off2 (i : grid0.Coords) : Fin 3 → Nat :=
  let arg1 : BitVec 32 := BitVec.ofNat 32 (i 1).val
  let c3_i32 : BitVec 32 := 3#32
  let v13 : BitVec 32 := Scalar.minsi arg1 c3_i32
  let v44 : Index := Scalar.indexCast v13
  let c0_22 : Index := 0#32
  let c0_23 : Index := 0#32
  ![v44.toNat, 0, 0]
def k0_cond5 (i : grid0.Coords) : BitVec 1 :=
  let arg1 : BitVec 32 := BitVec.ofNat 32 (i 1).val
  let c2_i32 : BitVec 32 := 2#32
  let v71 : BitVec 1 := Scalar.cmpi .slt arg1 c2_i32
  let v72 : BitVec 32 := Scalar.extui v71
  let c0_i32_35 : BitVec 32 := 0#32
  let v73 : BitVec 1 := Scalar.cmpi .ne v72 c0_i32_35
  v73

def k0_cond6 (i : grid0.Coords) : BitVec 1 :=
  let arg1 : BitVec 32 := BitVec.ofNat 32 (i 1).val
  let c2_i32_36 : BitVec 32 := 2#32
  let v74 : BitVec 1 := Scalar.cmpi .sge arg1 c2_i32_36
  let v75 : BitVec 32 := Scalar.extui v74
  let c0_i32_37 : BitVec 32 := 0#32
  let v76 : BitVec 1 := Scalar.cmpi .ne v75 c0_i32_37
  v76

def k0_cond7 (i : grid0.Coords) : BitVec 1 :=
  let arg1 : BitVec 32 := BitVec.ofNat 32 (i 1).val
  let c4_i32_5 : BitVec 32 := 4#32
  let v10 : BitVec 1 := Scalar.cmpi .sge arg1 c4_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S8x4096x1024 : Shape := ⟨3, ![8, 4096, 1024]⟩
abbrev S1024 : Shape := ⟨1, ![1024]⟩
abbrev S1024x6144 : Shape := ⟨2, ![1024, 6144]⟩
abbrev S4x4096 : Shape := ⟨2, ![4, 4096]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6144 : Shape := ⟨3, ![8, 4096, 6144]⟩
abbrev S8x4096x4096 : Shape := ⟨3, ![8, 4096, 4096]⟩
abbrev S8x4096x2048 : Shape := ⟨3, ![8, 4096, 2048]⟩
abbrev S8x4099x4096 : Shape := ⟨3, ![8, 4099, 4096]⟩
abbrev S1x4096 : Shape := ⟨2, ![1, 4096]⟩
abbrev S4096 : Shape := ⟨1, ![4096]⟩
abbrev S1x1x4096 : Shape := ⟨3, ![1, 1, 4096]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S32768x6144 : Shape := ⟨2, ![32768, 6144]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6144, .f32⟩
  | .hbm, ⟨3, _⟩ => ⟨S4x4096, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x6144, .f32⟩
  | .hbm, ⟨21, _⟩ => ⟨S8x4096x4096, .f32⟩
  | .hbm, ⟨22, _⟩ => ⟨S8x4096x2048, .f32⟩
  | .hbm, ⟨23, _⟩ => ⟨S_, .i32⟩
  | .hbm, ⟨24, _⟩ => ⟨S_, .f32⟩
  | .hbm, ⟨25, _⟩ => ⟨S8x4099x4096, .f32⟩
  | .hbm, ⟨26, _⟩ => ⟨S1x4096, .f32⟩
  | .hbm, ⟨27, _⟩ => ⟨S4096, .f32⟩
  | .hbm, ⟨28, _⟩ => ⟨S8x4096x4096, .f32⟩
  | .hbm, ⟨29, _⟩ => ⟨S1x1x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096x4096, .f32⟩
  | .hbm, ⟨34, _⟩ => ⟨S8x4096x4096, .f32⟩
  | .hbm, ⟨35, _⟩ => ⟨S1x4096, .f32⟩
  | .hbm, ⟨36, _⟩ => ⟨S4096, .f32⟩
  | .hbm, ⟨37, _⟩ => ⟨S8x4096x4096, .f32⟩
  | .hbm, ⟨38, _⟩ => ⟨S1x1x4096, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S1x4096, .f32⟩
  | .hbm, ⟨43, _⟩ => ⟨S4096, .f32⟩
  | .hbm, ⟨44, _⟩ => ⟨S8x4096x4096, .f32⟩
  | .hbm, ⟨45, _⟩ => ⟨S1x1x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S1x4096, .f32⟩
  | .hbm, ⟨50, _⟩ => ⟨S4096, .f32⟩
  | .hbm, ⟨51, _⟩ => ⟨S8x4096x4096, .f32⟩
  | .hbm, ⟨52, _⟩ => ⟨S1x1x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S_, .f32⟩
  | .hbm, ⟨59, _⟩ => ⟨S8x4096x4096, .f32⟩
  | .hbm, ⟨60, _⟩ => ⟨S8x4096x4096, .f32⟩
  | .hbm, ⟨61, _⟩ => ⟨S_, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x1024, .f32⟩
  | .hbm, ⟨66, _⟩ => ⟨S8x4096x1024, .f32⟩
  | .hbm, ⟨67, _⟩ => ⟨S8x4096x2048, .f32⟩
  | .hbm, ⟨68, _⟩ => ⟨S8x4096x8x128, .f32⟩
  | .hbm, ⟨69, _⟩ => ⟨S8x4096x8x128, .f32⟩
  | .hbm, ⟨70, _⟩ => ⟨S_, .f32⟩
  | .hbm, ⟨71, _⟩ => ⟨S8x4096x8, .f32⟩
  | .hbm, ⟨72, _⟩ => ⟨S8x4096x8x1, .f32⟩
  | .hbm, ⟨73, _⟩ => ⟨S_, .f32⟩
  | .hbm, ⟨74, _⟩ => ⟨S8x4096x8x1, .f32⟩
  | .hbm, ⟨75, _⟩ => ⟨S8x4096x8x1, .f32⟩
  | .hbm, ⟨76, _⟩ => ⟨S8x4096x8x1, .f32⟩
  | .hbm, ⟨77, _⟩ => ⟨S8x4096x8x128, .f32⟩
  | .hbm, ⟨78, _⟩ => ⟨S8x4096x8x128, .f32⟩
  | .hbm, ⟨79, _⟩ => ⟨S_, .f32⟩
  | .hbm, ⟨80, _⟩ => ⟨S8x4096x8x128, .f32⟩
  | .hbm, ⟨81, _⟩ => ⟨S8x4096x8x128, .f32⟩
  | .hbm, ⟨82, _⟩ => ⟨S8x4096x8x128, .f32⟩
  | .hbm, ⟨83, _⟩ => ⟨S8x4096x8x128, .f32⟩
  | .hbm, ⟨84, _⟩ => ⟨S_, .f32⟩
  | .hbm, ⟨85, _⟩ => ⟨S8x4096x8, .f32⟩
  | .hbm, ⟨86, _⟩ => ⟨S8x4096x8x1, .f32⟩
  | .hbm, ⟨87, _⟩ => ⟨S_, .f32⟩
  | .hbm, ⟨88, _⟩ => ⟨S8x4096x8x1, .f32⟩
  | .hbm, ⟨89, _⟩ => ⟨S8x4096x8x1, .f32⟩
  | .hbm, ⟨90, _⟩ => ⟨S8x4096x8x1, .f32⟩
  | .hbm, ⟨91, _⟩ => ⟨S8x4096x8x128, .f32⟩
  | .hbm, ⟨92, _⟩ => ⟨S8x4096x8x128, .f32⟩
  | .hbm, ⟨93, _⟩ => ⟨S8x4096x1024, .f32⟩
  | .hbm, ⟨94, _⟩ => ⟨S8x4096x1024, .f32⟩
  | .hbm, ⟨95, _⟩ => ⟨S8x4096x6144, .f32⟩
  | .hbm, ⟨96, _⟩ => ⟨S32768x6144, .f32⟩
  | .hbm, ⟨97, _⟩ => ⟨S32768x6144, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Ret.lean ====
abbrev S8x4096x6144 : Shape := ⟨3, ![8, 4096, 6144]⟩
abbrev S512 : Shape := ⟨1, ![512]⟩
abbrev S4 : Shape := ⟨1, ![4]⟩
abbrev S_ : Shape := ⟨0, ![]⟩
abbrev S4x1x1 : Shape := ⟨3, ![4, 1, 1]⟩
abbrev S4x1x128 : Shape := ⟨3, ![4, 1, 128]⟩
abbrev S1x512 : Shape := ⟨2, ![1, 512]⟩
abbrev S8x4096x2048 : Shape := ⟨3, ![8, 4096, 2048]⟩
abbrev S1x1x128 : Shape := ⟨3, ![1, 1, 128]⟩
abbrev S1x512x256 : Shape := ⟨3, ![1, 512, 256]⟩
abbrev S1x512x512 : Shape := ⟨3, ![1, 512, 512]⟩
abbrev S256x512 : Shape := ⟨2, ![256, 512]⟩
abbrev S1x128 : Shape := ⟨2, ![1, 128]⟩
abbrev S1x1 : Shape := ⟨2, ![1, 1]⟩
abbrev S128x128 : Shape := ⟨2, ![128, 128]⟩
abbrev S128x1 : Shape := ⟨2, ![128, 1]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S128 : Shape := ⟨1, ![128]⟩

abbrev nBuf : Space → Nat
  | .hbm => 16
  | .vmem => 14
  | .smem => 0
  | _ => 0

abbrev bufTy : (tb : Table) → Fin (tcTables nBuf tb) → BufTy
  | .hbm, ⟨0, _⟩ => ⟨S8x4096x6144, .bf16⟩
  | .hbm, ⟨1, _⟩ => ⟨S512, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4x1x1, .f32⟩
  | .hbm, ⟨13, _⟩ => ⟨S4x1x128, .f32⟩
  | .hbm, ⟨14, _⟩ => ⟨S1x512, .f32⟩
  | .hbm, ⟨15, _⟩ => ⟨S8x4096x2048, .bf16⟩
  | .local _ .vmem, ⟨0, _⟩ => ⟨S1x1x128, .f32⟩
  | .local _ .vmem, ⟨1, _⟩ => ⟨S1x1x128, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S256x512, .f32⟩
  | _, _ => ⟨S8x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== RetRefIdeal.lean ====
abbrev S8x4096x6144 : Shape := ⟨3, ![8, 4096, 6144]⟩
abbrev S512 : Shape := ⟨1, ![512]⟩
abbrev S8x4096x4096 : Shape := ⟨3, ![8, 4096, 4096]⟩
abbrev S8x4096x1024 : Shape := ⟨3, ![8, 4096, 1024]⟩
abbrev S8x4096x2048 : Shape := ⟨3, ![8, 4096, 2048]⟩
abbrev S8x4096x4x256 : Shape := ⟨4, ![8, 4096, 4, 256]⟩
abbrev S8x4096x4x512 : Shape := ⟨4, ![8, 4096, 4, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S8x4x256x512 : Shape := ⟨4, ![8, 4, 256, 512]⟩
abbrev S8x32x128x4x256 : Shape := ⟨5, ![8, 32, 128, 4, 256]⟩
abbrev S32x8x4x128x256 : Shape := ⟨5, ![32, 8, 4, 128, 256]⟩
abbrev S8x32x128x4x512 : Shape := ⟨5, ![8, 32, 128, 4, 512]⟩
abbrev S32x8x4x128x512 : Shape := ⟨5, ![32, 8, 4, 128, 512]⟩
abbrev S1x8x4x128x256 : Shape := ⟨5, ![1, 8, 4, 128, 256]⟩
abbrev S8x4x128x256 : Shape := ⟨4, ![8, 4, 128, 256]⟩
abbrev S1x8x4x128x512 : Shape := ⟨5, ![1, 8, 4, 128, 512]⟩
abbrev S8x4x128x512 : Shape := ⟨4, ![8, 4, 128, 512]⟩
abbrev S8x4x128x128 : Shape := ⟨4, ![8, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S8x4096x4 : Shape := ⟨3, ![8, 4096, 4]⟩
abbrev S8x4096x4x1 : Shape := ⟨4, ![8, 4096, 4, 1]⟩
abbrev S1x1x1x512 : Shape := ⟨4, ![1, 1, 1, 512]⟩

abbrev nBuf : Space → Nat
  | .hbm => 167
  | .vmem => 0
  | .smem => 0
  | _ => 0

abbrev hbmTy0_0 (i : Nat) : BufTy := match i % 128 with
  | 0 => ⟨S8x4096x6144, .bf16⟩
  | 1 => ⟨S512, .f32⟩
  | 2 => ⟨S8x4096x4096, .bf16⟩
  | 3 => ⟨S8x4096x4096, .f32⟩
  | 4 => ⟨S8x4096x1024, .f32⟩
  | 5 => ⟨S8x4096x1024, .f32⟩
  | 6 => ⟨S8x4096x2048, .f32⟩
  | 7 => ⟨S8x4096x4x256, .f32⟩
  | 8 => ⟨S8x4096x4x256, .f32⟩
  | 9 => ⟨S8x4096x4x512, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S4, .f32⟩
  | 18 => ⟨S4, .f32⟩
  | 19 => ⟨S4, .f32⟩
  | 20 => ⟨S128, .f32⟩
  | 21 => ⟨S128x1, .f32⟩
  | 22 => ⟨S1x128, .f32⟩
  | 23 => ⟨S128x128, .f32⟩
  | 24 => ⟨S128x128, .f32⟩
  | 25 => ⟨S128x128, .f32⟩
  | 26 => ⟨S_, .f32⟩
  | 27 => ⟨S128x128, .f32⟩
  | 28 => ⟨S128x128, .i1⟩
  | 29 => ⟨S_, .f32⟩
  | 30 => ⟨S128x128, .f32⟩
  | 31 => ⟨S128x128, .f32⟩
  | 32 => ⟨S1x128x128, .f32⟩
  | 33 => ⟨S4x1x1, .f32⟩
  | 34 => ⟨S4x128x128, .f32⟩
  | 35 => ⟨S4x128x128, .f32⟩
  | 36 => ⟨S4x128x128, .f32⟩
  | 37 => ⟨S4x128x128, .f32⟩
  | 38 => ⟨S_, .f32⟩
  | 39 => ⟨S_, .f32⟩
  | 40 => ⟨S4x128x128, .i1⟩
  | 41 => ⟨S4x128x128, .f32⟩
  | 42 => ⟨S4x128x128, .f32⟩
  | 43 => ⟨S_, .f32⟩
  | 44 => ⟨S128, .f32⟩
  | 45 => ⟨S128, .f32⟩
  | 46 => ⟨S1x128, .f32⟩
  | 47 => ⟨S4x1, .f32⟩
  | 48 => ⟨S4x128, .f32⟩
  | 49 => ⟨S4x128, .f32⟩
  | 50 => ⟨S4x128, .f32⟩
  | 51 => ⟨S4x128, .f32⟩
  | 52 => ⟨S4x128x1, .f32⟩
  | 53 => ⟨S_, .f32⟩
  | 54 => ⟨S128, .f32⟩
  | 55 => ⟨S128, .f32⟩
  | 56 => ⟨S1x128, .f32⟩
  | 57 => ⟨S4x1, .f32⟩
  | 58 => ⟨S4x128, .f32⟩
  | 59 => ⟨S4x128, .f32⟩
  | 60 => ⟨S4x128, .f32⟩
  | 61 => ⟨S4x128, .f32⟩
  | 62 => ⟨S4x128x1, .f32⟩
  | 63 => ⟨S_, .f32⟩
  | 64 => ⟨S4, .f32⟩
  | 65 => ⟨S4, .f32⟩
  | 66 => ⟨S4, .f32⟩
  | 67 => ⟨S4x1x1, .f32⟩
  | 68 => ⟨S_, .f32⟩
  | 69 => ⟨S8x4x256x512, .f32⟩
  | 70 => ⟨S8x32x128x4x256, .f32⟩
  | 71 => ⟨S32x8x4x128x256, .f32⟩
  | 72 => ⟨S8x32x128x4x256, .f32⟩
  | 73 => ⟨S32x8x4x128x256, .f32⟩
  | 74 => ⟨S8x32x128x4x512, .f32⟩
  | 75 => ⟨S32x8x4x128x512, .f32⟩
  | 76 => ⟨S_, .f32⟩
  | 77 => ⟨S32x8x4x128x512, .f32⟩
  | 78 => ⟨S_, .i32⟩
  | 79 => ⟨S32x8x4x128x256, .f32⟩
  | 80 => ⟨S32x8x4x128x256, .f32⟩
  | 81 => ⟨S32x8x4x128x512, .f32⟩
  | 82 => ⟨S4x128x128, .f32⟩
  | 83 => ⟨S4x128x1, .f32⟩
  | 84 => ⟨S4x1x1, .f32⟩
  | 85 => ⟨S4x128x1, .f32⟩
  | 86 => ⟨S_, .i32⟩
  | 87 => ⟨S8x4x256x512, .f32⟩
  | 88 => ⟨S32x8x4x128x512, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x8x4x128x256, .f32⟩
  | 96 => ⟨S8x4x128x256, .f32⟩
  | 97 => ⟨S_, .i32⟩
  | 98 => ⟨S_, .i32⟩
  | 99 => ⟨S_, .i32⟩
  | 100 => ⟨S_, .i32⟩
  | 101 => ⟨S1x8x4x128x256, .f32⟩
  | 102 => ⟨S8x4x128x256, .f32⟩
  | 103 => ⟨S_, .i32⟩
  | 104 => ⟨S_, .i32⟩
  | 105 => ⟨S_, .i32⟩
  | 106 => ⟨S_, .i32⟩
  | 107 => ⟨S1x8x4x128x512, .f32⟩
  | 108 => ⟨S8x4x128x512, .f32⟩
  | 109 => ⟨S8x4x128x128, .f32⟩
  | 110 => ⟨S1x4x128x128, .f32⟩
  | 111 => ⟨S8x4x128x128, .f32⟩
  | 112 => ⟨S8x4x128x128, .f32⟩
  | 113 => ⟨S8x4x128x512, .f32⟩
  | 114 => ⟨S1x4x128x1, .f32⟩
  | 115 => ⟨S8x4x128x256, .f32⟩
  | 116 => ⟨S8x4x128x256, .f32⟩
  | 117 => ⟨S8x4x128x512, .f32⟩
  | 118 => ⟨S8x4x128x512, .f32⟩
  | 119 => ⟨S1x4x1x1, .f32⟩
  | 120 => ⟨S8x4x256x512, .f32⟩
  | 121 => ⟨S8x4x256x512, .f32⟩
  | 122 => ⟨S1x4x128x1, .f32⟩
  | 123 => ⟨S8x4x128x256, .f32⟩
  | 124 => ⟨S8x4x128x256, .f32⟩
  | 125 => ⟨S8x4x256x512, .f32⟩
  | 126 => ⟨S8x4x256x512, .f32⟩
  | 127 => ⟨S1x8x4x128x512, .f32⟩
  | _ => ⟨S8x4096x6144, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S32x8x4x128x512, .f32⟩
  | 5 => ⟨S_, .i32⟩
  | 6 => ⟨S_, .i32⟩
  | 7 => ⟨S8x32x128x4x512, .f32⟩
  | 8 => ⟨S8x4096x4x512, .f32⟩
  | 9 => ⟨S8x4096x4x512, .f32⟩
  | 10 => ⟨S_, .f32⟩
  | 11 => ⟨S8x4096x4, .f32⟩
  | 12 => ⟨S8x4096x4x1, .f32⟩
  | 13 => ⟨S_, .f32⟩
  | 14 => ⟨S8x4096x4x1, .f32⟩
  | 15 => ⟨S8x4096x4x1, .f32⟩
  | 16 => ⟨S_, .f32⟩
  | 17 => ⟨S8x4096x4x1, .f32⟩
  | 18 => ⟨S8x4096x4x1, .f32⟩
  | 19 => ⟨S8x4096x4x1, .f32⟩
  | 20 => ⟨S8x4096x4x512, .f32⟩
  | 21 => ⟨S8x4096x4x512, .f32⟩
  | 22 => ⟨S1x1x1x512, .f32⟩
  | 23 => ⟨S8x4096x4x512, .f32⟩
  | 24 => ⟨S8x4096x4x512, .f32⟩
  | 25 => ⟨S8x4096x2048, .f32⟩
  | 26 => ⟨S8x4096x2048, .bf16⟩
  | 27 => ⟨S8x4096x2048, .f32⟩
  | 28 => ⟨S8x4096x2048, .f32⟩
  | 29 => ⟨S8x4096x2048, .f32⟩
  | 30 => ⟨S_, .f32⟩
  | 31 => ⟨S8x4096x2048, .f32⟩
  | 32 => ⟨S8x4096x2048, .f32⟩
  | 33 => ⟨S_, .f32⟩
  | 34 => ⟨S8x4096x2048, .f32⟩
  | 35 => ⟨S8x4096x2048, .f32⟩
  | 36 => ⟨S8x4096x2048, .f32⟩
  | 37 => ⟨S8x4096x2048, .f32⟩
  | 38 => ⟨S8x4096x2048, .bf16⟩
  | _ => ⟨S8x4096x6144, .bf16⟩

abbrev hbmTy (i : Nat) : BufTy := match i / 128 with
  | 0 => hbmTy0_0 i
  | 1 => hbmTy0_1 i
  | _ => ⟨S8x4096x6144, .bf16⟩

abbrev bufTy : (tb : Table) → Fin (tcTables nBuf tb) → BufTy
  | .hbm, ⟨i, _⟩ => hbmTy i
  | _, _ => ⟨S8x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_c : Ref sig .tc := ⟨.hbm, 78, rfl⟩
abbrev main_v63_0 : Ref sig .tc := ⟨.hbm, 79, rfl⟩
abbrev main_v63_1 : Ref sig .tc := ⟨.hbm, 80, rfl⟩
abbrev main_v63_2 : Ref sig .tc := ⟨.hbm, 81, rfl⟩
abbrev main_v63_3 : Ref sig .tc := ⟨.hbm, 82, rfl⟩
abbrev main_v63_4 : Ref sig .tc := ⟨.hbm, 83, rfl⟩
abbrev main_v63_5 : Ref sig .tc := ⟨.hbm, 84, rfl⟩
abbrev main_v63_6 : Ref sig .tc := ⟨.hbm, 85, rfl⟩
abbrev main_v63_7 : Ref sig .tc := ⟨.hbm, 86, rfl⟩
abbrev main_v63_8 : Ref sig .tc := ⟨.hbm, 87, rfl⟩
abbrev main_v63_9 : Ref sig .tc := ⟨.hbm, 88, rfl⟩
abbrev main_while0c_c_21 : Ref sig .tc := ⟨.hbm, 89, rfl⟩
abbrev main_while0c_v85 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v0 : Ref sig .tc := ⟨.hbm, 95, rfl⟩
abbrev main_while0b_v85 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_c_2 : Ref sig .tc := ⟨.hbm, 100, rfl⟩
abbrev main_while0b_call2_v0 : Ref sig .tc := ⟨.hbm, 101, rfl⟩
abbrev main_while0b_v86 : Ref sig .tc := ⟨.hbm, 102, rfl⟩
abbrev main_while0b_call3_c : Ref sig .tc := ⟨.hbm, 103, rfl⟩
abbrev main_while0b_call3_c_0 : Ref sig .tc := ⟨.hbm, 104, rfl⟩
abbrev main_while0b_call3_c_1 : Ref sig .tc := ⟨.hbm, 105, rfl⟩
abbrev main_while0b_call3_c_2 : Ref sig .tc := ⟨.hbm, 106, rfl⟩
abbrev main_while0b_call3_v0 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_v94 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_v100 : Ref sig .tc := ⟨.hbm, 121, rfl⟩
abbrev main_while0b_v101 : Ref sig .tc := ⟨.hbm, 122, rfl⟩
abbrev main_while0b_v102 : Ref sig .tc := ⟨.hbm, 123, rfl⟩
abbrev main_while0b_v103 : Ref sig .tc := ⟨.hbm, 124, rfl⟩
abbrev main_while0b_v104 : Ref sig .tc := ⟨.hbm, 125, rfl⟩
abbrev main_while0b_v105 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v106 : Ref sig .tc := ⟨.hbm, 132, rfl⟩
abbrev main_while0b_c_21 : Ref sig .tc := ⟨.hbm, 133, rfl⟩
abbrev main_while0b_v107 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_cst_9 : Ref sig .tc := ⟨.hbm, 138, rfl⟩
abbrev main_v67 : Ref sig .tc := ⟨.hbm, 139, rfl⟩
abbrev main_v68 : Ref sig .tc := ⟨.hbm, 140, rfl⟩
abbrev main_cst_10 : Ref sig .tc := ⟨.hbm, 141, rfl⟩
abbrev main_v69 : Ref sig .tc := ⟨.hbm, 142, rfl⟩
abbrev main_v70 : Ref sig .tc := ⟨.hbm, 143, rfl⟩
abbrev main_cst_11 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_call5_v0 : Ref sig .tc := ⟨.hbm, 156, rfl⟩
abbrev main_call5_v1 : Ref sig .tc := ⟨.hbm, 157, rfl⟩
abbrev main_call5_cst : Ref sig .tc := ⟨.hbm, 158, rfl⟩
abbrev main_call5_v2 : Ref sig .tc := ⟨.hbm, 159, rfl⟩
abbrev main_call5_v3 : Ref sig .tc := ⟨.hbm, 160, rfl⟩
abbrev main_call5_cst_0 : Ref sig .tc := ⟨.hbm, 161, rfl⟩
abbrev main_call5_v4 : Ref sig .tc := ⟨.hbm, 162, rfl⟩
abbrev main_call5_v5 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩

abbrev nD : Nat := 1
abbrev τ : Topo := Topo.v7x

variable {F : FTy → Type} [FloatOps F]

abbrev main_while0_count : Scf.Loop 32 := ⟨0#32, 32#32, 1#32⟩
-- ==== Gdn.lean ====
abbrev S8x4096x6144 : Shape := ⟨3, ![8, 4096, 6144]⟩
abbrev S8x4096x128 : Shape := ⟨3, ![8, 4096, 128]⟩
abbrev S256 : Shape := ⟨1, ![256]⟩
abbrev S1x256 : Shape := ⟨2, ![1, 256]⟩
abbrev S8x4096x2048 : Shape := ⟨3, ![8, 4096, 2048]⟩
abbrev S1x256x128 : Shape := ⟨3, ![1, 256, 128]⟩
abbrev S1x256x256 : Shape := ⟨3, ![1, 256, 256]⟩
abbrev S128x256 : Shape := ⟨2, ![128, 256]⟩
abbrev S64x128 : Shape := ⟨2, ![64, 128]⟩
abbrev S64x64 : Shape := ⟨2, ![64, 64]⟩
abbrev S128x64 : Shape := ⟨2, ![128, 64]⟩
abbrev S1x64x128 : Shape := ⟨3, ![1, 64, 128]⟩
abbrev S64 : Shape := ⟨1, ![64]⟩
abbrev S64x1 : Shape := ⟨2, ![64, 1]⟩
abbrev S128x128 : Shape := ⟨2, ![128, 128]⟩
abbrev S1x1 : Shape := ⟨2, ![1, 1]⟩
abbrev S1x64x256 : Shape := ⟨3, ![1, 64, 256]⟩
abbrev S64x256 : Shape := ⟨2, ![64, 256]⟩
abbrev S64x384 : Shape := ⟨2, ![64, 384]⟩

abbrev nBuf : Space → Nat
  | .hbm => 5
  | .vmem => 14
  | .smem => 0
  | _ => 0

abbrev bufTy : (tb : Table) → Fin (tcTables nBuf tb) → BufTy
  | .hbm, ⟨0, _⟩ => ⟨S8x4096x6144, .bf16⟩
  | .hbm, ⟨1, _⟩ => ⟨S8x4096x128, .f32⟩
  | .hbm, ⟨2, _⟩ => ⟨S256, .f32⟩
  | .hbm, ⟨3, _⟩ => ⟨S1x256, .f32⟩
  | .hbm, ⟨4, _⟩ => ⟨S8x4096x2048, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x128, .f32⟩
  | .local _ .vmem, ⟨9, _⟩ => ⟨S1x256x128, .f32⟩
  | .local _ .vmem, ⟨10, _⟩ => ⟨S1x256, .f32⟩
  | .local _ .vmem, ⟨11, _⟩ => ⟨S1x256x256, .bf16⟩
  | .local _ .vmem, ⟨12, _⟩ => ⟨S1x256x256, .bf16⟩
  | .local _ .vmem, ⟨13, _⟩ => ⟨S128x256, .f32⟩
  | _, _ => ⟨S8x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== GdnRefIdeal.lean ====
abbrev S8x4096x6144 : Shape := ⟨3, ![8, 4096, 6144]⟩
abbrev S8x4096x128 : Shape := ⟨3, ![8, 4096, 128]⟩
abbrev S256 : Shape := ⟨1, ![256]⟩
abbrev S8x4096x4096 : Shape := ⟨3, ![8, 4096, 4096]⟩
abbrev S8x4096x1024 : Shape := ⟨3, ![8, 4096, 1024]⟩
abbrev S8x4096x2048 : Shape := ⟨3, ![8, 4096, 2048]⟩
abbrev S8x4096x8x128 : Shape := ⟨4, ![8, 4096, 8, 128]⟩
abbrev S8x4096x8x256 : Shape := ⟨4, ![8, 4096, 8, 256]⟩
abbrev S8x4096x8 : Shape := ⟨3, ![8, 4096, 8]⟩
abbrev S_ : Shape := ⟨0, ![]⟩
abbrev S64x64 : Shape := ⟨2, ![64, 64]⟩
abbrev S8x64x64x8x128 : Shape := ⟨5, ![8, 64, 64, 8, 128]⟩
abbrev S64x8x8x64x128 : Shape := ⟨5, ![64, 8, 8, 64, 128]⟩
abbrev S8x64x64x8x256 : Shape := ⟨5, ![8, 64, 64, 8, 256]⟩
abbrev S64x8x8x64x256 : Shape := ⟨5, ![64, 8, 8, 64, 256]⟩
abbrev S8x4096x8x1 : Shape := ⟨4, ![8, 4096, 8, 1]⟩
abbrev S8x64x64x8x1 : Shape := ⟨5, ![8, 64, 64, 8, 1]⟩
abbrev S64x8x8x64x1 : Shape := ⟨5, ![64, 8, 8, 64, 1]⟩
abbrev S64x8x8x64 : Shape := ⟨4, ![64, 8, 8, 64]⟩
abbrev S64x8x8x1x64 : Shape := ⟨5, ![64, 8, 8, 1, 64]⟩
abbrev S64x8x8x64x64 : Shape := ⟨5, ![64, 8, 8, 64, 64]⟩
abbrev S64x8x8x1 : Shape := ⟨4, ![64, 8, 8, 1]⟩
abbrev S8x8x128x256 : Shape := ⟨4, ![8, 8, 128, 256]⟩
abbrev S1x8x8x64x256 : Shape := ⟨5, ![1, 8, 8, 64, 256]⟩
abbrev S8x8x64x256 : Shape := ⟨4, ![8, 8, 64, 256]⟩
abbrev S1x8x8x64x128 : Shape := ⟨5, ![1, 8, 8, 64, 128]⟩
abbrev S8x8x64x128 : Shape := ⟨4, ![8, 8, 64, 128]⟩
abbrev S1x8x8x64x64 : Shape := ⟨5, ![1, 8, 8, 64, 64]⟩
abbrev S8x8x64x64 : Shape := ⟨4, ![8, 8, 64, 64]⟩
abbrev S1x8x8x1 : Shape := ⟨4, ![1, 8, 8, 1]⟩
abbrev S8x8x1 : Shape := ⟨3, ![8, 8, 1]⟩
abbrev S8x8x1x1 : Shape := ⟨4, ![8, 8, 1, 1]⟩
abbrev S1x1x1x256 : Shape := ⟨4, ![1, 1, 1, 256]⟩

abbrev nBuf : Space → Nat
  | .hbm => 465
  | .vmem => 0
  | .smem => 0
  | _ => 0

abbrev hbmTy0_0 (i : Nat) : BufTy := match i % 128 with
  | 0 => ⟨S8x4096x6144, .bf16⟩
  | 1 => ⟨S8x4096x128, .f32⟩
  | 2 => ⟨S256, .f32⟩
  | 3 => ⟨S8x4096x4096, .bf16⟩
  | 4 => ⟨S8x4096x4096, .f32⟩
  | 5 => ⟨S8x4096x1024, .f32⟩
  | 6 => ⟨S8x4096x1024, .f32⟩
  | 7 => ⟨S8x4096x2048, .f32⟩
  | 8 => ⟨S8x4096x8x128, .f32⟩
  | 9 => ⟨S8x4096x8x128, .f32⟩
  | 10 => ⟨S8x4096x8x256, .f32⟩
  | 11 => ⟨S8x4096x8, .f32⟩
  | 12 => ⟨S8x4096x8, .f32⟩
  | 13 => ⟨S_, .i1⟩
  | 14 => ⟨S64x64, .i1⟩
  | 15 => ⟨S64x64, .i32⟩
  | 16 => ⟨S_, .i32⟩
  | 17 => ⟨S64x64, .i32⟩
  | 18 => ⟨S64x64, .i32⟩
  | 19 => ⟨S64x64, .i32⟩
  | 20 => ⟨S64x64, .i1⟩
  | 21 => ⟨S_, .i1⟩
  | 22 => ⟨S64x64, .i1⟩
  | 23 => ⟨S64x64, .i1⟩
  | 24 => ⟨S_, .i1⟩
  | 25 => ⟨S64x64, .i1⟩
  | 26 => ⟨S64x64, .i32⟩
  | 27 => ⟨S_, .i32⟩
  | 28 => ⟨S64x64, .i32⟩
  | 29 => ⟨S64x64, .i32⟩
  | 30 => ⟨S64x64, .i32⟩
  | 31 => ⟨S64x64, .i1⟩
  | 32 => ⟨S_, .i1⟩
  | 33 => ⟨S64x64, .i1⟩
  | 34 => ⟨S64x64, .i1⟩
  | 35 => ⟨S8x64x64x8x128, .f32⟩
  | 36 => ⟨S64x8x8x64x128, .f32⟩
  | 37 => ⟨S8x64x64x8x128, .f32⟩
  | 38 => ⟨S64x8x8x64x128, .f32⟩
  | 39 => ⟨S8x64x64x8x256, .f32⟩
  | 40 => ⟨S64x8x8x64x256, .f32⟩
  | 41 => ⟨S8x4096x8x1, .f32⟩
  | 42 => ⟨S8x64x64x8x1, .f32⟩
  | 43 => ⟨S64x8x8x64x1, .f32⟩
  | 44 => ⟨S64x8x8x64, .f32⟩
  | 45 => ⟨S8x4096x8x1, .f32⟩
  | 46 => ⟨S8x64x64x8x1, .f32⟩
  | 47 => ⟨S64x8x8x64x1, .f32⟩
  | 48 => ⟨S64x8x8x64, .f32⟩
  | 49 => ⟨S_, .f32⟩
  | 50 => ⟨S_, .f32⟩
  | 51 => ⟨S64x8x8x64, .f32⟩
  | 52 => ⟨S64x8x8x64x1, .f32⟩
  | 53 => ⟨S64x8x8x1x64, .f32⟩
  | 54 => ⟨S64x8x8x64x64, .f32⟩
  | 55 => ⟨S64x8x8x64x64, .f32⟩
  | 56 => ⟨S64x8x8x64x64, .f32⟩
  | 57 => ⟨S_, .f32⟩
  | 58 => ⟨S_, .f32⟩
  | 59 => ⟨S64x8x8x64x64, .i1⟩
  | 60 => ⟨S64x8x8x64x64, .f32⟩
  | 61 => ⟨S64x8x8x64x64, .f32⟩
  | 62 => ⟨S64x8x8x64x64, .f32⟩
  | 63 => ⟨S_, .f32⟩
  | 64 => ⟨S_, .f32⟩
  | 65 => ⟨S64x8x8x64x64, .i1⟩
  | 66 => ⟨S64x8x8x64x64, .f32⟩
  | 67 => ⟨S64x8x8x64x64, .f32⟩
  | 68 => ⟨S64x8x8x64x1, .f32⟩
  | 69 => ⟨S64x8x8x64x128, .f32⟩
  | 70 => ⟨S64x8x8x64x128, .f32⟩
  | 71 => ⟨S64x8x8x64x64, .f32⟩
  | 72 => ⟨S64x8x8x64x64, .f32⟩
  | 73 => ⟨S_, .f32⟩
  | 74 => ⟨S_, .f32⟩
  | 75 => ⟨S64x8x8x64x64, .i1⟩
  | 76 => ⟨S64x8x8x64x64, .f32⟩
  | 77 => ⟨S64x8x8x64x64, .f32⟩
  | 78 => ⟨S64x8x8x64x1, .f32⟩
  | 79 => ⟨S64x8x8x64x256, .f32⟩
  | 80 => ⟨S64x8x8x64x256, .f32⟩
  | 81 => ⟨S64x8x8x64, .f32⟩
  | 82 => ⟨S64x8x8x64x1, .f32⟩
  | 83 => ⟨S64x8x8x64x128, .f32⟩
  | 84 => ⟨S64x8x8x64x128, .f32⟩
  | 85 => ⟨S64x8x8x64x64, .f32⟩
  | 86 => ⟨S64x8x8x64x64, .f32⟩
  | 87 => ⟨S_, .f32⟩
  | 88 => ⟨S_, .f32⟩
  | 89 => ⟨S64x8x8x64x64, .i1⟩
  | 90 => ⟨S64x8x8x64x64, .f32⟩
  | 91 => ⟨S64x8x8x64x64, .f32⟩
  | 92 => ⟨S64x8x8x64, .f32⟩
  | 93 => ⟨S64x8x8x64x1, .f32⟩
  | 94 => ⟨S64x8x8x64x128, .f32⟩
  | 95 => ⟨S64x8x8x64x128, .f32⟩
  | 96 => ⟨S64x8x8x1, .f32⟩
  | 97 => ⟨S64x8x8x64, .f32⟩
  | 98 => ⟨S64x8x8x64, .f32⟩
  | 99 => ⟨S64x8x8x64, .f32⟩
  | 100 => ⟨S64x8x8x64x1, .f32⟩
  | 101 => ⟨S64x8x8x64x128, .f32⟩
  | 102 => ⟨S64x8x8x64x128, .f32⟩
  | 103 => ⟨S_, .f32⟩
  | 104 => ⟨S64x8x8x64x256, .f32⟩
  | 105 => ⟨S64x8x8x64x256, .f32⟩
  | 106 => ⟨S64x8x8x64x256, .f32⟩
  | 107 => ⟨S64x8x8x64x256, .f32⟩
  | 108 => ⟨S64x8x8x64x256, .f32⟩
  | 109 => ⟨S64x8x8x64x256, .f32⟩
  | 110 => ⟨S64x8x8x64x256, .f32⟩
  | 111 => ⟨S64x8x8x64x256, .f32⟩
  | 112 => ⟨S64x8x8x64x256, .f32⟩
  | 113 => ⟨S64x8x8x64x256, .f32⟩
  | 114 => ⟨S64x8x8x64x256, .f32⟩
  | 115 => ⟨S64x8x8x64x256, .f32⟩
  | 116 => ⟨S64x8x8x64x256, .f32⟩
  | 117 => ⟨S64x8x8x64x256, .f32⟩
  | 118 => ⟨S64x8x8x64x256, .f32⟩
  | 119 => ⟨S64x8x8x64x256, .f32⟩
  | 120 => ⟨S64x8x8x64x256, .f32⟩
  | 121 => ⟨S64x8x8x64x256, .f32⟩
  | 122 => ⟨S64x8x8x64x256, .f32⟩
  | 123 => ⟨S64x8x8x64x256, .f32⟩
  | 124 => ⟨S64x8x8x64x256, .f32⟩
  | 125 => ⟨S64x8x8x64x256, .f32⟩
  | 126 => ⟨S64x8x8x64x256, .f32⟩
  | 127 => ⟨S64x8x8x64x256, .f32⟩
  | _ => ⟨S8x4096x6144, .bf16⟩

abbrev hbmTy0_1 (i : Nat) : BufTy := match i % 128 with
  | 0 => ⟨S64x8x8x64x256, .f32⟩
  | 1 => ⟨S64x8x8x64x256, .f32⟩
  | 2 => ⟨S64x8x8x64x256, .f32⟩
  | 3 => ⟨S64x8x8x64x256, .f32⟩
  | 4 => ⟨S64x8x8x64x256, .f32⟩
  | 5 => ⟨S64x8x8x64x256, .f32⟩
  | 6 => ⟨S64x8x8x64x256, .f32⟩
  | 7 => ⟨S64x8x8x64x256, .f32⟩
  | 8 => ⟨S64x8x8x64x256, .f32⟩
  | 9 => ⟨S64x8x8x64x256, .f32⟩
  | 10 => ⟨S64x8x8x64x256, .f32⟩
  | 11 => ⟨S64x8x8x64x256, .f32⟩
  | 12 => ⟨S64x8x8x64x256, .f32⟩
  | 13 => ⟨S64x8x8x64x256, .f32⟩
  | 14 => ⟨S64x8x8x64x256, .f32⟩
  | 15 => ⟨S64x8x8x64x256, .f32⟩
  | 16 => ⟨S64x8x8x64x256, .f32⟩
  | 17 => ⟨S64x8x8x64x256, .f32⟩
  | 18 => ⟨S64x8x8x64x256, .f32⟩
  | 19 => ⟨S64x8x8x64x256, .f32⟩
  | 20 => ⟨S64x8x8x64x256, .f32⟩
  | 21 => ⟨S64x8x8x64x256, .f32⟩
  | 22 => ⟨S64x8x8x64x256, .f32⟩
  | 23 => ⟨S64x8x8x64x256, .f32⟩
  | 24 => ⟨S64x8x8x64x256, .f32⟩
  | 25 => ⟨S64x8x8x64x256, .f32⟩
  | 26 => ⟨S64x8x8x64x256, .f32⟩
  | 27 => ⟨S64x8x8x64x256, .f32⟩
  | 28 => ⟨S64x8x8x64x256, .f32⟩
  | 29 => ⟨S64x8x8x64x256, .f32⟩
  | 30 => ⟨S64x8x8x64x256, .f32⟩
  | 31 => ⟨S64x8x8x64x256, .f32⟩
  | 32 => ⟨S64x8x8x64x256, .f32⟩
  | 33 => ⟨S64x8x8x64x256, .f32⟩
  | 34 => ⟨S64x8x8x64x256, .f32⟩
  | 35 => ⟨S64x8x8x64x256, .f32⟩
  | 36 => ⟨S64x8x8x64x256, .f32⟩
  | 37 => ⟨S64x8x8x64x256, .f32⟩
  | 38 => ⟨S64x8x8x64x256, .f32⟩
  | 39 => ⟨S64x8x8x64x256, .f32⟩
  | 40 => ⟨S64x8x8x64x256, .f32⟩
  | 41 => ⟨S64x8x8x64x256, .f32⟩
  | 42 => ⟨S64x8x8x64x256, .f32⟩
  | 43 => ⟨S64x8x8x64x256, .f32⟩
  | 44 => ⟨S64x8x8x64x256, .f32⟩
  | 45 => ⟨S64x8x8x64x256, .f32⟩
  | 46 => ⟨S64x8x8x64x256, .f32⟩
  | 47 => ⟨S64x8x8x64x256, .f32⟩
  | 48 => ⟨S64x8x8x64x256, .f32⟩
  | 49 => ⟨S64x8x8x64x256, .f32⟩
  | 50 => ⟨S64x8x8x64x256, .f32⟩
  | 51 => ⟨S64x8x8x64x256, .f32⟩
  | 52 => ⟨S64x8x8x64x256, .f32⟩
  | 53 => ⟨S64x8x8x64x256, .f32⟩
  | 54 => ⟨S64x8x8x64x256, .f32⟩
  | 55 => ⟨S64x8x8x64x256, .f32⟩
  | 56 => ⟨S64x8x8x64x256, .f32⟩
  | 57 => ⟨S64x8x8x64x256, .f32⟩
  | 58 => ⟨S64x8x8x64x256, .f32⟩
  | 59 => ⟨S64x8x8x64x256, .f32⟩
  | 60 => ⟨S64x8x8x64x256, .f32⟩
  | 61 => ⟨S64x8x8x64x256, .f32⟩
  | 62 => ⟨S64x8x8x64x256, .f32⟩
  | 63 => ⟨S64x8x8x64x256, .f32⟩
  | 64 => ⟨S64x8x8x64x256, .f32⟩
  | 65 => ⟨S64x8x8x64x256, .f32⟩
  | 66 => ⟨S64x8x8x64x256, .f32⟩
  | 67 => ⟨S64x8x8x64x256, .f32⟩
  | 68 => ⟨S64x8x8x64x256, .f32⟩
  | 69 => ⟨S64x8x8x64x256, .f32⟩
  | 70 => ⟨S64x8x8x64x256, .f32⟩
  | 71 => ⟨S64x8x8x64x256, .f32⟩
  | 72 => ⟨S64x8x8x64x256, .f32⟩
  | 73 => ⟨S64x8x8x64x256, .f32⟩
  | 74 => ⟨S64x8x8x64x256, .f32⟩
  | 75 => ⟨S64x8x8x64x256, .f32⟩
  | 76 => ⟨S64x8x8x64x256, .f32⟩
  | 77 => ⟨S64x8x8x64x256, .f32⟩
  | 78 => ⟨S64x8x8x64x256, .f32⟩
  | 79 => ⟨S64x8x8x64x256, .f32⟩
  | 80 => ⟨S64x8x8x64x256, .f32⟩
  | 81 => ⟨S64x8x8x64x256, .f32⟩
  | 82 => ⟨S64x8x8x64x256, .f32⟩
  | 83 => ⟨S64x8x8x64x256, .f32⟩
  | 84 => ⟨S64x8x8x64x256, .f32⟩
  | 85 => ⟨S64x8x8x64x256, .f32⟩
  | 86 => ⟨S64x8x8x64x256, .f32⟩
  | 87 => ⟨S64x8x8x64x256, .f32⟩
  | 88 => ⟨S64x8x8x64x256, .f32⟩
  | 89 => ⟨S64x8x8x64x256, .f32⟩
  | 90 => ⟨S64x8x8x64x256, .f32⟩
  | 91 => ⟨S64x8x8x64x256, .f32⟩
  | 92 => ⟨S64x8x8x64x256, .f32⟩
  | 93 => ⟨S64x8x8x64x256, .f32⟩
  | 94 => ⟨S64x8x8x64x256, .f32⟩
  | 95 => ⟨S64x8x8x64x256, .f32⟩
  | 96 => ⟨S64x8x8x64x256, .f32⟩
  | 97 => ⟨S64x8x8x64x256, .f32⟩
  | 98 => ⟨S64x8x8x64x256, .f32⟩
  | 99 => ⟨S64x8x8x64x256, .f32⟩
  | 100 => ⟨S64x8x8x64x256, .f32⟩
  | 101 => ⟨S64x8x8x64x256, .f32⟩
  | 102 => ⟨S64x8x8x64x256, .f32⟩
  | 103 => ⟨S64x8x8x64x256, .f32⟩
  | 104 => ⟨S64x8x8x64x256, .f32⟩
  | 105 => ⟨S_, .f32⟩
  | 106 => ⟨S64x8x8x64x128, .f32⟩
  | 107 => ⟨S64x8x8x64x128, .f32⟩
  | 108 => ⟨S64x8x8x64x128, .f32⟩
  | 109 => ⟨S64x8x8x64x128, .f32⟩
  | 110 => ⟨S64x8x8x64x128, .f32⟩
  | 111 => ⟨S64x8x8x64x128, .f32⟩
  | 112 => ⟨S64x8x8x64x128, .f32⟩
  | 113 => ⟨S64x8x8x64x128, .f32⟩
  | 114 => ⟨S64x8x8x64x128, .f32⟩
  | 115 => ⟨S64x8x8x64x128, .f32⟩
  | 116 => ⟨S64x8x8x64x128, .f32⟩
  | 117 => ⟨S64x8x8x64x128, .f32⟩
  | 118 => ⟨S64x8x8x64x128, .f32⟩
  | 119 => ⟨S64x8x8x64x128, .f32⟩
  | 120 => ⟨S64x8x8x64x128, .f32⟩
  | 121 => ⟨S64x8x8x64x128, .f32⟩
  | 122 => ⟨S64x8x8x64x128, .f32⟩
  | 123 => ⟨S64x8x8x64x128, .f32⟩
  | 124 => ⟨S64x8x8x64x128, .f32⟩
  | 125 => ⟨S64x8x8x64x128, .f32⟩
  | 126 => ⟨S64x8x8x64x128, .f32⟩
  | 127 => ⟨S64x8x8x64x128, .f32⟩
  | _ => ⟨S8x4096x6144, .bf16⟩

abbrev hbmTy0_2 (i : Nat) : BufTy := match i % 128 with
  | 0 => ⟨S64x8x8x64x128, .f32⟩
  | 1 => ⟨S64x8x8x64x128, .f32⟩
  | 2 => ⟨S64x8x8x64x128, .f32⟩
  | 3 => ⟨S64x8x8x64x128, .f32⟩
  | 4 => ⟨S64x8x8x64x128, .f32⟩
  | 5 => ⟨S64x8x8x64x128, .f32⟩
  | 6 => ⟨S64x8x8x64x128, .f32⟩
  | 7 => ⟨S64x8x8x64x128, .f32⟩
  | 8 => ⟨S64x8x8x64x128, .f32⟩
  | 9 => ⟨S64x8x8x64x128, .f32⟩
  | 10 => ⟨S64x8x8x64x128, .f32⟩
  | 11 => ⟨S64x8x8x64x128, .f32⟩
  | 12 => ⟨S64x8x8x64x128, .f32⟩
  | 13 => ⟨S64x8x8x64x128, .f32⟩
  | 14 => ⟨S64x8x8x64x128, .f32⟩
  | 15 => ⟨S64x8x8x64x128, .f32⟩
  | 16 => ⟨S64x8x8x64x128, .f32⟩
  | 17 => ⟨S64x8x8x64x128, .f32⟩
  | 18 => ⟨S64x8x8x64x128, .f32⟩
  | 19 => ⟨S64x8x8x64x128, .f32⟩
  | 20 => ⟨S64x8x8x64x128, .f32⟩
  | 21 => ⟨S64x8x8x64x128, .f32⟩
  | 22 => ⟨S64x8x8x64x128, .f32⟩
  | 23 => ⟨S64x8x8x64x128, .f32⟩
  | 24 => ⟨S64x8x8x64x128, .f32⟩
  | 25 => ⟨S64x8x8x64x128, .f32⟩
  | 26 => ⟨S64x8x8x64x128, .f32⟩
  | 27 => ⟨S64x8x8x64x128, .f32⟩
  | 28 => ⟨S64x8x8x64x128, .f32⟩
  | 29 => ⟨S64x8x8x64x128, .f32⟩
  | 30 => ⟨S64x8x8x64x128, .f32⟩
  | 31 => ⟨S64x8x8x64x128, .f32⟩
  | 32 => ⟨S64x8x8x64x128, .f32⟩
  | 33 => ⟨S64x8x8x64x128, .f32⟩
  | 34 => ⟨S64x8x8x64x128, .f32⟩
  | 35 => ⟨S64x8x8x64x128, .f32⟩
  | 36 => ⟨S64x8x8x64x128, .f32⟩
  | 37 => ⟨S64x8x8x64x128, .f32⟩
  | 38 => ⟨S64x8x8x64x128, .f32⟩
  | 39 => ⟨S64x8x8x64x128, .f32⟩
  | 40 => ⟨S64x8x8x64x128, .f32⟩
  | 41 => ⟨S64x8x8x64x128, .f32⟩
  | 42 => ⟨S64x8x8x64x128, .f32⟩
  | 43 => ⟨S64x8x8x64x128, .f32⟩
  | 44 => ⟨S64x8x8x64x128, .f32⟩
  | 45 => ⟨S64x8x8x64x128, .f32⟩
  | 46 => ⟨S64x8x8x64x128, .f32⟩
  | 47 => ⟨S64x8x8x64x128, .f32⟩
  | 48 => ⟨S64x8x8x64x128, .f32⟩
  | 49 => ⟨S64x8x8x64x128, .f32⟩
  | 50 => ⟨S64x8x8x64x128, .f32⟩
  | 51 => ⟨S64x8x8x64x128, .f32⟩
  | 52 => ⟨S64x8x8x64x128, .f32⟩
  | 53 => ⟨S64x8x8x64x128, .f32⟩
  | 54 => ⟨S64x8x8x64x128, .f32⟩
  | 55 => ⟨S64x8x8x64x128, .f32⟩
  | 56 => ⟨S64x8x8x64x128, .f32⟩
  | 57 => ⟨S64x8x8x64x128, .f32⟩
  | 58 => ⟨S64x8x8x64x128, .f32⟩
  | 59 => ⟨S64x8x8x64x128, .f32⟩
  | 60 => ⟨S64x8x8x64x128, .f32⟩
  | 61 => ⟨S64x8x8x64x128, .f32⟩
  | 62 => ⟨S64x8x8x64x128, .f32⟩
  | 63 => ⟨S64x8x8x64x128, .f32⟩
  | 64 => ⟨S64x8x8x64x128, .f32⟩
  | 65 => ⟨S64x8x8x64x128, .f32⟩
  | 66 => ⟨S64x8x8x64x128, .f32⟩
  | 67 => ⟨S64x8x8x64x128, .f32⟩
  | 68 => ⟨S64x8x8x64x128, .f32⟩
  | 69 => ⟨S64x8x8x64x128, .f32⟩
  | 70 => ⟨S64x8x8x64x128, .f32⟩
  | 71 => ⟨S64x8x8x64x128, .f32⟩
  | 72 => ⟨S64x8x8x64x128, .f32⟩
  | 73 => ⟨S64x8x8x64x128, .f32⟩
  | 74 => ⟨S64x8x8x64x128, .f32⟩
  | 75 => ⟨S64x8x8x64x128, .f32⟩
  | 76 => ⟨S64x8x8x64x128, .f32⟩
  | 77 => ⟨S64x8x8x64x128, .f32⟩
  | 78 => ⟨S64x8x8x64x128, .f32⟩
  | 79 => ⟨S64x8x8x64x128, .f32⟩
  | 80 => ⟨S64x8x8x64x128, .f32⟩
  | 81 => ⟨S64x8x8x64x128, .f32⟩
  | 82 => ⟨S64x8x8x64x128, .f32⟩
  | 83 => ⟨S64x8x8x64x128, .f32⟩
  | 84 => ⟨S64x8x8x64x128, .f32⟩
  | 85 => ⟨S64x8x8x64x128, .f32⟩
  | 86 => ⟨S64x8x8x64x128, .f32⟩
  | 87 => ⟨S64x8x8x64x128, .f32⟩
  | 88 => ⟨S64x8x8x64x128, .f32⟩
  | 89 => ⟨S64x8x8x64x128, .f32⟩
  | 90 => ⟨S64x8x8x64x128, .f32⟩
  | 91 => ⟨S64x8x8x64x128, .f32⟩
  | 92 => ⟨S64x8x8x64x128, .f32⟩
  | 93 => ⟨S64x8x8x64x128, .f32⟩
  | 94 => ⟨S64x8x8x64x128, .f32⟩
  | 95 => ⟨S64x8x8x64x128, .f32⟩
  | 96 => ⟨S64x8x8x64x128, .f32⟩
  | 97 => ⟨S64x8x8x64x128, .f32⟩
  | 98 => ⟨S64x8x8x64x128, .f32⟩
  | 99 => ⟨S64x8x8x64x128, .f32⟩
  | 100 => ⟨S64x8x8x64x128, .f32⟩
  | 101 => ⟨S64x8x8x64x128, .f32⟩
  | 102 => ⟨S64x8x8x64x128, .f32⟩
  | 103 => ⟨S64x8x8x64x128, .f32⟩
  | 104 => ⟨S64x8x8x64x128, .f32⟩
  | 105 => ⟨S64x8x8x64x128, .f32⟩
  | 106 => ⟨S64x8x8x64x128, .f32⟩
  | 107 => ⟨S_, .f32⟩
  | 108 => ⟨S8x8x128x256, .f32⟩
  | 109 => ⟨S_, .f32⟩
  | 110 => ⟨S64x8x8x64x256, .f32⟩
  | 111 => ⟨S_, .i32⟩
  | 112 => ⟨S64x8x8x64x256, .f32⟩
  | 113 => ⟨S64x8x8x64x128, .f32⟩
  | 114 => ⟨S64x8x8x64x64, .f32⟩
  | 115 => ⟨S64x8x8x64x128, .f32⟩
  | 116 => ⟨S64x8x8x64x128, .f32⟩
  | 117 => ⟨S64x8x8x1, .f32⟩
  | 118 => ⟨S_, .i32⟩
  | 119 => ⟨S8x8x128x256, .f32⟩
  | 120 => ⟨S64x8x8x64x256, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S1x8x8x64x256, .f32⟩
  | _ => ⟨S8x4096x6144, .bf16⟩

abbrev hbmTy0_3 (i : Nat) : BufTy := match i % 128 with
  | 0 => ⟨S8x8x64x256, .f32⟩
  | 1 => ⟨S_, .i32⟩
  | 2 => ⟨S_, .i32⟩
  | 3 => ⟨S_, .i32⟩
  | 4 => ⟨S_, .i32⟩
  | 5 => ⟨S1x8x8x64x128, .f32⟩
  | 6 => ⟨S8x8x64x128, .f32⟩
  | 7 => ⟨S_, .i32⟩
  | 8 => ⟨S_, .i32⟩
  | 9 => ⟨S_, .i32⟩
  | 10 => ⟨S_, .i32⟩
  | 11 => ⟨S1x8x8x64x64, .f32⟩
  | 12 => ⟨S8x8x64x64, .f32⟩
  | 13 => ⟨S_, .i32⟩
  | 14 => ⟨S_, .i32⟩
  | 15 => ⟨S_, .i32⟩
  | 16 => ⟨S_, .i32⟩
  | 17 => ⟨S1x8x8x64x128, .f32⟩
  | 18 => ⟨S8x8x64x128, .f32⟩
  | 19 => ⟨S_, .i32⟩
  | 20 => ⟨S_, .i32⟩
  | 21 => ⟨S_, .i32⟩
  | 22 => ⟨S_, .i32⟩
  | 23 => ⟨S1x8x8x64x128, .f32⟩
  | 24 => ⟨S8x8x64x128, .f32⟩
  | 25 => ⟨S_, .i32⟩
  | 26 => ⟨S_, .i32⟩
  | 27 => ⟨S_, .i32⟩
  | 28 => ⟨S1x8x8x1, .f32⟩
  | 29 => ⟨S8x8x1, .f32⟩
  | 30 => ⟨S8x8x64x256, .f32⟩
  | 31 => ⟨S8x8x64x256, .f32⟩
  | 32 => ⟨S8x8x64x256, .f32⟩
  | 33 => ⟨S8x8x64x256, .f32⟩
  | 34 => ⟨S8x8x64x256, .f32⟩
  | 35 => ⟨S8x8x1, .f32⟩
  | 36 => ⟨S8x8x1x1, .f32⟩
  | 37 => ⟨S8x8x128x256, .f32⟩
  | 38 => ⟨S8x8x128x256, .f32⟩
  | 39 => ⟨S8x8x128x256, .f32⟩
  | 40 => ⟨S8x8x128x256, .f32⟩
  | 41 => ⟨S1x8x8x64x256, .f32⟩
  | 42 => ⟨S_, .i32⟩
  | 43 => ⟨S_, .i32⟩
  | 44 => ⟨S_, .i32⟩
  | 45 => ⟨S_, .i32⟩
  | 46 => ⟨S64x8x8x64x256, .f32⟩
  | 47 => ⟨S_, .i32⟩
  | 48 => ⟨S_, .i32⟩
  | 49 => ⟨S8x64x64x8x256, .f32⟩
  | 50 => ⟨S8x4096x8x256, .f32⟩
  | 51 => ⟨S8x4096x8x256, .f32⟩
  | 52 => ⟨S_, .f32⟩
  | 53 => ⟨S8x4096x8, .f32⟩
  | 54 => ⟨S8x4096x8x1, .f32⟩
  | 55 => ⟨S_, .f32⟩
  | 56 => ⟨S8x4096x8x1, .f32⟩
  | 57 => ⟨S8x4096x8x1, .f32⟩
  | 58 => ⟨S_, .f32⟩
  | 59 => ⟨S8x4096x8x1, .f32⟩
  | 60 => ⟨S8x4096x8x1, .f32⟩
  | 61 => ⟨S8x4096x8x1, .f32⟩
  | 62 => ⟨S8x4096x8x256, .f32⟩
  | 63 => ⟨S8x4096x8x256, .f32⟩
  | 64 => ⟨S1x1x1x256, .f32⟩
  | 65 => ⟨S8x4096x8x256, .f32⟩
  | 66 => ⟨S8x4096x8x256, .f32⟩
  | 67 => ⟨S8x4096x2048, .f32⟩
  | 68 => ⟨S8x4096x2048, .bf16⟩
  | 69 => ⟨S8x4096x2048, .f32⟩
  | 70 => ⟨S8x4096x2048, .f32⟩
  | 71 => ⟨S8x4096x2048, .f32⟩
  | 72 => ⟨S_, .f32⟩
  | 73 => ⟨S8x4096x2048, .f32⟩
  | 74 => ⟨S8x4096x2048, .f32⟩
  | 75 => ⟨S_, .f32⟩
  | 76 => ⟨S8x4096x2048, .f32⟩
  | 77 => ⟨S8x4096x2048, .f32⟩
  | 78 => ⟨S8x4096x2048, .f32⟩
  | 79 => ⟨S8x4096x2048, .f32⟩
  | 80 => ⟨S8x4096x2048, .bf16⟩
  | _ => ⟨S8x4096x6144, .bf16⟩

abbrev hbmTy (i : Nat) : BufTy := match i / 128 with
  | 0 => hbmTy0_0 i
  | 1 => hbmTy0_1 i
  | 2 => hbmTy0_2 i
  | 3 => hbmTy0_3 i
  | _ => ⟨S8x4096x6144, .bf16⟩

abbrev bufTy : (tb : Table) → Fin (tcTables nBuf tb) → BufTy
  | .hbm, ⟨i, _⟩ => hbmTy i
  | _, _ => ⟨S8x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_0 : Ref sig .tc := ⟨.hbm, 32, rfl⟩
abbrev main_call1_v5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call2_call0_cst : Ref sig .tc := ⟨.hbm, 49, rfl⟩
abbrev main_call2_call0_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v34 : Ref sig .tc := ⟨.hbm, 61, rfl⟩
abbrev main_v35 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_2 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_3 : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_4 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_cst_5 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_cst_6 : Ref sig .tc := ⟨.hbm, 363, rfl⟩
abbrev main_v322 : Ref sig .tc := ⟨.hbm, 364, rfl⟩
abbrev main_cst_7 : Ref sig .tc := ⟨.hbm, 365, rfl⟩
abbrev main_v323 : Ref sig .tc := ⟨.hbm, 366, rfl⟩
abbrev main_c_8 : Ref sig .tc := ⟨.hbm, 367, rfl⟩
abbrev main_v324_0 : Ref sig .tc := ⟨.hbm, 368, rfl⟩
abbrev main_v324_1 : Ref sig .tc := ⟨.hbm, 369, rfl⟩
abbrev main_v324_2 : Ref sig .tc := ⟨.hbm, 370, rfl⟩
abbrev main_v324_3 : Ref sig .tc := ⟨.hbm, 371, rfl⟩
abbrev main_v324_4 : Ref sig .tc := ⟨.hbm, 372, rfl⟩
abbrev main_v324_5 : Ref sig .tc := ⟨.hbm, 373, rfl⟩
abbrev main_v324_6 : Ref sig .tc := ⟨.hbm, 374, rfl⟩
abbrev main_v324_7 : Ref sig .tc := ⟨.hbm, 375, rfl⟩
abbrev main_v324_8 : Ref sig .tc := ⟨.hbm, 376, rfl⟩
abbrev main_while0c_c_20 : Ref sig .tc := ⟨.hbm, 377, rfl⟩
abbrev main_while0c_v346 : Ref sig .tc := ⟨.hbm, 378, rfl⟩
abbrev main_while0b_call7_c : Ref sig .tc := ⟨.hbm, 379, rfl⟩
abbrev main_while0b_call7_c_0 : Ref sig .tc := ⟨.hbm, 380, rfl⟩
abbrev main_while0b_call7_c_1 : Ref sig .tc := ⟨.hbm, 381, rfl⟩
abbrev main_while0b_call7_c_2 : Ref sig .tc := ⟨.hbm, 382, rfl⟩
abbrev main_while0b_call7_v0 : Ref sig .tc := ⟨.hbm, 383, rfl⟩
abbrev main_while0b_v346 : Ref sig .tc := ⟨.hbm, 384, rfl⟩
abbrev main_while0b_call8_c : Ref sig .tc := ⟨.hbm, 385, rfl⟩
abbrev main_while0b_call8_c_0 : Ref sig .tc := ⟨.hbm, 386, rfl⟩
abbrev main_while0b_call8_c_1 : Ref sig .tc := ⟨.hbm, 387, rfl⟩
abbrev main_while0b_call8_c_2 : Ref sig .tc := ⟨.hbm, 388, rfl⟩
abbrev main_while0b_call8_v0 : Ref sig .tc := ⟨.hbm, 389, rfl⟩
abbrev main_while0b_v347 : Ref sig .tc := ⟨.hbm, 390, rfl⟩
abbrev main_while0b_call9_c : Ref sig .tc := ⟨.hbm, 391, rfl⟩
abbrev main_while0b_call9_c_0 : Ref sig .tc := ⟨.hbm, 392, rfl⟩
abbrev main_while0b_call9_c_1 : Ref sig .tc := ⟨.hbm, 393, rfl⟩
abbrev main_while0b_call9_c_2 : Ref sig .tc := ⟨.hbm, 394, rfl⟩
abbrev main_while0b_call9_v0 : Ref sig .tc := ⟨.hbm, 395, rfl⟩
abbrev main_while0b_v348 : Ref sig .tc := ⟨.hbm, 396, rfl⟩
abbrev main_while0b_call10_c : Ref sig .tc := ⟨.hbm, 397, rfl⟩
abbrev main_while0b_call10_c_0 : Ref sig .tc := ⟨.hbm, 398, rfl⟩
abbrev main_while0b_call10_c_1 : Ref sig .tc := ⟨.hbm, 399, rfl⟩
abbrev main_while0b_call10_c_2 : Ref sig .tc := ⟨.hbm, 400, rfl⟩
abbrev main_while0b_call10_v0 : Ref sig .tc := ⟨.hbm, 401, rfl⟩
abbrev main_while0b_v349 : Ref sig .tc := ⟨.hbm, 402, rfl⟩
abbrev main_while0b_call11_c : Ref sig .tc := ⟨.hbm, 403, rfl⟩
abbrev main_while0b_call11_c_0 : Ref sig .tc := ⟨.hbm, 404, rfl⟩
abbrev main_while0b_call11_c_1 : Ref sig .tc := ⟨.hbm, 405, rfl⟩
abbrev main_while0b_call11_c_2 : Ref sig .tc := ⟨.hbm, 406, rfl⟩
abbrev main_while0b_call11_v0 : Ref sig .tc := ⟨.hbm, 407, rfl⟩
abbrev main_while0b_v350 : Ref sig .tc := ⟨.hbm, 408, rfl⟩
abbrev main_while0b_call12_c : Ref sig .tc := ⟨.hbm, 409, rfl⟩
abbrev main_while0b_call12_c_0 : Ref sig .tc := ⟨.hbm, 410, rfl⟩
abbrev main_while0b_call12_c_1 : Ref sig .tc := ⟨.hbm, 411, rfl⟩
abbrev main_while0b_call12_v0 : Ref sig .tc := ⟨.hbm, 412, rfl⟩
abbrev main_while0b_v351 : Ref sig .tc := ⟨.hbm, 413, rfl⟩
abbrev main_while0b_v352 : Ref sig .tc := ⟨.hbm, 414, rfl⟩
abbrev main_while0b_v353 : Ref sig .tc := ⟨.hbm, 415, rfl⟩
abbrev main_while0b_v354 : Ref sig .tc := ⟨.hbm, 416, rfl⟩
abbrev main_while0b_v355 : Ref sig .tc := ⟨.hbm, 417, rfl⟩
abbrev main_while0b_v356 : Ref sig .tc := ⟨.hbm, 418, rfl⟩
abbrev main_while0b_v357 : Ref sig .tc := ⟨.hbm, 419, rfl⟩
abbrev main_while0b_v358 : Ref sig .tc := ⟨.hbm, 420, rfl⟩
abbrev main_while0b_v359 : Ref sig .tc := ⟨.hbm, 421, rfl⟩
abbrev main_while0b_v360 : Ref sig .tc := ⟨.hbm, 422, rfl⟩
abbrev main_while0b_v361 : Ref sig .tc := ⟨.hbm, 423, rfl⟩
abbrev main_while0b_v362 : Ref sig .tc := ⟨.hbm, 424, rfl⟩
abbrev main_while0b_call13_v0 : Ref sig .tc := ⟨.hbm, 425, rfl⟩
abbrev main_while0b_call13_c : Ref sig .tc := ⟨.hbm, 426, rfl⟩
abbrev main_while0b_call13_c_0 : Ref sig .tc := ⟨.hbm, 427, rfl⟩
abbrev main_while0b_call13_c_1 : Ref sig .tc := ⟨.hbm, 428, rfl⟩
abbrev main_while0b_call13_c_2 : Ref sig .tc := ⟨.hbm, 429, rfl⟩
abbrev main_while0b_v363 : Ref sig .tc := ⟨.hbm, 430, rfl⟩
abbrev main_while0b_c_20 : Ref sig .tc := ⟨.hbm, 431, rfl⟩
abbrev main_while0b_v364 : Ref sig .tc := ⟨.hbm, 432, rfl⟩
abbrev main_v325 : Ref sig .tc := ⟨.hbm, 433, rfl⟩
abbrev main_v326 : Ref sig .tc := ⟨.hbm, 434, rfl⟩
abbrev main_v327 : Ref sig .tc := ⟨.hbm, 435, rfl⟩
abbrev main_cst_9 : Ref sig .tc := ⟨.hbm, 436, rfl⟩
abbrev main_v328 : Ref sig .tc := ⟨.hbm, 437, rfl⟩
abbrev main_v329 : Ref sig .tc := ⟨.hbm, 438, rfl⟩
abbrev main_cst_10 : Ref sig .tc := ⟨.hbm, 439, rfl⟩
abbrev main_v330 : Ref sig .tc := ⟨.hbm, 440, rfl⟩
abbrev main_v331 : Ref sig .tc := ⟨.hbm, 441, rfl⟩
abbrev main_cst_11 : Ref sig .tc := ⟨.hbm, 442, rfl⟩
abbrev main_v332 : Ref sig .tc := ⟨.hbm, 443, rfl⟩
abbrev main_v333 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩
abbrev main_v338 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_v342 : Ref sig .tc := ⟨.hbm, 453, rfl⟩
abbrev main_call14_v0 : Ref sig .tc := ⟨.hbm, 454, rfl⟩
abbrev main_call14_v1 : Ref sig .tc := ⟨.hbm, 455, rfl⟩
abbrev main_call14_cst : Ref sig .tc := ⟨.hbm, 456, rfl⟩
abbrev main_call14_v2 : Ref sig .tc := ⟨.hbm, 457, rfl⟩
abbrev main_call14_v3 : Ref sig .tc := ⟨.hbm, 458, rfl⟩
abbrev main_call14_cst_0 : Ref sig .tc := ⟨.hbm, 459, rfl⟩
abbrev main_call14_v4 : Ref sig .tc := ⟨.hbm, 460, rfl⟩
abbrev main_call14_v5 : Ref sig .tc := ⟨.hbm, 461, rfl⟩
abbrev main_v343 : Ref sig .tc := ⟨.hbm, 462, rfl⟩
abbrev main_v344 : Ref sig .tc := ⟨.hbm, 463, rfl⟩
abbrev main_v345 : Ref sig .tc := ⟨.hbm, 464, rfl⟩

abbrev nD : Nat := 1
abbrev τ : Topo := Topo.v7x

variable {F : FTy → Type} [FloatOps F]

abbrev main_while0_count : Scf.Loop 32 := ⟨0#32, 64#32, 1#32⟩
-- ==== Gate.lean ====
abbrev S8x4096x1024 : Shape := ⟨3, ![8, 4096, 1024]⟩
abbrev S1024 : Shape := ⟨1, ![1024]⟩
abbrev S1024x128 : Shape := ⟨2, ![1024, 128]⟩
abbrev S128 : Shape := ⟨1, ![128]⟩
abbrev S32768x1024 : Shape := ⟨2, ![32768, 1024]⟩
abbrev S1x128 : Shape := ⟨2, ![1, 128]⟩
abbrev S1x1024 : Shape := ⟨2, ![1, 1024]⟩
abbrev S32768x128 : Shape := ⟨2, ![32768, 128]⟩
abbrev S1024x1024 : Shape := ⟨2, ![1024, 1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x128, .f32⟩
  | .hbm, ⟨3, _⟩ => ⟨S128, .f32⟩
  | .hbm, ⟨4, _⟩ => ⟨S128, .f32⟩
  | .hbm, ⟨5, _⟩ => ⟨S32768x1024, .f32⟩
  | .hbm, ⟨6, _⟩ => ⟨S1024x128, .bf16⟩
  | .hbm, ⟨7, _⟩ => ⟨S1x128, .f32⟩
  | .hbm, ⟨8, _⟩ => ⟨S1x128, .f32⟩
  | .hbm, ⟨9, _⟩ => ⟨S1x1024, .f32⟩
  | .hbm, ⟨10, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateRefIdeal.lean ====
abbrev S8x4096x1024 : Shape := ⟨3, ![8, 4096, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x128 : Shape := ⟨3, ![8, 4096, 128]⟩
abbrev S8x4096x120 : Shape := ⟨3, ![8, 4096, 120]⟩
abbrev S8x4096x8 : Shape := ⟨3, ![8, 4096, 8]⟩
abbrev S8 : Shape := ⟨1, ![8]⟩
abbrev S1x1x8 : Shape := ⟨3, ![1, 1, 8]⟩
abbrev S32768x128 : Shape := ⟨2, ![32768, 128]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x128, .f32⟩
  | .hbm, ⟨3, _⟩ => ⟨S128, .f32⟩
  | .hbm, ⟨4, _⟩ => ⟨S128, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x128, .f32⟩
  | .hbm, ⟨22, _⟩ => ⟨S8x4096x120, .f32⟩
  | .hbm, ⟨23, _⟩ => ⟨S8x4096x120, .f32⟩
  | .hbm, ⟨24, _⟩ => ⟨S8x4096x120, .f32⟩
  | .hbm, ⟨25, _⟩ => ⟨S_, .f32⟩
  | .hbm, ⟨26, _⟩ => ⟨S8x4096x120, .f32⟩
  | .hbm, ⟨27, _⟩ => ⟨S8x4096x120, .f32⟩
  | .hbm, ⟨28, _⟩ => ⟨S_, .f32⟩
  | .hbm, ⟨29, _⟩ => ⟨S8x4096x120, .f32⟩
  | .hbm, ⟨30, _⟩ => ⟨S8x4096x120, .f32⟩
  | .hbm, ⟨31, _⟩ => ⟨S8x4096x8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S1x1x8, .f32⟩
  | .hbm, ⟨37, _⟩ => ⟨S8x4096x8, .f32⟩
  | .hbm, ⟨38, _⟩ => ⟨S8x4096x8, .f32⟩
  | .hbm, ⟨39, _⟩ => ⟨S_, .f32⟩
  | .hbm, ⟨40, _⟩ => ⟨S8x4096x8, .f32⟩
  | .hbm, ⟨41, _⟩ => ⟨S8x4096x8, .f32⟩
  | .hbm, ⟨42, _⟩ => ⟨S8x4096x8, .f32⟩
  | .hbm, ⟨43, _⟩ => ⟨S8x4096x8, .f32⟩
  | .hbm, ⟨44, _⟩ => ⟨S8x4096x8, .i1⟩
  | .hbm, ⟨45, _⟩ => ⟨S8x4096x8, .f32⟩
  | .hbm, ⟨46, _⟩ => ⟨S8x4096x8, .f32⟩
  | .hbm, ⟨47, _⟩ => ⟨S8x4096x8, .f32⟩
  | .hbm, ⟨48, _⟩ => ⟨S8x4096x8, .f32⟩
  | .hbm, ⟨49, _⟩ => ⟨S8x4096x8, .f32⟩
  | .hbm, ⟨50, _⟩ => ⟨S8x4096x8, .f32⟩
  | .hbm, ⟨51, _⟩ => ⟨S8x4096x8, .f32⟩
  | .hbm, ⟨52, _⟩ => ⟨S8x4096x8, .f32⟩
  | .hbm, ⟨53, _⟩ => ⟨S1x1x8, .f32⟩
  | .hbm, ⟨54, _⟩ => ⟨S8x4096x8, .f32⟩
  | .hbm, ⟨55, _⟩ => ⟨S8x4096x8, .f32⟩
  | .hbm, ⟨56, _⟩ => ⟨S8x4096x128, .f32⟩
  | .hbm, ⟨57, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Proof.Ffn.Payload.lean ====
/-
  What the feed-forward kernel's stored values are at an index, over the extended reals.
-/
module

public import proofs.«01_k».proof.Proof.Gen.KernelIdeal.Skeleton
public import Idealize.ShloMosaic.Lib.Pointwise

@[expose] public section

set_option maxRecDepth 16384

noncomputable section

namespace Cert.Proof.Ffn

open Idealize.ShloMosaic Cert.KernelIdeal Cert.KernelIdeal.Gen
open scoped BigOperators

/-- One normalised row: each element over the root of the row's mean square plus the small constant, times the gain. -/
def norm (x g : Fin 1024 → EReal) (k : Fin 1024) : EReal :=
  x k * Ideal.rsqrt (Ideal.div (∑ l, x l * x l) (Ideal.ofBits .f32 0x44800000#32) + Ideal.ofBits .f32 0x358637BD#32) * g k

/-- The gated activation of two projections. -/
def act (a b : EReal) : EReal := a * Ideal.logistic a * b

/-- The normalised block at an index. -/
theorem pay1_apply (x : Vec Ideal S512x1024 .f32) (g : Vec Ideal S1x1024 .f32) (r : Fin 512) (k : Fin 1024) :
    k0_pay1 (F := Ideal) x g (ix2 r k) = norm (fun l => x (ix2 r l)) (fun l => g (ix2 0 l)) k := by
  pointwise [k0_pay1]
  rfl

/-- The zero block at an index. -/
theorem pay2_apply (r : Fin 512) (k : Fin 1024) : k0_pay2 (F := Ideal) (ix2 r k) = 0 := by
  pointwise [k0_pay2]

/-- The running sum plus one half's product, at an index. -/
theorem pay3_apply (h : Vec Ideal S512x1024 .bf16) (wg wu : Vec Ideal S1024x1408 .bf16) (acc : Vec Ideal S512x1024 .f32)
    (wo : Vec Ideal S1408x1024 .bf16) (r : Fin 512) (k : Fin 1024) :
    k0_pay3 (F := Ideal) h wg wu acc wo (ix2 r k)
      = acc (ix2 r k) + ∑ u : Fin 1408, act (∑ l, h (ix2 r l) * wg (ix2 l u)) (∑ l, h (ix2 r l) * wu (ix2 l u)) * wo (ix2 u k) := by
  pointwise [k0_pay3]
  rfl

/-- The rows plus the sum, at an index. -/
theorem pay4_apply (x acc : Vec Ideal S512x1024 .f32) (r : Fin 512) (k : Fin 1024) :
    k0_pay4 (F := Ideal) x acc (ix2 r k) = x (ix2 r k) + acc (ix2 r k) := by
  pointwise [k0_pay4]

end Cert.Proof.Ffn

end
-- ==== Proof.Ffn.Blocks.lean ====
/-
  The feed-forward kernel's two kinds of grid points, read as functions of the blocks they load: the even point
  normalises its rows, keeps them, and starts the running sum; the odd point adds its half of the hidden width to the
  running sum and writes the rows plus the sum.
-/
module

public import proofs.«01_k».proof.Proof.Gen.KernelIdeal.Value

@[expose] public section

set_option maxRecDepth 16384

noncomputable section

namespace Cert.Proof.Ffn

open Idealize.ShloMosaic Idealize.ShloMosaic.Tactic Idealize.ShloMosaic.TcCoe Cert.KernelIdeal Cert.KernelIdeal.Gen

variable {F : FTy → Type} [FloatOps F]

theorem hz : (![0, 0] : Fin 2 → Nat) = fun _ => 0 := funext fun a => by fin_cases a <;> rfl

/-- The odd point leaves, in the output's block, its rows plus the running sum of the point before plus its own
    half's product. -/
theorem out_B (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1408 .bf16) (h4 : a4.IsWhole)
    (a5 : Memref sig .tc .vmem S1024x1408 .bf16) (h5 : a5.IsWhole) (a6 : Memref sig .tc .vmem S1408x1024 .bf16) (h6 : a6.IsWhole)
    (a7 : Memref sig .tc .vmem S512x1024 .f32) (h7 : a7.IsWhole) (a8 : Memref sig .tc .vmem S512x1024 .bf16) (h8 : a8.IsWhole)
    (a9 : Memref sig .tc .vmem S512x1024 .f32) (h9 : a9.IsWhole) (hc0 : ¬cond0_0 i) (hc1 : cond0_1 i)
    (x0 : Vec F S512x1024 .f32) (x1 : Vec F S1x1024 .f32) (x2 : Vec F S1024x1408 .bf16) (x3 : Vec F S1024x1408 .bf16)
    (x4 : Vec F S1408x1024 .bf16) (xs0 : Vec F S512x1024 .bf16) (xs1 : Vec F S512x1024 .f32) :
    out0_B_5 c i a2 h2 a3 h3 a4 h4 a5 h5 a6 h6 a7 h7 a8 h8 a9 h9 hc0 hc1 x0 x1 x2 x3 x4 xs0 xs1
      = k0_pay4 x0 (k0_pay3 xs0 x2 x3 xs1 x4) := by
  unfold out0_B_5
  rw [View.read_writes_eq_canon _ _ _ (cover0_B_5 c i a2 h2 a3 h3 a4 h4 a5 h5 a6 h6 a7 h7 a8 h8 a9 h9 hc0 hc1 x0 x1 x2 x3 x4 xs0 xs1)]
  unfold kernelRun0_B
  dsimp only
  sl_unfold_words
  rw [View.canon_unit_zero hz]
  simp only [View.readCov_unit_zero (S := S512x1024) _ hz, View.readAt_eq_ld, h2.read_unread, h3.read_unread, h4.read_unread,
    h5.read_unread, h6.read_unread, h8.read_unread, h9.read_unread, View.ld_unit_zero (S := S512x1024) hz,
    View.ld_unit_zero (S := S1x1024) hz, View.ld_unit_zero (S := S1024x1408) hz, View.ld_unit_zero (S := S1408x1024) hz]

/-- The even point leaves its normalised rows in the first scratch buffer, -/
theorem sout_A_0 (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1408 .bf16) (h4 : a4.IsWhole)
    (a5 : Memref sig .tc .vmem S1024x1408 .bf16) (h5 : a5.IsWhole) (a6 : Memref sig .tc .vmem S1408x1024 .bf16) (h6 : a6.IsWhole)
    (a7 : Memref sig .tc .vmem S512x1024 .f32) (h7 : a7.IsWhole) (a8 : Memref sig .tc .vmem S512x1024 .bf16) (h8 : a8.IsWhole)
    (a9 : Memref sig .tc .vmem S512x1024 .f32) (h9 : a9.IsWhole) (hc0 : cond0_0 i) (hc1 : ¬cond0_1 i)
    (x0 : Vec F S512x1024 .f32) (x1 : Vec F S1x1024 .f32) (x2 : Vec F S1024x1408 .bf16) (x3 : Vec F S1024x1408 .bf16)
    (x4 : Vec F S1408x1024 .bf16) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, View.ld_unit_zero (S := S512x1024) hz,
    View.ld_unit_zero (S := S1x1024) hz]

/-- and its own half's product over the zero block in the second. -/
theorem sout_A_1 (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1408 .bf16) (h4 : a4.IsWhole)
    (a5 : Memref sig .tc .vmem S1024x1408 .bf16) (h5 : a5.IsWhole) (a6 : Memref sig .tc .vmem S1408x1024 .bf16) (h6 : a6.IsWhole)
    (a7 : Memref sig .tc .vmem S512x1024 .f32) (h7 : a7.IsWhole) (a8 : Memref sig .tc .vmem S512x1024 .bf16) (h8 : a8.IsWhole)
    (a9 : Memref sig .tc .vmem S512x1024 .f32) (h9 : a9.IsWhole) (hc0 : cond0_0 i) (hc1 : ¬cond0_1 i)
    (x0 : Vec F S512x1024 .f32) (x1 : Vec F S1x1024 .f32) (x2 : Vec F S1024x1408 .bf16) (x3 : Vec F S1024x1408 .bf16)
    (x4 : Vec F S1408x1024 .bf16) :
    sout0_A_1 c i a2 h2 a3 h3 a4 h4 a5 h5 a6 h6 a7 h7 a8 h8 a9 h9 hc0 hc1 x0 x1 x2 x3 x4
      = k0_pay3 (k0_pay1 x0 x1) x2 x3 k0_pay2 x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S512x1024) hz]
  simp only [View.readCov_unit_zero (S := S512x1024) _ hz, View.readAt_eq_ld, h2.read_unread, h3.read_unread, h4.read_unread,
    h5.read_unread, h6.read_unread, View.ld_unit_zero (S := S512x1024) hz,
    View.ld_unit_zero (S := S1x1024) hz, View.ld_unit_zero (S := S1024x1408) hz, View.ld_unit_zero (S := S1408x1024) hz]

end Cert.Proof.Ffn

end
-- ==== Proof.Ffn.Inputs.lean ====
/-
  Which elements of the argument arrays the feed-forward kernel's input blocks hold at each grid point, over the
  extended reals (where the weights' casts to bf16 change nothing).
-/
module

public import proofs.«01_k».proof.Proof.Gen.KernelIdeal.Value
public import Idealize.ShloMosaic.Lib.Pointwise
public import Idealize.ShloMosaic.Lib.StableHlo.ReadAt

@[expose] public section

set_option maxRecDepth 16384

noncomputable section

namespace Cert.Proof.Ffn

open Idealize.ShloMosaic Idealize.ShloMosaic.Tactic Idealize.ShloMosaic.TcCoe Cert.KernelIdeal Cert.KernelIdeal.Gen

variable (m : (ℓ : Loc nD τ sig) → Buf (Elt Ideal) ℓ) (c : Dev nD)

/-- The residual rows the region finds: the argument's rows, flattened. -/
theorem V_x (r : Fin 32768) (k : Fin 1024) :
    (V m c main_v0 : Vec Ideal S32768x1024 .f32) (ix2 r k)
      = (m ((c : Thread nD τ).loc main_arg0) : Vec Ideal S8x4096x1024 .f32)
          (ix3 ⟨r.val / 4096, by omega⟩ ⟨r.val % 4096, by omega⟩ k) := by
  unfold V
  after_reads_at

theorem V_wi (a : Fin 1024) (k : Fin 5632) :
    (V m c main_v1 : Vec Ideal S1024x5632 .bf16) (ix2 a k)
      = (m ((c : Thread nD τ).loc main_arg2) : Vec Ideal S1024x5632 .f32) (ix2 a k) := by
  unfold V
  after_reads_at

theorem V_wo (a : Fin 2816) (k : Fin 1024) :
    (V m c main_v2 : Vec Ideal S2816x1024 .bf16) (ix2 a k)
      = (m ((c : Thread nD τ).loc main_arg3) : Vec Ideal S2816x1024 .f32) (ix2 a k) := by
  unfold V
  after_reads_at

theorem V_gain (k : Fin 1024) :
    (V m c main_v3 : Vec Ideal S1x1024 .f32) (ix2 0 k)
      = (m ((c : Thread nD τ).loc main_arg1) : Vec Ideal S1024 .f32) (ix1 k) := by
  unfold V
  after_reads_at

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 2 :=
  (by decide +kernel : ∀ t : Fin grid0.N, _)
theorem idx3 : ∀ t : Fin cfg0.N, win0_3.index t (0 : Fin 2) = 0 ∧ win0_3.index t (1 : Fin 2) = t.val % 2 + 2 :=
  (by decide +kernel : ∀ t : Fin grid0.N, _)
theorem idx4 : ∀ t : Fin cfg0.N, win0_4.index t (0 : Fin 2) = t.val % 2 ∧ win0_4.index t (1 : Fin 2) = 0 :=
  (by decide +kernel : ∀ t : Fin grid0.N, _)

theorem blk_x (t : Fin cfg0.N) (a : Fin 512) (k : Fin 1024) (h : 512 * (t.val / 2) + a.val < 32768) :
    (iblk m c 0 t : Vec Ideal S512x1024 .f32) (ix2 a k)
      = (V m c main_v0 : Vec Ideal S32768x1024 .f32) (ix2 ⟨512 * (t.val / 2) + a.val, h⟩ k) := by
  unfold iblk
  rw [View.read_apply]
  show (V m c main_v0 : Vec Ideal S32768x1024 .f32) _ = _
  congr 1
  funext b
  apply Fin.ext
  match b with
  | ⟨0, _⟩ => show win0_0.index t 0 * 512 + 1 * a.val = 512 * (t.val / 2) + a.val; rw [(idx0 t).1]; omega
  | ⟨1, _⟩ => show win0_0.index t 1 * 1024 + 1 * k.val = k.val; rw [(idx0 t).2]; omega

theorem blk_gain (t : Fin cfg0.N) (k : Fin 1024) :
    (iblk m c 1 t : Vec Ideal S1x1024 .f32) (ix2 0 k) = (V m c main_v3 : Vec Ideal S1x1024 .f32) (ix2 0 k) := by
  unfold iblk
  rw [View.read_apply]
  show (V m c main_v3 : Vec Ideal S1x1024 .f32) _ = _
  congr 1
  funext b
  apply Fin.ext
  match b with
  | ⟨0, _⟩ => show win0_1.index t 0 * 1 + 1 * 0 = 0; rw [(idx1 t).1]
  | ⟨1, _⟩ => show win0_1.index t 1 * 1024 + 1 * k.val = k.val; rw [(idx1 t).2]; omega

theorem blk_wg (t : Fin cfg0.N) (a : Fin 1024) (k : Fin 1408) (h : 1408 * (t.val % 2) + k.val < 5632) :
    (iblk m c 2 t : Vec Ideal S1024x1408 .bf16) (ix2 a k)
      = (V m c main_v1 : Vec Ideal S1024x5632 .bf16) (ix2 a ⟨1408 * (t.val % 2) + k.val, h⟩) := by
  unfold iblk
  rw [View.read_apply]
  show (V m c main_v1 : Vec Ideal S1024x5632 .bf16) _ = _
  congr 1
  funext b
  apply Fin.ext
  match b with
  | ⟨0, _⟩ => show win0_2.index t 0 * 1024 + 1 * a.val = a.val; rw [(idx2 t).1]; omega
  | ⟨1, _⟩ => show win0_2.index t 1 * 1408 + 1 * k.val = 1408 * (t.val % 2) + k.val; rw [(idx2 t).2]; omega

theorem blk_wu (t : Fin cfg0.N) (a : Fin 1024) (k : Fin 1408) (h : 2816 + (1408 * (t.val % 2) + k.val) < 5632) :
    (iblk m c 3 t : Vec Ideal S1024x1408 .bf16) (ix2 a k)
      = (V m c main_v1 : Vec Ideal S1024x5632 .bf16) (ix2 a ⟨2816 + (1408 * (t.val % 2) + k.val), h⟩) := by
  unfold iblk
  rw [View.read_apply]
  show (V m c main_v1 : Vec Ideal S1024x5632 .bf16) _ = _
  congr 1
  funext b
  apply Fin.ext
  match b with
  | ⟨0, _⟩ => show win0_3.index t 0 * 1024 + 1 * a.val = a.val; rw [(idx3 t).1]; omega
  | ⟨1, _⟩ => show win0_3.index t 1 * 1408 + 1 * k.val = 2816 + (1408 * (t.val % 2) + k.val); rw [(idx3 t).2]; omega

theorem blk_wo (t : Fin cfg0.N) (a : Fin 1408) (k : Fin 1024) (h : 1408 * (t.val % 2) + a.val < 2816) :
    (iblk m c 4 t : Vec Ideal S1408x1024 .bf16) (ix2 a k)
      = (V m c main_v2 : Vec Ideal S2816x1024 .bf16) (ix2 ⟨1408 * (t.val % 2) + a.val, h⟩ k) := by
  unfold iblk
  rw [View.read_apply]
  show (V m c main_v2 : Vec Ideal S2816x1024 .bf16) _ = _
  congr 1
  funext b
  apply Fin.ext
  match b with
  | ⟨0, _⟩ => show win0_4.index t 0 * 1408 + 1 * a.val = 1408 * (t.val % 2) + a.val; rw [(idx4 t).1]; omega
  | ⟨1, _⟩ => show win0_4.index t 1 * 1024 + 1 * k.val = k.val; rw [(idx4 t).2]; omega

end Cert.Proof.Ffn

end
-- ==== Proof.Ffn.Value.lean ====
/-
  The feed-forward kernel's result array, element by element, over the extended reals: the residual row plus the gated
  projections of the normalised row.
-/
module

public import proofs.«01_k».proof.Proof.Ffn.Payload
public import proofs.«01_k».proof.Proof.Ffn.Blocks
public import proofs.«01_k».proof.Proof.Ffn.Inputs

@[expose] public section

set_option maxRecDepth 16384

noncomputable section

namespace Cert.Proof.Ffn

open Idealize.ShloMosaic Idealize.ShloMosaic.Tactic Idealize.ShloMosaic.TcCoe Cert.KernelIdeal Cert.KernelIdeal.Gen
open scoped BigOperators

/-- One projection of a normalised row. -/
def proj (x g : Fin 1024 → EReal) (w : Fin 1024 → Fin 5632 → EReal) (u : Fin 5632) : EReal := ∑ l, norm x g l * w l u

/-- The whole sub-layer on one row: the row plus the sum over the hidden width of the gated projections. -/
def ffn (x g : Fin 1024 → EReal) (w : Fin 1024 → Fin 5632 → EReal) (v : Fin 2816 → Fin 1024 → EReal) (j : Fin 1024) : EReal :=
  x j + ∑ u : Fin 2816, act (proj x g w ⟨u.val, by omega⟩) (proj x g w ⟨2816 + u.val, by omega⟩) * v u j

variable (m : (ℓ : Loc nD τ sig) → Buf (Elt Ideal) ℓ) (c : Dev nD)

/-- The arguments as functions of coordinates. -/
abbrev X (r : Fin 32768) (k : Fin 1024) : EReal :=
  (m ((c : Thread nD τ).loc main_arg0) : Vec Ideal S8x4096x1024 .f32) (ix3 ⟨r.val / 4096, by omega⟩ ⟨r.val % 4096, by omega⟩ k)
abbrev G (k : Fin 1024) : EReal := (m ((c : Thread nD τ).loc main_arg1) : Vec Ideal S1024 .f32) (ix1 k)
abbrev W (a : Fin 1024) (k : Fin 5632) : EReal := (m ((c : Thread nD τ).loc main_arg2) : Vec Ideal S1024x5632 .f32) (ix2 a k)
abbrev O (a : Fin 2816) (k : Fin 1024) : EReal := (m ((c : Thread nD τ).loc main_arg3) : Vec Ideal S2816x1024 .f32) (ix2 a k)

/-- What the pair of points of row block `q` leaves in the output's staging buffer, in terms of the input blocks of the
    two points. -/
theorem outs_pair (q : ℕ) (tA tB : Fin cfg0.N) (hA : tA.val = 2 * q) (hB : tB.val = 2 * q + 1) :
    (outsAt0 m c tB.val tB.isLt).1
      = k0_pay4 (F := Ideal) (iblk m c 0 tB)
          (k0_pay3 (F := Ideal) (k0_pay1 (F := Ideal) (iblk m c 0 tA) (iblk m c 1 tA)) (iblk m c 2 tB) (iblk m c 3 tB)
            (k0_pay3 (F := Ideal) (k0_pay1 (F := Ideal) (iblk m c 0 tA) (iblk m c 1 tA)) (iblk m c 2 tA) (iblk m c 3 tA)
              (k0_pay2 (F := Ideal)) (iblk m c 4 tA))
            (iblk m c 4 tB)) := by
  have e : ∀ (n : ℕ) (hn : n < cfg0.N), n = tA.val → outsAt0 m c n hn = outsAt0 m c tA.val tA.isLt := by
    intro n hn h; subst h; rfl
  rw [outsAt0_B m c tB (by omega) (by omega)]
  dsimp only
  rw [out_B, e (tB.val - 1) _ (by omega), outsAt0_A m c tA (by omega) (by omega)]
  dsimp only
  rw [sout_A_0, sout_A_1]

/-- The normalised block of the even point, at an index, in terms of the arguments. -/
theorem norm_at (q : ℕ) (tA : Fin cfg0.N) (hA : tA.val = 2 * q) (a : Fin 512) (l : Fin 1024) (h : 512 * q + a.val < 32768) :
    k0_pay1 (F := Ideal) (iblk m c 0 tA) (iblk m c 1 tA) (ix2 a l)
      = norm (X m c ⟨512 * q + a.val, h⟩) (G m c) l := by
  have hq : tA.val / 2 = q := by omega
  rw [pay1_apply]
  congr 1
  · funext k
    rw [blk_x m c tA a k (by omega), V_x]
    simp only [hq]
  · funext k
    rw [blk_gain, V_gain]

/-- One point's product at an index, in terms of the arguments: its half `p` of the hidden width. -/
theorem half_at (q p : ℕ) (hp : p < 2) (tA tB : Fin cfg0.N) (hA : tA.val = 2 * q) (hB : tB.val = 2 * q + p) (a : Fin 512)
    (h : 512 * q + a.val < 32768) (acc : Vec Ideal S512x1024 .f32) (k : Fin 1024) :
    k0_pay3 (F := Ideal) (k0_pay1 (F := Ideal) (iblk m c 0 tA) (iblk m c 1 tA)) (iblk m c 2 tB) (iblk m c 3 tB) acc (iblk m c 4 tB) (ix2 a k)
      = acc (ix2 a k) + ∑ u : Fin 1408,
          act (proj (X m c ⟨512 * q + a.val, h⟩) (G m c) (W m c) ⟨1408 * p + u.val, by omega⟩)
            (proj (X m c ⟨512 * q + a.val, h⟩) (G m c) (W m c) ⟨2816 + (1408 * p + u.val), by omega⟩)
          * O m c ⟨1408 * p + u.val, by omega⟩ k := by
  have hq : tB.val % 2 = p := by omega
  rw [pay3_apply]
  refine congrArg (acc (ix2 a k) + ·) (Finset.sum_congr rfl fun u _ => congrArg₂ (· * ·) (congrArg₂ act ?_ ?_) ?_)
  · refine Finset.sum_congr rfl fun l _ => ?_
    rw [norm_at m c q tA hA a l h, blk_wg m c tB l u (by omega), V_wi]
    simp only [hq]
  · refine Finset.sum_congr rfl fun l _ => ?_
    rw [norm_at m c q tA hA a l h, blk_wu m c tB l u (by omega), V_wi]
    simp only [hq]
  · rw [blk_wo m c tB u k (by omega), V_wo]
    simp only [hq]

/-- The kernel's result array at an index: the sub-layer of the row. -/
theorem G5_apply (r : Fin 32768) (j : Fin 1024) :
    (Cert.KernelIdeal.Value.G5 m c : Vec Ideal S32768x1024 .f32) (ix2 r j) = ffn (X m c r) (G m c) (W m c) (O m c) j := by
  have hN : cfg0.N = 128 := N_0
  have hp : Cert.KernelIdeal.Value.pt5Of (ix2 r j) = 2 * (r.val / 512) + 1 := by
    show 2 * (1 * (r.val / 512 - 0) + 1 * (j.val / 1024 - 0)) + 1 = _
    have := j.isLt; omega
  obtain ⟨tB, hB⟩ : ∃ t : Fin cfg0.N, t.val = 2 * (r.val / 512) + 1 := ⟨⟨2 * (r.val / 512) + 1, by have := r.isLt; omega⟩, rfl⟩
  obtain ⟨tA, hA⟩ : ∃ t : Fin cfg0.N, t.val = 2 * (r.val / 512) := ⟨⟨2 * (r.val / 512), by have := r.isLt; omega⟩, rfl⟩
  have hl : Cert.KernelIdeal.Value.loc5Of (ix2 r j) = ix2 ⟨r.val % 512, by omega⟩ j := by
    funext b; apply Fin.ext
    match b with
    | ⟨0, _⟩ => rfl
    | ⟨1, _⟩ => show j.val % 1024 = j.val; have := j.isLt; omega
  unfold Cert.KernelIdeal.Value.G5
  have hlt : Cert.KernelIdeal.Value.pt5Of (ix2 r j) < cfg0.N := by rw [hp, ← hB]; exact tB.isLt
  rw [dif_pos hlt, ← Cert.KernelIdeal.Value.outsAt0_sweep m c _ hlt, hl]
  have e : ∀ (n : ℕ) (hn : n < cfg0.N), n = tB.val → outsAt0 m c n hn = outsAt0 m c tB.val tB.isLt := by
    intro n hn h; subst h; rfl
  rw [e _ hlt (hp.trans hB.symm), outs_pair m c (r.val / 512) tA tB hA hB]
  have hr : 512 * (r.val / 512) + r.val % 512 < 32768 := by have := r.isLt; omega
  have hre : (⟨512 * (r.val / 512) + r.val % 512, hr⟩ : Fin 32768) = r := Fin.ext (by dsimp only; omega)
  have hq : tB.val / 2 = r.val / 512 := by omega
  rw [pay4_apply, half_at m c (r.val / 512) 1 (by omega) tA tB hA hB ⟨r.val % 512, by omega⟩ hr,
    half_at m c (r.val / 512) 0 (by omega) tA tA hA hA ⟨r.val % 512, by omega⟩ hr, pay2_apply, zero_add,
    blk_x m c tB ⟨r.val % 512, by omega⟩ j (by dsimp only; omega), V_x]
  simp only [hq, hre]
  unfold ffn
  refine congrArg₂ (· + ·) ?_ ?_
  · show X m c ⟨512 * (r.val / 512) + r.val % 512, hr⟩ j = X m c r j
    rw [hre]
  · rw [Fin.sum_univ_add (a := 1408) (b := 1408)]
    refine congrArg₂ (· + ·) (Finset.sum_congr rfl fun u _ => ?_) (Finset.sum_congr rfl fun u _ => ?_)
    · simp only [Nat.mul_zero, Nat.zero_add, Fin.val_castAdd]
      rfl
    · simp only [Nat.mul_one, Fin.val_natAdd]
      rfl

end Cert.Proof.Ffn

end
-- ==== Proof.Ffn.Ref.lean ====
/-
  The feed-forward reference's result array, element by element, over the extended reals: the same function of the row
  as the kernel's.
-/
module

public import proofs.«01_k».proof.Proof.Ffn.Value
public import proofs.«01_k».proof.Proof.Gen.ReferenceIdeal.Run
public import proofs.«01_k».proof.Proof.Gen.ReferenceIdeal.Read

@[expose] public section

set_option maxRecDepth 16384

noncomputable section

namespace Cert.Proof.Ffn

open Idealize.ShloMosaic Cert.ReferenceIdeal Cert.ReferenceIdeal.Gen Cert.ReferenceIdeal.Read
open scoped BigOperators

/-- The reference's result at an index is the sub-layer of the row. -/
theorem ref_apply (x0 : Vec Ideal S8x4096x1024 .f32) (x1 : Vec Ideal S1024 .f32) (x2 : Vec Ideal S1024x5632 .f32)
    (x3 : Vec Ideal S2816x1024 .f32) (r : Fin 32768) (j : Fin 1024) :
    val_main_v20 (F := Ideal) x0 x1 x2 x3 (ix2 r j)
      = ffn (fun k => x0 (ix3 ⟨r.val / 4096, by omega⟩ ⟨r.val % 4096, by omega⟩ k)) (fun k => x1 (ix1 k)) (fun a k => x2 (ix2 a k))
          (fun a k => x3 (ix2 a k)) j := by
  unfold ffn act proj norm Ideal.logistic
  pointwise [val_main_v20, val_main_v19, val_main_v18, val_main_v17, val_main_v16, val_main_call0_v5, val_main_call0_v4,
    val_main_call0_v3, val_main_call0_v2, val_main_call0_v1, val_main_call0_v0, val_main_call0_cst, val_main_call0_cst_0,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

end Cert.Proof.Ffn

end
-- ==== Proof.Ffn.Claim.lean ====
/-
  The feed-forward call's claims: the two arrays are equal, element by element, over the extended reals.
-/
module

public import proofs.«01_k».proof.Defs
public import proofs.«01_k».proof.Proof.Ffn.Ref
public import Idealize.ShloMosaic.Lib.Quiescent

@[expose] public section

noncomputable section

namespace Cert.Proof.Ffn

open Idealize.ShloMosaic Idealize.SL.Sem

/-- The reference runs, leaves its arguments unchanged, and (it has no semaphores) every counter at zero. -/
theorem ref_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- The kernel and the reference leave equal arrays. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G5 m c, Cert.KernelIdeal.Value.run m g, ?_⟩
  refine (θ_run _ _ _).mono (fun r h c => ⟨?_, (h c).2⟩) (Cert.ReferenceIdeal.Value.run (F := Ideal) m' g')
  refine (h c).1.trans ((Cert.ReferenceIdeal.Read.val_main_v20_eq (F := Ideal) _ _ _ _).trans ?_)
  obtain ⟨h0, h1, h2, h3⟩ := hargs c
  rw [h0, h1, h2, h3]
  funext i
  obtain ⟨a, b, rfl⟩ : ∃ (a : Fin 32768) (b : Fin 1024), i = ix2 a b := ⟨i 0, i 1, eq_ix2 i⟩
  exact (ref_apply _ _ _ _ a b).trans (G5_apply m c a b).symm

end Cert.Proof.Ffn

end
-- ==== Proof.Op.Value.lean ====
/-
  The narrow output projection's result array, element by element, over the extended reals: the residual row plus the
  product of the mixer's row with the weights.
-/
module

public import proofs.«01_k».proof.Proof.Gen.OpIdeal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.Op

open Idealize.ShloMosaic Idealize.ShloMosaic.Tactic Idealize.ShloMosaic.TcCoe Cert.OpIdeal Cert.OpIdeal.Gen
open scoped BigOperators

/-- The stored block at an index. -/
theorem pay_apply (x : Vec Ideal S512x1024 .f32) (a : Vec Ideal S512x1024 .bf16) (w : Vec Ideal S1024x1024 .bf16) (r : Fin 512) (k : Fin 1024) :
    k0_pay1 (F := Ideal) x a w (ix2 r k) = x (ix2 r k) + ∑ u : Fin 1024, a (ix2 r u) * w (ix2 u k) := by
  pointwise [k0_pay1]

variable (m : (ℓ : Loc nD τ sig) → Buf (Elt Ideal) ℓ) (c : Dev nD)

/-- The arguments as functions of coordinates. -/
abbrev A (r : Fin 32768) (k : Fin 1024) : EReal := (m ((c : Thread nD τ).loc main_arg0) : Vec Ideal S32768x1024 .bf16) (ix2 r k)
abbrev W (a : Fin 1024) (k : Fin 1024) : EReal := (m ((c : Thread nD τ).loc main_arg1) : Vec Ideal S1024x1024 .f32) (ix2 a k)
abbrev X (r : Fin 32768) (k : Fin 1024) : EReal := (m ((c : Thread nD τ).loc main_arg2) : Vec Ideal S32768x1024 .f32) (ix2 r k)

/-- The projection and its residual add, as a whole array. -/
def out : Vec Ideal S32768x1024 .f32 := fun i => X m c (i 0) (i 1) + ∑ u : Fin 1024, A m c (i 0) u * W m c u (i 1)

theorem V_w (a : Fin 1024) (k : Fin 1024) :
    (V m c main_v0 : Vec Ideal S1024x1024 .bf16) (ix2 a k) = W m c a k := by
  unfold V
  after_reads_at

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem hz : (![0, 0] : Fin 2 → Nat) = fun _ => 0 := funext fun a => by fin_cases a <;> rfl

theorem blk_a (t : Fin cfg0.N) (a : Fin 512) (u : Fin 1024) (h : t.val * 512 + a.val < 32768) :
    (iblk m c 0 t : Vec Ideal S512x1024 .bf16) (ix2 a u) = A m c ⟨t.val * 512 + a.val, h⟩ u := by
  blk_simp [iblk]
  rw [V_main_arg0]
  refine congrArg (m ((c : Thread nD τ).loc main_arg0) : Vec Ideal S32768x1024 .bf16) ?_
  blk_ext [idx0]

theorem blk_w (t : Fin cfg0.N) (u : Fin 1024) (k : Fin 1024) :
    (iblk m c 1 t : Vec Ideal S1024x1024 .bf16) (ix2 u k) = W m c u k := by
  rw [← V_w m c]
  blk_simp [iblk]
  refine congrArg (V m c main_v0 : Vec Ideal S1024x1024 .bf16) ?_
  blk_ext [idx1]

theorem blk_x (t : Fin cfg0.N) (a : Fin 512) (u : Fin 1024) (h : t.val * 512 + a.val < 32768) :
    (iblk m c 2 t : Vec Ideal S512x1024 .f32) (ix2 a u) = X m c ⟨t.val * 512 + a.val, h⟩ u := by
  blk_simp [iblk]
  rw [V_main_arg2]
  refine congrArg (m ((c : Thread nD τ).loc main_arg2) : Vec Ideal S32768x1024 .f32) ?_
  blk_ext [idx2]

/-- The result array. -/
theorem final : (dats m 0 c).arrAt 3 cfg0.N = out m c := by
  refine (dats m 0 c).arrAt_eq_of_covers 3 _ (by decide +kernel) fun t hf y => ?_
  obtain ⟨a, b, rfl⟩ : ∃ (a : Fin 512) (b : Fin 1024), y = ix2 a b := ⟨y 0, y 1, eq_ix2 y⟩
  have ht : t.val * 512 + a.val < 32768 := by have h1 : t.val < cfg0.N := t.isLt; have h2 : cfg0.N = 64 := N_0; omega
  have he : ((cfg0.win 3).blk t).view.emb (ix2 a b) = (ix2 ⟨t.val * 512 + a.val, ht⟩ b : S32768x1024.Idx) := by
    blk_ext [idx3]
  rw [he]
  blk_simp
  rw [after0_3]
  unfold out0_3
  rw [View.canon_unit_zero hz]
  simp only [View.ld_unit_zero (S := S512x1024) hz, View.ld_unit_zero (S := S1024x1024) hz]
  rw [pay_apply, blk_x m c t a b ht]
  refine congrArg (X m c ⟨t.val * 512 + a.val, ht⟩ b + ·) (Finset.sum_congr rfl fun u _ => ?_)
  rw [blk_a m c t a u ht, blk_w]
  rfl

end Cert.Proof.Op

end
-- ==== Proof.Op.Claim.lean ====
/-
  The narrow output projection's claims: the two arrays are equal, element by element, over the extended reals.
-/
module

public import proofs.«01_k».proof.Defs
public import proofs.«01_k».proof.Proof.Op.Value
public import proofs.«01_k».proof.Proof.Gen.OpRefIdeal.Run
public import proofs.«01_k».proof.Proof.Gen.OpRefIdeal.Read
public import Idealize.ShloMosaic.Lib.Quiescent

@[expose] public section

set_option maxRecDepth 16384

noncomputable section

namespace Cert.Proof.Op

open Idealize.ShloMosaic Idealize.SL.Sem Cert.OpRefIdeal Cert.OpRefIdeal.Gen Cert.OpRefIdeal.Read
open scoped BigOperators

/-- The reference's result at an index. -/
theorem ref_apply (x0 : Vec Ideal S32768x1024 .bf16) (x1 : Vec Ideal S1024x1024 .f32) (x2 : Vec Ideal S32768x1024 .f32)
    (r : Fin 32768) (j : Fin 1024) :
    val_main_v2 (F := Ideal) x0 x1 x2 (ix2 r j) = x2 (ix2 r j) + ∑ u : Fin 1024, x0 (ix2 r u) * x1 (ix2 u j) := by
  pointwise [val_main_v2, val_main_v1, val_main_v0]

/-- The reference runs, leaves its arguments unchanged, and (it has no semaphores) every counter at zero. -/
theorem ref_frame : Cert.quiescent_OpRefIdeal (hOpRefIdeal := Cert.OpRefIdeal.Gen.facts) := fun m ρ _ =>
  (θ_run _ _ _).mono (fun r h => ⟨fun c => (h c).2, sem_eq_zero_of_no_sems (by decide) r.2⟩)
    (Cert.OpRefIdeal.Value.run (F := Ideal) m ρ)

/-- The kernel and the reference leave equal arrays. -/
theorem algebraic : Cert.algebraic_OpIdeal_OpRefIdeal (hOpIdeal := Cert.OpIdeal.Gen.facts)
    (hOpRefIdeal := Cert.OpRefIdeal.Gen.facts) := by
  intro m g m' g' _ hargs
  refine ⟨fun c => out m c, (θ_run _ _ _).mono (fun r h c => ⟨(h c).1.trans (final m c), (h c).2⟩)
    (Cert.OpIdeal.Value.run_blocks (F := Ideal) m g), ?_⟩
  refine (θ_run _ _ _).mono (fun r h c => ⟨?_, (h c).2⟩) (Cert.OpRefIdeal.Value.run (F := Ideal) m' g')
  refine (h c).1.trans ((Cert.OpRefIdeal.Read.val_main_v2_eq (F := Ideal) _ _ _).trans ?_)
  obtain ⟨h0, h1, h2⟩ := hargs c
  rw [h0, h1, h2]
  funext i
  obtain ⟨a, b, rfl⟩ : ∃ (a : Fin 32768) (b : Fin 1024), i = ix2 a b := ⟨i 0, i 1, eq_ix2 i⟩
  exact ref_apply _ _ _ a b

end Cert.Proof.Op

end
-- ==== Proof.Wide.Value.lean ====
/-
  The wide output projection's result array, element by element, over the extended reals: the residual row plus the
  product of the mixer's row with the weights.
-/
module

public import proofs.«01_k».proof.Proof.Gen.WideIdeal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.Wide

open Idealize.ShloMosaic Idealize.ShloMosaic.Tactic Idealize.ShloMosaic.TcCoe Cert.WideIdeal Cert.WideIdeal.Gen
open scoped BigOperators

/-- The stored block at an index. -/
theorem pay_apply (x : Vec Ideal S512x1024 .f32) (a : Vec Ideal S512x2048 .bf16) (w : Vec Ideal S2048x1024 .bf16) (r : Fin 512) (k : Fin 1024) :
    k0_pay1 (F := Ideal) x a w (ix2 r k) = x (ix2 r k) + ∑ u : Fin 2048, a (ix2 r u) * w (ix2 u k) := by
  pointwise [k0_pay1]

variable (m : (ℓ : Loc nD τ sig) → Buf (Elt Ideal) ℓ) (c : Dev nD)

/-- The arguments as functions of coordinates. -/
abbrev A (r : Fin 32768) (k : Fin 2048) : EReal := (m ((c : Thread nD τ).loc main_arg0) : Vec Ideal S32768x2048 .bf16) (ix2 r k)
abbrev W (a : Fin 2048) (k : Fin 1024) : EReal := (m ((c : Thread nD τ).loc main_arg1) : Vec Ideal S2048x1024 .f32) (ix2 a k)
abbrev X (r : Fin 32768) (k : Fin 1024) : EReal := (m ((c : Thread nD τ).loc main_arg2) : Vec Ideal S32768x1024 .f32) (ix2 r k)

/-- The projection and its residual add, as a whole array. -/
def out : Vec Ideal S32768x1024 .f32 := fun i => X m c (i 0) (i 1) + ∑ u : Fin 2048, A m c (i 0) u * W m c u (i 1)

theorem V_w (a : Fin 2048) (k : Fin 1024) :
    (V m c main_v0 : Vec Ideal S2048x1024 .bf16) (ix2 a k) = W m c a k := by
  unfold V
  after_reads_at

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem hz : (![0, 0] : Fin 2 → Nat) = fun _ => 0 := funext fun a => by fin_cases a <;> rfl

theorem blk_a (t : Fin cfg0.N) (a : Fin 512) (u : Fin 2048) (h : t.val * 512 + a.val < 32768) :
    (iblk m c 0 t : Vec Ideal S512x2048 .bf16) (ix2 a u) = A m c ⟨t.val * 512 + a.val, h⟩ u := by
  blk_simp [iblk]
  rw [V_main_arg0]
  refine congrArg (m ((c : Thread nD τ).loc main_arg0) : Vec Ideal S32768x2048 .bf16) ?_
  blk_ext [idx0]

theorem blk_w (t : Fin cfg0.N) (u : Fin 2048) (k : Fin 1024) :
    (iblk m c 1 t : Vec Ideal S2048x1024 .bf16) (ix2 u k) = W m c u k := by
  rw [← V_w m c]
  blk_simp [iblk]
  refine congrArg (V m c main_v0 : Vec Ideal S2048x1024 .bf16) ?_
  blk_ext [idx1]

theorem blk_x (t : Fin cfg0.N) (a : Fin 512) (u : Fin 1024) (h : t.val * 512 + a.val < 32768) :
    (iblk m c 2 t : Vec Ideal S512x1024 .f32) (ix2 a u) = X m c ⟨t.val * 512 + a.val, h⟩ u := by
  blk_simp [iblk]
  rw [V_main_arg2]
  refine congrArg (m ((c : Thread nD τ).loc main_arg2) : Vec Ideal S32768x1024 .f32) ?_
  blk_ext [idx2]

/-- The result array. -/
theorem final : (dats m 0 c).arrAt 3 cfg0.N = out m c := by
  refine (dats m 0 c).arrAt_eq_of_covers 3 _ (by decide +kernel) fun t hf y => ?_
  obtain ⟨a, b, rfl⟩ : ∃ (a : Fin 512) (b : Fin 1024), y = ix2 a b := ⟨y 0, y 1, eq_ix2 y⟩
  have ht : t.val * 512 + a.val < 32768 := by have h1 : t.val < cfg0.N := t.isLt; have h2 : cfg0.N = 64 := N_0; omega
  have he : ((cfg0.win 3).blk t).view.emb (ix2 a b) = (ix2 ⟨t.val * 512 + a.val, ht⟩ b : S32768x1024.Idx) := by
    blk_ext [idx3]
  rw [he]
  blk_simp
  rw [after0_3]
  unfold out0_3
  rw [View.canon_unit_zero hz]
  simp only [View.ld_unit_zero (S := S512x1024) hz, View.ld_unit_zero (S := S512x2048) hz, View.ld_unit_zero (S := S2048x1024) hz]
  rw [pay_apply, blk_x m c t a b ht]
  refine congrArg (X m c ⟨t.val * 512 + a.val, ht⟩ b + ·) (Finset.sum_congr rfl fun u _ => ?_)
  rw [blk_a m c t a u ht, blk_w]
  rfl

end Cert.Proof.Wide

end
-- ==== Proof.Wide.Claim.lean ====
/-
  The wide output projection's claims: the two arrays are equal, element by element, over the extended reals.
-/
module

public import proofs.«01_k».proof.Defs
public import proofs.«01_k».proof.Proof.Wide.Value
public import proofs.«01_k».proof.Proof.Gen.WideRefIdeal.Run
public import proofs.«01_k».proof.Proof.Gen.WideRefIdeal.Read
public import Idealize.ShloMosaic.Lib.Quiescent

@[expose] public section

set_option maxRecDepth 16384

noncomputable section

namespace Cert.Proof.Wide

open Idealize.ShloMosaic Idealize.SL.Sem Cert.WideRefIdeal Cert.WideRefIdeal.Gen Cert.WideRefIdeal.Read
open scoped BigOperators

/-- The reference's result at an index. -/
theorem ref_apply (x0 : Vec Ideal S32768x2048 .bf16) (x1 : Vec Ideal S2048x1024 .f32) (x2 : Vec Ideal S32768x1024 .f32)
    (r : Fin 32768) (j : Fin 1024) :
    val_main_v2 (F := Ideal) x0 x1 x2 (ix2 r j) = x2 (ix2 r j) + ∑ u : Fin 2048, x0 (ix2 r u) * x1 (ix2 u j) := by
  pointwise [val_main_v2, val_main_v1, val_main_v0]

/-- The reference runs, leaves its arguments unchanged, and (it has no semaphores) every counter at zero. -/
theorem ref_frame : Cert.quiescent_WideRefIdeal (hWideRefIdeal := Cert.WideRefIdeal.Gen.facts) := fun m ρ _ =>
  (θ_run _ _ _).mono (fun r h => ⟨fun c => (h c).2, sem_eq_zero_of_no_sems (by decide) r.2⟩)
    (Cert.WideRefIdeal.Value.run (F := Ideal) m ρ)

/-- The kernel and the reference leave equal arrays. -/
theorem algebraic : Cert.algebraic_WideIdeal_WideRefIdeal (hWideIdeal := Cert.WideIdeal.Gen.facts)
    (hWideRefIdeal := Cert.WideRefIdeal.Gen.facts) := by
  intro m g m' g' _ hargs
  refine ⟨fun c => out m c, (θ_run _ _ _).mono (fun r h c => ⟨(h c).1.trans (final m c), (h c).2⟩)
    (Cert.WideIdeal.Value.run_blocks (F := Ideal) m g), ?_⟩
  refine (θ_run _ _ _).mono (fun r h c => ⟨?_, (h c).2⟩) (Cert.WideRefIdeal.Value.run (F := Ideal) m' g')
  refine (h c).1.trans ((Cert.WideRefIdeal.Read.val_main_v2_eq (F := Ideal) _ _ _).trans ?_)
  obtain ⟨h0, h1, h2⟩ := hargs c
  rw [h0, h1, h2]
  funext i
  obtain ⟨a, b, rfl⟩ : ∃ (a : Fin 32768) (b : Fin 1024), i = ix2 a b := ⟨i 0, i 1, eq_ix2 i⟩
  exact ref_apply _ _ _ a b

end Cert.Proof.Wide

end
-- ==== Proof.Qkv.Payload.lean ====
/-
  What the query, key and value projection's stored values are at an index, over the extended reals.
-/
module

public import proofs.«01_k».proof.Proof.Gen.QkvIdeal.Skeleton
public import proofs.«01_k».proof.Proof.Ffn.Payload
public import Idealize.ShloMosaic.Lib.Pointwise

@[expose] public section

set_option maxRecDepth 16384

noncomputable section

namespace Cert.Proof.Qkv

open Idealize.ShloMosaic Cert.QkvIdeal Cert.QkvIdeal.Gen Cert.Proof.Ffn
open scoped BigOperators

/-- One normalised head: each element over the root of the head's mean square plus the small constant, times the gain. -/
def hnorm (y g : Fin 128 → EReal) (k : Fin 128) : EReal :=
  y k * Ideal.rsqrt (Ideal.div (∑ l, y l * y l) (Ideal.ofBits .f32 0x43000000#32) + Ideal.ofBits .f32 0x358637BD#32) * g k

/-- A row block normalised head by head, at row `r` and column `k`. -/
def heads (Y : Fin 512 → Fin 1024 → EReal) (g : Fin 128 → EReal) (r : Fin 512) (k : Fin 1024) : EReal :=
  hnorm (fun l => Y r ⟨k.val / 128 * 128 + l.val, by omega⟩) g ⟨k.val % 128, by omega⟩

theorem heads_of (Y : Fin 512 → Fin 1024 → EReal) (g : Fin 128 → EReal) (c : ℕ) (hc : c < 8) (r : Fin 512) (k : Fin 1024)
    (l : Fin 128) (hk : k.val = c * 128 + l.val) : heads Y g r k = hnorm (fun l => Y r ⟨c * 128 + l.val, by omega⟩) g l := by
  unfold heads
  have h1 : k.val / 128 = c := by omega
  have h2 : (⟨k.val % 128, by omega⟩ : Fin 128) = l := Fin.ext (by dsimp only; omega)
  rw [h2]
  simp only [h1]

/-- The normalised block at an index. -/
theorem pay1_apply (x : Vec Ideal S512x1024 .f32) (g : Vec Ideal S1x1024 .f32) (r : Fin 512) (k : Fin 1024) :
    k0_pay1 (F := Ideal) x g (ix2 r k) = norm (fun l => x (ix2 r l)) (fun l => g (ix2 0 l)) k := by
  pointwise [k0_pay1]
  rfl

theorem pay2_apply (h : Vec Ideal S512x1024 .bf16) (w : Vec Ideal S1024x1024 .bf16) (r : Fin 512) (k : Fin 1024) :
    k0_pay2 (F := Ideal) h w (ix2 r k) = ∑ l, h (ix2 r l) * w (ix2 l k) := by
  pointwise [k0_pay2]

theorem pay3_apply (h : Vec Ideal S512x1024 .bf16) (w : Vec Ideal S1024x1024 .bf16) (r : Fin 512) (k : Fin 1024) :
    k0_pay3 (F := Ideal) h w (ix2 r k) = ∑ l, h (ix2 r l) * w (ix2 l k) := by
  pointwise [k0_pay3, k0_pay2]

/-- The head gain at the query column block: scaled, -/
theorem pay4_q (p q : Vec Ideal S1x128 .f32) (l : Fin 128) :
    k0_pay4 (F := Ideal) 0#32 p q (ix2 0 l) = p (ix2 0 l) * Ideal.ofBits .f32 0x3DB504F3#32 := by
  pointwise [k0_pay4]

/-- and at the key column block: as it is. -/
theorem pay4_k (p q : Vec Ideal S1x128 .f32) (l : Fin 128) : k0_pay4 (F := Ideal) 1#32 p q (ix2 0 l) = q (ix2 0 l) := by
  pointwise [k0_pay4]
  exact if_neg (by decide)

variable (Y : Vec Ideal S512x1024 .f32) (g : Vec Ideal S1x128 .f32) (r : Fin 512) (l : Fin 128)

theorem pay5_apply (a : BitVec 32) (p q : Vec Ideal S1x128 .f32) : k0_pay5 (F := Ideal) a Y p q (ix2 r l)
      = hnorm (fun l => Y (ix2 r ⟨0 * 128 + l.val, by omega⟩)) (fun l => k0_pay4 (F := Ideal) a p q (ix2 0 l)) l := by
  pointwise [k0_pay5]
  rfl

theorem pay6_apply (a : BitVec 32) (p q : Vec Ideal S1x128 .f32) : k0_pay6 (F := Ideal) a Y p q (ix2 r l)
      = hnorm (fun l => Y (ix2 r ⟨1 * 128 + l.val, by omega⟩)) (fun l => k0_pay4 (F := Ideal) a p q (ix2 0 l)) l := by
  pointwise [k0_pay6]
  rfl

theorem pay9_apply : k0_pay9 (F := Ideal) g (k0_pay7 (F := Ideal) Y) (k0_pay8 (F := Ideal) Y) (ix2 r l)
      = hnorm (fun l => Y (ix2 r ⟨2 * 128 + l.val, by omega⟩)) (fun l => g (ix2 0 l)) l := by
  pointwise [k0_pay9, k0_pay8, k0_pay7]
  rfl

theorem pay10_apply : k0_pay10 (F := Ideal) Y g (ix2 r l)
      = hnorm (fun l => Y (ix2 r ⟨3 * 128 + l.val, by omega⟩)) (fun l => g (ix2 0 l)) l := by
  pointwise [k0_pay10]
  rfl

theorem pay11_apply : k0_pay11 (F := Ideal) Y g (ix2 r l)
      = hnorm (fun l => Y (ix2 r ⟨4 * 128 + l.val, by omega⟩)) (fun l => g (ix2 0 l)) l := by
  pointwise [k0_pay11]
  rfl

theorem pay13_apply : k0_pay13 (F := Ideal) g (k0_pay12 (F := Ideal) Y) (ix2 r l)
      = hnorm (fun l => Y (ix2 r ⟨5 * 128 + l.val, by omega⟩)) (fun l => g (ix2 0 l)) l := by
  pointwise [k0_pay13, k0_pay12]
  rfl

theorem pay14_apply : k0_pay14 (F := Ideal) Y g (ix2 r l)
      = hnorm (fun l => Y (ix2 r ⟨6 * 128 + l.val, by omega⟩)) (fun l => g (ix2 0 l)) l := by
  pointwise [k0_pay14]
  rfl

theorem pay15_apply : k0_pay15 (F := Ideal) Y g (ix2 r l)
      = hnorm (fun l => Y (ix2 r ⟨7 * 128 + l.val, by omega⟩)) (fun l => g (ix2 0 l)) l := by
  pointwise [k0_pay15]
  rfl

end Cert.Proof.Qkv

end
-- ==== Proof.Qkv.Blocks.lean ====
/-
  The query, key and value projection's three kinds of grid points, read as functions of the blocks they load: the first
  normalises its rows, keeps them and writes the normalised heads of its columns; the second writes the normalised
  heads of its columns of the kept rows; the third writes its columns as they are.
-/
module

public import proofs.«01_k».proof.Proof.Gen.QkvIdeal.Value
public import proofs.«01_k».proof.Proof.Qkv.Payload
public import Idealize.ShloMosaic.Lib.Pipeline.ValueKit

@[expose] public section

set_option maxRecDepth 16384

noncomputable section

namespace Cert.Proof.Qkv

open Idealize.ShloMosaic Idealize.ShloMosaic.Tactic Idealize.ShloMosaic.TcCoe Cert.QkvIdeal Cert.QkvIdeal.Gen

theorem hz : (![0, 0] : Fin 2 → Nat) = fun _ => 0 := funext fun a => by fin_cases a <;> rfl

/-- The first point leaves the normalised heads of its columns in the output's block, -/
theorem out_A (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1x128 .f32) (h5 : a5.IsWhole) (a6 : Memref sig .tc .vmem S1x128 .f32) (h6 : a6.IsWhole)
    (a7 : Memref sig .tc .vmem S512x1024 .bf16) (h7 : a7.IsWhole) (a8 : Memref sig .tc .vmem S512x1024 .bf16) (h8 : a8.IsWhole)
    (hc0 : cond0_0 i) (hc1 : cond0_1 i) (hc2 : ¬cond0_2 i)
    (x0 : Vec Ideal S512x1024 .f32) (x1 : Vec Ideal S1x1024 .f32) (x2 : Vec Ideal S1024x1024 .bf16) (x3 : Vec Ideal S1x128 .f32)
    (x4 : Vec Ideal S1x128 .f32) (r : Fin 512) (k : Fin 1024) :
    out0_A_5 (F := Ideal) c i a2 h2 a3 h3 a4 h4 a5 h5 a6 h6 a7 h7 a8 h8 hc0 hc1 hc2 x0 x1 x2 x3 x4 (ix2 r k)
      = heads (fun r k => k0_pay2 (F := Ideal) (k0_pay1 (F := Ideal) x0 x1) x2 (ix2 r k))
          (fun l => k0_pay4 (F := Ideal) (BitVec.ofNat 32 (i 1)) x3 x4 (ix2 0 l)) r k := by
  unfold out0_A_5
  rw [View.read_writes_eq_canon _ _ _ (cover0_A_5 (F := Ideal) c i a2 h2 a3 h3 a4 h4 a5 h5 a6 h6 a7 h7 a8 h8 hc0 hc1 hc2 x0 x1 x2 x3 x4)]
  unfold kernelRun0_A
  dsimp only
  sl_unfold_words
  simp only [View.readCov_unit_zero (S := S512x1024) _ hz, View.readAt_eq_ld, h2.read_unread, h3.read_unread, h4.read_unread,
    h5.read_unread, h6.read_unread, h8.read_unread, View.ld_unit_zero (S := S512x1024) hz,
    View.ld_unit_zero (S := S1x1024) hz, View.ld_unit_zero (S := S1x128) hz, View.ld_unit_zero (S := S1024x1024) hz]
  canon_tiles x h
  all_goals
    obtain ⟨a, l, rfl⟩ : ∃ (a : Fin 512) (l : Fin 128), x = ix2 a l := ⟨x 0, x 1, eq_ix2 x⟩
    obtain rfl : r = a := Fin.ext h0
  · rw [heads_of _ _ 7 (by omega) r k l h1]; exact pay15_apply _ _ _ _
  · rw [heads_of _ _ 6 (by omega) r k l h1]; exact pay14_apply _ _ _ _
  · rw [heads_of _ _ 5 (by omega) r k l h1]; exact pay13_apply _ _ _ _
  · rw [heads_of _ _ 4 (by omega) r k l h1]; exact pay11_apply _ _ _ _
  · rw [heads_of _ _ 3 (by omega) r k l h1]; exact pay10_apply _ _ _ _
  · rw [heads_of _ _ 2 (by omega) r k l h1]; exact pay9_apply _ _ _ _
  · rw [heads_of _ _ 1 (by omega) r k l h1]; exact pay6_apply _ _ _ _ _ _
  · rw [heads_of _ _ 0 (by omega) r k l (by rw [Nat.zero_mul, Nat.zero_add]; exact h1)]; exact pay5_apply _ _ _ _ _ _

/-- and its normalised rows in the scratch buffer. -/
theorem sout_A (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1x128 .f32) (h5 : a5.IsWhole) (a6 : Memref sig .tc .vmem S1x128 .f32) (h6 : a6.IsWhole)
    (a7 : Memref sig .tc .vmem S512x1024 .bf16) (h7 : a7.IsWhole) (a8 : Memref sig .tc .vmem S512x1024 .bf16) (h8 : a8.IsWhole)
    (hc0 : cond0_0 i) (hc1 : cond0_1 i) (hc2 : ¬cond0_2 i)
    (x0 : Vec Ideal S512x1024 .f32) (x1 : Vec Ideal S1x1024 .f32) (x2 : Vec Ideal S1024x1024 .bf16) (x3 : Vec Ideal S1x128 .f32)
    (x4 : Vec Ideal S1x128 .f32) :
    sout0_A_0 (F := Ideal) c i a2 h2 a3 h3 a4 h4 a5 h5 a6 h6 a7 h7 a8 h8 hc0 hc1 hc2 x0 x1 x2 x3 x4 = k0_pay1 (F := Ideal) x0 x1 := by
  unfold sout0_A_0
  rw [View.read_writes_eq_canon _ _ _ (scover0_A_0 (F := Ideal) c i a2 h2 a3 h3 a4 h4 a5 h5 a6 h6 a7 h7 a8 h8 hc0 hc1 hc2 x0 x1 x2 x3 x4)]
  unfold kernelRun0_A
  dsimp only
  sl_unfold_words
  rw [View.canon_unit_zero hz]
  simp only [View.readAt_eq_ld, h2.read_unread, h3.read_unread, View.ld_unit_zero (S := S512x1024) hz,
    View.ld_unit_zero (S := S1x1024) hz]

/-- The second point leaves the normalised heads of its columns of the kept rows. -/
theorem out_B (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1x128 .f32) (h5 : a5.IsWhole) (a6 : Memref sig .tc .vmem S1x128 .f32) (h6 : a6.IsWhole)
    (a7 : Memref sig .tc .vmem S512x1024 .bf16) (h7 : a7.IsWhole) (a8 : Memref sig .tc .vmem S512x1024 .bf16) (h8 : a8.IsWhole)
    (hc0 : ¬cond0_0 i) (hc1 : cond0_1 i) (hc2 : ¬cond0_2 i)
    (x0 : Vec Ideal S512x1024 .f32) (x1 : Vec Ideal S1x1024 .f32) (x2 : Vec Ideal S1024x1024 .bf16) (x3 : Vec Ideal S1x128 .f32)
    (x4 : Vec Ideal S1x128 .f32) (xs0 : Vec Ideal S512x1024 .bf16) (r : Fin 512) (k : Fin 1024) :
    out0_B_5 (F := Ideal) c i a2 h2 a3 h3 a4 h4 a5 h5 a6 h6 a7 h7 a8 h8 hc0 hc1 hc2 x0 x1 x2 x3 x4 xs0 (ix2 r k)
      = heads (fun r k => k0_pay2 (F := Ideal) xs0 x2 (ix2 r k))
          (fun l => k0_pay4 (F := Ideal) (BitVec.ofNat 32 (i 1)) x3 x4 (ix2 0 l)) r k := by
  unfold out0_B_5
  rw [View.read_writes_eq_canon _ _ _ (cover0_B_5 (F := Ideal) c i a2 h2 a3 h3 a4 h4 a5 h5 a6 h6 a7 h7 a8 h8 hc0 hc1 hc2 x0 x1 x2 x3 x4 xs0)]
  unfold kernelRun0_B
  dsimp only
  sl_unfold_words
  simp only [View.readCov_unit_zero (S := S512x1024) _ hz, View.readAt_eq_ld, h2.read_unread, h3.read_unread, h4.read_unread,
    h5.read_unread, h6.read_unread, h8.read_unread, View.ld_unit_zero (S := S512x1024) hz,
    View.ld_unit_zero (S := S1x1024) hz, View.ld_unit_zero (S := S1x128) hz, View.ld_unit_zero (S := S1024x1024) hz]
  canon_tiles x h
  all_goals
    obtain ⟨a, l, rfl⟩ : ∃ (a : Fin 512) (l : Fin 128), x = ix2 a l := ⟨x 0, x 1, eq_ix2 x⟩
    obtain rfl : r = a := Fin.ext h0
  · rw [heads_of _ _ 7 (by omega) r k l h1]; exact pay15_apply _ _ _ _
  · rw [heads_of _ _ 6 (by omega) r k l h1]; exact pay14_apply _ _ _ _
  · rw [heads_of _ _ 5 (by omega) r k l h1]; exact pay13_apply _ _ _ _
  · rw [heads_of _ _ 4 (by omega) r k l h1]; exact pay11_apply _ _ _ _
  · rw [heads_of _ _ 3 (by omega) r k l h1]; exact pay10_apply _ _ _ _
  · rw [heads_of _ _ 2 (by omega) r k l h1]; exact pay9_apply _ _ _ _
  · rw [heads_of _ _ 1 (by omega) r k l h1]; exact pay6_apply _ _ _ _ _ _
  · rw [heads_of _ _ 0 (by omega) r k l (by rw [Nat.zero_mul, Nat.zero_add]; exact h1)]; exact pay5_apply _ _ _ _ _ _

/-- The third point leaves its columns of the kept rows' product. -/
theorem out_C (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S1x128 .f32) (h5 : a5.IsWhole) (a6 : Memref sig .tc .vmem S1x128 .f32) (h6 : a6.IsWhole)
    (a7 : Memref sig .tc .vmem S512x1024 .bf16) (h7 : a7.IsWhole) (a8 : Memref sig .tc .vmem S512x1024 .bf16) (h8 : a8.IsWhole)
    (hc0 : ¬cond0_0 i) (hc1 : ¬cond0_1 i) (hc2 : cond0_2 i)
    (x0 : Vec Ideal S512x1024 .f32) (x1 : Vec Ideal S1x1024 .f32) (x2 : Vec Ideal S1024x1024 .bf16) (x3 : Vec Ideal S1x128 .f32)
    (x4 : Vec Ideal S1x128 .f32) (xs0 : Vec Ideal S512x1024 .bf16) :
    out0_C_5 (F := Ideal) c i a2 h2 a3 h3 a4 h4 a5 h5 a6 h6 a7 h7 a8 h8 hc0 hc1 hc2 x0 x1 x2 x3 x4 xs0 = k0_pay3 (F := Ideal) xs0 x2 := by
  unfold out0_C_5
  rw [View.read_writes_eq_canon _ _ _ (cover0_C_5 (F := Ideal) c i a2 h2 a3 h3 a4 h4 a5 h5 a6 h6 a7 h7 a8 h8 hc0 hc1 hc2 x0 x1 x2 x3 x4 xs0)]
  unfold kernelRun0_C
  dsimp only
  sl_unfold_words
  rw [View.canon_unit_zero hz]
  simp only [View.readCov_unit_zero (S := S512x1024) _ hz, View.readAt_eq_ld, h2.read_unread, h3.read_unread, h4.read_unread,
    h5.read_unread, h6.read_unread, h8.read_unread, View.ld_unit_zero (S := S512x1024) hz,
    View.ld_unit_zero (S := S1x1024) hz, View.ld_unit_zero (S := S1x128) hz, View.ld_unit_zero (S := S1024x1024) hz]

end Cert.Proof.Qkv

end
-- ==== Proof.Qkv.Value.lean ====
/-
  The query, key and value projection's result array, element by element, over the extended reals.
-/
module

public import proofs.«01_k».proof.Proof.Qkv.Blocks
public import Idealize.ShloMosaic.Lib.StableHlo.ReadAt

@[expose] public section

set_option maxRecDepth 16384

noncomputable section

namespace Cert.Proof.Qkv

open Idealize.ShloMosaic Idealize.ShloMosaic.Tactic Idealize.ShloMosaic.TcCoe Cert.QkvIdeal Cert.QkvIdeal.Gen Cert.Proof.Ffn
open scoped BigOperators

/-- One projection of a normalised row. -/
def proj (x g : Fin 1024 → EReal) (w : Fin 1024 → Fin 3072 → EReal) (u : Fin 3072) : EReal := ∑ l, norm x g l * w l u

/-- One row of the result: the query heads normalised and scaled, the key heads normalised, the values as they are. -/
def qkv (x g : Fin 1024 → EReal) (w : Fin 1024 → Fin 3072 → EReal) (qg kg : Fin 128 → EReal) (k : Fin 3072) : EReal :=
  if k.val / 1024 = 0 then
    hnorm (fun l => proj x g w ⟨k.val / 128 * 128 + l.val, by omega⟩) (fun l => qg l * Ideal.ofBits .f32 0x3DB504F3#32) ⟨k.val % 128, by omega⟩
  else if k.val / 1024 = 1 then
    hnorm (fun l => proj x g w ⟨k.val / 128 * 128 + l.val, by omega⟩) kg ⟨k.val % 128, by omega⟩
  else proj x g w k

variable (m : (ℓ : Loc nD τ sig) → Buf (Elt Ideal) ℓ) (c : Dev nD)

/-- The arguments as functions of coordinates. -/
abbrev X (r : Fin 32768) (k : Fin 1024) : EReal :=
  (m ((c : Thread nD τ).loc main_arg0) : Vec Ideal S8x4096x1024 .f32) (ix3 ⟨r.val / 4096, by omega⟩ ⟨r.val % 4096, by omega⟩ k)
abbrev G (k : Fin 1024) : EReal := (m ((c : Thread nD τ).loc main_arg1) : Vec Ideal S1024 .f32) (ix1 k)
abbrev W (a : Fin 1024) (k : Fin 3072) : EReal := (m ((c : Thread nD τ).loc main_arg2) : Vec Ideal S1024x3072 .f32) (ix2 a k)
abbrev QG (k : Fin 128) : EReal := (m ((c : Thread nD τ).loc main_arg3) : Vec Ideal S128 .f32) (ix1 k)
abbrev KG (k : Fin 128) : EReal := (m ((c : Thread nD τ).loc main_arg4) : Vec Ideal S128 .f32) (ix1 k)

theorem V_x (r : Fin 32768) (k : Fin 1024) : (V m c main_v0 : Vec Ideal S32768x1024 .f32) (ix2 r k) = X m c r k := by
  unfold V; after_reads_at
theorem V_w (a : Fin 1024) (k : Fin 3072) : (V m c main_v1 : Vec Ideal S1024x3072 .bf16) (ix2 a k) = W m c a k := by
  unfold V; after_reads_at
theorem V_g (k : Fin 1024) : (V m c main_v2 : Vec Ideal S1x1024 .f32) (ix2 0 k) = G m c k := by unfold V; after_reads_at
theorem V_q (k : Fin 128) : (V m c main_v3 : Vec Ideal S1x128 .f32) (ix2 0 k) = QG m c k := by unfold V; after_reads_at
theorem V_k (k : Fin 128) : (V m c main_v4 : Vec Ideal S1x128 .f32) (ix2 0 k) = KG m c k := by unfold V; after_reads_at

theorem idx0 : ∀ t : Fin cfg0.N, win0_0.index t = ![t.val / 3, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 3] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem crd1 : ∀ t : Fin cfg0.N, (grid0.coords t 1).val = t.val % 3 := (by decide +kernel : ∀ t : Fin grid0.N, _)

theorem blk_x (t : Fin cfg0.N) (a : Fin 512) (k : Fin 1024) (h : t.val / 3 * 512 + a.val < 32768) :
    (iblk m c 0 t : Vec Ideal S512x1024 .f32) (ix2 a k) = X m c ⟨t.val / 3 * 512 + a.val, h⟩ k := by
  rw [← V_x]
  blk_simp [iblk]
  refine congrArg (V m c main_v0 : Vec Ideal S32768x1024 .f32) ?_
  blk_ext [idx0]

theorem blk_g (t : Fin cfg0.N) (k : Fin 1024) : (iblk m c 1 t : Vec Ideal S1x1024 .f32) (ix2 0 k) = G m c k := by
  rw [← V_g]
  blk_simp [iblk]
  refine congrArg (V m c main_v2 : Vec Ideal S1x1024 .f32) ?_
  blk_ext [idx1]

theorem blk_w (t : Fin cfg0.N) (u : Fin 1024) (k : Fin 1024) (h : t.val % 3 * 1024 + k.val < 3072) :
    (iblk m c 2 t : Vec Ideal S1024x1024 .bf16) (ix2 u k) = W m c u ⟨t.val % 3 * 1024 + k.val, h⟩ := by
  rw [← V_w]
  blk_simp [iblk]
  refine congrArg (V m c main_v1 : Vec Ideal S1024x3072 .bf16) ?_
  blk_ext [idx2]

theorem blk_q (t : Fin cfg0.N) (k : Fin 128) : (iblk m c 3 t : Vec Ideal S1x128 .f32) (ix2 0 k) = QG m c k := by
  rw [← V_q]
  blk_simp [iblk]
  refine congrArg (V m c main_v3 : Vec Ideal S1x128 .f32) ?_
  blk_ext [idx3]

theorem blk_k (t : Fin cfg0.N) (k : Fin 128) : (iblk m c 4 t : Vec Ideal S1x128 .f32) (ix2 0 k) = KG m c k := by
  rw [← V_k]
  blk_simp [iblk]
  refine congrArg (V m c main_v4 : Vec Ideal S1x128 .f32) ?_
  blk_ext [idx4]

/-- The scratch buffer at the points of row block `q` holds the normalised rows of the block. -/
theorem scr (q : ℕ) (tA t : Fin cfg0.N) (hA : tA.val = 3 * q) (h : t.val = 3 * q ∨ t.val = 3 * q + 1) :
    (outsAt0 m c t.val t.isLt).2 = k0_pay1 (F := Ideal) (iblk m c 0 tA) (iblk m c 1 tA) := by
  have e : ∀ (n : ℕ) (hn : n < cfg0.N), n = tA.val → outsAt0 m c n hn = outsAt0 m c tA.val tA.isLt := by
    intro n hn h; subst h; rfl
  have hs : (outsAt0 m c tA.val tA.isLt).2 = k0_pay1 (F := Ideal) (iblk m c 0 tA) (iblk m c 1 tA) := by
    rw [outsAt0_A m c tA (by omega) (by omega) (by omega)]
    dsimp only
    rw [sout_A]
  rcases h with h | h
  · rw [e _ _ (by omega), hs]
  · rw [outsAt0_B m c t (by omega) (by omega) (by omega)]
    dsimp only
    unfold sout0_B_0
    rw [e (t.val - 1) _ (by omega), hs]

/-- The product at the point of row block `q` and column block `p`, at an index. -/
theorem prod_at (q p : ℕ) (hp : p < 3) (tA t : Fin cfg0.N) (hA : tA.val = 3 * q) (ht : t.val = 3 * q + p) (a : Fin 512)
    (h : q * 512 + a.val < 32768) (k : Fin 1024) :
    (∑ l : Fin 1024, k0_pay1 (F := Ideal) (iblk m c 0 tA) (iblk m c 1 tA) (ix2 a l) * (iblk m c 2 t : Vec Ideal S1024x1024 .bf16) (ix2 l k))
      = proj (X m c ⟨q * 512 + a.val, h⟩) (G m c) (W m c) ⟨p * 1024 + k.val, by omega⟩ := by
  have hq : tA.val / 3 = q := by omega
  have hm : t.val % 3 = p := by omega
  refine Finset.sum_congr rfl fun l _ => congrArg₂ (· * ·) ?_ ?_
  · rw [pay1_apply]
    congr 1
    · funext u
      rw [blk_x m c tA a u (by omega)]
      simp only [hq]
    · funext u
      rw [blk_g]
  · rw [blk_w m c t l k (by omega)]
    simp only [hm]

/-- The kernel's result array at an index. -/
theorem G5_apply (r : Fin 32768) (k : Fin 3072) :
    (Cert.QkvIdeal.Value.G5 m c : Vec Ideal S32768x3072 .bf16) (ix2 r k) = qkv (X m c r) (G m c) (W m c) (QG m c) (KG m c) k := by
  have hN : cfg0.N = 192 := N_0
  have hr := r.isLt
  have hk := k.isLt
  have hp : Cert.QkvIdeal.Value.pt5Of (ix2 r k) = 3 * (r.val / 512) + k.val / 1024 := by
    show 3 * (r.val / 512 - 0) + 1 * (k.val / 1024 - 0) = _
    omega
  obtain ⟨t, ht⟩ : ∃ t : Fin cfg0.N, t.val = 3 * (r.val / 512) + k.val / 1024 := ⟨⟨3 * (r.val / 512) + k.val / 1024, by omega⟩, rfl⟩
  obtain ⟨tA, hA⟩ : ∃ t : Fin cfg0.N, t.val = 3 * (r.val / 512) := ⟨⟨3 * (r.val / 512), by omega⟩, rfl⟩
  have hl : Cert.QkvIdeal.Value.loc5Of (ix2 r k) = ix2 (⟨r.val % 512, by omega⟩ : Fin 512) (⟨k.val % 1024, by omega⟩ : Fin 1024) := by
    funext b; apply Fin.ext
    match b with
    | ⟨0, _⟩ => rfl
    | ⟨1, _⟩ => rfl
  unfold Cert.QkvIdeal.Value.G5
  have hlt : Cert.QkvIdeal.Value.pt5Of (ix2 r k) < cfg0.N := by rw [hp, ← ht]; exact t.isLt
  rw [dif_pos hlt, ← Cert.QkvIdeal.Value.outsAt0_sweep m c _ hlt, hl]
  have e : ∀ (n : ℕ) (hn : n < cfg0.N), n = t.val → outsAt0 m c n hn = outsAt0 m c t.val t.isLt := by
    intro n hn h; subst h; rfl
  rw [e _ hlt (hp.trans ht.symm)]
  have hr' : r.val / 512 * 512 + r.val % 512 < 32768 := by omega
  have hre : (⟨r.val / 512 * 512 + r.val % 512, hr'⟩ : Fin 32768) = r := Fin.ext (by dsimp only; omega)
  have hcol : ∀ (p : ℕ) (_ : k.val / 1024 = p) (_ : p < 3) (l : Fin 128),
      (⟨p * 1024 + (k.val % 1024 / 128 * 128 + l.val), by omega⟩ : Fin 3072) = ⟨k.val / 128 * 128 + l.val, by omega⟩ := by
    intro p h1 h2 l; apply Fin.ext; dsimp only; omega
  have hcr : BitVec.ofNat 32 (grid0.coords t 1).val = BitVec.ofNat 32 (k.val / 1024) := by
    rw [crd1, ht]; congr 1; omega
  have hk3 : k.val / 1024 = 0 ∨ k.val / 1024 = 1 ∨ k.val / 1024 = 2 := by omega
  unfold qkv
  rcases hk3 with h | h | h
  · rw [if_pos h, outsAt0_A m c t (by omega) (by omega) (by omega)]
    dsimp only
    rw [out_A, hcr, h]
    have hmod : (⟨k.val % 1024 % 128, by omega⟩ : Fin 128) = ⟨k.val % 128, by omega⟩ := Fin.ext (by dsimp only; omega)
    unfold heads
    dsimp only
    rw [hmod]
    refine congrArg₂ (fun y g => hnorm y g _) (funext fun l => ?_) (funext fun l => ?_)
    · rw [pay2_apply, prod_at m c (r.val / 512) 0 (by omega) t t (by omega) (by omega) _ hr', hcol 0 h (by omega) l, hre]
    · refine (pay4_q _ _ l).trans ?_
      rw [blk_q]
  · rw [if_neg (by omega), if_pos h, outsAt0_B m c t (by omega) (by omega) (by omega)]
    dsimp only
    rw [out_B, hcr, h]
    have hmod : (⟨k.val % 1024 % 128, by omega⟩ : Fin 128) = ⟨k.val % 128, by omega⟩ := Fin.ext (by dsimp only; omega)
    unfold heads
    dsimp only
    rw [hmod]
    refine congrArg₂ (fun y g => hnorm y g _) (funext fun l => ?_) (funext fun l => ?_)
    · rw [pay2_apply]
      refine (Finset.sum_congr rfl fun u _ => congrArg (fun z : Vec Ideal S512x1024 .bf16 => z (ix2 _ u) * _)
        (scr m c (r.val / 512) tA ⟨t.val - 1, by omega⟩ hA (by dsimp only; omega))).trans ?_
      rw [prod_at m c (r.val / 512) 1 (by omega) tA t (by omega) (by omega) _ hr', hcol 1 h (by omega) l, hre]
    · refine (pay4_k _ _ l).trans ?_
      rw [blk_k]
  · rw [if_neg (by omega), if_neg (by omega), outsAt0_C m c t (by omega) (by omega) (by omega)]
    dsimp only
    rw [out_C, pay3_apply]
    refine (Finset.sum_congr rfl fun u _ => congrArg (fun z : Vec Ideal S512x1024 .bf16 => z (ix2 _ u) * _)
      (scr m c (r.val / 512) tA ⟨t.val - 1, by omega⟩ hA (by dsimp only; omega))).trans ?_
    rw [prod_at m c (r.val / 512) 2 (by omega) tA t (by omega) (by omega) _ hr', hre]
    congr 1
    apply Fin.ext; dsimp only; omega

end Cert.Proof.Qkv

end
-- ==== Proof.Qkv.Ref.lean ====
/-
  The query, key and value projection's reference, element by element, over the extended reals.
-/
module

public import proofs.«01_k».proof.Proof.Qkv.Value
public import proofs.«01_k».proof.Proof.Gen.QkvRefIdeal.Run
public import proofs.«01_k».proof.Proof.Gen.QkvRefIdeal.Read

@[expose] public section

set_option maxRecDepth 16384

noncomputable section

namespace Cert.Proof.Qkv

open Idealize.ShloMosaic Cert.QkvRefIdeal Cert.QkvRefIdeal.Gen Cert.QkvRefIdeal.Read Cert.Proof.Ffn
open scoped BigOperators

variable (x0 : Vec Ideal S8x4096x1024 .f32) (x1 : Vec Ideal S1024 .f32) (x2 : Vec Ideal S1024x3072 .f32)
  (x3 x4 : Vec Ideal S128 .f32) (b : Fin 8) (s : Fin 4096)

/-- The projection at an index. -/
theorem ref_proj (u : Fin 3072) : val_main_v13 (F := Ideal) x0 x1 x2 (ix3 b s u)
      = proj (fun k => x0 (ix3 b s k)) (fun k => x1 (ix1 k)) (fun a k => x2 (ix2 a k)) u := by
  unfold proj Ffn.norm
  pointwise [val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The projection cut in heads. -/
theorem ref_cut (p : Fin 3) (h : Fin 8) (l : Fin 128) : val_main_v14 (F := Ideal) x0 x1 x2 (ix5 b s p h l)
      = proj (fun k => x0 (ix3 b s k)) (fun k => x1 (ix1 k)) (fun a k => x2 (ix2 a k)) ⟨p.val * 1024 + (h.val * 128 + l.val), by omega⟩ := by
  rw [← ref_proj]
  generalize hy : val_main_v13 (F := Ideal) x0 x1 x2 = y
  unfold val_main_v14
  rw [hy]
  pointwise []
  exact congrArg y (congrArg (ix3 b s) (Fin.ext (Nat.add_assoc _ _ _)))

/-- The query heads. -/
theorem ref_q (h : Fin 8) (l : Fin 128) : val_main_v31 (F := Ideal) x0 x1 x2 x3 (ix4 b s h l)
      = hnorm (fun l => proj (fun k => x0 (ix3 b s k)) (fun k => x1 (ix1 k)) (fun a k => x2 (ix2 a k)) ⟨h.val * 128 + l.val, by omega⟩)
          (fun l => x3 (ix1 l) * Ideal.ofBits .f32 0x3DB504F3#32) l := by
  have e : ∀ l : Fin 128, val_main_v14 (F := Ideal) x0 x1 x2 (ix5 b s 0 h l)
      = proj (fun k => x0 (ix3 b s k)) (fun k => x1 (ix1 k)) (fun a k => x2 (ix2 a k)) ⟨h.val * 128 + l.val, by omega⟩ := by
    intro l; rw [ref_cut]; congr 1; apply Fin.ext; simp
  simp only [← e]
  unfold hnorm
  pointwise [val_main_v31, val_main_v30, val_main_v29, val_main_v28, val_main_v27, val_main_v26, val_main_v25, val_main_v24,
    val_main_v23, val_main_v22, val_main_v21, val_main_v20, val_main_v19, val_main_v18, val_main_v17, val_main_v16, val_main_v15,
    val_main_cst_2, val_main_cst_3, val_main_cst_4, val_main_cst_5]
  exact mul_assoc _ _ _

/-- The key heads. -/
theorem ref_k (h : Fin 8) (l : Fin 128) : val_main_v46 (F := Ideal) x0 x1 x2 x4 (ix4 b s h l)
      = hnorm (fun l => proj (fun k => x0 (ix3 b s k)) (fun k => x1 (ix1 k)) (fun a k => x2 (ix2 a k)) ⟨1 * 1024 + (h.val * 128 + l.val), by omega⟩)
          (fun l => x4 (ix1 l)) l := by
  have e : ∀ l : Fin 128, val_main_v14 (F := Ideal) x0 x1 x2 (ix5 b s 1 h l)
      = proj (fun k => x0 (ix3 b s k)) (fun k => x1 (ix1 k)) (fun a k => x2 (ix2 a k)) ⟨1 * 1024 + (h.val * 128 + l.val), by omega⟩ :=
    fun l => ref_cut x0 x1 x2 b s 1 h l
  simp only [← e]
  unfold hnorm
  pointwise [val_main_v46, val_main_v45, val_main_v44, val_main_v43, val_main_v42, val_main_v41, val_main_v40, val_main_v39,
    val_main_v38, val_main_v37, val_main_v36, val_main_v35, val_main_v34, val_main_v33, val_main_v32, val_main_cst_6,
    val_main_cst_7, val_main_cst_8]

/-- The value heads. -/
theorem ref_v (h : Fin 8) (l : Fin 128) : val_main_v48 (F := Ideal) x0 x1 x2 (ix4 b s h l)
      = proj (fun k => x0 (ix3 b s k)) (fun k => x1 (ix1 k)) (fun a k => x2 (ix2 a k)) ⟨2 * 1024 + (h.val * 128 + l.val), by omega⟩ := by
  refine Eq.trans ?_ (ref_cut x0 x1 x2 b s 2 h l)
  pointwise [val_main_v48, val_main_v47]

/-- The three stacked, at an index. -/
theorem ref_stack (p : Fin 3) (h : Fin 8) (l : Fin 128) : val_main_v52 (F := Ideal) x0 x1 x2 x3 x4 (ix5 b s p h l)
      = if p.val = 0 then val_main_v31 (F := Ideal) x0 x1 x2 x3 (ix4 b s h l)
        else if p.val = 1 then val_main_v46 (F := Ideal) x0 x1 x2 x4 (ix4 b s h l)
        else val_main_v48 (F := Ideal) x0 x1 x2 (ix4 b s h l) := by
  pointwise [val_main_v52, val_main_v51, val_main_v50, val_main_v49]
  obtain ⟨p, hp⟩ := p
  dsimp only
  rcases (show p = 0 ∨ p = 1 ∨ p = 2 by omega) with rfl | rfl | rfl <;> simp

/-- The reference's result at an index. -/
theorem ref_apply (r : Fin 32768) (k : Fin 3072) : val_main_v54 (F := Ideal) x0 x1 x2 x3 x4 (ix2 r k)
      = qkv (fun k => x0 (ix3 ⟨r.val / 4096, by omega⟩ ⟨r.val % 4096, by omega⟩ k)) (fun k => x1 (ix1 k)) (fun a k => x2 (ix2 a k))
          (fun k => x3 (ix1 k)) (fun k => x4 (ix1 k)) k := by
  have hk := k.isLt
  have e : val_main_v54 (F := Ideal) x0 x1 x2 x3 x4 (ix2 r k)
      = val_main_v52 (F := Ideal) x0 x1 x2 x3 x4 (ix5 ⟨r.val / 4096, by omega⟩ ⟨r.val % 4096, by omega⟩ ⟨k.val / 1024, by omega⟩
          ⟨k.val / 128 % 8, by omega⟩ ⟨k.val % 128, by omega⟩) := by
    pointwise [val_main_v54, val_main_v53]
  rw [e, ref_stack, ref_q, ref_k, ref_v]
  unfold qkv
  dsimp only
  have hk3 : k.val / 1024 = 0 ∨ k.val / 1024 = 1 ∨ k.val / 1024 = 2 := by omega
  rcases hk3 with h | h | h
  · rw [if_pos h, if_pos h]
    have hd : k.val / 128 % 8 = k.val / 128 := by omega
    simp only [hd]
  · rw [if_neg (by omega), if_pos h, if_neg (by omega), if_pos h]
    have hd : ∀ l : Fin 128, 1 * 1024 + (k.val / 128 % 8 * 128 + l.val) = k.val / 128 * 128 + l.val := fun l => by omega
    simp only [hd]
  · rw [if_neg (by omega), if_neg (by omega), if_neg (by omega), if_neg (by omega)]
    congr 1; apply Fin.ext; dsimp only; omega

end Cert.Proof.Qkv

end
-- ==== Proof.Qkv.Claim.lean ====
/-
  The query, key and value projection's claims: the two arrays are equal, element by element, over the extended reals.
-/
module

public import proofs.«01_k».proof.Defs
public import proofs.«01_k».proof.Proof.Qkv.Ref
public import proofs.«01_k».proof.Proof.Gen.QkvRefIdeal.Run
public import proofs.«01_k».proof.Proof.Gen.QkvRefIdeal.Read
public import Idealize.ShloMosaic.Lib.Quiescent

@[expose] public section

set_option maxRecDepth 16384

noncomputable section

namespace Cert.Proof.Qkv

open Idealize.ShloMosaic Idealize.SL.Sem Cert.QkvRefIdeal Cert.QkvRefIdeal.Gen Cert.QkvRefIdeal.Read
open scoped BigOperators

/-- The reference runs, leaves its arguments unchanged, and (it has no semaphores) every counter at zero. -/
theorem ref_frame : Cert.quiescent_QkvRefIdeal (hQkvRefIdeal := Cert.QkvRefIdeal.Gen.facts) := fun m ρ _ =>
  (θ_run _ _ _).mono (fun r h => ⟨fun c => (h c).2, sem_eq_zero_of_no_sems (by decide) r.2⟩)
    (Cert.QkvRefIdeal.Value.run (F := Ideal) m ρ)

/-- The kernel and the reference leave equal arrays. -/
theorem algebraic : Cert.algebraic_QkvIdeal_QkvRefIdeal (hQkvIdeal := Cert.QkvIdeal.Gen.facts)
    (hQkvRefIdeal := Cert.QkvRefIdeal.Gen.facts) := by
  intro m g m' g' _ hargs
  refine ⟨fun c => Cert.QkvIdeal.Value.G5 m c, Cert.QkvIdeal.Value.run m g, ?_⟩
  refine (θ_run _ _ _).mono (fun r h c => ⟨?_, (h c).2⟩) (Cert.QkvRefIdeal.Value.run (F := Ideal) m' g')
  refine (h c).1.trans ((Cert.QkvRefIdeal.Read.val_main_v54_eq (F := Ideal) _ _).trans ?_)
  obtain ⟨h0, h1, h2, h3, h4⟩ := hargs c
  rw [h0, h1, h2, h3, h4]
  funext i
  obtain ⟨a, b, rfl⟩ : ∃ (a : Fin 32768) (b : Fin 3072), i = ix2 a b := ⟨i 0, i 1, eq_ix2 i⟩
  exact (ref_apply _ _ _ _ _ a b).trans (G5_apply m c a b).symm

end Cert.Proof.Qkv

end
-- ==== Proof.Rot.Payload.lean ====
/-
  What the rotary projection's stored values are at an index, over the extended reals.
-/
module

public import proofs.«01_k».proof.Proof.Gen.RotIdeal.Skeleton
public import proofs.«01_k».proof.Proof.Ffn.Payload
public import Idealize.ShloMosaic.Lib.Pointwise

@[expose] public section

set_option maxRecDepth 16384

noncomputable section

namespace Cert.Proof.Rot

open Idealize.ShloMosaic Cert.RotIdeal Cert.RotIdeal.Gen Cert.Proof.Ffn
open scoped BigOperators

/-- The lower half of a rotated head, -/
def lo (y : Fin 256 → EReal) (c s : Fin 128 → EReal) (l : Fin 128) : EReal :=
  y ⟨l.val, by omega⟩ * c l - y ⟨128 + l.val, by omega⟩ * s l

/-- and its upper half. -/
def hi (y : Fin 256 → EReal) (c s : Fin 128 → EReal) (l : Fin 128) : EReal :=
  y ⟨l.val, by omega⟩ * s l + y ⟨128 + l.val, by omega⟩ * c l

/-- A rotated head. -/
def rot (y : Fin 256 → EReal) (c s : Fin 128 → EReal) (k : Fin 256) : EReal :=
  if k.val < 128 then lo y c s ⟨k.val % 128, by omega⟩ else hi y c s ⟨k.val % 128, by omega⟩

/-- A row block rotated head by head, at row `r` and column `k`. -/
def heads (Y : Fin 512 → Fin 1024 → EReal) (c s : Fin 512 → Fin 128 → EReal) (r : Fin 512) (k : Fin 1024) : EReal :=
  rot (fun l => Y r ⟨k.val / 256 * 256 + l.val, by omega⟩) (c r) (s r) ⟨k.val % 256, by omega⟩

theorem heads_lo (Y : Fin 512 → Fin 1024 → EReal) (c s : Fin 512 → Fin 128 → EReal) (h : ℕ) (hh : h < 4) (r : Fin 512)
    (k : Fin 1024) (l : Fin 128) (hk : k.val = h * 256 + l.val) :
    heads Y c s r k = lo (fun l => Y r ⟨h * 256 + l.val, by omega⟩) (c r) (s r) l := by
  unfold heads rot
  have h1 : k.val / 256 = h := by omega
  have h2 : (⟨k.val % 256 % 128, by omega⟩ : Fin 128) = l := Fin.ext (by dsimp only; omega)
  rw [if_pos (by dsimp only; omega)]
  dsimp only
  rw [h2]
  simp only [h1]

theorem heads_hi (Y : Fin 512 → Fin 1024 → EReal) (c s : Fin 512 → Fin 128 → EReal) (h : ℕ) (hh : h < 4) (r : Fin 512)
    (k : Fin 1024) (l : Fin 128) (hk : k.val = h * 256 + 128 + l.val) :
    heads Y c s r k = hi (fun l => Y r ⟨h * 256 + l.val, by omega⟩) (c r) (s r) l := by
  unfold heads rot
  have h1 : k.val / 256 = h := by omega
  have h2 : (⟨k.val % 256 % 128, by omega⟩ : Fin 128) = l := Fin.ext (by dsimp only; omega)
  rw [if_neg (by dsimp only; omega)]
  dsimp only
  rw [h2]
  simp only [h1]

/-- The normalised block at an index. -/
theorem pay1_apply (x : Vec Ideal S512x1024 .f32) (g : Vec Ideal S1x1024 .f32) (r : Fin 512) (k : Fin 1024) :
    k0_pay1 (F := Ideal) x g (ix2 r k) = norm (fun l => x (ix2 r l)) (fun l => g (ix2 0 l)) k := by
  pointwise [k0_pay1]
  rfl

theorem pay2_apply (h : Vec Ideal S512x1024 .bf16) (w : Vec Ideal S1024x1024 .bf16) (r : Fin 512) (k : Fin 1024) :
    k0_pay2 (F := Ideal) h w (ix2 r k) = ∑ l, h (ix2 r l) * w (ix2 l k) := by
  pointwise [k0_pay2]

theorem pay8_apply (h : Vec Ideal S512x1024 .bf16) (w : Vec Ideal S1024x1024 .bf16) (r : Fin 512) (k : Fin 1024) :
    k0_pay8 (F := Ideal) h w (ix2 r k) = ∑ l, h (ix2 r l) * w (ix2 l k) := by
  pointwise [k0_pay8, k0_pay2]

variable (p : Vec Ideal S512x128 .f32) (r : Fin 512) (l : Fin 128)

/-- The cosines and the sines at the query column block: as they are; at the key column block: scaled. -/
theorem pay10_q : k0_pay10 (F := Ideal) 0#32 p (ix2 r l) = p (ix2 r l) * Ideal.ofBits .f32 0x3F800000#32 := by
  pointwise [k0_pay10, k0_pay9]
theorem pay11_q : k0_pay11 (F := Ideal) 0#32 p (ix2 r l) = p (ix2 r l) * Ideal.ofBits .f32 0x3F800000#32 := by
  pointwise [k0_pay11, k0_pay9]
theorem pay10_k : k0_pay10 (F := Ideal) 1#32 p (ix2 r l) = p (ix2 r l) * Ideal.ofBits .f32 0x3D800000#32 := by
  pointwise [k0_pay10, k0_pay9]
  exact congrArg _ (if_neg (by decide))
theorem pay11_k : k0_pay11 (F := Ideal) 1#32 p (ix2 r l) = p (ix2 r l) * Ideal.ofBits .f32 0x3D800000#32 := by
  pointwise [k0_pay11, k0_pay9]
  exact congrArg _ (if_neg (by decide))

variable (a : BitVec 32) (Y : FVec Ideal S512x1024 .f32) (q : Vec Ideal S512x128 .f32)

theorem pay14_apply : k0_pay14 (F := Ideal) a Y p q (ix2 r l) = lo (fun l => Y (ix2 r ⟨0 * 256 + l.val, by omega⟩))
    (fun l => k0_pay10 (F := Ideal) a p (ix2 r l)) (fun l => k0_pay11 (F := Ideal) a q (ix2 r l)) l := by
  pointwise [k0_pay14, k0_pay12, k0_pay13]
  first | rfl | (simp only [lo, hi, ← Nat.add_assoc]; done) | (simp only [lo, hi, ← Nat.add_assoc]; rfl)

theorem pay15_apply : k0_pay15 (F := Ideal) a Y p q (ix2 r l) = hi (fun l => Y (ix2 r ⟨0 * 256 + l.val, by omega⟩))
    (fun l => k0_pay10 (F := Ideal) a p (ix2 r l)) (fun l => k0_pay11 (F := Ideal) a q (ix2 r l)) l := by
  pointwise [k0_pay15, k0_pay12, k0_pay13]
  first | rfl | (simp only [lo, hi, ← Nat.add_assoc]; done) | (simp only [lo, hi, ← Nat.add_assoc]; rfl)

theorem pay18_apply : k0_pay18 (F := Ideal) a Y p q (ix2 r l) = lo (fun l => Y (ix2 r ⟨1 * 256 + l.val, by omega⟩))
    (fun l => k0_pay10 (F := Ideal) a p (ix2 r l)) (fun l => k0_pay11 (F := Ideal) a q (ix2 r l)) l := by
  pointwise [k0_pay18, k0_pay16, k0_pay17]
  first | rfl | (simp only [lo, hi, ← Nat.add_assoc]; done) | (simp only [lo, hi, ← Nat.add_assoc]; rfl)

theorem pay19_apply : k0_pay19 (F := Ideal) a Y p q (ix2 r l) = hi (fun l => Y (ix2 r ⟨1 * 256 + l.val, by omega⟩))
    (fun l => k0_pay10 (F := Ideal) a p (ix2 r l)) (fun l => k0_pay11 (F := Ideal) a q (ix2 r l)) l := by
  pointwise [k0_pay19, k0_pay16, k0_pay17]
  first | rfl | (simp only [lo, hi, ← Nat.add_assoc]; done) | (simp only [lo, hi, ← Nat.add_assoc]; rfl)

theorem pay22_apply : k0_pay22 (F := Ideal) a Y p q (ix2 r l) = lo (fun l => Y (ix2 r ⟨2 * 256 + l.val, by omega⟩))
    (fun l => k0_pay10 (F := Ideal) a p (ix2 r l)) (fun l => k0_pay11 (F := Ideal) a q (ix2 r l)) l := by
  pointwise [k0_pay22, k0_pay20, k0_pay21]
  first | rfl | (simp only [lo, hi, ← Nat.add_assoc]; done) | (simp only [lo, hi, ← Nat.add_assoc]; rfl)

variable (c s : FVec Ideal S512x128 .f32)

theorem pay3_apply : k0_pay3 (F := Ideal) c s (k0_pay20 (F := Ideal) Y) (k0_pay21 (F := Ideal) Y) (ix2 r l)
    = hi (fun l => Y (ix2 r ⟨2 * 256 + l.val, by omega⟩)) (fun l => c (ix2 r l)) (fun l => s (ix2 r l)) l := by
  pointwise [k0_pay3, k0_pay20, k0_pay21]
  first | rfl | (simp only [lo, hi, ← Nat.add_assoc]; done) | (simp only [lo, hi, ← Nat.add_assoc]; rfl)

variable (h : Vec Ideal S512x1024 .bf16) (w : Vec Ideal S1024x1024 .bf16)

theorem pay6_apply : k0_pay6 (F := Ideal) h w c s (ix2 r l) = lo (fun l => k0_pay2 (F := Ideal) h w (ix2 r ⟨3 * 256 + l.val, by omega⟩))
    (fun l => c (ix2 r l)) (fun l => s (ix2 r l)) l := by
  generalize hY : k0_pay2 (F := Ideal) h w = Y
  unfold k0_pay6 k0_pay4 k0_pay5
  rw [hY]
  pointwise []
  first | rfl | (simp only [lo, hi, ← Nat.add_assoc]; done) | (simp only [lo, hi, ← Nat.add_assoc]; rfl)

theorem pay7_apply : k0_pay7 (F := Ideal) h w c s (ix2 r l) = hi (fun l => k0_pay2 (F := Ideal) h w (ix2 r ⟨3 * 256 + l.val, by omega⟩))
    (fun l => c (ix2 r l)) (fun l => s (ix2 r l)) l := by
  generalize hY : k0_pay2 (F := Ideal) h w = Y
  unfold k0_pay7 k0_pay4 k0_pay5
  rw [hY]
  pointwise []
  first | rfl | (simp only [lo, hi, ← Nat.add_assoc]; done) | (simp only [lo, hi, ← Nat.add_assoc]; rfl)

end Cert.Proof.Rot

end
-- ==== Proof.Rot.Blocks.lean ====
/-
  The rotary projection's three kinds of grid points, read as functions of the blocks they load: the first normalises its
  rows, keeps them and writes the rotated heads of its columns; the second writes the rotated heads of its columns of the
  kept rows; the third writes its columns as they are.
-/
module

public import proofs.«01_k».proof.Proof.Gen.RotIdeal.Value
public import proofs.«01_k».proof.Proof.Rot.Payload
public import Idealize.ShloMosaic.Lib.Pipeline.ValueKit

@[expose] public section

set_option maxRecDepth 16384

noncomputable section

namespace Cert.Proof.Rot

open Idealize.ShloMosaic Idealize.ShloMosaic.Tactic Idealize.ShloMosaic.TcCoe Cert.RotIdeal Cert.RotIdeal.Gen

theorem hz : (![0, 0] : Fin 2 → Nat) = fun _ => 0 := funext fun a => by fin_cases a <;> rfl

/-- The first point leaves the rotated heads of its columns in the output's block, -/
theorem out_A (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S512x128 .f32) (h5 : a5.IsWhole) (a6 : Memref sig .tc .vmem S512x128 .f32) (h6 : a6.IsWhole)
    (a7 : Memref sig .tc .vmem S512x1024 .bf16) (h7 : a7.IsWhole) (a8 : Memref sig .tc .vmem S512x1024 .bf16) (h8 : a8.IsWhole)
    (hc0 : cond0_0 i) (hc1 : cond0_1 i) (hc2 : ¬cond0_2 i)
    (x0 : Vec Ideal S512x1024 .f32) (x1 : Vec Ideal S1x1024 .f32) (x2 : Vec Ideal S1024x1024 .bf16) (x3 : Vec Ideal S512x128 .f32)
    (x4 : Vec Ideal S512x128 .f32) (r : Fin 512) (k : Fin 1024) :
    out0_A_5 (F := Ideal) c i a2 h2 a3 h3 a4 h4 a5 h5 a6 h6 a7 h7 a8 h8 hc0 hc1 hc2 x0 x1 x2 x3 x4 (ix2 r k)
      = heads (fun r k => k0_pay2 (F := Ideal) (k0_pay1 (F := Ideal) x0 x1) x2 (ix2 r k))
          (fun r l => k0_pay10 (F := Ideal) (BitVec.ofNat 32 (i 1)) x3 (ix2 r l))
          (fun r l => k0_pay11 (F := Ideal) (BitVec.ofNat 32 (i 1)) x4 (ix2 r l)) r k := by
  unfold out0_A_5
  rw [View.read_writes_eq_canon _ _ _ (cover0_A_5 (F := Ideal) c i a2 h2 a3 h3 a4 h4 a5 h5 a6 h6 a7 h7 a8 h8 hc0 hc1 hc2 x0 x1 x2 x3 x4)]
  unfold kernelRun0_A
  dsimp only
  sl_unfold_words
  simp only [View.readCov_unit_zero (S := S512x1024) _ hz, View.readAt_eq_ld, h2.read_unread, h3.read_unread, h4.read_unread,
    h5.read_unread, h6.read_unread, h8.read_unread, View.ld_unit_zero (S := S512x1024) hz,
    View.ld_unit_zero (S := S1x1024) hz, View.ld_unit_zero (S := S512x128) hz, View.ld_unit_zero (S := S1024x1024) hz]
  canon_tiles x h
  all_goals
    obtain ⟨a, l, rfl⟩ : ∃ (a : Fin 512) (l : Fin 128), x = ix2 a l := ⟨x 0, x 1, eq_ix2 x⟩
    obtain rfl : r = a := Fin.ext h0
  · rw [heads_hi _ _ _ 3 (by omega) r k l h1]; exact pay7_apply _ _ _ _ _ _
  · rw [heads_lo _ _ _ 3 (by omega) r k l h1]; exact pay6_apply _ _ _ _ _ _
  · rw [heads_hi _ _ _ 2 (by omega) r k l h1]; exact pay3_apply _ _ _ _ _
  · rw [heads_lo _ _ _ 2 (by omega) r k l h1]; exact pay22_apply _ _ _ _ _ _
  · rw [heads_hi _ _ _ 1 (by omega) r k l h1]; exact pay19_apply _ _ _ _ _ _
  · rw [heads_lo _ _ _ 1 (by omega) r k l h1]; exact pay18_apply _ _ _ _ _ _
  · have h2 : k.val = 128 + l.val := h1
    rw [heads_hi _ _ _ 0 (by omega) r k l (by omega)]; exact pay15_apply _ _ _ _ _ _
  · have h2 : k.val = l.val := by first | exact h1 | (simpa using h1)
    rw [heads_lo _ _ _ 0 (by omega) r k l (by omega)]; exact pay14_apply _ _ _ _ _ _

/-- and its normalised rows in the scratch buffer. -/
theorem sout_A (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S512x128 .f32) (h5 : a5.IsWhole) (a6 : Memref sig .tc .vmem S512x128 .f32) (h6 : a6.IsWhole)
    (a7 : Memref sig .tc .vmem S512x1024 .bf16) (h7 : a7.IsWhole) (a8 : Memref sig .tc .vmem S512x1024 .bf16) (h8 : a8.IsWhole)
    (hc0 : cond0_0 i) (hc1 : cond0_1 i) (hc2 : ¬cond0_2 i)
    (x0 : Vec Ideal S512x1024 .f32) (x1 : Vec Ideal S1x1024 .f32) (x2 : Vec Ideal S1024x1024 .bf16) (x3 : Vec Ideal S512x128 .f32)
    (x4 : Vec Ideal S512x128 .f32) :
    sout0_A_0 (F := Ideal) c i a2 h2 a3 h3 a4 h4 a5 h5 a6 h6 a7 h7 a8 h8 hc0 hc1 hc2 x0 x1 x2 x3 x4 = k0_pay1 (F := Ideal) x0 x1 := by
  unfold sout0_A_0
  rw [View.read_writes_eq_canon _ _ _ (scover0_A_0 (F := Ideal) c i a2 h2 a3 h3 a4 h4 a5 h5 a6 h6 a7 h7 a8 h8 hc0 hc1 hc2 x0 x1 x2 x3 x4)]
  unfold kernelRun0_A
  dsimp only
  sl_unfold_words
  rw [View.canon_unit_zero hz]
  simp only [View.readAt_eq_ld, h2.read_unread, h3.read_unread, View.ld_unit_zero (S := S512x1024) hz,
    View.ld_unit_zero (S := S1x1024) hz]

/-- The second point leaves the rotated heads of its columns of the kept rows. -/
theorem out_B (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S512x128 .f32) (h5 : a5.IsWhole) (a6 : Memref sig .tc .vmem S512x128 .f32) (h6 : a6.IsWhole)
    (a7 : Memref sig .tc .vmem S512x1024 .bf16) (h7 : a7.IsWhole) (a8 : Memref sig .tc .vmem S512x1024 .bf16) (h8 : a8.IsWhole)
    (hc0 : ¬cond0_0 i) (hc1 : cond0_1 i) (hc2 : ¬cond0_2 i)
    (x0 : Vec Ideal S512x1024 .f32) (x1 : Vec Ideal S1x1024 .f32) (x2 : Vec Ideal S1024x1024 .bf16) (x3 : Vec Ideal S512x128 .f32)
    (x4 : Vec Ideal S512x128 .f32) (xs0 : Vec Ideal S512x1024 .bf16) (r : Fin 512) (k : Fin 1024) :
    out0_B_5 (F := Ideal) c i a2 h2 a3 h3 a4 h4 a5 h5 a6 h6 a7 h7 a8 h8 hc0 hc1 hc2 x0 x1 x2 x3 x4 xs0 (ix2 r k)
      = heads (fun r k => k0_pay2 (F := Ideal) xs0 x2 (ix2 r k))
          (fun r l => k0_pay10 (F := Ideal) (BitVec.ofNat 32 (i 1)) x3 (ix2 r l))
          (fun r l => k0_pay11 (F := Ideal) (BitVec.ofNat 32 (i 1)) x4 (ix2 r l)) r k := by
  unfold out0_B_5
  rw [View.read_writes_eq_canon _ _ _ (cover0_B_5 (F := Ideal) c i a2 h2 a3 h3 a4 h4 a5 h5 a6 h6 a7 h7 a8 h8 hc0 hc1 hc2 x0 x1 x2 x3 x4 xs0)]
  unfold kernelRun0_B
  dsimp only
  sl_unfold_words
  simp only [View.readCov_unit_zero (S := S512x1024) _ hz, View.readAt_eq_ld, h2.read_unread, h3.read_unread, h4.read_unread,
    h5.read_unread, h6.read_unread, h8.read_unread, View.ld_unit_zero (S := S512x1024) hz,
    View.ld_unit_zero (S := S1x1024) hz, View.ld_unit_zero (S := S512x128) hz, View.ld_unit_zero (S := S1024x1024) hz]
  canon_tiles x h
  all_goals
    obtain ⟨a, l, rfl⟩ : ∃ (a : Fin 512) (l : Fin 128), x = ix2 a l := ⟨x 0, x 1, eq_ix2 x⟩
    obtain rfl : r = a := Fin.ext h0
  · rw [heads_hi _ _ _ 3 (by omega) r k l h1]; exact pay7_apply _ _ _ _ _ _
  · rw [heads_lo _ _ _ 3 (by omega) r k l h1]; exact pay6_apply _ _ _ _ _ _
  · rw [heads_hi _ _ _ 2 (by omega) r k l h1]; exact pay3_apply _ _ _ _ _
  · rw [heads_lo _ _ _ 2 (by omega) r k l h1]; exact pay22_apply _ _ _ _ _ _
  · rw [heads_hi _ _ _ 1 (by omega) r k l h1]; exact pay19_apply _ _ _ _ _ _
  · rw [heads_lo _ _ _ 1 (by omega) r k l h1]; exact pay18_apply _ _ _ _ _ _
  · have h2 : k.val = 128 + l.val := h1
    rw [heads_hi _ _ _ 0 (by omega) r k l (by omega)]; exact pay15_apply _ _ _ _ _ _
  · have h2 : k.val = l.val := by first | exact h1 | (simpa using h1)
    rw [heads_lo _ _ _ 0 (by omega) r k l (by omega)]; exact pay14_apply _ _ _ _ _ _

/-- The third point leaves its columns of the kept rows' product. -/
theorem out_C (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1024 .bf16) (h4 : a4.IsWhole)
    (a5 : Memref sig .tc .vmem S512x128 .f32) (h5 : a5.IsWhole) (a6 : Memref sig .tc .vmem S512x128 .f32) (h6 : a6.IsWhole)
    (a7 : Memref sig .tc .vmem S512x1024 .bf16) (h7 : a7.IsWhole) (a8 : Memref sig .tc .vmem S512x1024 .bf16) (h8 : a8.IsWhole)
    (hc0 : ¬cond0_0 i) (hc1 : ¬cond0_1 i) (hc2 : cond0_2 i)
    (x0 : Vec Ideal S512x1024 .f32) (x1 : Vec Ideal S1x1024 .f32) (x2 : Vec Ideal S1024x1024 .bf16) (x3 : Vec Ideal S512x128 .f32)
    (x4 : Vec Ideal S512x128 .f32) (xs0 : Vec Ideal S512x1024 .bf16) :
    out0_C_5 (F := Ideal) c i a2 h2 a3 h3 a4 h4 a5 h5 a6 h6 a7 h7 a8 h8 hc0 hc1 hc2 x0 x1 x2 x3 x4 xs0 = k0_pay8 (F := Ideal) xs0 x2 := by
  unfold out0_C_5
  rw [View.read_writes_eq_canon _ _ _ (cover0_C_5 (F := Ideal) c i a2 h2 a3 h3 a4 h4 a5 h5 a6 h6 a7 h7 a8 h8 hc0 hc1 hc2 x0 x1 x2 x3 x4 xs0)]
  unfold kernelRun0_C
  dsimp only
  sl_unfold_words
  rw [View.canon_unit_zero hz]
  simp only [View.readCov_unit_zero (S := S512x1024) _ hz, View.readAt_eq_ld, h2.read_unread, h3.read_unread, h4.read_unread,
    h5.read_unread, h6.read_unread, h8.read_unread, View.ld_unit_zero (S := S512x1024) hz,
    View.ld_unit_zero (S := S1x1024) hz, View.ld_unit_zero (S := S512x128) hz, View.ld_unit_zero (S := S1024x1024) hz]

end Cert.Proof.Rot

end
-- ==== Proof.Rot.Value.lean ====
/-
  The rotary projection's result array, element by element, over the extended reals.
-/
module

public import proofs.«01_k».proof.Proof.Rot.Blocks
public import Idealize.ShloMosaic.Lib.StableHlo.ReadAt

@[expose] public section

set_option maxRecDepth 16384

noncomputable section

namespace Cert.Proof.Rot

open Idealize.ShloMosaic Idealize.ShloMosaic.Tactic Idealize.ShloMosaic.TcCoe Cert.RotIdeal Cert.RotIdeal.Gen Cert.Proof.Ffn
open scoped BigOperators

/-- One projection of a normalised row. -/
def proj (x g : Fin 1024 → EReal) (w : Fin 1024 → Fin 6144 → EReal) (u : Fin 6144) : EReal := ∑ l, norm x g l * w l u

/-- One row of the result: the query heads rotated, the key heads rotated and scaled, the values and gates as they are. -/
def qkv (x g : Fin 1024 → EReal) (w : Fin 1024 → Fin 6144 → EReal) (cs sn : Fin 128 → EReal) (k : Fin 6144) : EReal :=
  if k.val / 1024 = 0 then
    rot (fun l => proj x g w ⟨k.val / 256 * 256 + l.val, by omega⟩) (fun l => cs l * Ideal.ofBits .f32 0x3F800000#32)
      (fun l => sn l * Ideal.ofBits .f32 0x3F800000#32) ⟨k.val % 256, by omega⟩
  else if k.val / 1024 = 1 then
    rot (fun l => proj x g w ⟨k.val / 256 * 256 + l.val, by omega⟩) (fun l => cs l * Ideal.ofBits .f32 0x3D800000#32)
      (fun l => sn l * Ideal.ofBits .f32 0x3D800000#32) ⟨k.val % 256, by omega⟩
  else proj x g w k

variable (m : (ℓ : Loc nD τ sig) → Buf (Elt Ideal) ℓ) (c : Dev nD)

/-- The arguments as functions of coordinates. -/
abbrev X (r : Fin 32768) (k : Fin 1024) : EReal :=
  (m ((c : Thread nD τ).loc main_arg0) : Vec Ideal S8x4096x1024 .f32) (ix3 ⟨r.val / 4096, by omega⟩ ⟨r.val % 4096, by omega⟩ k)
abbrev G (k : Fin 1024) : EReal := (m ((c : Thread nD τ).loc main_arg1) : Vec Ideal S1024 .f32) (ix1 k)
abbrev W (a : Fin 1024) (k : Fin 6144) : EReal := (m ((c : Thread nD τ).loc main_arg2) : Vec Ideal S1024x6144 .f32) (ix2 a k)
abbrev CS (a : Fin 4096) (k : Fin 128) : EReal := (m ((c : Thread nD τ).loc main_arg3) : Vec Ideal S4096x128 .f32) (ix2 a k)
abbrev SN (a : Fin 4096) (k : Fin 128) : EReal := (m ((c : Thread nD τ).loc main_arg4) : Vec Ideal S4096x128 .f32) (ix2 a k)

theorem V_x (r : Fin 32768) (k : Fin 1024) : (V m c main_v0 : Vec Ideal S32768x1024 .f32) (ix2 r k) = X m c r k := by
  unfold V; after_reads_at
theorem V_w (a : Fin 1024) (k : Fin 6144) : (V m c main_v1 : Vec Ideal S1024x6144 .bf16) (ix2 a k) = W m c a k := by
  unfold V; after_reads_at
theorem V_g (k : Fin 1024) : (V m c main_v2 : Vec Ideal S1x1024 .f32) (ix2 0 k) = G m c k := by unfold V; after_reads_at
theorem V_c (a : Fin 4096) (k : Fin 128) : (V m c main_arg3 : Vec Ideal S4096x128 .f32) (ix2 a k) = CS m c a k := by
  unfold V; after_reads_at
theorem V_s (a : Fin 4096) (k : Fin 128) : (V m c main_arg4 : Vec Ideal S4096x128 .f32) (ix2 a k) = SN m c a k := by
  unfold V; after_reads_at

theorem idx0 : ∀ t : Fin cfg0.N, win0_0.index t = ![t.val / 6, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 6] := (by decide +kernel : ∀ t : Fin grid0.N, _)
theorem idx3 : ∀ t : Fin cfg0.N, win0_3.index t = ![t.val / 6 % 8, 0] := (by decide +kernel : ∀ t : Fin grid0.N, _)
theorem idx4 : ∀ t : Fin cfg0.N, win0_4.index t = ![t.val / 6 % 8, 0] := (by decide +kernel : ∀ t : Fin grid0.N, _)
theorem crd1 : ∀ t : Fin cfg0.N, (grid0.coords t 1).val = t.val % 6 := (by decide +kernel : ∀ t : Fin grid0.N, _)

theorem blk_x (t : Fin cfg0.N) (a : Fin 512) (k : Fin 1024) (h : t.val / 6 * 512 + a.val < 32768) :
    (iblk m c 0 t : Vec Ideal S512x1024 .f32) (ix2 a k) = X m c ⟨t.val / 6 * 512 + a.val, h⟩ k := by
  rw [← V_x]
  blk_simp [iblk]
  refine congrArg (V m c main_v0 : Vec Ideal S32768x1024 .f32) ?_
  blk_ext [idx0]

theorem blk_g (t : Fin cfg0.N) (k : Fin 1024) : (iblk m c 1 t : Vec Ideal S1x1024 .f32) (ix2 0 k) = G m c k := by
  rw [← V_g]
  blk_simp [iblk]
  refine congrArg (V m c main_v2 : Vec Ideal S1x1024 .f32) ?_
  blk_ext [idx1]

theorem blk_w (t : Fin cfg0.N) (u : Fin 1024) (k : Fin 1024) (h : t.val % 6 * 1024 + k.val < 6144) :
    (iblk m c 2 t : Vec Ideal S1024x1024 .bf16) (ix2 u k) = W m c u ⟨t.val % 6 * 1024 + k.val, h⟩ := by
  rw [← V_w]
  blk_simp [iblk]
  refine congrArg (V m c main_v1 : Vec Ideal S1024x6144 .bf16) ?_
  blk_ext [idx2]

theorem blk_c (t : Fin cfg0.N) (a : Fin 512) (k : Fin 128) (h : t.val / 6 % 8 * 512 + a.val < 4096) :
    (iblk m c 3 t : Vec Ideal S512x128 .f32) (ix2 a k) = CS m c ⟨t.val / 6 % 8 * 512 + a.val, h⟩ k := by
  rw [← V_c]
  blk_simp [iblk]
  refine congrArg (V m c main_arg3 : Vec Ideal S4096x128 .f32) ?_
  blk_ext [idx3]

theorem blk_s (t : Fin cfg0.N) (a : Fin 512) (k : Fin 128) (h : t.val / 6 % 8 * 512 + a.val < 4096) :
    (iblk m c 4 t : Vec Ideal S512x128 .f32) (ix2 a k) = SN m c ⟨t.val / 6 % 8 * 512 + a.val, h⟩ k := by
  rw [← V_s]
  blk_simp [iblk]
  refine congrArg (V m c main_arg4 : Vec Ideal S4096x128 .f32) ?_
  blk_ext [idx4]

/-- The scratch buffer at the points of row block `q` holds the normalised rows of the block. -/
theorem scr (q : ℕ) (tA : Fin cfg0.N) (hA : tA.val = 6 * q) : ∀ (j : ℕ) (_ : j < 6) (t : Fin cfg0.N) (_ : t.val = 6 * q + j),
    (outsAt0 m c t.val t.isLt).2 = k0_pay1 (F := Ideal) (iblk m c 0 tA) (iblk m c 1 tA) := by
  have e : ∀ (n n' : ℕ) (hn : n < cfg0.N) (hn' : n' < cfg0.N), n = n' → outsAt0 m c n hn = outsAt0 m c n' hn' := by
    intro n n' hn hn' h; subst h; rfl
  intro j
  induction j with
  | zero =>
    intro _ t h
    obtain rfl : t = tA := Fin.ext (by omega)
    rw [outsAt0_A m c t (by omega) (by omega) (by omega)]
    dsimp only
    rw [sout_A]
  | succ j ih =>
    intro hj t h
    have h0 := ih (by omega) ⟨t.val - 1, by omega⟩ (by dsimp only; omega)
    by_cases h1 : t.val % 6 ≤ 1
    · rw [outsAt0_B m c t (by omega) h1 (by omega)]
      exact h0
    · rw [outsAt0_C m c t (by omega) h1 (by omega)]
      exact h0

/-- The product at the point of row block `q` and column block `p`, at an index. -/
theorem prod_at (q p : ℕ) (hp : p < 6) (tA t : Fin cfg0.N) (hA : tA.val = 6 * q) (ht : t.val = 6 * q + p) (a : Fin 512)
    (h : q * 512 + a.val < 32768) (k : Fin 1024) :
    (∑ l : Fin 1024, k0_pay1 (F := Ideal) (iblk m c 0 tA) (iblk m c 1 tA) (ix2 a l) * (iblk m c 2 t : Vec Ideal S1024x1024 .bf16) (ix2 l k))
      = proj (X m c ⟨q * 512 + a.val, h⟩) (G m c) (W m c) ⟨p * 1024 + k.val, by omega⟩ := by
  have hq : tA.val / 6 = q := by omega
  have hm : t.val % 6 = p := by omega
  refine Finset.sum_congr rfl fun l _ => congrArg₂ (· * ·) ?_ ?_
  · rw [pay1_apply]
    congr 1
    · funext u
      rw [blk_x m c tA a u (by omega)]
      simp only [hq]
    · funext u
      rw [blk_g]
  · rw [blk_w m c t l k (by omega)]
    simp only [hm]

/-- The kernel's result array at an index. -/
theorem G5_apply (r : Fin 32768) (k : Fin 6144) :
    (Cert.RotIdeal.Value.G5 m c : Vec Ideal S32768x6144 .bf16) (ix2 r k) = qkv (X m c r) (G m c) (W m c) (CS m c ⟨r.val % 4096, by omega⟩) (SN m c ⟨r.val % 4096, by omega⟩) k := by
  have hN : cfg0.N = 384 := N_0
  have hr := r.isLt
  have hk := k.isLt
  have hp : Cert.RotIdeal.Value.pt5Of (ix2 r k) = 6 * (r.val / 512) + k.val / 1024 := by
    show 6 * (r.val / 512 - 0) + 1 * (k.val / 1024 - 0) = _
    omega
  obtain ⟨t, ht⟩ : ∃ t : Fin cfg0.N, t.val = 6 * (r.val / 512) + k.val / 1024 := ⟨⟨6 * (r.val / 512) + k.val / 1024, by omega⟩, rfl⟩
  obtain ⟨tA, hA⟩ : ∃ t : Fin cfg0.N, t.val = 6 * (r.val / 512) := ⟨⟨6 * (r.val / 512), by omega⟩, rfl⟩
  have hl : Cert.RotIdeal.Value.loc5Of (ix2 r k) = ix2 (⟨r.val % 512, by omega⟩ : Fin 512) (⟨k.val % 1024, by omega⟩ : Fin 1024) := by
    funext b; apply Fin.ext
    match b with
    | ⟨0, _⟩ => rfl
    | ⟨1, _⟩ => rfl
  unfold Cert.RotIdeal.Value.G5
  have hlt : Cert.RotIdeal.Value.pt5Of (ix2 r k) < cfg0.N := by rw [hp, ← ht]; exact t.isLt
  rw [dif_pos hlt, ← Cert.RotIdeal.Value.outsAt0_sweep m c _ hlt, hl]
  have e : ∀ (n : ℕ) (hn : n < cfg0.N), n = t.val → outsAt0 m c n hn = outsAt0 m c t.val t.isLt := by
    intro n hn h; subst h; rfl
  rw [e _ hlt (hp.trans ht.symm)]
  have hr' : r.val / 512 * 512 + r.val % 512 < 32768 := by omega
  have hre : (⟨r.val / 512 * 512 + r.val % 512, hr'⟩ : Fin 32768) = r := Fin.ext (by dsimp only; omega)
  have hcol : ∀ (p : ℕ) (_ : k.val / 1024 = p) (_ : p < 6) (l : Fin 256),
      (⟨p * 1024 + (k.val % 1024 / 256 * 256 + l.val), by omega⟩ : Fin 6144) = ⟨k.val / 256 * 256 + l.val, by omega⟩ := by
    intro p h1 h2 l; apply Fin.ext; dsimp only; omega
  have hcr : BitVec.ofNat 32 (grid0.coords t 1).val = BitVec.ofNat 32 (k.val / 1024) := by
    rw [crd1, ht]; congr 1; omega
  have hmod : (⟨k.val % 1024 % 256, by omega⟩ : Fin 256) = ⟨k.val % 256, by omega⟩ := Fin.ext (by dsimp only; omega)
  have hrow : (⟨t.val / 6 % 8 * 512 + r.val % 512, by omega⟩ : Fin 4096) = ⟨r.val % 4096, by omega⟩ :=
    Fin.ext (by dsimp only; omega)
  have hk3 : k.val / 1024 = 0 ∨ k.val / 1024 = 1 ∨ 2 ≤ k.val / 1024 := by omega
  unfold qkv
  rcases hk3 with h | h | h
  · rw [if_pos h, outsAt0_A m c t (by omega) (by omega) (by omega)]
    dsimp only
    rw [out_A, hcr, h]
    unfold heads
    dsimp only
    rw [hmod]
    congr 1
    · funext l
      rw [pay2_apply, prod_at m c (r.val / 512) 0 (by omega) t t (by omega) (by omega) _ hr', hcol 0 h (by omega) l, hre]
    · funext l
      refine (pay10_q _ _ l).trans ?_
      rw [blk_c m c t _ _ (by dsimp only; omega), hrow]
    · funext l
      refine (pay11_q _ _ l).trans ?_
      rw [blk_s m c t _ _ (by dsimp only; omega), hrow]
  · rw [if_neg (by omega), if_pos h, outsAt0_B m c t (by omega) (by omega) (by omega)]
    dsimp only
    rw [out_B, hcr, h]
    unfold heads
    dsimp only
    rw [hmod]
    congr 1
    · funext l
      rw [pay2_apply]
      refine (Finset.sum_congr rfl fun u _ => congrArg (fun z : Vec Ideal S512x1024 .bf16 => z (ix2 _ u) * _)
        (scr m c (r.val / 512) tA hA 0 (by omega) ⟨t.val - 1, by omega⟩ (by dsimp only; omega))).trans ?_
      rw [prod_at m c (r.val / 512) 1 (by omega) tA t (by omega) (by omega) _ hr', hcol 1 h (by omega) l, hre]
    · funext l
      refine (pay10_k _ _ l).trans ?_
      rw [blk_c m c t _ _ (by dsimp only; omega), hrow]
    · funext l
      refine (pay11_k _ _ l).trans ?_
      rw [blk_s m c t _ _ (by dsimp only; omega), hrow]
  · rw [if_neg (by omega), if_neg (by omega), outsAt0_C m c t (by omega) (by omega) (by omega)]
    dsimp only
    rw [out_C, pay8_apply]
    refine (Finset.sum_congr rfl fun u _ => congrArg (fun z : Vec Ideal S512x1024 .bf16 => z (ix2 _ u) * _)
      (scr m c (r.val / 512) tA hA (k.val / 1024 - 1) (by omega) ⟨t.val - 1, by omega⟩ (by dsimp only; omega))).trans ?_
    rw [prod_at m c (r.val / 512) (k.val / 1024) (by omega) tA t (by omega) (by omega) _ hr', hre]
    congr 1
    apply Fin.ext; dsimp only; omega

end Cert.Proof.Rot

end
-- ==== Proof.Rot.Ref.lean ====
/-
  The rotary projection's reference, element by element, over the extended reals.
-/
module

public import proofs.«01_k».proof.Proof.Rot.Value
public import proofs.«01_k».proof.Proof.Gen.RotRefIdeal.Run
public import proofs.«01_k».proof.Proof.Gen.RotRefIdeal.Read

@[expose] public section

set_option maxRecDepth 16384

noncomputable section

namespace Cert.Proof.Rot

open Idealize.ShloMosaic Cert.RotRefIdeal Cert.RotRefIdeal.Gen Cert.RotRefIdeal.Read Cert.Proof.Ffn
open scoped BigOperators

variable (x0 : Vec Ideal S8x4096x1024 .f32) (x1 : Vec Ideal S1024 .f32) (x2 : Vec Ideal S1024x6144 .f32)
  (x3 x4 : Vec Ideal S4096x128 .f32) (b : Fin 8) (s : Fin 4096)

/-- The projection at an index. -/
theorem ref_proj (u : Fin 6144) : val_main_v13 (F := Ideal) x0 x1 x2 (ix3 b s u) = proj (fun k => x0 (ix3 b s k)) (fun k => x1 (ix1 k)) (fun a k => x2 (ix2 a k)) u := by
  unfold proj Ffn.norm
  pointwise [val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The query columns cut in heads, -/
theorem ref_q (h : Fin 4) (l : Fin 256) : val_main_v17 (F := Ideal) x0 x1 x2 (ix4 b s h l)
      = proj (fun k => x0 (ix3 b s k)) (fun k => x1 (ix1 k)) (fun a k => x2 (ix2 a k)) ⟨h.val * 256 + l.val, by omega⟩ := by
  rw [← ref_proj]
  generalize hy : val_main_v13 (F := Ideal) x0 x1 x2 = y
  unfold val_main_v17 val_main_v14
  rw [hy]
  pointwise []

/-- and the key columns. -/
theorem ref_k (h : Fin 4) (l : Fin 256) : val_main_v34 (F := Ideal) x0 x1 x2 (ix4 b s h l)
      = proj (fun k => x0 (ix3 b s k)) (fun k => x1 (ix1 k)) (fun a k => x2 (ix2 a k)) ⟨1024 + (h.val * 256 + l.val), by omega⟩ := by
  rw [← ref_proj]
  generalize hy : val_main_v13 (F := Ideal) x0 x1 x2 = y
  unfold val_main_v34 val_main_v15
  rw [hy]
  pointwise []

/-- The query heads rotated. -/
theorem ref_rq (h : Fin 4) (l : Fin 256) : val_main_v32 (F := Ideal) x0 x1 x2 x3 x4 (ix4 b s h l)
      = rot (fun l => proj (fun k => x0 (ix3 b s k)) (fun k => x1 (ix1 k)) (fun a k => x2 (ix2 a k)) ⟨h.val * 256 + l.val, by omega⟩) (fun l => x3 (ix2 s l)) (fun l => x4 (ix2 s l)) l := by
  simp only [← ref_q]
  generalize hy : val_main_v17 (F := Ideal) x0 x1 x2 = y
  unfold val_main_v32 val_main_v31 val_main_v30 val_main_v28 val_main_v26 val_main_v25 val_main_v23 val_main_v21 val_main_v20
  rw [hy]
  unfold rot lo hi
  pointwise [val_main_v29, val_main_v27, val_main_v24, val_main_v22, val_main_v19, val_main_v18]
  by_cases hl : l.val < 128
  · have h1 : l.val % 128 = l.val := by omega
    rw [dif_pos hl, if_pos hl]
    simp only [h1]
  · have h1 : l.val % 128 = l.val - 128 := by omega
    rw [dif_neg hl, if_neg hl]
    simp only [h1]

/-- The key heads rotated. -/
theorem ref_rk (h : Fin 4) (l : Fin 256) : val_main_v49 (F := Ideal) x0 x1 x2 x3 x4 (ix4 b s h l)
      = rot (fun l => proj (fun k => x0 (ix3 b s k)) (fun k => x1 (ix1 k)) (fun a k => x2 (ix2 a k)) ⟨1024 + (h.val * 256 + l.val), by omega⟩) (fun l => x3 (ix2 s l)) (fun l => x4 (ix2 s l)) l := by
  simp only [← ref_k]
  generalize hy : val_main_v34 (F := Ideal) x0 x1 x2 = y
  unfold val_main_v49 val_main_v48 val_main_v47 val_main_v45 val_main_v43 val_main_v42 val_main_v40 val_main_v38 val_main_v37
  rw [hy]
  unfold rot lo hi
  pointwise [val_main_v46, val_main_v44, val_main_v41, val_main_v39, val_main_v36, val_main_v35]
  by_cases hl : l.val < 128
  · have h1 : l.val % 128 = l.val := by omega
    rw [dif_pos hl, if_pos hl]
    simp only [h1]
  · have h1 : l.val % 128 = l.val - 128 := by omega
    rw [dif_neg hl, if_neg hl]
    simp only [h1]

/-- The result at an index, in its three parts. -/
theorem ref_parts (r : Fin 32768) (k : Fin 6144) : val_main_v55 (F := Ideal) x0 x1 x2 x3 x4 (ix2 r k)
      = if k.val < 1024 then
          val_main_v32 (F := Ideal) x0 x1 x2 x3 x4 (ix4 ⟨r.val / 4096, by omega⟩ ⟨r.val % 4096, by omega⟩ ⟨k.val / 256 % 4, by omega⟩ ⟨k.val % 256, by omega⟩)
        else if k.val - 1024 < 1024 then
          val_main_v49 (F := Ideal) x0 x1 x2 x3 x4 (ix4 ⟨r.val / 4096, by omega⟩ ⟨r.val % 4096, by omega⟩ ⟨k.val / 256 % 4, by omega⟩ ⟨k.val % 256, by omega⟩)
            * Ideal.ofBits .f32 0x3D800000#32
        else val_main_v13 (F := Ideal) x0 x1 x2 (ix3 ⟨r.val / 4096, by omega⟩ ⟨r.val % 4096, by omega⟩ k) := by
  pointwise [val_main_v55, val_main_v54, val_main_v53, val_main_v33, val_main_v52, val_main_v51, val_main_v50, val_main_cst_2, val_main_v16]
  have hk := k.isLt
  by_cases h : k.val < 1024
  · rw [dif_pos h, if_pos h]
    have h1 : k.val / 256 % 4 = k.val / 256 := by omega
    simp only [h1]
  · rw [dif_neg h, if_neg h]
    by_cases h' : k.val - 1024 < 1024
    · rw [dif_pos h', if_pos h']
      have h1 : (k.val - 1024) / 256 = k.val / 256 % 4 := by omega
      have h2 : (k.val - 1024) % 256 = k.val % 256 := by omega
      simp only [h1, h2]
    · rw [dif_neg h', if_neg h']
      have h1 : 2048 + (k.val - 1024 - 1024) = k.val := by omega
      simp only [h1]

/-- The key scale is a positive real number, -/
theorem sixteenth : Ideal.ofBits .f32 0x3D800000#32 = (((1 : ℝ) / 16 : ℝ) : EReal) := by
  simp [Ideal.ofBits, Ideal.ieee, -EReal.coe_mul]; norm_num

/-- so a rotation by scaled cosines and sines is the rotation scaled. -/
theorem rot_scale (y : Fin 256 → EReal) (c s : Fin 128 → EReal) (k : Fin 256) :
    rot y (fun l => c l * Ideal.ofBits .f32 0x3D800000#32) (fun l => s l * Ideal.ofBits .f32 0x3D800000#32) k
      = rot y c s k * Ideal.ofBits .f32 0x3D800000#32 := by
  have h0 : (0 : EReal) ≤ Ideal.ofBits .f32 0x3D800000#32 := by
    rw [sixteenth]; exact EReal.coe_nonneg.mpr (by norm_num)
  have h1 : Ideal.ofBits .f32 0x3D800000#32 ≠ ⊤ := by rw [sixteenth]; exact EReal.coe_ne_top _
  unfold rot lo hi
  split_ifs
  · rw [← mul_assoc, ← mul_assoc, sub_eq_add_neg, sub_eq_add_neg, EReal.right_distrib_of_nonneg_of_ne_top h0 h1, neg_mul]
  · rw [← mul_assoc, ← mul_assoc, EReal.right_distrib_of_nonneg_of_ne_top h0 h1]

theorem rot_one (y : Fin 256 → EReal) (c s : Fin 128 → EReal) (k : Fin 256) :
    rot y (fun l => c l * Ideal.ofBits .f32 0x3F800000#32) (fun l => s l * Ideal.ofBits .f32 0x3F800000#32) k = rot y c s k := by
  simp only [Ideal.ofBits_one_f32, mul_one]

/-- The reference's result at an index. -/
theorem ref_apply (r : Fin 32768) (k : Fin 6144) : val_main_v55 (F := Ideal) x0 x1 x2 x3 x4 (ix2 r k)
      = qkv (fun k => x0 (ix3 ⟨r.val / 4096, by omega⟩ ⟨r.val % 4096, by omega⟩ k)) (fun k => x1 (ix1 k)) (fun a k => x2 (ix2 a k))
          (fun k => x3 (ix2 ⟨r.val % 4096, by omega⟩ k)) (fun k => x4 (ix2 ⟨r.val % 4096, by omega⟩ k)) k := by
  have hk := k.isLt
  rw [ref_parts, ref_rq, ref_rk, ref_proj]
  unfold qkv
  rw [rot_scale, rot_one]
  have hk3 : k.val / 1024 = 0 ∨ k.val / 1024 = 1 ∨ 2 ≤ k.val / 1024 := by omega
  rcases hk3 with h | h | h
  · rw [if_pos (by omega), if_pos h]
    have hd : k.val / 256 % 4 = k.val / 256 := by omega
    simp only [hd]
  · rw [if_neg (by omega), if_pos (by omega), if_neg (by omega), if_pos h]
    have hd : ∀ l : Fin 256, 1024 + (k.val / 256 % 4 * 256 + l.val) = k.val / 256 * 256 + l.val := fun l => by omega
    simp only [hd]
  · rw [if_neg (by omega), if_neg (by omega), if_neg (by omega), if_neg (by omega)]

end Cert.Proof.Rot

end
-- ==== Proof.Rot.Claim.lean ====
/-
  The rotary projection's claims: the two arrays are equal, element by element, over the extended reals.
-/
module

public import proofs.«01_k».proof.Defs
public import proofs.«01_k».proof.Proof.Rot.Ref
public import proofs.«01_k».proof.Proof.Gen.RotRefIdeal.Run
public import proofs.«01_k».proof.Proof.Gen.RotRefIdeal.Read
public import Idealize.ShloMosaic.Lib.Quiescent

@[expose] public section

set_option maxRecDepth 16384

noncomputable section

namespace Cert.Proof.Rot

open Idealize.ShloMosaic Idealize.SL.Sem Cert.RotRefIdeal Cert.RotRefIdeal.Gen Cert.RotRefIdeal.Read
open scoped BigOperators

/-- The reference runs, leaves its arguments unchanged, and (it has no semaphores) every counter at zero. -/
theorem ref_frame : Cert.quiescent_RotRefIdeal (hRotRefIdeal := Cert.RotRefIdeal.Gen.facts) := fun m ρ _ =>
  (θ_run _ _ _).mono (fun r h => ⟨fun c => (h c).2, sem_eq_zero_of_no_sems (by decide) r.2⟩)
    (Cert.RotRefIdeal.Value.run (F := Ideal) m ρ)

/-- The kernel and the reference leave equal arrays. -/
theorem algebraic : Cert.algebraic_RotIdeal_RotRefIdeal (hRotIdeal := Cert.RotIdeal.Gen.facts)
    (hRotRefIdeal := Cert.RotRefIdeal.Gen.facts) := by
  intro m g m' g' _ hargs
  refine ⟨fun c => Cert.RotIdeal.Value.G5 m c, Cert.RotIdeal.Value.run m g, ?_⟩
  refine (θ_run _ _ _).mono (fun r h c => ⟨?_, (h c).2⟩) (Cert.RotRefIdeal.Value.run (F := Ideal) m' g')
  refine (h c).1.trans ((Cert.RotRefIdeal.Read.val_main_v55_eq (F := Ideal) _ _).trans ?_)
  obtain ⟨h0, h1, h2, h3, h4⟩ := hargs c
  rw [h0, h1, h2, h3, h4]
  funext i
  obtain ⟨a, b, rfl⟩ : ∃ (a : Fin 32768) (b : Fin 6144), i = ix2 a b := ⟨i 0, i 1, eq_ix2 i⟩
  exact (ref_apply _ _ _ _ _ a b).trans (G5_apply m c a b).symm

end Cert.Proof.Rot

end
-- ==== Proof.Sb.Stick.lean ====
/-
  Stick-breaking attention of one head over the extended reals: the logit's two log-sigmoids, the weights, the sums
  over the blocks of 128 keys that the kernel goes through from the diagonal block down to block 0.
-/
module

public import Idealize.ShloMosaic.PureOps.Ideal
public import Idealize.ShloMosaic.PureOps.Ideal.Laws

@[expose] public section

noncomputable section

namespace Cert.Proof.Sb

open Idealize.ShloMosaic
open scoped BigOperators

/-- `log (1 + exp (-|z|))`. -/
def lse (z : EReal) : EReal := Ideal.log (1 + Ideal.exp (0 - max z (-z)))

/-- The log of one minus the sigmoid of `z`. -/
def lm (z : EReal) : EReal := 0 - max z 0 - lse z

/-- The log of the sigmoid of `z`. -/
def ls (z : EReal) : EReal := min z 0 - lse z

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

theorem abs_coe (a : ℝ) : max (a : EReal) (-(a : EReal)) = ((|a| : ℝ) : EReal) := by
  rw [← EReal.coe_neg, max_coe]; rfl

/-- `log (1 + exp (-|z|))` of a real number. -/
theorem lse_coe (a : ℝ) : lse (a : EReal) = ((Real.log (1 + Real.exp (-|a|)) : ℝ) : EReal) := by
  unfold lse
  rw [abs_coe, zero_sub, ← EReal.coe_neg, Ideal.exp_coe, ← EReal.coe_one, ← EReal.coe_add, Ideal.log_coe]
  exact if_neg (not_le.2 (by positivity))

theorem lm_coe (a : ℝ) : lm (a : EReal) = ((-(max a 0) - Real.log (1 + Real.exp (-|a|)) : ℝ) : EReal) := by
  unfold lm
  rw [lse_coe, ← EReal.coe_zero, max_coe, ← EReal.coe_sub, ← EReal.coe_sub, zero_sub]

theorem ls_coe (a : ℝ) : ls (a : EReal) = ((min a 0 - Real.log (1 + Real.exp (-|a|)) : ℝ) : EReal) := by
  unfold ls
  rw [lse_coe, ← EReal.coe_zero, min_coe, ← EReal.coe_sub]

/-- The host's log of one minus the sigmoid, written by its softplus, at a real number. -/
theorem softplus_pos (a : ℝ) :
    -(max (- -(a : EReal)) 0 + Ideal.log1p (Ideal.exp (-(max (- -(a : EReal)) (- - -(a : EReal)))))) = lm (a : EReal) := by
  rw [lm_coe, neg_neg, abs_coe, ← EReal.coe_neg, Ideal.exp_coe, Ideal.log1p, ← EReal.coe_one, ← EReal.coe_add, Ideal.log_coe,
    if_neg (not_le.2 (by positivity)), ← EReal.coe_zero, max_coe, ← EReal.coe_add, ← EReal.coe_neg]
  congr 1; ring

/-- The host's log of the sigmoid, written by its softplus, at a real number. -/
theorem softplus_neg (a : ℝ) :
    -(max (-(a : EReal)) 0 + Ideal.log1p (Ideal.exp (-(max (-(a : EReal)) (- -(a : EReal)))))) = ls (a : EReal) := by
  rw [ls_coe, ← EReal.coe_neg, abs_coe, abs_neg, ← EReal.coe_neg, Ideal.exp_coe, Ideal.log1p, ← EReal.coe_one, ← EReal.coe_add,
    Ideal.log_coe, if_neg (not_le.2 (by positivity)), ← EReal.coe_zero, max_coe, ← EReal.coe_add, ← EReal.coe_neg]
  have h : max (-a) 0 = -(min a 0) := by
    rcases le_total a 0 with h | h
    · rw [max_eq_left (by linarith), min_eq_left h]
    · rw [max_eq_right (by linarith), min_eq_right h, neg_zero]
  rw [h]
  congr 1; ring

/-! ## One head: queries and keys by their row in the sequence -/

section head

variable (z : Fin 4096 → Fin 4096 → EReal)

/-- What key `t` leaves of the stick for query `s`, in logs: zero where `t` is not before `s`. -/
def gap (s t : Fin 4096) : EReal := if t.val < s.val then lm (z s t) else 0

/-- The weight of key `t` for query `s`. -/
def wt (s t : Fin 4096) : EReal :=
  if t.val < s.val then Ideal.exp (ls (z s t) + ∑ u : Fin 4096, if t.val < u.val then gap z s u else 0) else 0

/-- The head's output. -/
def head (v : Fin 4096 → Fin 128 → EReal) (s : Fin 4096) (d : Fin 128) : EReal := ∑ t : Fin 4096, wt z s t * v t d

end head

/-- A sum over the keys from block `b` on: the keys from the next block on, then block `b`'s own. -/
theorem sum_from_block (f : Fin 4096 → EReal) (b : Nat) (hb : b < 32) :
    (∑ t : Fin 4096, if b * 128 ≤ t.val then f t else 0)
      = (∑ t : Fin 4096, if (b + 1) * 128 ≤ t.val then f t else 0)
        + ∑ x : Fin 128, f ⟨b * 128 + x.val, by have := x.isLt; omega⟩ := by
  have h1 : ∀ t : Fin 4096, (if b * 128 ≤ t.val then f t else 0)
      = (if (b + 1) * 128 ≤ t.val then f t else 0) + (if t.val / 128 = b then f t else 0) := by
    intro t
    by_cases h : (b + 1) * 128 ≤ t.val
    · rw [if_pos (by omega), if_pos h, if_neg (by omega), add_zero]
    · by_cases h' : b * 128 ≤ t.val
      · rw [if_pos h', if_neg h, if_pos (by omega), zero_add]
      · rw [if_neg h', if_neg h, if_neg (by omega), zero_add]
  rw [Finset.sum_congr rfl fun t _ => h1 t, Finset.sum_add_distrib]
  congr 1
  rw [← Finset.sum_filter]
  symm
  refine Finset.sum_bij (fun x _ => (⟨b * 128 + x.val, by have := x.isLt; omega⟩ : Fin 4096)) ?_ ?_ ?_ ?_
  · intro x _
    simp only [Finset.mem_filter, Finset.mem_univ, true_and]
    have := x.isLt; omega
  · intro x _ y _ h
    have := congrArg Fin.val h
    exact Fin.ext (by simpa using this)
  · intro t ht
    simp only [Finset.mem_filter, Finset.mem_univ, true_and] at ht
    exact ⟨⟨t.val % 128, Nat.mod_lt _ (by decide)⟩, Finset.mem_univ _, Fin.ext (by show b * 128 + t.val % 128 = t.val; omega)⟩
  · intro x _; rfl

/-- The keys after key `b * 128 + j`: those of later blocks, then the later ones of block `b`. -/
theorem sum_after (g : Fin 4096 → EReal) (b : Nat) (hb : b < 32) (j : Fin 128) :
    (∑ u : Fin 4096, if b * 128 + j.val < u.val then g u else 0)
      = (∑ u : Fin 4096, if (b + 1) * 128 ≤ u.val then g u else 0)
        + ∑ x : Fin 128, if j.val < x.val then g ⟨b * 128 + x.val, by have := x.isLt; omega⟩ else 0 := by
  have h := sum_from_block (fun u => if b * 128 + j.val < u.val then g u else 0) b hb
  have e0 : ∀ u : Fin 4096, (if b * 128 ≤ u.val then (if b * 128 + j.val < u.val then g u else 0) else 0)
      = if b * 128 + j.val < u.val then g u else 0 := by
    intro u
    by_cases hu : b * 128 + j.val < u.val
    · rw [if_pos (by omega)]
    · rw [if_neg hu, ite_self]
  have e1 : ∀ u : Fin 4096, (if (b + 1) * 128 ≤ u.val then (if b * 128 + j.val < u.val then g u else 0) else 0)
      = if (b + 1) * 128 ≤ u.val then g u else 0 := by
    intro u
    by_cases hu : (b + 1) * 128 ≤ u.val
    · rw [if_pos hu, if_pos hu, if_pos (by have := j.isLt; omega)]
    · rw [if_neg hu, if_neg hu]
  have e2 : ∀ x : Fin 128, (if b * 128 + j.val < b * 128 + x.val then g ⟨b * 128 + x.val, by have := x.isLt; omega⟩ else 0)
      = if j.val < x.val then g ⟨b * 128 + x.val, by have := x.isLt; omega⟩ else 0 := by
    intro x
    by_cases hx : j.val < x.val
    · rw [if_pos (by omega), if_pos hx]
    · rw [if_neg (by omega), if_neg hx]
  rw [Finset.sum_congr rfl fun u _ => e0 u, Finset.sum_congr rfl fun u _ => e1 u] at h
  rw [h]
  refine congrArg _ (Finset.sum_congr rfl fun x _ => e2 x)

/-- A finite sum of real numbers is a real number. -/
theorem sum_coe {ι : Type*} (S : Finset ι) (a : ι → EReal) (ha : ∀ i, ∃ r : ℝ, a i = r) : ∃ r : ℝ, ∑ i ∈ S, a i = r := by
  classical
  refine Finset.induction_on S ⟨0, by simp⟩ fun i T hi ⟨r, hr⟩ => ?_
  obtain ⟨q, hq⟩ := ha i
  exact ⟨q + r, by rw [Finset.sum_insert hi, hq, hr, EReal.coe_add]⟩

/-- A finite sum of products of real numbers is a real number. -/
theorem dot_coe {n : Nat} (a b : Fin n → EReal) (ha : ∀ i, ∃ r : ℝ, a i = r) (hb : ∀ i, ∃ r : ℝ, b i = r) :
    ∃ r : ℝ, ∑ i, a i * b i = r := by
  refine sum_coe _ _ fun i => ?_
  obtain ⟨x, hx⟩ := ha i
  obtain ⟨y, hy⟩ := hb i
  exact ⟨x * y, by rw [hx, hy, EReal.coe_mul]⟩

end Cert.Proof.Sb

end
-- ==== Proof.Sb.Payload.lean ====
/-
  The stick-breaking attention kernel's stored terms at an index: a block's logits, its suffix sums, one step of
  the accumulator and of the running sum.
-/
module

public import proofs.«01_k».proof.Proof.Gen.SbIdeal.Value
public import proofs.«01_k».proof.Proof.Sb.Stick
public import Idealize.ShloMosaic.Lib.Pointwise
public import Idealize.ShloMosaic.Lib.WordCmp

@[expose] public section

noncomputable section

namespace Cert.Proof.Sb

open Idealize.ShloMosaic Idealize.ShloMosaic.Tactic Idealize.ShloMosaic.TcCoe Cert.SbIdeal Cert.SbIdeal.Gen
open scoped BigOperators

variable (v1 : FVec Ideal S128x128 .bf16) (kb vb : Vec Ideal S1x128x128 .bf16)

/-- A block's logits. -/
theorem pay5_apply (r j : Fin 128) :
    k0_pay5 (F := Ideal) v1 kb (ix2 r j) = ∑ d : Fin 128, v1 (ix2 r d) * kb (ix3 0 j d) := by
  pointwise [k0_pay5]

/-- The `log (1 + exp (-|z|))` of a block's logits. -/
theorem pay6_apply (r j : Fin 128) :
    k0_pay6 (F := Ideal) v1 kb (ix2 r j) = lse (k0_pay5 (F := Ideal) v1 kb (ix2 r j)) := by
  generalize hz : k0_pay5 (F := Ideal) v1 kb = z
  unfold k0_pay6; rw [hz]
  pointwise []
  rfl

/-- A word comparison of two row numbers. -/
theorem slt_word (a b : Nat) (ha : a < 65536) (hb : b < 65536) :
    IntOp.cmpi .slt (BitVec.ofNat 32 a) (BitVec.ofNat 32 b) = if a < b then 1#1 else 0#1 := by
  rw [WordCmp.cmpi_slt_ofNat (lt_trans ha (by decide)) (lt_trans hb (by decide))]
  by_cases h : a < b <;> simp [h]

/-- The suffix matrix: one at the later keys of the block, and at every key in its right half. -/
theorem pay18_apply (t : Fin 128) (s : Fin 256) :
    k0_pay18 (F := Ideal) (ix2 t s) = if s.val < t.val ∨ 128 ≤ s.val then (1 : EReal) else 0 := by
  pointwise [k0_pay18]
  have hs : s.val < 256 := s.isLt
  have ht : t.val < 128 := t.isLt
  rw [WordCmp.cmpi_sgt_ofNat (w := 32) (by omega) (by omega), show (128#32) = BitVec.ofNat 32 128 from rfl,
    WordCmp.cmpi_sge_ofNat (w := 32) (by omega) (by omega)]
  by_cases h1 : s.val < t.val <;> by_cases h2 : 128 ≤ s.val <;> simp [h1, h2, Scalar.select, IntOp.ori]

/-- Multiplying by the suffix matrix, first the number then what its rounding left over, sums the later keys' real numbers. -/
theorem suffix_sum (b : Fin 128 → EReal) (hb : ∀ x, ∃ r : ℝ, b x = r) (s : Fin 256) :
    ∑ x, b x * k0_pay18 (F := Ideal) (ix2 x s) + ∑ x, (b x - b x) * k0_pay18 (F := Ideal) (ix2 x s)
      = ∑ x : Fin 128, if s.val < x.val ∨ 128 ≤ s.val then b x else 0 := by
  have h0 : ∀ x, (b x - b x) * k0_pay18 (F := Ideal) (ix2 x s) = 0 := by
    intro x
    obtain ⟨r, hr⟩ := hb x
    rw [hr, ← EReal.coe_sub, sub_self, EReal.coe_zero, zero_mul]
  rw [Finset.sum_congr rfl fun x _ => h0 x, Finset.sum_const_zero, add_zero]
  refine Finset.sum_congr rfl fun x _ => ?_
  rw [pay18_apply]
  split <;> simp

/-- The sums of a block below the diagonal. -/
theorem pay7_apply (hz : ∀ r j, ∃ x : ℝ, k0_pay5 (F := Ideal) v1 kb (ix2 r j) = x) (r : Fin 128) (s : Fin 256) :
    k0_pay7 (F := Ideal) v1 k0_pay18 kb (ix2 r s)
      = ∑ x : Fin 128, if s.val < x.val ∨ 128 ≤ s.val then lm (k0_pay5 (F := Ideal) v1 kb (ix2 r x)) else 0 := by
  have hl := pay6_apply v1 kb
  rw [← suffix_sum (fun x => lm (k0_pay5 (F := Ideal) v1 kb (ix2 r x)))
    (fun x => by obtain ⟨a, ha⟩ := hz r x; exact ⟨_, by rw [ha, lm_coe]⟩) s]
  unfold lm
  simp only [← hl]
  generalize k0_pay18 (F := Ideal) = v16
  generalize hz : k0_pay5 (F := Ideal) v1 kb = z
  generalize hl : k0_pay6 (F := Ideal) v1 kb = l
  unfold k0_pay7; rw [hz, hl]
  pointwise []

/-- One step of the accumulator below the diagonal. -/
theorem pay8_apply (hz : ∀ r j, ∃ x : ℝ, k0_pay5 (F := Ideal) v1 kb (ix2 r j) = x) (a b : FVec Ideal S128x128 .f32) (r d : Fin 128) :
    k0_pay8 (F := Ideal) v1 k0_pay18 a b kb vb (ix2 r d)
      = a (ix2 r d) + ∑ j : Fin 128, Ideal.exp (ls (k0_pay5 (F := Ideal) v1 kb (ix2 r j))
          + ((∑ x : Fin 128, if j.val < x.val then lm (k0_pay5 (F := Ideal) v1 kb (ix2 r x)) else 0) + b (ix2 r j))) * vb (ix3 0 j d) := by
  have hl := pay6_apply v1 kb
  have hs : ∀ j : Fin 128, (∑ x : Fin 128, if j.val < x.val then lm (k0_pay5 (F := Ideal) v1 kb (ix2 r x)) else 0)
      = k0_pay7 (F := Ideal) v1 k0_pay18 kb (ix2 r ⟨j.val, lt_trans j.isLt (by decide)⟩) := by
    intro j
    rw [pay7_apply v1 kb hz]
    refine Finset.sum_congr rfl fun x _ => ?_
    have : ¬ 128 ≤ j.val := by have := j.isLt; omega
    simp [this]
  simp only [hs]
  unfold ls
  simp only [← hl]
  generalize hz : k0_pay5 (F := Ideal) v1 kb = z
  generalize hl : k0_pay6 (F := Ideal) v1 kb = l
  generalize hs : k0_pay7 (F := Ideal) v1 k0_pay18 kb = s
  unfold k0_pay8; rw [hz, hl, hs]
  pointwise []

/-- One step of the running sum below the diagonal. -/
theorem pay9_apply (hz : ∀ r j, ∃ x : ℝ, k0_pay5 (F := Ideal) v1 kb (ix2 r j) = x) (b : FVec Ideal S128x128 .f32) (r j : Fin 128) :
    k0_pay9 (F := Ideal) v1 k0_pay18 b kb (ix2 r j)
      = b (ix2 r j) + ∑ x : Fin 128, lm (k0_pay5 (F := Ideal) v1 kb (ix2 r x)) := by
  have hs : (∑ x : Fin 128, lm (k0_pay5 (F := Ideal) v1 kb (ix2 r x)))
      = k0_pay7 (F := Ideal) v1 k0_pay18 kb (ix2 r ⟨128 + j.val, by have := j.isLt; omega⟩) := by
    rw [pay7_apply v1 kb hz]
    refine Finset.sum_congr rfl fun x _ => ?_
    simp
  rw [hs]
  generalize hs : k0_pay7 (F := Ideal) v1 k0_pay18 kb = s
  unfold k0_pay9; rw [hs]
  pointwise []

/-! ## The diagonal block -/

/-- The diagonal block's logits and their `log (1 + exp (-|z|))` are the other blocks' terms. -/
theorem pay22_eq (x0 : Vec Ideal S1x128x128 .bf16) : k0_pay22 (F := Ideal) x0 kb = k0_pay5 (k0_pay16 x0) kb := rfl
theorem pay23_eq (x0 : Vec Ideal S1x128x128 .bf16) : k0_pay23 (F := Ideal) x0 kb = k0_pay6 (k0_pay16 x0) kb := rfl

theorem pay16_apply (x0 : Vec Ideal S1x128x128 .bf16) (r d : Fin 128) : k0_pay16 (F := Ideal) x0 (ix2 r d) = x0 (ix3 0 r d) := by
  pointwise [k0_pay16]

theorem pay15_apply (x : FVec Ideal S128x128 .f32) (r d : Fin 128) : k0_pay15 (F := Ideal) x (ix3 0 r d) = x (ix2 r d) := by
  pointwise [k0_pay15]

/-- The causal mask of the diagonal block: the key's row is before the query's. -/
theorem pay1_apply (i : grid0.Coords) (r j : Fin 128) :
    k0_pay1 (k0_pay17 i) kernelRun0_A.sl.v6 (kernelRun0_A.sl.v21 i) (ix2 r j) = if j.val < r.val then 1#1 else 0#1 := by
  have hi : (i 2).val < 32 := (i 2).isLt
  have hr : r.val < 128 := r.isLt
  have hj : j.val < 128 := j.isLt
  have h : k0_pay1 (k0_pay17 i) kernelRun0_A.sl.v6 (kernelRun0_A.sl.v21 i) (ix2 r j)
      = IntOp.cmpi .slt (BitVec.ofNat 32 ((i 2).val * 128 + j.val)) (BitVec.ofNat 32 ((i 2).val * 128 + r.val)) := by
    unfold kernelRun0_A.sl.v6 kernelRun0_A.sl.v21 kernelRun0_A.sl.v20 kernelRun0_A.sl.v19
    pointwise [k0_pay1, k0_pay17]
    congr 1
    · apply BitVec.eq_of_toNat_eq; simp [Scalar.muli, Scalar.addi, IntOp.addi, IntOp.muli]
    · apply BitVec.eq_of_toNat_eq; simp [Scalar.muli, Scalar.addi, IntOp.addi, IntOp.muli]
  rw [h, slt_word _ _ (by omega) (by omega)]
  simp

section diag

variable (i : grid0.Coords) (x0 : Vec Ideal S1x128x128 .bf16)

/-- The diagonal block's masked logs of one minus the sigmoid. -/
abbrev gapD (r j : Fin 128) : EReal := if j.val < r.val then lm (k0_pay5 (F := Ideal) (k0_pay16 x0) kb (ix2 r j)) else 0

/-- The sums of the diagonal block. -/
theorem pay2_apply (hz : ∀ r j, ∃ x : ℝ, k0_pay5 (F := Ideal) (k0_pay16 x0) kb (ix2 r j) = x) (r : Fin 128) (s : Fin 256) :
    k0_pay2 (F := Ideal) (k0_pay17 i) kernelRun0_A.sl.v6 k0_pay18 (kernelRun0_A.sl.v21 i) (k0_pay22 x0 kb) (k0_pay23 x0 kb)
        kernelRun0_A.sl.cst_14 (ix2 r s)
      = ∑ x : Fin 128, if s.val < x.val ∨ 128 ≤ s.val then gapD kb x0 r x else 0 := by
  have hl := pay6_apply (k0_pay16 x0) kb
  rw [← suffix_sum (fun x => gapD kb x0 r x) (fun x => by
    obtain ⟨a, ha⟩ := hz r x
    by_cases h : x.val < r.val
    · exact ⟨_, by simp only [gapD, if_pos h]; rw [ha, lm_coe]⟩
    · exact ⟨0, by simp only [gapD, if_neg h]; rfl⟩) s]
  have hm := pay1_apply i r
  have hg : ∀ j : Fin 128, gapD kb x0 r j = Scalar.select (k0_pay1 (k0_pay17 i) kernelRun0_A.sl.v6 (kernelRun0_A.sl.v21 i) (ix2 r j))
      (lm (k0_pay5 (F := Ideal) (k0_pay16 x0) kb (ix2 r j))) 0 := by
    intro j
    rw [hm]
    by_cases h : j.val < r.val <;> simp [gapD, h, Scalar.select]
  simp only [hg]
  unfold lm
  simp only [← hl]
  rw [pay22_eq, pay23_eq]
  generalize k0_pay18 (F := Ideal) = v16
  generalize hz : k0_pay5 (F := Ideal) (k0_pay16 x0) kb = z
  generalize hl : k0_pay6 (F := Ideal) (k0_pay16 x0) kb = l
  generalize hmm : k0_pay1 (k0_pay17 i) kernelRun0_A.sl.v6 (kernelRun0_A.sl.v21 i) = mm
  unfold k0_pay2 kernelRun0_A.sl.cst_14; rw [hmm]
  pointwise []

/-- The accumulator after the diagonal block. -/
theorem pay3_apply (hz : ∀ r j, ∃ x : ℝ, k0_pay5 (F := Ideal) (k0_pay16 x0) kb (ix2 r j) = x) (r d : Fin 128) :
    k0_pay3 (F := Ideal) (k0_pay17 i) kernelRun0_A.sl.v6 k0_pay18 k0_pay19 k0_pay20 (kernelRun0_A.sl.v21 i) (k0_pay21 vb) (k0_pay22 x0 kb)
        (k0_pay23 x0 kb) kernelRun0_A.sl.cst_14 (ix2 r d)
      = ∑ j : Fin 128, (if j.val < r.val then Ideal.exp (ls (k0_pay5 (F := Ideal) (k0_pay16 x0) kb (ix2 r j))
          + ∑ x : Fin 128, if j.val < x.val then gapD kb x0 r x else 0) else 0) * vb (ix3 0 j d) := by
  have hl := pay6_apply (k0_pay16 x0) kb
  have hs : ∀ j : Fin 128, (∑ x : Fin 128, if j.val < x.val then gapD kb x0 r x else 0)
      = k0_pay2 (F := Ideal) (k0_pay17 i) kernelRun0_A.sl.v6 k0_pay18 (kernelRun0_A.sl.v21 i) (k0_pay22 x0 kb) (k0_pay23 x0 kb)
        kernelRun0_A.sl.cst_14 (ix2 r ⟨j.val, lt_trans j.isLt (by decide)⟩) := by
    intro j
    rw [pay2_apply kb i x0 hz]
    refine Finset.sum_congr rfl fun x _ => ?_
    have : ¬ 128 ≤ j.val := by have := j.isLt; omega
    simp [this]
  have hm := pay1_apply i r
  have hg : ∀ (j : Fin 128) (y : EReal), (if j.val < r.val then y else 0)
      = Scalar.select (k0_pay1 (k0_pay17 i) kernelRun0_A.sl.v6 (kernelRun0_A.sl.v21 i) (ix2 r j)) y 0 := by
    intro j y
    rw [hm]
    by_cases h : j.val < r.val <;> simp [h, Scalar.select]
  simp only [hs]
  simp only [hg]
  unfold ls
  simp only [← hl]
  rw [pay22_eq, pay23_eq]
  generalize hS : k0_pay2 (F := Ideal) (k0_pay17 i) kernelRun0_A.sl.v6 k0_pay18 (kernelRun0_A.sl.v21 i) (k0_pay5 (k0_pay16 x0) kb)
    (k0_pay6 (k0_pay16 x0) kb) kernelRun0_A.sl.cst_14 = S
  generalize hz : k0_pay5 (F := Ideal) (k0_pay16 x0) kb = z at hS ⊢
  generalize hl : k0_pay6 (F := Ideal) (k0_pay16 x0) kb = l at hS ⊢
  generalize hmm : k0_pay1 (k0_pay17 i) kernelRun0_A.sl.v6 (kernelRun0_A.sl.v21 i) = mm
  unfold k0_pay3; rw [hS, hmm]
  pointwise [k0_pay19, k0_pay20, k0_pay21]

/-- The running sum after the diagonal block. -/
theorem pay4_apply (hz : ∀ r j, ∃ x : ℝ, k0_pay5 (F := Ideal) (k0_pay16 x0) kb (ix2 r j) = x) (r j : Fin 128) :
    k0_pay4 (F := Ideal) (k0_pay17 i) kernelRun0_A.sl.v6 k0_pay18 k0_pay20 (kernelRun0_A.sl.v21 i) (k0_pay22 x0 kb)
        (k0_pay23 x0 kb) kernelRun0_A.sl.cst_14 (ix2 r j)
      = ∑ x : Fin 128, gapD kb x0 r x := by
  have hs : (∑ x : Fin 128, gapD kb x0 r x)
      = k0_pay2 (F := Ideal) (k0_pay17 i) kernelRun0_A.sl.v6 k0_pay18 (kernelRun0_A.sl.v21 i) (k0_pay22 x0 kb) (k0_pay23 x0 kb)
        kernelRun0_A.sl.cst_14 (ix2 r ⟨128 + j.val, by have := j.isLt; omega⟩) := by
    rw [pay2_apply kb i x0 hz]
    refine Finset.sum_congr rfl fun x _ => ?_
    simp
  rw [hs]
  generalize hS : k0_pay2 (F := Ideal) (k0_pay17 i) kernelRun0_A.sl.v6 k0_pay18 (kernelRun0_A.sl.v21 i) (k0_pay22 x0 kb) (k0_pay23 x0 kb)
    kernelRun0_A.sl.cst_14 = S
  unfold k0_pay4; rw [hS]
  pointwise [k0_pay20]

end diag

end Cert.Proof.Sb

end
-- ==== Proof.Sb.Loop.lean ====
/-
  The stick-breaking attention kernel's loop: after `n` trips the accumulator and the running sum hold the
  sums over the keys of the blocks done so far, counted from the diagonal block down.
-/
module

public import proofs.«01_k».proof.Proof.Sb.Payload
public import Idealize.ShloMosaic.Lib.Pipeline.ValueKit
public import Idealize.ShloMosaic.Lib.WholeRead

@[expose] public section

noncomputable section

namespace Cert.Proof.Sb

open Idealize.ShloMosaic Idealize.ShloMosaic.Tactic Idealize.ShloMosaic.TcCoe Cert.SbIdeal Cert.SbIdeal.Gen
open scoped BigOperators

/-! ## The loop's bounds and the rows it loads -/

theorem trips1_word : ∀ n : Fin 32, Scf.trips (0#32) (Scalar.addi (0#32) (Scalar.muli (Scalar.divsi (Scalar.subi
    (Scalar.muli (BitVec.ofNat 32 n.val) 1#32) 0#32) 1#32) 1#32)) 1#32 = n.val := by decide +kernel

theorem trips2_word : ∀ n : Fin 32, Scf.trips (Scalar.addi (0#32) (Scalar.muli (Scalar.divsi (Scalar.subi
    (Scalar.muli (BitVec.ofNat 32 n.val) 1#32) 0#32) 1#32) 1#32))
    (Scalar.addi (0#32) (Scalar.subi (Scalar.muli (BitVec.ofNat 32 n.val) 1#32) 0#32)) 1#32 = 0 := by decide +kernel

/-- The loop makes one trip per block before the diagonal one. -/
theorem trips1 (i : grid0.Coords) : (k0_t1_loop i).trips = (i 2).val := trips1_word ⟨(i 2).val, (i 2).isLt⟩

theorem off1_word : ∀ n : Fin 32, (Scalar.indexCast (Scalar.muli (Scalar.addi (Scalar.muli (BitVec.ofNat 32 n.val) 1#32) 0#32) 128#32) : Index).toNat
    = n.val * 128 := by decide +kernel

theorem off2_word : ∀ n k : Fin 32, k.val < n.val → (Scalar.indexCast (Scalar.muli (Scalar.subi (Scalar.subi (Scalar.muli
    (BitVec.ofNat 32 n.val) 1#32) 1#32) (Scf.iv 0#32 1#32 k.val)) 128#32) : Index).toNat = (n.val - 1 - k.val) * 128 := by decide +kernel

/-- The diagonal block's first row. -/
theorem off1_eq (i : grid0.Coords) : k0_off1 i = ![0, (i 2).val * 128, 0] := by
  have h := off1_word ⟨(i 2).val, (i 2).isLt⟩
  unfold k0_off1
  dsimp only
  exact congrArg (fun x : Nat => (![0, x, 0] : Fin 3 → Nat)) h

/-- The first row of the block that trip `k` loads. -/
theorem off2_eq (i : grid0.Coords) (k : Fin (k0_t1_loop i).trips) : k0_off2 i k = ![0, ((i 2).val - 1 - k.val) * 128, 0] := by
  have hk : k.val < (i 2).val := lt_of_lt_of_eq k.isLt (trips1 i)
  have h := off2_word ⟨(i 2).val, (i 2).isLt⟩ ⟨k.val, lt_trans hk (i 2).isLt⟩ hk
  unfold k0_off2
  dsimp only
  exact congrArg (fun x : Nat => (![0, x, 0] : Fin 3 → Nat)) h

/-- A block load of the whole sequence's rows, at an index. -/
theorem read_rows (arg4 : Memref sig .tc .vmem S1x4096x128 .bf16) (harg4 : arg4.IsWhole) (x1 : Vec Ideal S1x4096x128 .bf16)
    (off : Fin 3 → Nat) (h : _) (b : Nat) (hb : b < 32) (ho : off = ![0, b * 128, 0]) (j d : Fin 128) :
    View.readAt (Elt Ideal) arg4.view (Rect.unit (s := S1x4096x128) off S1x128x128.size h).toLoadRect (harg4.unread x1) (ix3 0 j d)
      = x1 (ix3 0 ⟨b * 128 + j.val, by have := j.isLt; omega⟩ d) := by
  subst ho
  refine (harg4.readAt_unread x1 _ _).trans (congrArg x1 ?_)
  funext a
  apply Fin.ext
  match a with
  | ⟨0, _⟩ => rfl
  | ⟨1, _⟩ => show b * 128 + 1 * j.val = b * 128 + j.val; omega
  | ⟨2, _⟩ => show 0 + 1 * d.val = d.val; omega

section loop

variable (c : Dev nD) (i : grid0.Coords) (arg3 : Memref sig .tc .vmem S1x128x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x128x128 .bf16) (harg6 : arg6.IsWhole)
  (x0 : Vec Ideal S1x128x128 .bf16) (x1 x2 : Vec Ideal S1x4096x128 .bf16)
  (z : Fin 4096 → Fin 4096 → EReal)

/-- The row in the sequence of the tile's row `r`. -/
abbrev row (r : Fin 128) : Fin 4096 := ⟨(i 2).val * 128 + r.val, by have h : (i 2).val < 32 := (i 2).isLt; have := r.isLt; omega⟩

/-- The row in the sequence of row `j` of block `b`. -/
abbrev key (b : Nat) (hb : b < 32) (j : Fin 128) : Fin 4096 := ⟨b * 128 + j.val, by have := j.isLt; omega⟩

variable (hz : ∀ (r : Fin 128) (t : Fin 4096), z (row i r) t = ∑ d : Fin 128, x0 (ix3 0 r d) * x1 (ix3 0 t d))
  (hr : ∀ s t, ∃ x : ℝ, z s t = x)

include hz in
/-- A block's logits are the sequence's. -/
theorem logit (b : Nat) (hb : b < 32) (kb : Vec Ideal S1x128x128 .bf16) (hk : ∀ j d, kb (ix3 0 j d) = x1 (ix3 0 (key b hb j) d)) (r j : Fin 128) :
    k0_pay5 (F := Ideal) (k0_pay16 x0) kb (ix2 r j) = z (row i r) (key b hb j) := by
  rw [pay5_apply, hz]
  exact Finset.sum_congr rfl fun d _ => by rw [pay16_apply, hk]

/-- What the run finds of a trip: one step of the two carried tiles. -/
theorem trip_eq (v1 : FVec Ideal S128x128 .bf16) (k : Fin (k0_t1_loop i).trips) (acc : FVec Ideal S128x128 .f32 × FVec Ideal S128x128 .f32) :
    ∃ kb vb : Vec Ideal S1x128x128 .bf16,
      (∀ (hb : (i 2).val - 1 - k.val < 32) (j d : Fin 128), kb (ix3 0 j d) = x1 (ix3 0 (key ((i 2).val - 1 - k.val) hb j) d))
      ∧ (∀ (hb : (i 2).val - 1 - k.val < 32) (j d : Fin 128), vb (ix3 0 j d) = x2 (ix3 0 (key ((i 2).val - 1 - k.val) hb j) d))
      ∧ tripR_k0_t1 Variants.none c none i arg3 harg3 arg4 harg4 arg5 harg5 arg6 harg6 v1 k0_pay18 (harg4.unread x1) (harg5.unread x2) k acc
        = (k0_pay8 v1 k0_pay18 acc.1 acc.2 kb vb, k0_pay9 v1 k0_pay18 acc.2 kb) := by
  refine ⟨_, _, ?_, ?_, by unfold tripR_k0_t1 trip_k0_t1; rfl⟩
  · exact fun hb j d => read_rows arg4 harg4 x1 _ _ _ hb (off2_eq i k) j d
  · exact fun hb j d => read_rows arg5 harg5 x2 _ _ _ hb (off2_eq i k) j d

include hz hr in
/-- The two carried tiles after `n` trips, from what the diagonal block leaves: the sums over the keys from block `(i 2) - n` on. -/
theorem st_apply (init : FVec Ideal S128x128 .f32 × FVec Ideal S128x128 .f32)
    (h1 : ∀ r d, init.1 (ix2 r d) = ∑ t : Fin 4096, if (i 2).val * 128 ≤ t.val then wt z (row i r) t * x2 (ix3 0 t d) else 0)
    (h2 : ∀ r j, init.2 (ix2 r j) = ∑ t : Fin 4096, if (i 2).val * 128 ≤ t.val then gap z (row i r) t else 0) :
    ∀ n ≤ (i 2).val,
      (∀ r d, (st_k0_t1 Variants.none c none i arg3 harg3 arg4 harg4 arg5 harg5 arg6 harg6 (k0_pay16 x0) k0_pay18 (harg4.unread x1) (harg5.unread x2)
          init n).1 (ix2 r d) = ∑ t : Fin 4096, if ((i 2).val - n) * 128 ≤ t.val then wt z (row i r) t * x2 (ix3 0 t d) else 0)
      ∧ (∀ r j, (st_k0_t1 Variants.none c none i arg3 harg3 arg4 harg4 arg5 harg5 arg6 harg6 (k0_pay16 x0) k0_pay18 (harg4.unread x1) (harg5.unread x2)
          init n).2 (ix2 r j) = ∑ t : Fin 4096, if ((i 2).val - n) * 128 ≤ t.val then gap z (row i r) t else 0) := by
  intro n
  induction n with
  | zero => intro _; rw [st_k0_t1_zero]; exact ⟨h1, h2⟩
  | succ n ih =>
    intro hn
    obtain ⟨ih1, ih2⟩ := ih (by omega)
    have hi : (i 2).val < 32 := (i 2).isLt
    have hk : n < (k0_t1_loop i).trips := by rw [trips1]; omega
    rw [st_k0_t1_succ (F := Ideal) Variants.none c none i arg3 harg3 arg4 harg4 arg5 harg5 arg6 harg6 (k0_pay16 x0) k0_pay18 (harg4.unread x1)
      (harg5.unread x2) init ⟨n, hk⟩]
    generalize st_k0_t1 (F := Ideal) Variants.none c none i arg3 harg3 arg4 harg4 arg5 harg5 arg6 harg6 (k0_pay16 x0) k0_pay18 (harg4.unread x1)
      (harg5.unread x2) init n = S at ih1 ih2
    obtain ⟨kb, vb, hkb, hvb, he⟩ := trip_eq c i arg3 harg3 arg4 harg4 arg5 harg5 arg6 harg6 x1 x2 (k0_pay16 x0) ⟨n, hk⟩ S
    rw [he]
    dsimp only at hkb hvb ⊢
    obtain ⟨b, hb⟩ : ∃ b, b = (i 2).val - 1 - n := ⟨_, rfl⟩
    have hb32 : b < 32 := by omega
    rw [← hb] at hkb hvb
    have e1 : (i 2).val - n = b + 1 := by omega
    have e2 : (i 2).val - (n + 1) = b := by omega
    rw [e1] at ih1 ih2
    rw [e2]
    have hl := logit i x0 x1 z hz b hb32 kb (hkb hb32)
    have hzr : ∀ r j, ∃ x : ℝ, k0_pay5 (F := Ideal) (k0_pay16 x0) kb (ix2 r j) = x := fun r j => by rw [hl]; exact hr _ _
    have hg : ∀ r x, gap z (row i r) (key b hb32 x) = lm (z (row i r) (key b hb32 x)) := by
      intro r x
      unfold gap
      exact if_pos (by show b * 128 + x.val < (i 2).val * 128 + r.val; have := x.isLt; omega)
    constructor
    · intro r d
      rw [pay8_apply _ _ _ hzr, ih1, sum_from_block (fun t => wt z (row i r) t * x2 (ix3 0 t d)) b hb32]
      refine congrArg _ (Finset.sum_congr rfl fun j _ => ?_)
      rw [hvb hb32]
      refine congrArg (· * x2 (ix3 0 (key b hb32 j) d)) ?_
      unfold wt
      rw [if_pos (by show b * 128 + j.val < (i 2).val * 128 + r.val; have := j.isLt; omega), sum_after (gap z (row i r)) b hb32 j, ih2,
        hl, add_comm (∑ t : Fin 4096, _)]
      simp only [hl]
      refine congrArg (fun y => Ideal.exp (_ + (y + _))) (Finset.sum_congr rfl fun x _ => ?_)
      rw [← hg r x]
    · intro r j
      rw [pay9_apply _ _ hzr, ih2, sum_from_block (gap z (row i r)) b hb32]
      refine congrArg _ (Finset.sum_congr rfl fun x _ => ?_)
      rw [hl, ← hg r x]

/-- Keys of blocks after the diagonal one leave nothing. -/
theorem later_zero (f : Fin 4096 → EReal) (r : Fin 128) (hf : ∀ t : Fin 4096, ¬ t.val < (row i r).val → f t = 0) :
    (∑ t : Fin 4096, if ((i 2).val + 1) * 128 ≤ t.val then f t else 0) = 0 := by
  refine Finset.sum_eq_zero fun t _ => ?_
  by_cases h : ((i 2).val + 1) * 128 ≤ t.val
  · rw [if_pos h]
    exact hf t (by show ¬ t.val < (i 2).val * 128 + r.val; have := r.isLt; omega)
  · exact if_neg h

theorem gap_zero (s t : Fin 4096) (h : ¬ t.val < s.val) : gap z s t = 0 := if_neg h
theorem wt_zero (s t : Fin 4096) (h : ¬ t.val < s.val) : wt z s t = 0 := if_neg h

include hz hr in
/-- The diagonal block leaves the sums over the keys from it on. -/
theorem init_apply (kb vb : Vec Ideal S1x128x128 .bf16) (hkb : ∀ j d, kb (ix3 0 j d) = x1 (ix3 0 (key (i 2).val (i 2).isLt j) d))
    (hvb : ∀ j d, vb (ix3 0 j d) = x2 (ix3 0 (key (i 2).val (i 2).isLt j) d)) :
    (∀ r d, k0_pay3 (F := Ideal) (k0_pay17 i) kernelRun0_A.sl.v6 k0_pay18 k0_pay19 k0_pay20 (kernelRun0_A.sl.v21 i) (k0_pay21 vb) (k0_pay22 x0 kb)
        (k0_pay23 x0 kb) kernelRun0_A.sl.cst_14 (ix2 r d)
        = ∑ t : Fin 4096, if (i 2).val * 128 ≤ t.val then wt z (row i r) t * x2 (ix3 0 t d) else 0)
    ∧ (∀ r j, k0_pay4 (F := Ideal) (k0_pay17 i) kernelRun0_A.sl.v6 k0_pay18 k0_pay20 (kernelRun0_A.sl.v21 i) (k0_pay22 x0 kb)
        (k0_pay23 x0 kb) kernelRun0_A.sl.cst_14 (ix2 r j)
        = ∑ t : Fin 4096, if (i 2).val * 128 ≤ t.val then gap z (row i r) t else 0) := by
  have hb32 : (i 2).val < 32 := (i 2).isLt
  have hl := logit i x0 x1 z hz (i 2).val hb32 kb hkb
  have hzr : ∀ r j, ∃ x : ℝ, k0_pay5 (F := Ideal) (k0_pay16 x0) kb (ix2 r j) = x := fun r j => by rw [hl]; exact hr _ _
  have hlt : ∀ r j : Fin 128, ((key (i 2).val hb32 j).val < (row i r).val) ↔ j.val < r.val := by
    intro r j
    show (i 2).val * 128 + j.val < (i 2).val * 128 + r.val ↔ _
    omega
  have hg : ∀ r x, gapD kb x0 r x = gap z (row i r) (key (i 2).val hb32 x) := by
    intro r x
    unfold gap
    simp only [gapD, hl, hlt]
  constructor
  · intro r d
    rw [pay3_apply _ _ _ _ hzr, sum_from_block (fun t => wt z (row i r) t * x2 (ix3 0 t d)) (i 2).val hb32,
      later_zero i _ r fun t ht => by rw [wt_zero _ _ _ ht, zero_mul], zero_add]
    refine Finset.sum_congr rfl fun j _ => ?_
    rw [hvb]
    refine congrArg (· * x2 (ix3 0 (key (i 2).val hb32 j) d)) ?_
    unfold wt
    rw [sum_after (gap z (row i r)) (i 2).val hb32 j, later_zero i _ r fun t ht => gap_zero _ _ _ ht, zero_add, hl]
    simp only [hg, hlt]
  · intro r j
    rw [pay4_apply _ _ _ hzr, sum_from_block (gap z (row i r)) (i 2).val hb32, later_zero i _ r fun t ht => gap_zero _ _ _ ht, zero_add]
    exact Finset.sum_congr rfl fun x _ => hg r x

theorem hz3 : (![0, 0, 0] : Fin 3 → Nat) = fun _ => 0 := funext fun a => by fin_cases a <;> rfl

include hz hr in
/-- The block the kernel's body stores. -/
theorem out_apply (r d : Fin 128) :
    out0_A_3 c i arg3 harg3 arg4 harg4 arg5 harg5 arg6 harg6 x0 x1 x2 (ix3 0 r d)
      = head z (fun t d => x2 (ix3 0 t d)) (row i r) d := by
  unfold out0_A_3
  rw [View.read_writes_eq_canon _ _ _ (cover0_A_3 c i arg3 harg3 arg4 harg4 arg5 harg5 arg6 harg6 x0 x1 x2)]
  unfold kernelRun0_A kernelRun0_A.sl.r kernelRun0_A.sl.r_1 kernelRun0_A.sl.r_2 kernelRun0_A.sl.r_3
  dsimp only
  rw [View.canon_unit_zero hz3, pay15_apply, trips2_word ⟨(i 2).val, (i 2).isLt⟩, trips1_word ⟨(i 2).val, (i 2).isLt⟩]
  have hx0 : ∀ h, View.readAt (Elt Ideal) arg3.view (Rect.unit (s := S1x128x128) ![0, 0, 0] S1x128x128.size h).toLoadRect (harg3.unread x0) = x0 := by
    intro h
    funext x
    refine (harg3.readAt_unread x0 _ _).trans (congrArg x0 ?_)
    funext a
    fin_cases a <;> exact Fin.ext (by show 0 + 1 * _ = _; omega)
  rw [hx0, st_k0_t2_zero]
  obtain ⟨i1, i2⟩ := init_apply i x0 x1 x2 z hz hr _ _ (fun j d => read_rows arg4 harg4 x1 _ _ _ (i 2).isLt (off1_eq i) j d)
    (fun j d => read_rows arg5 harg5 x2 _ _ _ (i 2).isLt (off1_eq i) j d)
  refine ((st_apply c i arg3 harg3 arg4 harg4 arg5 harg5 arg6 harg6 x0 x1 x2 z hz hr _ i1 i2 (i 2).val le_rfl).1 r d).trans ?_
  unfold head
  exact Finset.sum_congr rfl fun t _ => if_pos (by omega)

end loop

end Cert.Proof.Sb

end
-- ==== Proof.Sb.Value.lean ====
/-
  The stick-breaking attention's result array, element by element over the extended reals.
-/
module

public import proofs.«01_k».proof.Proof.Gen.SbIdeal.Value
public import proofs.«01_k».proof.Proof.Sb.Loop
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.Sb

open Idealize.ShloMosaic Idealize.ShloMosaic.Tactic Idealize.ShloMosaic.TcCoe Cert.SbIdeal Cert.SbIdeal.Gen
open scoped BigOperators

variable (m : (ℓ : Loc nD τ sig) → Buf (Elt Ideal) ℓ) (c : Dev nD)

/-- The argument: queries, keys and values side by side. -/
abbrev X (b : Fin 8) (s : Fin 4096) (k : Fin 3072) : EReal := (m ((c : Thread nD τ).loc main_arg0) : Vec Ideal S8x4096x3072 .bf16) (ix3 b s k)

/-- Head `h`'s lane `d` of the group of lanes that starts at `o`. -/
abbrev lane (o : Nat) (ho : o ≤ 2048) (h : Fin 8) (d : Fin 128) : Fin 3072 := ⟨o + h.val * 128 + d.val, by have := h.isLt; have := d.isLt; omega⟩

/-- A head's logits. -/
def zz (b h : Fin 8) (s t : Fin 4096) : EReal :=
  ∑ d : Fin 128, X m c b s ⟨h.val * 128 + d.val, by have := h.isLt; have := d.isLt; omega⟩ * X m c b t (lane 1024 (by omega) h d)

/-- The whole result: each head's output in its 128 lanes. -/
def out : Vec Ideal S8x4096x1024 .bf16 := fun i =>
  head (zz m c (i 0) ⟨(i 2).val / 128, by have h : (i 2).val < 1024 := (i 2).isLt; omega⟩)
    (fun t d => X m c (i 0) t (lane 2048 le_rfl ⟨(i 2).val / 128, by have h : (i 2).val < 1024 := (i 2).isLt; omega⟩ d)) (i 1)
    ⟨(i 2).val % 128, Nat.mod_lt _ (by decide)⟩

theorem idx0 : ∀ t : Fin cfg0.N, win0_0.index t = ![t.val / 256, t.val % 32, t.val / 32 % 8] := (by decide +kernel : ∀ t : Fin grid0.N, _)
theorem idx1 : ∀ t : Fin cfg0.N, win0_1.index t = ![t.val / 256, 0, 8 + t.val / 32 % 8] := (by decide +kernel : ∀ t : Fin grid0.N, _)
theorem idx2 : ∀ t : Fin cfg0.N, win0_2.index t = ![t.val / 256, 0, 16 + t.val / 32 % 8] := (by decide +kernel : ∀ t : Fin grid0.N, _)
theorem idx3 : ∀ t : Fin cfg0.N, win0_3.index t = ![t.val / 256, t.val % 32, t.val / 32 % 8] := (by decide +kernel : ∀ t : Fin grid0.N, _)
theorem coord2 : ∀ t : Fin cfg0.N, ((grid0.coords t) 2).val = t.val % 32 := (by decide +kernel : ∀ t : Fin grid0.N, _)

theorem lt_N (t : Fin cfg0.N) : t.val < 2048 := by have h1 : t.val < cfg0.N := t.isLt; have h2 : cfg0.N = 2048 := N_0; omega

/-- The grid point's batch row and head. -/
abbrev bt (t : Fin cfg0.N) : Fin 8 := ⟨t.val / 256, by have := lt_N t; omega⟩
abbrev hd (t : Fin cfg0.N) : Fin 8 := ⟨t.val / 32 % 8, Nat.mod_lt _ (by decide)⟩

theorem blk_q (t : Fin cfg0.N) (r : Fin 128) (d : Fin 128) :
    (iblk m c 0 t : Vec Ideal S1x128x128 .bf16) (ix3 0 r d)
      = X m c (bt t) ⟨t.val % 32 * 128 + r.val, by have := r.isLt; omega⟩ ⟨(hd t).val * 128 + d.val, by have := (hd t).isLt; have := d.isLt; omega⟩ := by
  blk_simp [iblk]
  rw [V_main_arg0]
  refine congrArg (m ((c : Thread nD τ).loc main_arg0) : Vec Ideal S8x4096x3072 .bf16) ?_
  blk_ext [idx0]

theorem blk_k (t : Fin cfg0.N) (u : Fin 4096) (d : Fin 128) :
    (iblk m c 1 t : Vec Ideal S1x4096x128 .bf16) (ix3 0 u d) = X m c (bt t) u (lane 1024 (by omega) (hd t) d) := by
  blk_simp [iblk]
  rw [V_main_arg0]
  refine congrArg (m ((c : Thread nD τ).loc main_arg0) : Vec Ideal S8x4096x3072 .bf16) ?_
  blk_ext [idx1]

theorem blk_v (t : Fin cfg0.N) (u : Fin 4096) (d : Fin 128) :
    (iblk m c 2 t : Vec Ideal S1x4096x128 .bf16) (ix3 0 u d) = X m c (bt t) u (lane 2048 le_rfl (hd t) d) := by
  blk_simp [iblk]
  rw [V_main_arg0]
  refine congrArg (m ((c : Thread nD τ).loc main_arg0) : Vec Ideal S8x4096x3072 .bf16) ?_
  blk_ext [idx2]

/-- The result array, where every logit is a real number. -/
theorem final (hr : ∀ b h s t, ∃ x : ℝ, zz m c b h s t = x) : (dats m 0 c).arrAt 3 cfg0.N = out m c := by
  refine (dats m 0 c).arrAt_eq_of_covers 3 _ (by decide +kernel) fun t hf y => ?_
  obtain ⟨a, r, d, rfl⟩ : ∃ (a : Fin 1) (r : Fin 128) (d : Fin 128), y = ix3 a r d := ⟨y 0, y 1, y 2, eq_ix3 y⟩
  obtain rfl : a = 0 := Subsingleton.elim _ _
  have hN := lt_N t
  have he : ((cfg0.win 3).blk t).view.emb (ix3 0 r d) = (ix3 (bt t) ⟨t.val % 32 * 128 + r.val, by have := r.isLt; omega⟩
      ⟨(hd t).val * 128 + d.val, by have := (hd t).isLt; have := d.isLt; omega⟩ : S8x4096x1024.Idx) := by
    blk_ext [idx3]
  rw [he]
  blk_simp
  rw [after0_3]
  simp only [outsAt0]
  have hrow : ∀ r : Fin 128, row (grid0.coords t) r = ⟨t.val % 32 * 128 + r.val, by have := r.isLt; omega⟩ := fun r =>
    Fin.ext (by show ((grid0.coords t) 2).val * 128 + r.val = _; rw [coord2])
  refine (out_apply c (grid0.coords t) (ms0_0 t) (hs0_0 t) (ms0_1 t) (hs0_1 t) (ms0_2 t) (hs0_2 t) (ms0_3 t) (hs0_3 t) (iblk m c 0 t)
    (iblk m c 1 t) (iblk m c 2 t) (zz m c (bt t) (hd t)) ?_ (hr (bt t) (hd t)) r d).trans ?_
  · intro r u
    rw [hrow]
    exact Finset.sum_congr rfl fun d _ => by rw [blk_q, blk_k]
  · have e1 : (⟨((hd t).val * 128 + d.val) / 128, by have := (hd t).isLt; have := d.isLt; omega⟩ : Fin 8) = hd t :=
      Fin.ext (by show ((hd t).val * 128 + d.val) / 128 = (hd t).val; have := d.isLt; omega)
    have e2 : (⟨((hd t).val * 128 + d.val) % 128, Nat.mod_lt _ (by decide)⟩ : Fin 128) = d :=
      Fin.ext (by show ((hd t).val * 128 + d.val) % 128 = d.val; have := d.isLt; omega)
    show _ = head (zz m c (bt t) ⟨((hd t).val * 128 + d.val) / 128, _⟩) (fun u d' => X m c (bt t) u (lane 2048 le_rfl ⟨((hd t).val * 128 + d.val) / 128, _⟩ d'))
      ⟨t.val % 32 * 128 + r.val, _⟩ ⟨((hd t).val * 128 + d.val) % 128, _⟩
    rw [e1, e2, hrow]
    unfold head
    exact Finset.sum_congr rfl fun u _ => by dsimp only; rw [blk_v]

end Cert.Proof.Sb

end
-- ==== Proof.Sb.Ref.lean ====
/-
  The stick-breaking attention as the reference writes it, element by element over the extended reals: the logits, the
  log-sigmoids, the suffix sums it takes of the masked gaps, the weights and the weighted sum of the values.
-/
module

public import proofs.«01_k».proof.Proof.Gen.SbRefIdeal.Read
public import proofs.«01_k».proof.Proof.Sb.Stick
public import Idealize.ShloMosaic.Lib.Pointwise
public import Idealize.ShloMosaic.Lib.WordCmp

@[expose] public section

set_option maxRecDepth 16384

noncomputable section

namespace Cert.Proof.Sb.Ref

open Idealize.ShloMosaic Idealize.ShloMosaic.Tactic Idealize.ShloMosaic.TcCoe Cert.SbRefIdeal Cert.SbRefIdeal.Gen Cert.SbRefIdeal.Read
open scoped BigOperators

variable (x : Vec Ideal S8x4096x3072 .bf16)

/-- A head's query, key and value at a row and a lane: three groups of 1024 lanes, a head's 128 side by side. -/
abbrev qry (b h : Fin 8) (s : Fin 4096) (d : Fin 128) : EReal := x (ix3 b s ⟨h.val * 128 + d.val, by have := h.isLt; have := d.isLt; omega⟩)
abbrev ky (b h : Fin 8) (s : Fin 4096) (d : Fin 128) : EReal := x (ix3 b s ⟨1024 + h.val * 128 + d.val, by have := h.isLt; have := d.isLt; omega⟩)
abbrev vl (b h : Fin 8) (s : Fin 4096) (d : Fin 128) : EReal := x (ix3 b s ⟨2048 + h.val * 128 + d.val, by have := h.isLt; have := d.isLt; omega⟩)

/-- A head's logits. -/
def logits (b h : Fin 8) (s t : Fin 4096) : EReal := ∑ d : Fin 128, qry x b h s d * ky x b h t d

theorem q_apply (b h : Fin 8) (s : Fin 4096) (d : Fin 128) : val_main_v4 (F := Ideal) x (ix4 b h s d) = qry x b h s d := by
  pointwise [val_main_v4, val_main_v3, val_main_v2, val_main_v1, val_main_v0]

theorem k_apply (b h : Fin 8) (s : Fin 4096) (d : Fin 128) : val_main_v7 (F := Ideal) x (ix4 b h s d) = ky x b h s d := by
  pointwise [val_main_v7, val_main_v6, val_main_v5, val_main_v1, val_main_v0]

theorem v_apply (b h : Fin 8) (s : Fin 4096) (d : Fin 128) : val_main_v10 (F := Ideal) x (ix4 b h s d) = vl x b h s d := by
  pointwise [val_main_v10, val_main_v9, val_main_v8, val_main_v1, val_main_v0]

theorem z_apply (b h : Fin 8) (s t : Fin 4096) : val_main_v11 (F := Ideal) x (ix4 b h s t) = logits x b h s t := by
  have e : val_main_v11 (F := Ideal) x (ix4 b h s t)
      = ∑ d : Fin 128, val_main_v4 (F := Ideal) x (ix4 b h s d) * val_main_v7 (F := Ideal) x (ix4 b h t d) := by
    generalize hq : val_main_v4 (F := Ideal) x = q
    generalize hk : val_main_v7 (F := Ideal) x = k
    unfold val_main_v11
    rw [hq, hk]
    pointwise []
  rw [e]
  exact Finset.sum_congr rfl fun d _ => by rw [q_apply, k_apply]

/-- The mask: the key lies before the query. -/
theorem mask_apply (s t : Fin 4096) : val_main_v18 (F := Ideal) (ix2 s t) = BitVec.ofBool (decide (t.val < s.val)) := by
  have h : val_main_v18 (F := Ideal) (ix2 s t) = IntOp.cmpi .slt (BitVec.ofNat 32 t.val) (BitVec.ofNat 32 s.val) := by
    pointwise [val_main_v18, val_main_v17, val_main_v16, val_main_v15, val_main_v14, val_main_v13, val_main_v12]
  rw [h, WordCmp.cmpi_slt_ofNat (w := 32) (by have := t.isLt; omega) (by have := s.isLt; omega)]

theorem select_mask (p : Prop) [Decidable p] (a b : EReal) : Scalar.select (BitVec.ofBool (decide p)) a b = if p then a else b := by
  by_cases h : p <;> simp [h, Scalar.select]

/-- The masked gap. -/
theorem gap_apply (b h : Fin 8) (s t : Fin 4096) (a : ℝ) (ha : logits x b h s t = a) :
    val_main_v21 (F := Ideal) x (ix4 b h s t) = gap (logits x b h) s t := by
  have hz := z_apply x b h s t
  have hm := mask_apply s t
  rw [ha] at hz
  unfold gap
  rw [ha, ← softplus_pos, ← select_mask, ← hm]
  generalize hzz : val_main_v11 (F := Ideal) x = z at hz
  generalize hmm : val_main_v18 (F := Ideal) = m
  unfold val_main_v21 val_main_v20 val_main_call0_v1 val_main_call0_call0_v11 val_main_call0_call0_v10 val_main_call0_call0_v9
    val_main_call0_call0_v8 val_main_call0_call0_v7 val_main_call0_call0_v6 val_main_call0_call0_v5 val_main_call0_call0_v4
    val_main_call0_call0_v3 val_main_call0_call0_v2 val_main_call0_call0_v1 val_main_call0_call0_v0 val_main_call0_v0 val_main_v19
    val_main_call0_call0_cst val_main_call1_v2 val_main_call1_v1 val_main_call1_v0 val_main_cst
  rw [hzz, hmm]
  pointwise []
  rw [hz, if_neg (fun h => h rfl)]
  exact congrArg (Scalar.select (m (ix2 s t)) _) (Ideal.ofBits_zero_f32)

/-- The weights. -/
theorem wt_apply (b h : Fin 8) (s t : Fin 4096) (a : ℝ) (ha : logits x b h s t = a)
    (hc : val_main_v23 (F := Ideal) x (ix4 b h s t) = ∑ u : Fin 4096, if t.val < u.val then gap (logits x b h) s u else 0) :
    val_main_v27 (F := Ideal) x (ix4 b h s t) = wt (logits x b h) s t := by
  have hz := z_apply x b h s t
  have hm := mask_apply s t
  rw [ha] at hz
  unfold wt
  rw [ha, ← softplus_neg, ← select_mask, ← hm, ← hc]
  generalize hzz : val_main_v11 (F := Ideal) x = z at hz
  generalize hmm : val_main_v18 (F := Ideal) = m
  generalize hcc : val_main_v23 (F := Ideal) x = c
  unfold val_main_v27 val_main_call4_v2 val_main_call4_v1 val_main_call4_v0 val_main_cst_0 val_main_v26 val_main_v25 val_main_v24
    val_main_call3_v1 val_main_call3_call0_v11 val_main_call3_call0_v10 val_main_call3_call0_v9 val_main_call3_call0_v8
    val_main_call3_call0_v7 val_main_call3_call0_v6 val_main_call3_call0_v5 val_main_call3_call0_v4 val_main_call3_call0_v3
    val_main_call3_call0_v2 val_main_call3_call0_v1 val_main_call3_call0_v0 val_main_call3_call0_cst val_main_call3_v0
  rw [hzz, hmm, hcc]
  pointwise []
  rw [hz, if_neg (fun h => h rfl)]
  have h0 : (id (constant (F := Ideal) S_ .f32 0#32) ix0 : EReal) = 0 := Ideal.ofBits_zero_f32
  rw [h0]
  rfl

/-- A sum taken term by term from the left. -/
theorem foldl_add {ι : Type*} (f : ι → EReal) (L : List ι) (r : EReal) : L.foldl (fun r n => r + f n) r = r + (L.map f).sum := by
  induction L generalizing r with
  | nil => simp
  | cons a L ih => rw [List.foldl_cons, ih, List.map_cons, List.sum_cons, add_assoc]

/-- A window over the last axis only: its indices are that axis's. -/
theorem sum_window (f : Fin 4096 → EReal) : ∑ w : (⟨4, ![1, 1, 1, 4096]⟩ : Shape).Idx, f (w 3) = ∑ u : Fin 4096, f u := by
  symm
  refine Finset.sum_bij (fun u _ => (ix4 0 0 0 u : (⟨4, ![1, 1, 1, 4096]⟩ : Shape).Idx)) (fun _ _ => Finset.mem_univ _) ?_ ?_ (fun _ _ => rfl)
  · intro a _ b _ h
    exact congrFun h 3
  · intro w _
    refine ⟨w 3, Finset.mem_univ _, ?_⟩
    funext a
    fin_cases a
    · exact (Subsingleton.elim (α := Fin 1) _ _)
    · exact (Subsingleton.elim (α := Fin 1) _ _)
    · exact (Subsingleton.elim (α := Fin 1) _ _)
    · rfl

/-- A suffix sum by distance is the one by position. -/
theorem sum_shift (f : Fin 4096 → EReal) (t : Fin 4096) :
    (∑ u : Fin 4096, if h : t.val + u.val < 4096 then f ⟨t.val + u.val, h⟩ else 0) = ∑ v : Fin 4096, if t.val ≤ v.val then f v else 0 := by
  rw [← Finset.sum_filter]
  have e : (∑ u : Fin 4096, if h : t.val + u.val < 4096 then f ⟨t.val + u.val, h⟩ else 0)
      = ∑ u ∈ Finset.univ.filter (fun u : Fin 4096 => t.val + u.val < 4096), if h : t.val + u.val < 4096 then f ⟨t.val + u.val, h⟩ else 0 := by
    rw [Finset.sum_filter]
    refine Finset.sum_congr rfl fun u _ => ?_
    by_cases h : t.val + u.val < 4096
    · rw [if_pos h]
    · rw [if_neg h, dif_neg h]
  rw [e]
  refine Finset.sum_bij (fun u hu => (⟨t.val + u.val, (Finset.mem_filter.1 hu).2⟩ : Fin 4096)) ?_ ?_ ?_ ?_
  · intro u hu
    exact Finset.mem_filter.2 ⟨Finset.mem_univ _, Nat.le_add_right _ _⟩
  · intro u hu w hw h
    have := congrArg Fin.val h
    exact Fin.ext (by simpa using this)
  · intro v hv
    have hv' := (Finset.mem_filter.1 hv).2
    exact ⟨⟨v.val - t.val, by have := v.isLt; omega⟩, Finset.mem_filter.2 ⟨Finset.mem_univ _, by show t.val + (v.val - t.val) < 4096; have := v.isLt; omega⟩,
      Fin.ext (by show t.val + (v.val - t.val) = v.val; omega)⟩
  · intro u hu
    exact dif_pos (Finset.mem_filter.1 hu).2

/-- The reversed running sum: at a key, the sum over that key and the later ones. -/
theorem suffix_apply (b h : Fin 8) (s t : Fin 4096) :
    val_main_v22 (F := Ideal) x (ix4 b h s t)
      = ∑ u : Fin 4096, if t.val ≤ u.val then val_main_v21 (F := Ideal) x (ix4 b h s u) else 0 := by
  generalize hz : val_main_v21 (F := Ideal) x = z
  unfold val_main_v22 Host.reduceWindowAdd
  rw [hz]
  simp only [Ideal.hostReduceWindowAdd_def]
  unfold Ideal.hostReduceWindowAdd Host.reduceWindow
  dsimp only
  have h0 : ∀ y, val_main_call2_v0 (F := Ideal) y = 0 := by
    intro y
    pointwise [val_main_call2_v0, val_main_call2_cst]
  simp only [h0]
  refine (foldl_add _ _ _).trans ?_
  rw [zero_add, ← Fin.sum_univ_def]
  rw [← sum_shift, ← sum_window (fun u => if hu : t.val + u.val < 4096 then z (ix4 b h s ⟨t.val + u.val, hu⟩) else 0),
    ← Equiv.sum_comp (⟨4, ![1, 1, 1, 4096]⟩ : Shape).rowMajor.symm]
  refine Finset.sum_congr rfl fun n _ => ?_
  have hw : ∀ a : Fin 3, ((⟨4, ![1, 1, 1, 4096]⟩ : Shape).rowMajor.symm n a.castSucc).val = 0 := fun a => by
    have h := ((⟨4, ![1, 1, 1, 4096]⟩ : Shape).rowMajor.symm n a.castSucc).isLt
    fin_cases a <;> exact Nat.lt_one_iff.1 h
  have w0 : ((⟨4, ![1, 1, 1, 4096]⟩ : Shape).rowMajor.symm n 0).val = 0 := hw 0
  have w1 : ((⟨4, ![1, 1, 1, 4096]⟩ : Shape).rowMajor.symm n 1).val = 0 := hw 1
  have w2 : ((⟨4, ![1, 1, 1, 4096]⟩ : Shape).rowMajor.symm n 2).val = 0 := hw 2
  by_cases hu : t.val + ((⟨4, ![1, 1, 1, 4096]⟩ : Shape).rowMajor.symm n 3).val < 4096
  · rw [dif_pos hu, dif_pos]
    · refine congrArg z ?_
      funext a
      fin_cases a
      · exact Fin.ext (by show b.val * 1 + ((⟨4, ![1, 1, 1, 4096]⟩ : Shape).rowMajor.symm n 0).val - 0 = b.val; omega)
      · exact Fin.ext (by show h.val * 1 + ((⟨4, ![1, 1, 1, 4096]⟩ : Shape).rowMajor.symm n 1).val - 0 = h.val; omega)
      · exact Fin.ext (by show s.val * 1 + ((⟨4, ![1, 1, 1, 4096]⟩ : Shape).rowMajor.symm n 2).val - 0 = s.val; omega)
      · exact Fin.ext (by show t.val * 1 + ((⟨4, ![1, 1, 1, 4096]⟩ : Shape).rowMajor.symm n 3).val - 0 = t.val + ((⟨4, ![1, 1, 1, 4096]⟩ : Shape).rowMajor.symm n 3).val; omega)
    · have hb := b.isLt
      have hh := h.isLt
      have hs := s.isLt
      intro a
      fin_cases a
      · show 0 ≤ b.val * 1 + ((⟨4, ![1, 1, 1, 4096]⟩ : Shape).rowMajor.symm n 0).val ∧ b.val * 1 + ((⟨4, ![1, 1, 1, 4096]⟩ : Shape).rowMajor.symm n 0).val - 0 < 8; omega
      · show 0 ≤ h.val * 1 + ((⟨4, ![1, 1, 1, 4096]⟩ : Shape).rowMajor.symm n 1).val ∧ h.val * 1 + ((⟨4, ![1, 1, 1, 4096]⟩ : Shape).rowMajor.symm n 1).val - 0 < 8; omega
      · show 0 ≤ s.val * 1 + ((⟨4, ![1, 1, 1, 4096]⟩ : Shape).rowMajor.symm n 2).val ∧ s.val * 1 + ((⟨4, ![1, 1, 1, 4096]⟩ : Shape).rowMajor.symm n 2).val - 0 < 4096; omega
      · show 0 ≤ t.val * 1 + ((⟨4, ![1, 1, 1, 4096]⟩ : Shape).rowMajor.symm n 3).val ∧ t.val * 1 + ((⟨4, ![1, 1, 1, 4096]⟩ : Shape).rowMajor.symm n 3).val - 0 < 4096; omega
  · rw [dif_neg hu, dif_neg]
    intro hall
    have h3 : t.val * 1 + ((⟨4, ![1, 1, 1, 4096]⟩ : Shape).rowMajor.symm n 3).val - 0 < 4096 := (hall 3).2
    omega

/-- What the weights multiply by: the gaps after the key, in logs. -/
theorem after_apply (b h : Fin 8) (s t : Fin 4096) (hr : ∀ t, ∃ a : ℝ, logits x b h s t = a) :
    val_main_v23 (F := Ideal) x (ix4 b h s t) = ∑ u : Fin 4096, if t.val < u.val then gap (logits x b h) s u else 0 := by
  have e : val_main_v23 (F := Ideal) x (ix4 b h s t)
      = val_main_v22 (F := Ideal) x (ix4 b h s t) - val_main_v21 (F := Ideal) x (ix4 b h s t) := by
    generalize h2 : val_main_v22 (F := Ideal) x = p
    generalize h1 : val_main_v21 (F := Ideal) x = q
    unfold val_main_v23
    rw [h2, h1]
    pointwise []
  have hg : ∀ u, val_main_v21 (F := Ideal) x (ix4 b h s u) = gap (logits x b h) s u := fun u => by
    obtain ⟨a, ha⟩ := hr u
    exact gap_apply x b h s u a ha
  rw [e, suffix_apply]
  simp only [hg]
  have hs : (∑ u : Fin 4096, if t.val ≤ u.val then gap (logits x b h) s u else 0)
      = (∑ u : Fin 4096, if t.val < u.val then gap (logits x b h) s u else 0) + gap (logits x b h) s t := by
    rw [← Finset.sum_ite_eq' Finset.univ t (gap (logits x b h) s) |>.trans (if_pos (Finset.mem_univ _)), ← Finset.sum_add_distrib]
    refine Finset.sum_congr rfl fun u _ => ?_
    by_cases h1 : u = t
    · subst h1; rw [if_pos le_rfl, if_neg (lt_irrefl _), if_pos rfl, zero_add]
    · have h1' : u.val ≠ t.val := fun h => h1 (Fin.ext h)
      rw [if_neg h1, add_zero]
      by_cases h2 : t.val < u.val
      · rw [if_pos h2, if_pos h2.le]
      · rw [if_neg h2, if_neg (by omega)]
  obtain ⟨g, hgr⟩ : ∃ g : ℝ, gap (logits x b h) s t = g := by
    obtain ⟨a, ha⟩ := hr t
    unfold gap
    rw [ha, lm_coe]
    by_cases h1 : t.val < s.val
    · exact ⟨_, if_pos h1⟩
    · exact ⟨0, if_neg h1⟩
  rw [hs, hgr]
  exact EReal.add_sub_cancel_right

/-- The reference's result at an index. -/
theorem ref_apply (hr : ∀ b h s t, ∃ a : ℝ, logits x b h s t = a) (b : Fin 8) (s : Fin 4096) (k : Fin 1024) :
    val_main_v31 (F := Ideal) x (ix3 b s k)
      = head (logits x b ⟨k.val / 128, by have := k.isLt; omega⟩) (vl x b ⟨k.val / 128, by have := k.isLt; omega⟩) s
          ⟨k.val % 128, Nat.mod_lt _ (by decide)⟩ := by
  have e : val_main_v31 (F := Ideal) x (ix3 b s k)
      = ∑ t : Fin 4096, val_main_v27 (F := Ideal) x (ix4 b ⟨k.val / 128, by have := k.isLt; omega⟩ s t)
          * val_main_v10 (F := Ideal) x (ix4 b ⟨k.val / 128, by have := k.isLt; omega⟩ t ⟨k.val % 128, Nat.mod_lt _ (by decide)⟩) := by
    generalize hw : val_main_v27 (F := Ideal) x = w
    generalize hv : val_main_v10 (F := Ideal) x = v
    unfold val_main_v31 val_main_v30 val_main_v29 val_main_v28
    rw [hw, hv]
    pointwise []
  rw [e]
  unfold head
  refine Finset.sum_congr rfl fun t _ => ?_
  obtain ⟨a, ha⟩ := hr b ⟨k.val / 128, by have := k.isLt; omega⟩ s t
  rw [wt_apply x _ _ s t a ha (after_apply x _ _ s t (hr _ _ s)), v_apply]

end Cert.Proof.Sb.Ref

end
-- ==== Proof.Sb.Claim.lean ====
/-
  The stick-breaking attention's claims: where the queries and the keys are finite, the two arrays are equal, element
  by element, over the extended reals.
-/
module

public import proofs.«01_k».proof.Defs
public import proofs.«01_k».proof.Proof.Sb.Value
public import proofs.«01_k».proof.Proof.Sb.Ref
public import proofs.«01_k».proof.Proof.Gen.SbRefIdeal.Run
public import proofs.«01_k».proof.Proof.Gen.SbRefIdeal.Read
public import Idealize.ShloMosaic.Lib.Quiescent

@[expose] public section

set_option maxRecDepth 16384

noncomputable section

namespace Cert.Proof.Sb

open Idealize.ShloMosaic Idealize.SL.Sem
open scoped BigOperators

/-- The shape relations the precondition states. -/
theorem preFacts : Cert.Pre_qk_finite.Facts where
  slices_S8x4096x3072_S8x4096x2048_0_0_0 := by decide
  bitsLt_bf16_f32 := by decide
  bcast_S_S8x4096x2048 := by decide

/-- The precondition at an index: the number is real. -/
theorem real_of_pre (x : Vec Ideal Cert.SbIdeal.S8x4096x3072 .bf16)
    (h : (haveI := preFacts; Cert.Pre_qk_finite.fn (F := Ideal) x) = fun _ => 1#1) (b : Fin 8) (s : Fin 4096) (k : Fin 3072) (hk : k.val < 2048) :
    ∃ a : ℝ, x (ix3 b s k) = a := by
  have e := congrFun h (ix3 b s ⟨k.val, hk⟩)
  unfold Cert.Pre_qk_finite.fn at e
  pointwise [] at e
  have ht : Ideal.ofBits .f32 2139095040#32 = (⊤ : EReal) := by simp [Ideal.ofBits, Ideal.ieee]
  rw [ht] at e
  have hlt : max (x (ix3 b s k) : EReal) (-(x (ix3 b s k) : EReal)) < ⊤ := by
    by_contra hn
    have : decide ((FloatOps.absf (F := Ideal) (φ := .f32) (x (ix3 b s k)) : EReal) < ⊤) = false := decide_eq_false hn
    rw [this] at e
    exact absurd e (by decide)
  obtain ⟨h1, h2⟩ := max_lt_iff.1 hlt
  generalize x (ix3 b s k) = y at h1 h2 ⊢
  have h3 : (y : EReal) ≠ ⊥ := fun hb => by rw [hb] at h2; exact absurd h2 (by simp)
  exact ⟨EReal.toReal y, (EReal.coe_toReal h1.ne h3).symm⟩

/-- The reference runs, leaves its argument unchanged, and (it has no semaphores) every counter at zero. -/
theorem ref_frame : Cert.quiescent_SbRefIdeal (hSbRefIdeal := Cert.SbRefIdeal.Gen.facts) := fun m ρ _ =>
  (θ_run _ _ _).mono (fun r h => ⟨fun c => (h c).2, sem_eq_zero_of_no_sems (by decide) r.2⟩)
    (Cert.SbRefIdeal.Value.run (F := Ideal) m ρ)

/-- The same for the inputs the precondition admits. -/
theorem ref_frame_pre : Cert.quiescent_SbRefIdeal_pre_qk_finite (hSbRefIdeal := Cert.SbRefIdeal.Gen.facts) (hPre_qk_finite := preFacts) := fun m ρ _ =>
  (θ_run _ _ _).mono (fun r h => ⟨fun c => (h c).2, sem_eq_zero_of_no_sems (by decide) r.2⟩)
    (Cert.SbRefIdeal.Value.run (F := Ideal) m ρ)

/-- The kernel and the reference leave equal arrays. -/
theorem algebraic : Cert.algebraic_SbIdeal_SbRefIdeal_pre_qk_finite (hSbIdeal := Cert.SbIdeal.Gen.facts)
    (hSbRefIdeal := Cert.SbRefIdeal.Gen.facts) (hPre_qk_finite := preFacts) := by
  intro m g m' g' hpre hargs
  have hx : ∀ c b s (k : Fin 3072), k.val < 2048 → ∃ a : ℝ, X m c b s k = a := fun c b s k hk => real_of_pre _ (hpre c) b s k hk
  have hr : ∀ c b h s t, ∃ a : ℝ, zz m c b h s t = a := fun c b h s t =>
    dot_coe _ _ (fun d => hx c b s _ (by show h.val * 128 + d.val < 2048; have := h.isLt; have := d.isLt; omega))
      (fun d => hx c b t _ (by show 1024 + h.val * 128 + d.val < 2048; have := h.isLt; have := d.isLt; omega))
  refine ⟨fun c => out m c, (θ_run _ _ _).mono (fun r h c => ⟨(h c).1.trans (final m c (hr c)), (h c).2⟩)
    (Cert.SbIdeal.Value.run_blocks (F := Ideal) m g), ?_⟩
  refine (θ_run _ _ _).mono (fun r h c => ⟨?_, (h c).2⟩) (Cert.SbRefIdeal.Value.run (F := Ideal) m' g')
  refine (h c).1.trans ((Cert.SbRefIdeal.Read.val_main_v31_eq (F := Ideal) _ c).trans ?_)
  rw [hargs c]
  funext i
  obtain ⟨b, s, k, rfl⟩ : ∃ (b : Fin 8) (s : Fin 4096) (k : Fin 1024), i = ix3 b s k := ⟨i 0, i 1, i 2, eq_ix3 i⟩
  exact Ref.ref_apply _ (hr c) b s k

end Cert.Proof.Sb

end
-- ==== Proof.CvIdeal.Halo.lean ====
/-
  The convolution window of the gated delta rule's projection call: what the part of the body that fills the buffer of
  eight carried rows and 512 new rows, and saves the last eight rows for the next block, does to its two scratch buffers.
-/
module

public import proofs.«01_k».proof.Proof.Gen.ConvIdeal.Frame
public import proofs.«01_k».proof.Proof.Gen.ConvIdeal.Skeleton
public import proofs.«01_k».proof.Proof.Gen.ConvIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.WholeRead

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer reads its contents. -/
theorem load_full {sp : Space} {s : Shape} {e : EltTy} {m : Memref sig .tc sp s e} (h : m.IsWhole) (x : s.Idx → Elt F e) {off : Fin s.rank → ℕ}
    (inb : ∀ a, off a + s.size a ≤ s.size a) :
    View.readAt (Elt F) m.view (Rect.unit off s.size inb).toLoadRect (h.unread x) = x := by
  rw [View.readAt_full, h.read_unread]

/-- The branch taken on the first row block of a sequence. -/
abbrev condFirst (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1

/-- The buffer the convolution reads: eight rows `top` above the 512 rows `y`. -/
def yb (top : FVec F S8x1024 .f32) (y : FVec F S512x1024 .f32) : Vec F S520x1024 .f32 :=
  VecWindow.put (VecWindow.put (fun _ => (Scalar.ofBits .f32 0x00000000#32 : F .f32)) ![0, 0] S8x1024.size top) ![8, 0] S512x1024.size y

/-- The two stores leave `yb`, whatever the buffer held before: between them they reach every row. -/
theorem yb_of_writes (v : View sig .tc .vmem S520x1024 .f32) (f : v.ty.Contents (Elt F)) (top : FVec F S8x1024 .f32) (y : FVec F S512x1024 .f32) :
    v.read (Elt F) (v.writes (Elt F) f [⟨Rect.unit (s := S520x1024) ![8, 0] S512x1024.size inb_S520x1024_S512x1024_8_0, y⟩, ⟨Rect.unit (s := S520x1024) ![0, 0] S8x1024.size inb_S520x1024_S8x1024_0_0, top⟩]) = yb top y := by
  rw [View.read_writes_cons_put _ _ _ _ _ rfl, View.read_writes_cons_put _ _ _ _ _ rfl]
  unfold yb VecWindow.put
  funext p
  by_cases h : ∀ a, (![8, 0] : Fin 2 → ℕ) a ≤ (p a).val ∧ (p a).val < (![8, 0] : Fin 2 → ℕ) a + S512x1024.size a
  · rw [dif_pos h, dif_pos h]
  · rw [dif_neg h, dif_neg h]
    have h0 : (p 0).val < 520 := (p 0).isLt
    have h1 : (p 1).val < 1024 := (p 1).isLt
    have h' : ∀ a, (![0, 0] : Fin 2 → ℕ) a ≤ (p a).val ∧ (p a).val < (![0, 0] : Fin 2 → ℕ) a + S8x1024.size a := by
      refine Fin.forall_fin_two.mpr ⟨?_, ⟨Nat.zero_le _, ?_⟩⟩
      · refine ⟨Nat.zero_le _, ?_⟩
        by_contra hc
        refine h (Fin.forall_fin_two.mpr ⟨?_, ⟨Nat.zero_le _, ?_⟩⟩)
        · have hc' : ¬ (p 0).val < 0 + 8 := hc
          show 8 ≤ (p 0).val ∧ (p 0).val < 8 + 512
          omega
        · show (p 1).val < 0 + 1024
          omega
      · show (p 1).val < 0 + 1024
        omega
    rw [dif_pos h', dif_pos h']

/-- What the part leaves in the carried rows' scratch: the slice of this column tile replaced by the last eight rows of `y`. -/
def putHalo (i : grid0.Coords) (x : Vec F S4x8x1024 .f32) (y : FVec F S512x1024 .f32) : Vec F S4x8x1024 .f32 :=
  VecWindow.put x (k0_off2 i) S1x8x1024.size (k0_pay22 y)

/-- The part's store into that scratch leaves exactly this. -/
theorem putHalo_of_writes (v : View sig .tc .vmem S4x8x1024 .f32) (f : v.ty.Contents (Elt F)) (x : Vec F S4x8x1024 .f32) (hf : v.read (Elt F) f = x)
    (i : grid0.Coords) (hc2 : k0_cond2 i = 1#1) (y : FVec F S512x1024 .f32) :
    v.read (Elt F) (v.writes (Elt F) f [⟨Rect.unit (s := S4x8x1024) (k0_off2 i) S1x8x1024.size (k0_off2_inb i hc2), k0_pay22 y⟩]) = putHalo i x y := by
  subst hf
  exact View.read_writes_cons_put v f (k0_off2_inb i hc2) (k0_pay22 y) [] rfl

set_option maxHeartbeats 1000000 in
/-- What the part does on the first row block of a sequence: the eight rows above are zeros. -/
theorem part3_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc2 : k0_cond2 i = 1#1) (hcF : condFirst i) (hc4 : ¬ k0_cond4 i = 1#1)
    (x8 : Vec F S520x1024 .f32) (x9 : Vec F S4x8x1024 .f32) (y : FVec F S512x1024 .f32) (E : Set ℕ) :
    (iprop((arg8.view.loc (c : Thread nD τ) ↦[arg8.view.set]{fullShare} harg8.unread x8) ∗ (arg9.view.loc (c : Thread nD τ) ↦[arg9.view.set]{fullShare} harg9.unread x9)) : sProp 𝕄)
      ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
        (fun _ => iprop((arg8.view.loc (c : Thread nD τ) ↦[arg8.view.set]{fullShare} harg8.unread (yb (k0_pay19 (F := F)) (k0_pay21 y))) ∗ (arg9.view.loc (c : Thread nD τ) ↦[arg9.view.set]{fullShare} harg9.unread (putHalo i x9 y)))) := by
  rw [k0_part3_eq_skeleton]; unfold k0_part3_skel
  iintro ⟨H8, H9⟩
  sl_exec (disch := first | sl_exact hcF | sl_exact hc4)
  sl_step
  rw [← harg8.eq_unread (yb_of_writes arg8.view (harg8.unread x8) (k0_pay19 (F := F)) (k0_pay21 y)), ← harg9.eq_unread (putHalo_of_writes arg9.view (harg9.unread x9) x9 (harg9.read_unread _) i hc2 y)]
  isplitl [H8]
  · iexact H8
  iexact H9

set_option maxHeartbeats 1000000 in
/-- What the part does on the other row blocks: the eight rows above are the ones the block before saved. -/
theorem part3_next (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc2 : k0_cond2 i = 1#1) (hcF : ¬ condFirst i) (hc4 : k0_cond4 i = 1#1)
    (x8 : Vec F S520x1024 .f32) (x9 : Vec F S4x8x1024 .f32) (y : FVec F S512x1024 .f32) (E : Set ℕ) :
    (iprop((arg8.view.loc (c : Thread nD τ) ↦[arg8.view.set]{fullShare} harg8.unread x8) ∗ (arg9.view.loc (c : Thread nD τ) ↦[arg9.view.set]{fullShare} harg9.unread x9)) : sProp 𝕄)
      ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
        (fun _ => iprop((arg8.view.loc (c : Thread nD τ) ↦[arg8.view.set]{fullShare} harg8.unread (yb (k0_pay20 (VecWindow.window x9 (k0_off1 i) S1x8x1024.size (k0_off1_inb i hc2 hc4))) (k0_pay21 y))) ∗ (arg9.view.loc (c : Thread nD τ) ↦[arg9.view.set]{fullShare} harg9.unread (putHalo i x9 y)))) := by
  rw [k0_part3_eq_skeleton]; unfold k0_part3_skel
  iintro ⟨H8, H9⟩
  sl_exec (disch := first | sl_exact hcF | sl_exact hc4)
  sl_step
  have hw : View.readAt (Elt F) arg9.view (Rect.unit (s := S4x8x1024) (k0_off1 i) S1x8x1024.size (k0_off1_inb i hc2 hc4)).toLoadRect (harg9.unread x9) = VecWindow.window x9 (k0_off1 i) S1x8x1024.size (k0_off1_inb i hc2 hc4) := by
    rw [View.readAt_unit _ _ _ rfl (k0_off1_inb i hc2 hc4), harg9.read_unread]
  rw [← hw, ← harg8.eq_unread (yb_of_writes arg8.view (harg8.unread x8) _ (k0_pay21 y)), ← harg9.eq_unread (putHalo_of_writes arg9.view (harg9.unread x9) x9 (harg9.read_unread _) i hc2 y)]
  isplitl [H8]
  · iexact H8
  iexact H9

end Cert.ConvIdeal.Gen

end
-- ==== Proof.CvIdeal.RunA.lean ====
/-
  The gated delta rule's projection call: one run of its body, at the first column tile: the block's normalised rows are computed and kept, projected, convolved and normalised.
-/
module

public import proofs.«01_k».proof.Proof.CvIdeal.Halo

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch taken at the first column tile. -/
abbrev condJ0 (i : grid0.Coords) : Prop := (Scalar.cmpi .ne (Scalar.extui (Scalar.cmpi .eq (BitVec.ofNat 32 (i 1).val) 0#32)) 0#32) = 1#1

set_option maxHeartbeats 2000000 in
/-- The body at the first column tile: the block's normalised rows are computed and kept, projected, convolved and normalised. -/
noncomputable def runA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : condJ0 i) (hc2 : k0_cond2 i = 1#1) (hc5 : k0_cond5 i = 1#1) (hc6 : ¬ k0_cond6 i = 1#1) (hc7 : ¬ k0_cond7 i = 1#1)
    (x2 : Vec F S512x1024 .f32) (x3 : Vec F S1x1024 .f32) (x4 : Vec F S1024x1024 .bf16) (x5 : Vec F S4x1024 .f32) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) :
    Σ' (L6 : List (View.Piece (Elt F) S512x1024 .bf16)) (L7 : List (View.Piece (Elt F) S512x1024 .bf16)), { _u : Unit //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ d, owns (c : Thread nD τ) arg8 fullShare d) ∗ (∃ Y, ⌜Y = k0_pay2 (k0_pay1 x2 x3) x4⌝ ∗ (arg9.view.loc (c : Thread nD τ) ↦[arg9.view.set]{fullShare} harg9.unread (putHalo i x9 Y)))) -∗ K ⟨⟩))
          ⊢ wp frame (wpE (defs₀ (F := F)) Variants.none c none) E (cc0_gdn_proj i arg2 harg2 arg3 harg3 arg4 harg4 arg5 harg5 arg6 harg6 arg7 harg7 arg8 harg8 arg9 harg9) K } := by
  refine ⟨?_, ?_, (), fun E K => ?run⟩
  case run =>
    simp only [cc0_gdn_proj_eq_skeleton]; unfold cc0_gdn_proj_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg8.eq_unread hf8; obtain rfl := harg9.eq_unread hf9
    sl_exec (disch := first | sl_exact hc1 | sl_exact hc2 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [Hk0_part3_0]
    · iexists _; iexists _; isplitr
      swap; · iexact Hk0_part3_0
      ipureintro; exact harg8.read_unread _
    iexists _; isplitr
    swap; · iexact Hk0_part3_1
    ipureintro; exact congr (congrArg k0_pay2 ((View.readCov_full _ _ _ _ _).trans (congr (congrArg k0_pay1 (load_full harg2 x2 _)) (load_full harg3 x3 _)))) (load_full harg4 x4 _)

end Cert.ConvIdeal.Gen

end
-- ==== Proof.CvIdeal.RunB.lean ====
/-
  The gated delta rule's projection call: one run of its body, at the second column tile: the kept rows are projected, convolved and normalised.
-/
module

public import proofs.«01_k».proof.Proof.CvIdeal.RunA

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the second column tile: the kept rows are projected, convolved and normalised. -/
noncomputable def runB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : ¬ condJ0 i) (hc2 : k0_cond2 i = 1#1) (hc5 : k0_cond5 i = 1#1) (hc6 : ¬ k0_cond6 i = 1#1) (hc7 : ¬ k0_cond7 i = 1#1)
    (x2 : Vec F S512x1024 .f32) (x3 : Vec F S1x1024 .f32) (x4 : Vec F S1024x1024 .bf16) (x5 : Vec F S4x1024 .f32) (x7 : Vec F S512x1024 .bf16) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) :
    { L6 : List (View.Piece (Elt F) S512x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ (∃ d, owns (c : Thread nD τ) arg8 fullShare d) ∗ owns (c : Thread nD τ) arg9 fullShare x9
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare x7 ∗ (∃ d, owns (c : Thread nD τ) arg8 fullShare d) ∗ (∃ Y, ⌜Y = k0_pay2 x7 x4⌝ ∗ (arg9.view.loc (c : Thread nD τ) ↦[arg9.view.set]{fullShare} harg9.unread (putHalo i x9 Y)))) -∗ K ⟨⟩))
          ⊢ wp frame (wpE (defs₀ (F := F)) Variants.none c none) E (cc0_gdn_proj i arg2 harg2 arg3 harg3 arg4 harg4 arg5 harg5 arg6 harg6 arg7 harg7 arg8 harg8 arg9 harg9) K } := by
  refine ⟨?_, fun E K => ?run⟩
  case run =>
    simp only [cc0_gdn_proj_eq_skeleton]; unfold cc0_gdn_proj_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | sl_exact hc1 | sl_exact hc2 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [Hk0_part3_0]
    · iexists _; iexists _; isplitr
      swap; · iexact Hk0_part3_0
      ipureintro; exact harg8.read_unread _
    iexists _; isplitr
    swap; · iexact Hk0_part3_1
    ipureintro; exact congr (congrArg k0_pay2 (load_full harg7 x7 _)) (load_full harg4 x4 _)

end Cert.ConvIdeal.Gen

end
-- ==== Proof.CvIdeal.RunC.lean ====
/-
  The gated delta rule's projection call: one run of its body, at the third and fourth column tiles: the kept rows are projected and convolved.
-/
module

public import proofs.«01_k».proof.Proof.CvIdeal.RunB

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the third and fourth column tiles: the kept rows are projected and convolved. -/
noncomputable def runC (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : ¬ condJ0 i) (hc2 : k0_cond2 i = 1#1) (hc5 : ¬ k0_cond5 i = 1#1) (hc6 : k0_cond6 i = 1#1) (hc7 : ¬ k0_cond7 i = 1#1)
    (x2 : Vec F S512x1024 .f32) (x3 : Vec F S1x1024 .f32) (x4 : Vec F S1024x1024 .bf16) (x5 : Vec F S4x1024 .f32) (x7 : Vec F S512x1024 .bf16) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) :
    { L6 : List (View.Piece (Elt F) S512x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ (∃ d, owns (c : Thread nD τ) arg8 fullShare d) ∗ owns (c : Thread nD τ) arg9 fullShare x9
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare x7 ∗ (∃ d, owns (c : Thread nD τ) arg8 fullShare d) ∗ (∃ Y, ⌜Y = k0_pay2 x7 x4⌝ ∗ (arg9.view.loc (c : Thread nD τ) ↦[arg9.view.set]{fullShare} harg9.unread (putHalo i x9 Y)))) -∗ K ⟨⟩))
          ⊢ wp frame (wpE (defs₀ (F := F)) Variants.none c none) E (cc0_gdn_proj i arg2 harg2 arg3 harg3 arg4 harg4 arg5 harg5 arg6 harg6 arg7 harg7 arg8 harg8 arg9 harg9) K } := by
  refine ⟨?_, fun E K => ?run⟩
  case run =>
    simp only [cc0_gdn_proj_eq_skeleton]; unfold cc0_gdn_proj_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, %hf8, H8⟩, ⟨%f9, %hf9, H9⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9
    sl_exec (disch := first | sl_exact hc1 | sl_exact hc2 | sl_exact hc5 | sl_exact hc6 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [Hk0_part3_0]
    · iexists _; iexists _; isplitr
      swap; · iexact Hk0_part3_0
      ipureintro; exact harg8.read_unread _
    iexists _; isplitr
    swap; · iexact Hk0_part3_1
    ipureintro; exact congr (congrArg k0_pay2 (load_full harg7 x7 _)) (load_full harg4 x4 _)

end Cert.ConvIdeal.Gen

end
-- ==== Proof.CvIdeal.RunD.lean ====
/-
  The gated delta rule's projection call: one run of its body, at the last two column tiles: the kept rows are projected and stored as they are.
-/
module

public import proofs.«01_k».proof.Proof.CvIdeal.RunC

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the last two column tiles: the kept rows are projected and stored as they are. -/
noncomputable def runD (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : ¬ condJ0 i) (hc2 : ¬ k0_cond2 i = 1#1) (hc7 : k0_cond7 i = 1#1)
    (x2 : Vec F S512x1024 .f32) (x3 : Vec F S1x1024 .f32) (x4 : Vec F S1024x1024 .bf16) (x5 : Vec F S4x1024 .f32) (x7 : Vec F S512x1024 .bf16) :
    { L6 : List (View.Piece (Elt F) S512x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare x7) -∗ K ⟨⟩))
          ⊢ wp frame (wpE (defs₀ (F := F)) Variants.none c none) E (cc0_gdn_proj i arg2 harg2 arg3 harg3 arg4 harg4 arg5 harg5 arg6 harg6 arg7 harg7 arg8 harg8 arg9 harg9) K } := by
  refine ⟨?_, fun E K => ?run⟩
  case run =>
    simp only [cc0_gdn_proj_eq_skeleton]; unfold cc0_gdn_proj_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf2; obtain rfl := harg3.eq_unread hf3; obtain rfl := harg4.eq_unread hf4; obtain rfl := harg5.eq_unread hf5; obtain rfl := harg7.eq_unread hf7
    sl_exec (disch := first | sl_exact hc1 | sl_exact hc2 | sl_exact hc7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.ConvIdeal.Gen

end
-- ==== Proof.CvIdeal.Pieces.lean ====
/-
  The gated delta rule's projection call: what each kind of run of its body leaves in its output's buffer and in its
  scratch buffers, in terms of the blocks it reads.
-/
module

public import proofs.«01_k».proof.Proof.CvIdeal.RunA
public import proofs.«01_k».proof.Proof.CvIdeal.RunB
public import proofs.«01_k».proof.Proof.CvIdeal.RunC
public import proofs.«01_k».proof.Proof.CvIdeal.RunD

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window)
open Idealize.ShloMosaic.Pipeline (Dat Cfg Window BodyObligation cellOf)

variable {F : FTy → Type} [FloatOps F]

local notation "𝕄" => MT nD τ sig Unit (Elt F) ℕ (UR sig nD τ) ℕ

/-- A load of part of a buffer reads the window of its contents. -/
theorem load_win {sp : Space} {s : Shape} {e : EltTy} {m : Memref sig .tc sp s e} (h : m.IsWhole) (x : s.Idx → Elt F e) {off size : Fin s.rank → ℕ}
    (inb : ∀ a, off a + size a ≤ s.size a) :
    View.readAt (Elt F) m.view (Rect.unit off size inb).toLoadRect (h.unread x) = window x off size inb := by
  rw [View.readAt_unit _ _ _ rfl inb, h.read_unread]

/-- The convolved and gated columns of a block: `y` its projected rows, `top` the eight rows before them, `x5` the weights. -/
def zOf (top : FVec F S8x1024 .f32) (y : FVec F S512x1024 .f32) (x5 : Vec F S4x1024 .f32) : FVec F S512x1024 .f32 :=
  k0_pay3 (window x5 ![0, 0] S1x1024.size inb_S4x1024_S1x1024_0_0) (window (yb top (k0_pay21 y)) ![5, 0] S512x1024.size inb_S520x1024_S512x1024_5_0) (window x5 ![1, 0] S1x1024.size inb_S4x1024_S1x1024_1_0) (window (yb top (k0_pay21 y)) ![6, 0] S512x1024.size inb_S520x1024_S512x1024_6_0) (window x5 ![2, 0] S1x1024.size inb_S4x1024_S1x1024_2_0) (window (yb top (k0_pay21 y)) ![7, 0] S512x1024.size inb_S520x1024_S512x1024_7_0) (window x5 ![3, 0] S1x1024.size inb_S4x1024_S1x1024_3_0) (window (yb top (k0_pay21 y)) ![8, 0] S512x1024.size inb_S520x1024_S512x1024_8_0)

/-- The same columns as they are written where no normalisation follows. -/
def outV (top : FVec F S8x1024 .f32) (y : FVec F S512x1024 .f32) (x5 : Vec F S4x1024 .f32) : FVec F S512x1024 .bf16 :=
  k0_pay6 (window x5 ![0, 0] S1x1024.size inb_S4x1024_S1x1024_0_0) (window (yb top (k0_pay21 y)) ![5, 0] S512x1024.size inb_S520x1024_S512x1024_5_0) (window x5 ![1, 0] S1x1024.size inb_S4x1024_S1x1024_1_0) (window (yb top (k0_pay21 y)) ![6, 0] S512x1024.size inb_S520x1024_S512x1024_6_0) (window x5 ![2, 0] S1x1024.size inb_S4x1024_S1x1024_2_0) (window (yb top (k0_pay21 y)) ![7, 0] S512x1024.size inb_S520x1024_S512x1024_7_0) (window x5 ![3, 0] S1x1024.size inb_S4x1024_S1x1024_3_0) (window (yb top (k0_pay21 y)) ![8, 0] S512x1024.size inb_S520x1024_S512x1024_8_0)

/-- The eight pieces a query or key tile is written in, a head each. -/
def piecesQ (a1 : BitVec 32) (top : FVec F S8x1024 .f32) (y : FVec F S512x1024 .f32) (x5 : Vec F S4x1024 .f32) : List (View.Piece (Elt F) S512x1024 .bf16) :=
  [⟨Rect.unit (s := S512x1024) ![0, 896] S512x128.size inb_S512x1024_S512x128_0_896, k0_pay5 (window x5 ![0, 0] S1x1024.size inb_S4x1024_S1x1024_0_0) (window (yb top (k0_pay21 y)) ![5, 0] S512x1024.size inb_S520x1024_S512x1024_5_0) (window x5 ![1, 0] S1x1024.size inb_S4x1024_S1x1024_1_0) (window (yb top (k0_pay21 y)) ![6, 0] S512x1024.size inb_S520x1024_S512x1024_6_0) (window x5 ![2, 0] S1x1024.size inb_S4x1024_S1x1024_2_0) (window (yb top (k0_pay21 y)) ![7, 0] S512x1024.size inb_S520x1024_S512x1024_7_0) (window x5 ![3, 0] S1x1024.size inb_S4x1024_S1x1024_3_0) (window (yb top (k0_pay21 y)) ![8, 0] S512x1024.size inb_S520x1024_S512x1024_8_0) (k0_pay8 (F := F) a1)⟩,
    ⟨Rect.unit (s := S512x1024) ![0, 768] S512x128.size inb_S512x1024_S512x128_0_768, k0_pay4 (k0_pay8 (F := F) a1) (k0_pay16 (zOf top y x5)) (k0_pay17 (zOf top y x5)) (k0_pay18 (F := F))⟩,
    ⟨Rect.unit (s := S512x1024) ![0, 640] S512x128.size inb_S512x1024_S512x128_0_640, k0_pay15 (zOf top y x5) (k0_pay8 (F := F) a1)⟩,
    ⟨Rect.unit (s := S512x1024) ![0, 512] S512x128.size inb_S512x1024_S512x128_0_512, k0_pay14 (zOf top y x5) (k0_pay8 (F := F) a1)⟩,
    ⟨Rect.unit (s := S512x1024) ![0, 384] S512x128.size inb_S512x1024_S512x128_0_384, k0_pay13 (k0_pay8 (F := F) a1) (k0_pay12 (zOf top y x5))⟩,
    ⟨Rect.unit (s := S512x1024) ![0, 256] S512x128.size inb_S512x1024_S512x128_0_256, k0_pay11 a1 (zOf top y x5)⟩,
    ⟨Rect.unit (s := S512x1024) ![0, 128] S512x128.size inb_S512x1024_S512x128_0_128, k0_pay10 a1 (zOf top y x5)⟩,
    ⟨Rect.unit (s := S512x1024) ![0, 0] S512x128.size inb_S512x1024_S512x128_0_0, k0_pay9 a1 (zOf top y x5)⟩]

/-- They cover the block. -/
theorem cover_piecesQ (a1 : BitVec 32) (top : FVec F S8x1024 .f32) (y : FVec F S512x1024 .f32) (x5 : Vec F S4x1024 .f32) (p : S512x1024.Idx) :
    ∃ pc ∈ piecesQ a1 top y x5, p ∈ pc.1.set :=
  View.cover_of_tiledL (piecesQ a1 top y x5) S512x128.size (by sl_kernel_rfl) p

/-- The query or key tile they make up. -/
def outQ (a1 : BitVec 32) (top : FVec F S8x1024 .f32) (y : FVec F S512x1024 .f32) (x5 : Vec F S4x1024 .f32) : FVec F S512x1024 .bf16 :=
  View.canon (piecesQ a1 top y x5)

/-- Written over anything they leave that tile. -/
theorem read_piecesQ (v : View sig .tc .vmem S512x1024 .bf16) (f : v.ty.Contents (Elt F)) (a1 : BitVec 32) (top : FVec F S8x1024 .f32) (y : FVec F S512x1024 .f32) (x5 : Vec F S4x1024 .f32) :
    v.read (Elt F) (v.writes (Elt F) f (piecesQ a1 top y x5)) = outQ a1 top y x5 :=
  View.read_writes_eq_canon v f _ (cover_piecesQ a1 top y x5)

set_option maxHeartbeats 2000000 in
/-- The pieces run A leaves in the output's buffer, in terms of the blocks it reads. -/
theorem runA_pieces (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : condJ0 i) (hc2 : k0_cond2 i = 1#1) (hc5 : k0_cond5 i = 1#1) (hc6 : ¬ k0_cond6 i = 1#1) (hc7 : ¬ k0_cond7 i = 1#1)
    (x2 : Vec F S512x1024 .f32) (x3 : Vec F S1x1024 .f32) (x4 : Vec F S1024x1024 .bf16) (x5 : Vec F S4x1024 .f32) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) :
    (runA c i arg2 harg2 arg3 harg3 arg4 harg4 arg5 harg5 arg6 harg6 arg7 harg7 arg8 harg8 arg9 harg9 hc1 hc2 hc5 hc6 hc7 x2 x3 x4 x5 x9 top hcut).1 = piecesQ (BitVec.ofNat 32 (i 1).val) top (k0_pay2 (k0_pay1 x2 x3) x4) x5 := by
  have e4 := load_full harg4 x4 inb_S1024x1024_S1024x1024_0_0
  have h3 : runA.sl.v3 c arg2 harg2 arg3 harg3 arg7 x2 x3 = k0_pay1 x2 x3 :=
    (View.readCov_full _ _ _ _ _).trans (congr (congrArg k0_pay1 (load_full harg2 x2 _)) (load_full harg3 x3 _))
  have hY : k0_pay2 (runA.sl.v3 c arg2 harg2 arg3 harg3 arg7 x2 x3) (View.readAt (Elt F) arg4.view (Rect.unit (s := S1024x1024) ![0, 0] S1024x1024.size inb_S1024x1024_S1024x1024_0_0).toLoadRect (harg4.unread x4)) = k0_pay2 (k0_pay1 x2 x3) x4 := congr (congrArg k0_pay2 h3) e4
  have w0 : runA.sl.v50 c arg2 harg2 arg3 harg3 arg4 harg4 arg7 arg8 harg8 x2 x3 x4 top = window (yb top (k0_pay21 (k0_pay2 (k0_pay1 x2 x3) x4))) ![5, 0] S512x1024.size inb_S520x1024_S512x1024_5_0 :=
    (load_win harg8 _ _).trans (congrArg (fun Y => window (yb top (k0_pay21 Y)) ![5, 0] S512x1024.size inb_S520x1024_S512x1024_5_0) hY)
  have r0 := load_win (off := ![0, 0]) (size := S1x1024.size) harg5 x5 inb_S4x1024_S1x1024_0_0
  have w1 : runA.sl.v55 c arg2 harg2 arg3 harg3 arg4 harg4 arg7 arg8 harg8 x2 x3 x4 top = window (yb top (k0_pay21 (k0_pay2 (k0_pay1 x2 x3) x4))) ![6, 0] S512x1024.size inb_S520x1024_S512x1024_6_0 :=
    (load_win harg8 _ _).trans (congrArg (fun Y => window (yb top (k0_pay21 Y)) ![6, 0] S512x1024.size inb_S520x1024_S512x1024_6_0) hY)
  have r1 := load_win (off := ![1, 0]) (size := S1x1024.size) harg5 x5 inb_S4x1024_S1x1024_1_0
  have w2 : runA.sl.v60 c arg2 harg2 arg3 harg3 arg4 harg4 arg7 arg8 harg8 x2 x3 x4 top = window (yb top (k0_pay21 (k0_pay2 (k0_pay1 x2 x3) x4))) ![7, 0] S512x1024.size inb_S520x1024_S512x1024_7_0 :=
    (load_win harg8 _ _).trans (congrArg (fun Y => window (yb top (k0_pay21 Y)) ![7, 0] S512x1024.size inb_S520x1024_S512x1024_7_0) hY)
  have r2 := load_win (off := ![2, 0]) (size := S1x1024.size) harg5 x5 inb_S4x1024_S1x1024_2_0
  have w3 : runA.sl.v65 c arg2 harg2 arg3 harg3 arg4 harg4 arg7 arg8 harg8 x2 x3 x4 top = window (yb top (k0_pay21 (k0_pay2 (k0_pay1 x2 x3) x4))) ![8, 0] S512x1024.size inb_S520x1024_S512x1024_8_0 :=
    (load_win harg8 _ _).trans (congrArg (fun Y => window (yb top (k0_pay21 Y)) ![8, 0] S512x1024.size inb_S520x1024_S512x1024_8_0) hY)
  have r3 := load_win (off := ![3, 0]) (size := S1x1024.size) harg5 x5 inb_S4x1024_S1x1024_3_0
  unfold runA
  dsimp only
  simp only [runA.sl.r, runA.sl.r_1, runA.sl.r_2, runA.sl.r_3]
  rw [w0, w1, w2, w3]
  erw [r0, r1, r2, r3]
  rfl

/-- The piece run A leaves in the scratch that keeps the normalised rows. -/
theorem runA_kept (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : condJ0 i) (hc2 : k0_cond2 i = 1#1) (hc5 : k0_cond5 i = 1#1) (hc6 : ¬ k0_cond6 i = 1#1) (hc7 : ¬ k0_cond7 i = 1#1)
    (x2 : Vec F S512x1024 .f32) (x3 : Vec F S1x1024 .f32) (x4 : Vec F S1024x1024 .bf16) (x5 : Vec F S4x1024 .f32) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) :
    (runA c i arg2 harg2 arg3 harg3 arg4 harg4 arg5 harg5 arg6 harg6 arg7 harg7 arg8 harg8 arg9 harg9 hc1 hc2 hc5 hc6 hc7 x2 x3 x4 x5 x9 top hcut).2.1 = [⟨Rect.unit (s := S512x1024) ![0, 0] S512x1024.size inb_S512x1024_S512x1024_0_0, k0_pay1 x2 x3⟩] :=
  congrArg (fun w => [(⟨Rect.unit (s := S512x1024) ![0, 0] S512x1024.size inb_S512x1024_S512x1024_0_0, w⟩ : View.Piece (Elt F) S512x1024 .bf16)])
    (congr (congrArg k0_pay1 (load_full harg2 x2 _)) (load_full harg3 x3 _))

set_option maxHeartbeats 1000000 in
/-- The body at points of kind A, in terms of the blocks it reads and the contents it leaves. -/
theorem bodyA (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : condJ0 i) (hc2 : k0_cond2 i = 1#1) (hc5 : k0_cond5 i = 1#1) (hc6 : ¬ k0_cond6 i = 1#1) (hc7 : ¬ k0_cond7 i = 1#1)
    (x2 : Vec F S512x1024 .f32) (x3 : Vec F S1x1024 .f32) (x4 : Vec F S1024x1024 .bf16) (x5 : Vec F S4x1024 .f32) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) (E : Set ℕ) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outQ (BitVec.ofNat 32 (i 1).val) top (k0_pay2 (k0_pay1 x2 x3) x4) x5) ∗ owns (c : Thread nD τ) arg7 fullShare (k0_pay1 x2 x3) ∗ (∃ d, owns (c : Thread nD τ) arg8 fullShare d) ∗ owns (c : Thread nD τ) arg9 fullShare (putHalo i x9 (k0_pay2 (k0_pay1 x2 x3) x4))) -∗ K ⟨⟩)) : sProp 𝕄)
      ⊢ wp frame (wpE (defs₀ (F := F)) Variants.none c none) E (cc0_gdn_proj i arg2 harg2 arg3 harg3 arg4 harg4 arg5 harg5 arg6 harg6 arg7 harg7 arg8 harg8 arg9 harg9) K := by
  refine .trans ?_ ((runA c i arg2 harg2 arg3 harg3 arg4 harg4 arg5 harg5 arg6 harg6 arg7 harg7 arg8 harg8 arg9 harg9 hc1 hc2 hc5 hc6 hc7 x2 x3 x4 x5 x9 top hcut).2.2.2 E K)
  iintro ⟨H2, H3, H4, H5, H6, H7, H8, H9, Hk⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, ⟨%f6, H6⟩, ⟨%f7, H7⟩, H8, ⟨%Y, %hY, H9⟩⟩
  subst hY
  iapply Hk
  isplitl [H2]; · iexact H2
  isplitl [H3]; · iexact H3
  isplitl [H4]; · iexact H4
  isplitl [H5]; · iexact H5
  isplitl [H6]
  · unfold owns; iexists _; isplitr
    swap; · iexact H6
    ipureintro; exact (congrArg (fun L => arg6.view.read (Elt F) (arg6.view.writes (Elt F) f6 L)) (runA_pieces c i arg2 harg2 arg3 harg3 arg4 harg4 arg5 harg5 arg6 harg6 arg7 harg7 arg8 harg8 arg9 harg9 hc1 hc2 hc5 hc6 hc7 x2 x3 x4 x5 x9 top hcut)).trans (read_piecesQ arg6.view f6 _ _ _ _)
  isplitl [H7]
  · unfold owns; iexists _; isplitr
    swap; · iexact H7
    ipureintro; exact (congrArg (fun L => arg7.view.read (Elt F) (arg7.view.writes (Elt F) f7 L)) (runA_kept c i arg2 harg2 arg3 harg3 arg4 harg4 arg5 harg5 arg6 harg6 arg7 harg7 arg8 harg8 arg9 harg9 hc1 hc2 hc5 hc6 hc7 x2 x3 x4 x5 x9 top hcut)).trans (View.read_writes_full _ _ _ _ _)
  isplitl [H8]; · iexact H8
  unfold owns; iexists _; isplitr
  swap; · iexact H9
  ipureintro; exact harg9.read_unread _

set_option maxHeartbeats 2000000 in
/-- The pieces run B leaves in the output's buffer, in terms of the blocks it reads. -/
theorem runB_pieces (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : ¬ condJ0 i) (hc2 : k0_cond2 i = 1#1) (hc5 : k0_cond5 i = 1#1) (hc6 : ¬ k0_cond6 i = 1#1) (hc7 : ¬ k0_cond7 i = 1#1)
    (x2 : Vec F S512x1024 .f32) (x3 : Vec F S1x1024 .f32) (x4 : Vec F S1024x1024 .bf16) (x5 : Vec F S4x1024 .f32) (x7 : Vec F S512x1024 .bf16) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) :
    (runB c i arg2 harg2 arg3 harg3 arg4 harg4 arg5 harg5 arg6 harg6 arg7 harg7 arg8 harg8 arg9 harg9 hc1 hc2 hc5 hc6 hc7 x2 x3 x4 x5 x7 x9 top hcut).1 = piecesQ (BitVec.ofNat 32 (i 1).val) top (k0_pay2 x7 x4) x5 := by
  have e4 := load_full harg4 x4 inb_S1024x1024_S1024x1024_0_0
  have e7 := load_full harg7 x7 inb_S512x1024_S512x1024_0_0
  have hY : k0_pay2 (View.readAt (Elt F) arg7.view (Rect.unit (s := S512x1024) ![0, 0] S512x1024.size inb_S512x1024_S512x1024_0_0).toLoadRect (harg7.unread x7)) (View.readAt (Elt F) arg4.view (Rect.unit (s := S1024x1024) ![0, 0] S1024x1024.size inb_S1024x1024_S1024x1024_0_0).toLoadRect (harg4.unread x4)) = k0_pay2 x7 x4 := congr (congrArg k0_pay2 e7) e4
  have w0 : runB.sl.v50 c arg4 harg4 arg7 harg7 arg8 harg8 x4 x7 top = window (yb top (k0_pay21 (k0_pay2 x7 x4))) ![5, 0] S512x1024.size inb_S520x1024_S512x1024_5_0 :=
    (load_win harg8 _ _).trans (congrArg (fun Y => window (yb top (k0_pay21 Y)) ![5, 0] S512x1024.size inb_S520x1024_S512x1024_5_0) hY)
  have r0 := load_win (off := ![0, 0]) (size := S1x1024.size) harg5 x5 inb_S4x1024_S1x1024_0_0
  have w1 : runB.sl.v55 c arg4 harg4 arg7 harg7 arg8 harg8 x4 x7 top = window (yb top (k0_pay21 (k0_pay2 x7 x4))) ![6, 0] S512x1024.size inb_S520x1024_S512x1024_6_0 :=
    (load_win harg8 _ _).trans (congrArg (fun Y => window (yb top (k0_pay21 Y)) ![6, 0] S512x1024.size inb_S520x1024_S512x1024_6_0) hY)
  have r1 := load_win (off := ![1, 0]) (size := S1x1024.size) harg5 x5 inb_S4x1024_S1x1024_1_0
  have w2 : runB.sl.v60 c arg4 harg4 arg7 harg7 arg8 harg8 x4 x7 top = window (yb top (k0_pay21 (k0_pay2 x7 x4))) ![7, 0] S512x1024.size inb_S520x1024_S512x1024_7_0 :=
    (load_win harg8 _ _).trans (congrArg (fun Y => window (yb top (k0_pay21 Y)) ![7, 0] S512x1024.size inb_S520x1024_S512x1024_7_0) hY)
  have r2 := load_win (off := ![2, 0]) (size := S1x1024.size) harg5 x5 inb_S4x1024_S1x1024_2_0
  have w3 : runB.sl.v65 c arg4 harg4 arg7 harg7 arg8 harg8 x4 x7 top = window (yb top (k0_pay21 (k0_pay2 x7 x4))) ![8, 0] S512x1024.size inb_S520x1024_S512x1024_8_0 :=
    (load_win harg8 _ _).trans (congrArg (fun Y => window (yb top (k0_pay21 Y)) ![8, 0] S512x1024.size inb_S520x1024_S512x1024_8_0) hY)
  have r3 := load_win (off := ![3, 0]) (size := S1x1024.size) harg5 x5 inb_S4x1024_S1x1024_3_0
  unfold runB
  dsimp only
  simp only [runB.sl.r, runB.sl.r_1, runB.sl.r_2, runB.sl.r_3]
  rw [w0, w1, w2, w3]
  erw [r0, r1, r2, r3]
  rfl

set_option maxHeartbeats 1000000 in
/-- The body at points of kind B, in terms of the blocks it reads and the contents it leaves. -/
theorem bodyB (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : ¬ condJ0 i) (hc2 : k0_cond2 i = 1#1) (hc5 : k0_cond5 i = 1#1) (hc6 : ¬ k0_cond6 i = 1#1) (hc7 : ¬ k0_cond7 i = 1#1)
    (x2 : Vec F S512x1024 .f32) (x3 : Vec F S1x1024 .f32) (x4 : Vec F S1024x1024 .bf16) (x5 : Vec F S4x1024 .f32) (x7 : Vec F S512x1024 .bf16) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) (E : Set ℕ) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ (∃ d, owns (c : Thread nD τ) arg8 fullShare d) ∗ owns (c : Thread nD τ) arg9 fullShare x9
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outQ (BitVec.ofNat 32 (i 1).val) top (k0_pay2 x7 x4) x5) ∗ owns (c : Thread nD τ) arg7 fullShare x7 ∗ (∃ d, owns (c : Thread nD τ) arg8 fullShare d) ∗ owns (c : Thread nD τ) arg9 fullShare (putHalo i x9 (k0_pay2 x7 x4))) -∗ K ⟨⟩)) : sProp 𝕄)
      ⊢ wp frame (wpE (defs₀ (F := F)) Variants.none c none) E (cc0_gdn_proj i arg2 harg2 arg3 harg3 arg4 harg4 arg5 harg5 arg6 harg6 arg7 harg7 arg8 harg8 arg9 harg9) K := by
  refine .trans ?_ ((runB c i arg2 harg2 arg3 harg3 arg4 harg4 arg5 harg5 arg6 harg6 arg7 harg7 arg8 harg8 arg9 harg9 hc1 hc2 hc5 hc6 hc7 x2 x3 x4 x5 x7 x9 top hcut).2 E K)
  iintro ⟨H2, H3, H4, H5, H6, H7, H8, H9, Hk⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, ⟨%f6, H6⟩, H7, H8, ⟨%Y, %hY, H9⟩⟩
  subst hY
  iapply Hk
  isplitl [H2]; · iexact H2
  isplitl [H3]; · iexact H3
  isplitl [H4]; · iexact H4
  isplitl [H5]; · iexact H5
  isplitl [H6]
  · unfold owns; iexists _; isplitr
    swap; · iexact H6
    ipureintro; exact (congrArg (fun L => arg6.view.read (Elt F) (arg6.view.writes (Elt F) f6 L)) (runB_pieces c i arg2 harg2 arg3 harg3 arg4 harg4 arg5 harg5 arg6 harg6 arg7 harg7 arg8 harg8 arg9 harg9 hc1 hc2 hc5 hc6 hc7 x2 x3 x4 x5 x7 x9 top hcut)).trans (read_piecesQ arg6.view f6 _ _ _ _)
  isplitl [H7]; · iexact H7
  isplitl [H8]; · iexact H8
  unfold owns; iexists _; isplitr
  swap; · iexact H9
  ipureintro; exact harg9.read_unread _

set_option maxHeartbeats 2000000 in
/-- The pieces run C leaves in the output's buffer, in terms of the blocks it reads. -/
theorem runC_pieces (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : ¬ condJ0 i) (hc2 : k0_cond2 i = 1#1) (hc5 : ¬ k0_cond5 i = 1#1) (hc6 : k0_cond6 i = 1#1) (hc7 : ¬ k0_cond7 i = 1#1)
    (x2 : Vec F S512x1024 .f32) (x3 : Vec F S1x1024 .f32) (x4 : Vec F S1024x1024 .bf16) (x5 : Vec F S4x1024 .f32) (x7 : Vec F S512x1024 .bf16) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) :
    (runC c i arg2 harg2 arg3 harg3 arg4 harg4 arg5 harg5 arg6 harg6 arg7 harg7 arg8 harg8 arg9 harg9 hc1 hc2 hc5 hc6 hc7 x2 x3 x4 x5 x7 x9 top hcut).1 = [⟨Rect.unit (s := S512x1024) ![0, 0] S512x1024.size inb_S512x1024_S512x1024_0_0, outV top (k0_pay2 x7 x4) x5⟩] := by
  have e4 := load_full harg4 x4 inb_S1024x1024_S1024x1024_0_0
  have e7 := load_full harg7 x7 inb_S512x1024_S512x1024_0_0
  have hY : k0_pay2 (View.readAt (Elt F) arg7.view (Rect.unit (s := S512x1024) ![0, 0] S512x1024.size inb_S512x1024_S512x1024_0_0).toLoadRect (harg7.unread x7)) (View.readAt (Elt F) arg4.view (Rect.unit (s := S1024x1024) ![0, 0] S1024x1024.size inb_S1024x1024_S1024x1024_0_0).toLoadRect (harg4.unread x4)) = k0_pay2 x7 x4 := congr (congrArg k0_pay2 e7) e4
  have w0 : runC.sl.v50 c arg4 harg4 arg7 harg7 arg8 harg8 x4 x7 top = window (yb top (k0_pay21 (k0_pay2 x7 x4))) ![5, 0] S512x1024.size inb_S520x1024_S512x1024_5_0 :=
    (load_win harg8 _ _).trans (congrArg (fun Y => window (yb top (k0_pay21 Y)) ![5, 0] S512x1024.size inb_S520x1024_S512x1024_5_0) hY)
  have r0 := load_win (off := ![0, 0]) (size := S1x1024.size) harg5 x5 inb_S4x1024_S1x1024_0_0
  have w1 : runC.sl.v55 c arg4 harg4 arg7 harg7 arg8 harg8 x4 x7 top = window (yb top (k0_pay21 (k0_pay2 x7 x4))) ![6, 0] S512x1024.size inb_S520x1024_S512x1024_6_0 :=
    (load_win harg8 _ _).trans (congrArg (fun Y => window (yb top (k0_pay21 Y)) ![6, 0] S512x1024.size inb_S520x1024_S512x1024_6_0) hY)
  have r1 := load_win (off := ![1, 0]) (size := S1x1024.size) harg5 x5 inb_S4x1024_S1x1024_1_0
  have w2 : runC.sl.v60 c arg4 harg4 arg7 harg7 arg8 harg8 x4 x7 top = window (yb top (k0_pay21 (k0_pay2 x7 x4))) ![7, 0] S512x1024.size inb_S520x1024_S512x1024_7_0 :=
    (load_win harg8 _ _).trans (congrArg (fun Y => window (yb top (k0_pay21 Y)) ![7, 0] S512x1024.size inb_S520x1024_S512x1024_7_0) hY)
  have r2 := load_win (off := ![2, 0]) (size := S1x1024.size) harg5 x5 inb_S4x1024_S1x1024_2_0
  have w3 : runC.sl.v65 c arg4 harg4 arg7 harg7 arg8 harg8 x4 x7 top = window (yb top (k0_pay21 (k0_pay2 x7 x4))) ![8, 0] S512x1024.size inb_S520x1024_S512x1024_8_0 :=
    (load_win harg8 _ _).trans (congrArg (fun Y => window (yb top (k0_pay21 Y)) ![8, 0] S512x1024.size inb_S520x1024_S512x1024_8_0) hY)
  have r3 := load_win (off := ![3, 0]) (size := S1x1024.size) harg5 x5 inb_S4x1024_S1x1024_3_0
  unfold runC
  dsimp only

  rw [w0, w1, w2, w3]
  erw [r0, r1, r2, r3]
  rfl

set_option maxHeartbeats 1000000 in
/-- The body at points of kind C, in terms of the blocks it reads and the contents it leaves. -/
theorem bodyC (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : ¬ condJ0 i) (hc2 : k0_cond2 i = 1#1) (hc5 : ¬ k0_cond5 i = 1#1) (hc6 : k0_cond6 i = 1#1) (hc7 : ¬ k0_cond7 i = 1#1)
    (x2 : Vec F S512x1024 .f32) (x3 : Vec F S1x1024 .f32) (x4 : Vec F S1024x1024 .bf16) (x5 : Vec F S4x1024 .f32) (x7 : Vec F S512x1024 .bf16) (x9 : Vec F S4x8x1024 .f32) (top : FVec F S8x1024 .f32)
    (hcut : ∀ (x8 : Vec F S520x1024 .f32) (y : FVec F S512x1024 .f32) (E : Set ℕ),
      (iprop((arg8.view.loc (c : Thread nD τ) ↦[arg8.view.set]{fullShare} harg8.unread x8) ∗ (arg9.view.loc (c : Thread nD τ) ↦[arg9.view.set]{fullShare} harg9.unread x9)) : sProp 𝕄)
        ⊢ wp frame (wpE (defs₀ (F := F)) Variants.none c none) E (k0_part3 i arg2 harg2 arg3 harg3 arg4 harg4 arg5 harg5 arg6 harg6 arg7 harg7 arg8 harg8 arg9 harg9 (BitVec.ofNat 32 (i 0).val) (BitVec.ofNat 32 (i 1).val) y hc2)
          (fun _ => iprop((arg8.view.loc (c : Thread nD τ) ↦[arg8.view.set]{fullShare} harg8.unread (yb top (k0_pay21 y))) ∗ (arg9.view.loc (c : Thread nD τ) ↦[arg9.view.set]{fullShare} harg9.unread (putHalo i x9 y))))) (E : Set ℕ) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ (∃ d, owns (c : Thread nD τ) arg8 fullShare d) ∗ owns (c : Thread nD τ) arg9 fullShare x9
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outV top (k0_pay2 x7 x4) x5) ∗ owns (c : Thread nD τ) arg7 fullShare x7 ∗ (∃ d, owns (c : Thread nD τ) arg8 fullShare d) ∗ owns (c : Thread nD τ) arg9 fullShare (putHalo i x9 (k0_pay2 x7 x4))) -∗ K ⟨⟩)) : sProp 𝕄)
      ⊢ wp frame (wpE (defs₀ (F := F)) Variants.none c none) E (cc0_gdn_proj i arg2 harg2 arg3 harg3 arg4 harg4 arg5 harg5 arg6 harg6 arg7 harg7 arg8 harg8 arg9 harg9) K := by
  refine .trans ?_ ((runC c i arg2 harg2 arg3 harg3 arg4 harg4 arg5 harg5 arg6 harg6 arg7 harg7 arg8 harg8 arg9 harg9 hc1 hc2 hc5 hc6 hc7 x2 x3 x4 x5 x7 x9 top hcut).2 E K)
  iintro ⟨H2, H3, H4, H5, H6, H7, H8, H9, Hk⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, ⟨%f6, H6⟩, H7, H8, ⟨%Y, %hY, H9⟩⟩
  subst hY
  iapply Hk
  isplitl [H2]; · iexact H2
  isplitl [H3]; · iexact H3
  isplitl [H4]; · iexact H4
  isplitl [H5]; · iexact H5
  isplitl [H6]
  · unfold owns; iexists _; isplitr
    swap; · iexact H6
    ipureintro; exact (congrArg (fun L => arg6.view.read (Elt F) (arg6.view.writes (Elt F) f6 L)) (runC_pieces c i arg2 harg2 arg3 harg3 arg4 harg4 arg5 harg5 arg6 harg6 arg7 harg7 arg8 harg8 arg9 harg9 hc1 hc2 hc5 hc6 hc7 x2 x3 x4 x5 x7 x9 top hcut)).trans (View.read_writes_full _ _ _ _ _)
  isplitl [H7]; · iexact H7
  isplitl [H8]; · iexact H8
  unfold owns; iexists _; isplitr
  swap; · iexact H9
  ipureintro; exact harg9.read_unread _

set_option maxHeartbeats 2000000 in
/-- The pieces run D leaves in the output's buffer, in terms of the blocks it reads. -/
theorem runD_pieces (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : ¬ condJ0 i) (hc2 : ¬ k0_cond2 i = 1#1) (hc7 : k0_cond7 i = 1#1)
    (x2 : Vec F S512x1024 .f32) (x3 : Vec F S1x1024 .f32) (x4 : Vec F S1024x1024 .bf16) (x5 : Vec F S4x1024 .f32) (x7 : Vec F S512x1024 .bf16) :
    (runD c i arg2 harg2 arg3 harg3 arg4 harg4 arg5 harg5 arg6 harg6 arg7 harg7 arg8 harg8 arg9 harg9 hc1 hc2 hc7 x2 x3 x4 x5 x7).1 = [⟨Rect.unit (s := S512x1024) ![0, 0] S512x1024.size inb_S512x1024_S512x1024_0_0, k0_pay7 x7 x4⟩] := by
  have e4 := load_full harg4 x4 inb_S1024x1024_S1024x1024_0_0
  have e7 := load_full harg7 x7 inb_S512x1024_S512x1024_0_0
  unfold runD
  dsimp only
  exact congrArg (fun w => [(⟨Rect.unit (s := S512x1024) ![0, 0] S512x1024.size inb_S512x1024_S512x1024_0_0, w⟩ : View.Piece (Elt F) S512x1024 .bf16)]) (congr (congrArg k0_pay7 e7) e4)

set_option maxHeartbeats 1000000 in
/-- The body at points of kind D, in terms of the blocks it reads and the contents it leaves. -/
theorem bodyD (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc1 : ¬ condJ0 i) (hc2 : ¬ k0_cond2 i = 1#1) (hc7 : k0_cond7 i = 1#1)
    (x2 : Vec F S512x1024 .f32) (x3 : Vec F S1x1024 .f32) (x4 : Vec F S1024x1024 .bf16) (x5 : Vec F S4x1024 .f32) (x7 : Vec F S512x1024 .bf16) (E : Set ℕ) (K : PUnit → sProp 𝕄) :
    (iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay7 x7 x4) ∗ owns (c : Thread nD τ) arg7 fullShare x7) -∗ K ⟨⟩)) : sProp 𝕄)
      ⊢ wp frame (wpE (defs₀ (F := F)) Variants.none c none) E (cc0_gdn_proj i arg2 harg2 arg3 harg3 arg4 harg4 arg5 harg5 arg6 harg6 arg7 harg7 arg8 harg8 arg9 harg9) K := by
  refine .trans ?_ ((runD c i arg2 harg2 arg3 harg3 arg4 harg4 arg5 harg5 arg6 harg6 arg7 harg7 arg8 harg8 arg9 harg9 hc1 hc2 hc7 x2 x3 x4 x5 x7).2 E K)
  iintro ⟨H2, H3, H4, H5, H6, H7, Hk⟩
  isplitl [H2]; · iexact H2
  isplitl [H3]; · iexact H3
  isplitl [H4]; · iexact H4
  isplitl [H5]; · iexact H5
  isplitl [H6]; · iexact H6
  isplitl [H7]; · iexact H7
  iintro ⟨H2, H3, H4, H5, ⟨%f6, H6⟩, H7⟩
  iapply Hk
  isplitl [H2]; · iexact H2
  isplitl [H3]; · iexact H3
  isplitl [H4]; · iexact H4
  isplitl [H5]; · iexact H5
  isplitl [H6]
  · unfold owns; iexists _; isplitr
    swap; · iexact H6
    ipureintro; exact (congrArg (fun L => arg6.view.read (Elt F) (arg6.view.writes (Elt F) f6 L)) (runD_pieces c i arg2 harg2 arg3 harg3 arg4 harg4 arg5 harg5 arg6 harg6 arg7 harg7 arg8 harg8 arg9 harg9 hc1 hc2 hc7 x2 x3 x4 x5 x7)).trans (View.read_writes_full _ _ _ _ _)
  iexact H7

end Cert.ConvIdeal.Gen

end
-- ==== Proof.Gp.Payload.lean ====
/-
  What the gated delta rule's projection call stores, at an index, over the extended reals.
-/
module

public import proofs.«01_k».proof.Proof.Gen.ConvIdeal.Skeleton
public import proofs.«01_k».proof.Proof.CvIdeal.Pieces
public import proofs.«01_k».proof.Proof.Ffn.Payload
public import Idealize.ShloMosaic.Lib.Pointwise

@[expose] public section

set_option maxRecDepth 16384

noncomputable section

namespace Cert.Proof.Gp

open Idealize.ShloMosaic Idealize.ShloMosaic.Tactic Cert.ConvIdeal Cert.ConvIdeal.Gen Cert.Proof.Ffn
open scoped BigOperators

/-- The gate an element passes: itself times its logistic. -/
def silu (x : EReal) : EReal := x * Ideal.logistic x

/-- A head over the root of its sum of squares plus the small constant, times `s`. -/
def unit (f : Fin 128 → EReal) (s : EReal) (l : Fin 128) : EReal :=
  f l * (Ideal.rsqrt ((∑ k, f k * f k) + Ideal.ofBits .f32 0x358637BD#32) * s)

/-- Four weighted rows added in order. -/
def conv4 (w p : Fin 4 → EReal) : EReal := w 0 * p 0 + w 1 * p 1 + w 2 * p 2 + w 3 * p 3

/-- The normalised block at an index. -/
theorem pay1_apply (x : Vec Ideal S512x1024 .f32) (g : Vec Ideal S1x1024 .f32) (r : Fin 512) (k : Fin 1024) :
    k0_pay1 (F := Ideal) x g (ix2 r k) = norm (fun l => x (ix2 r l)) (fun l => g (ix2 0 l)) k := by
  pointwise [k0_pay1]
  rfl

/-- A projected block at an index, -/
theorem pay2_apply (h : Vec Ideal S512x1024 .bf16) (w : Vec Ideal S1024x1024 .bf16) (r : Fin 512) (k : Fin 1024) :
    k0_pay2 (F := Ideal) h w (ix2 r k) = ∑ l, h (ix2 r l) * w (ix2 l k) := by
  pointwise [k0_pay2]

/-- and as it is stored. -/
theorem pay7_apply (h : Vec Ideal S512x1024 .bf16) (w : Vec Ideal S1024x1024 .bf16) (r : Fin 512) (k : Fin 1024) :
    k0_pay7 (F := Ideal) h w (ix2 r k) = ∑ l, h (ix2 r l) * w (ix2 l k) := by
  pointwise [k0_pay7, k0_pay2]

/-- The zero rows at an index. -/
theorem pay19_apply (r : Fin 8) (k : Fin 1024) : k0_pay19 (F := Ideal) (ix2 r k) = 0 := by
  pointwise [k0_pay19]

/-- The last eight rows of a block, carried over, at an index. -/
theorem pay20_apply (y : FVec Ideal S512x1024 .f32) (r : Fin 8) (k : Fin 1024) :
    k0_pay20 (F := Ideal) (k0_pay22 y) (ix2 r k) = y (ix2 ⟨504 + r.val, by omega⟩ k) := by
  pointwise [k0_pay20, k0_pay22]

theorem pay21_apply (y : FVec Ideal S512x1024 .f32) (r : Fin 512) (k : Fin 1024) :
    k0_pay21 (F := Ideal) y (ix2 r k) = y (ix2 r k) := by
  pointwise [k0_pay21]

/-- The convolution and its gate at an index. -/
theorem pay3_apply (w0 w1 w2 w3 : Vec Ideal S1x1024 .f32) (y0 y1 y2 y3 : Vec Ideal S512x1024 .f32) (r : Fin 512) (k : Fin 1024) :
    k0_pay3 (F := Ideal) w0 y0 w1 y1 w2 y2 w3 y3 (ix2 r k)
      = silu (conv4 ![w0 (ix2 0 k), w1 (ix2 0 k), w2 (ix2 0 k), w3 (ix2 0 k)] ![y0 (ix2 r k), y1 (ix2 r k), y2 (ix2 r k), y3 (ix2 r k)]) := by
  unfold silu conv4
  pointwise [k0_pay3]

theorem pay6_apply (w0 w1 w2 w3 : Vec Ideal S1x1024 .f32) (y0 y1 y2 y3 : Vec Ideal S512x1024 .f32) (r : Fin 512) (k : Fin 1024) :
    k0_pay6 (F := Ideal) w0 y0 w1 y1 w2 y2 w3 y3 (ix2 r k) = k0_pay3 (F := Ideal) w0 y0 w1 y1 w2 y2 w3 y3 (ix2 r k) := by
  generalize hz : k0_pay3 (F := Ideal) w0 y0 w1 y1 w2 y2 w3 y3 = z
  unfold k0_pay6
  rw [hz]
  pointwise []

/-- The query tile's heads are scaled, the key tile's are not. -/
theorem pay8_q : k0_pay8 (F := Ideal) 0#32 = Ideal.ofBits .f32 0x3DB504F3#32 := rfl
theorem pay8_k : k0_pay8 (F := Ideal) 1#32 = 1 := by
  refine Eq.trans ?_ Ideal.ofBits_one_f32
  exact @if_neg _ inferInstance (show ¬ (Scalar.cmpi .eq 1#32 0#32 : BitVec 1) = 1#1 by decide) _ (Ideal.ofBits .f32 0x3DB504F3#32) (Ideal.ofBits .f32 0x3F800000#32)

/-- A normalised head out of the gated block the body recomputes. -/
theorem pay5_apply (w0 w1 w2 w3 : Vec Ideal S1x1024 .f32) (y0 y1 y2 y3 : Vec Ideal S512x1024 .f32) (s : EReal) (r : Fin 512) (l : Fin 128) :
    k0_pay5 (F := Ideal) w0 y0 w1 y1 w2 y2 w3 y3 s (ix2 r l)
      = unit (fun l => k0_pay3 (F := Ideal) w0 y0 w1 y1 w2 y2 w3 y3 (ix2 r ⟨7 * 128 + l.val, by omega⟩)) s l := by
  generalize hz : k0_pay3 (F := Ideal) w0 y0 w1 y1 w2 y2 w3 y3 = z
  unfold unit k0_pay5
  rw [hz]
  pointwise []

variable (a : BitVec 32) (s : EReal) (z : FVec Ideal S512x1024 .f32) (r : Fin 512) (l : Fin 128)

theorem pay9_apply : k0_pay9 (F := Ideal) a z (ix2 r l) = unit (fun l => z (ix2 r ⟨0 * 128 + l.val, by omega⟩)) (k0_pay8 (F := Ideal) a) l := by
  generalize hs : k0_pay8 (F := Ideal) a = s
  unfold unit k0_pay9
  rw [hs]
  pointwise []

theorem pay10_apply : k0_pay10 (F := Ideal) a z (ix2 r l) = unit (fun l => z (ix2 r ⟨1 * 128 + l.val, by omega⟩)) (k0_pay8 (F := Ideal) a) l := by
  generalize hs : k0_pay8 (F := Ideal) a = s
  unfold unit k0_pay10
  rw [hs]
  pointwise []

theorem pay11_apply : k0_pay11 (F := Ideal) a z (ix2 r l) = unit (fun l => z (ix2 r ⟨2 * 128 + l.val, by omega⟩)) (k0_pay8 (F := Ideal) a) l := by
  generalize hs : k0_pay8 (F := Ideal) a = s
  unfold unit k0_pay11
  rw [hs]
  pointwise []

theorem pay13_apply : k0_pay13 (F := Ideal) s (k0_pay12 z) (ix2 r l) = unit (fun l => z (ix2 r ⟨3 * 128 + l.val, by omega⟩)) s l := by
  unfold unit
  pointwise [k0_pay13, k0_pay12]

theorem pay14_apply : k0_pay14 (F := Ideal) z s (ix2 r l) = unit (fun l => z (ix2 r ⟨4 * 128 + l.val, by omega⟩)) s l := by
  unfold unit
  pointwise [k0_pay14]

theorem pay15_apply : k0_pay15 (F := Ideal) z s (ix2 r l) = unit (fun l => z (ix2 r ⟨5 * 128 + l.val, by omega⟩)) s l := by
  unfold unit
  pointwise [k0_pay15]

theorem pay4_apply : k0_pay4 (F := Ideal) s (k0_pay16 z) (k0_pay17 z) (k0_pay18 (F := Ideal)) (ix2 r l) = unit (fun l => z (ix2 r ⟨6 * 128 + l.val, by omega⟩)) s l := by
  unfold unit
  pointwise [k0_pay4, k0_pay16, k0_pay17, k0_pay18]

/-- The buffer the convolution reads, at a row of the carried ones -/
theorem yb_top (top : FVec Ideal S8x1024 .f32) (y : FVec Ideal S512x1024 .f32) (r : Fin 520) (k : Fin 1024) (h : r.val < 8) :
    yb (F := Ideal) top y (ix2 r k) = top (ix2 ⟨r.val, h⟩ k) := by
  unfold yb VecWindow.put
  have hk := k.isLt
  have hn : ¬ 8 ≤ r.val := by omega
  have h0 : r.val < 0 + 8 := by omega
  have h1 : k.val < 0 + 1024 := by omega
  rw [dif_neg fun h' => hn (h' 0).1, dif_pos (Fin.forall_fin_two.mpr ⟨⟨Nat.zero_le _, h0⟩, ⟨Nat.zero_le _, h1⟩⟩)]
  refine congrArg top (funext fun b => Fin.ext ?_)
  match b with
  | ⟨0, _⟩ => rfl
  | ⟨1, _⟩ => rfl

/-- and at a row of the new ones. -/
theorem yb_new (top : FVec Ideal S8x1024 .f32) (y : FVec Ideal S512x1024 .f32) (r : Fin 520) (k : Fin 1024) (h : 8 ≤ r.val) :
    yb (F := Ideal) top y (ix2 r k) = y (ix2 ⟨r.val - 8, by omega⟩ k) := by
  unfold yb VecWindow.put
  have hk := k.isLt
  have hr := r.isLt
  have h0 : r.val < 8 + 512 := by omega
  have h1 : k.val < 0 + 1024 := by omega
  rw [dif_pos (Fin.forall_fin_two.mpr ⟨⟨h, h0⟩, ⟨Nat.zero_le _, h1⟩⟩)]
  refine congrArg y (funext fun b => Fin.ext ?_)
  match b with
  | ⟨0, _⟩ => rfl
  | ⟨1, _⟩ => rfl

end Cert.Proof.Gp

end
-- ==== Proof.Gp.Blocks.lean ====
/-
  What the gated delta rule's projection call leaves in its output's buffer, at an index, over the extended reals.
-/
module

public import proofs.«01_k».proof.Proof.Gp.Payload
public import Idealize.ShloMosaic.Lib.Pipeline.ValueKit

@[expose] public section

set_option maxRecDepth 16384

noncomputable section

namespace Cert.Proof.Gp

open Idealize.ShloMosaic Idealize.ShloMosaic.Tactic Idealize.ShloMosaic.TcCoe Cert.ConvIdeal Cert.ConvIdeal.Gen Cert.Proof.Ffn
open scoped BigOperators

variable (top : FVec Ideal S8x1024 .f32) (y : FVec Ideal S512x1024 .f32) (x5 : Vec Ideal S4x1024 .f32)

/-- The element `3 - j` rows above row `r` of a block, out of the carried rows where that is above the block. -/
def above (r : Fin 512) (k : Fin 1024) (j : Fin 4) : EReal :=
  if h : r.val + j.val < 3 then top (ix2 ⟨5 + j.val + r.val, by omega⟩ k) else y (ix2 ⟨r.val + j.val - 3, by omega⟩ k)

/-- The rows the convolution reads at one of its four offsets. -/
theorem win_apply (j : Fin 4) (off : ℕ) (hoff : off = 5 + j.val) (inb) (r : Fin 512) (k : Fin 1024) :
    VecWindow.window (yb (F := Ideal) top (k0_pay21 y)) ![off, 0] S512x1024.size inb (ix2 r k) = above top y r k j := by
  have hr := r.isLt
  have hj := j.isLt
  have he : (Rect.unit (s := S520x1024) ![off, 0] S512x1024.size inb).emb (ix2 r k) = (ix2 (⟨off + r.val, by omega⟩ : Fin 520) k : S520x1024.Idx) := by
    funext b; apply Fin.ext
    match b with
    | ⟨0, _⟩ => show off + 1 * r.val = off + r.val; omega
    | ⟨1, _⟩ => show 0 + 1 * k.val = k.val; omega
  refine (congrArg (yb (F := Ideal) top (k0_pay21 y)) he).trans ?_
  unfold above
  by_cases h : r.val + j.val < 3
  · rw [dif_pos h, yb_top _ _ _ _ (by dsimp only; omega)]
    refine congrArg (fun i => top (ix2 i k)) (Fin.ext ?_)
    dsimp only; omega
  · rw [dif_neg h, yb_new _ _ _ _ (by dsimp only; omega), pay21_apply]
    refine congrArg (fun i => y (ix2 i k)) (Fin.ext ?_)
    dsimp only; omega

/-- One row of the weights. -/
theorem row_apply (j : Fin 4) (inb) (k : Fin 1024) :
    VecWindow.window (s := S4x1024) x5 ![j.val, 0] S1x1024.size inb (ix2 0 k) = x5 (ix2 j k) := by
  refine congrArg x5 ?_
  funext b; apply Fin.ext
  match b with
  | ⟨0, _⟩ => show j.val + 1 * 0 = j.val; omega
  | ⟨1, _⟩ => show 0 + 1 * k.val = k.val; omega

/-- The convolved and gated block at an index. -/
theorem zOf_apply (r : Fin 512) (k : Fin 1024) :
    zOf (F := Ideal) top y x5 (ix2 r k) = silu (conv4 (fun j => x5 (ix2 j k)) (above top y r k)) := by
  unfold zOf
  rw [pay3_apply]
  unfold conv4
  dsimp only [Matrix.cons_val]
  rw [win_apply top y 0 5 rfl, win_apply top y 1 6 rfl, win_apply top y 2 7 rfl, win_apply top y 3 8 rfl]
  have h0 := row_apply x5 0 inb_S4x1024_S1x1024_0_0 k
  have h1 := row_apply x5 1 inb_S4x1024_S1x1024_1_0 k
  have h2 := row_apply x5 2 inb_S4x1024_S1x1024_2_0 k
  have h3 := row_apply x5 3 inb_S4x1024_S1x1024_3_0 k
  exact congrArg silu (congrArg₂ (· + ·) (congrArg₂ (· + ·) (congrArg₂ (· + ·) (congrArg (· * _) h0) (congrArg (· * _) h1)) (congrArg (· * _) h2)) (congrArg (· * _) h3))

/-- A value tile is that block. -/
theorem outV_apply (r : Fin 512) (k : Fin 1024) :
    outV (F := Ideal) top y x5 (ix2 r k) = zOf (F := Ideal) top y x5 (ix2 r k) := by
  unfold outV zOf
  exact pay6_apply _ _ _ _ _ _ _ _ r k

/-- The normalised head a column of the block lies in, at that column. -/
def heads (z : FVec Ideal S512x1024 .f32) (s : EReal) (r : Fin 512) (k : Fin 1024) : EReal :=
  unit (fun l => z (ix2 r ⟨k.val / 128 * 128 + l.val, by omega⟩)) s ⟨k.val % 128, by omega⟩

theorem heads_at (z : FVec Ideal S512x1024 .f32) (s : EReal) (r : Fin 512) (k : Fin 1024) (o : ℕ) (ho : o < 8) (l : Fin 128)
    (hk : k.val = o * 128 + l.val) : heads z s r k = unit (fun l => z (ix2 r ⟨o * 128 + l.val, by omega⟩)) s l := by
  unfold heads
  have h1 : k.val / 128 = o := by omega
  have h2 : (⟨k.val % 128, by omega⟩ : Fin 128) = l := Fin.ext (by dsimp only; omega)
  rw [h2]
  simp only [h1]

/-- A query or key tile is that block's normalised heads. -/
theorem outQ_apply (a : BitVec 32) (r : Fin 512) (k : Fin 1024) :
    outQ (F := Ideal) a top y x5 (ix2 r k) = heads (zOf (F := Ideal) top y x5) (k0_pay8 (F := Ideal) a) r k := by
  have e5 : ∀ (r : Fin 512) (l : Fin 128), k0_pay5 (F := Ideal) (VecWindow.window x5 ![0, 0] S1x1024.size inb_S4x1024_S1x1024_0_0) (VecWindow.window (yb top (k0_pay21 y)) ![5, 0] S512x1024.size inb_S520x1024_S512x1024_5_0) (VecWindow.window x5 ![1, 0] S1x1024.size inb_S4x1024_S1x1024_1_0) (VecWindow.window (yb top (k0_pay21 y)) ![6, 0] S512x1024.size inb_S520x1024_S512x1024_6_0) (VecWindow.window x5 ![2, 0] S1x1024.size inb_S4x1024_S1x1024_2_0) (VecWindow.window (yb top (k0_pay21 y)) ![7, 0] S512x1024.size inb_S520x1024_S512x1024_7_0) (VecWindow.window x5 ![3, 0] S1x1024.size inb_S4x1024_S1x1024_3_0) (VecWindow.window (yb top (k0_pay21 y)) ![8, 0] S512x1024.size inb_S520x1024_S512x1024_8_0) (k0_pay8 (F := Ideal) a) (ix2 r l)
      = unit (fun l => zOf (F := Ideal) top y x5 (ix2 r ⟨7 * 128 + l.val, by omega⟩)) (k0_pay8 (F := Ideal) a) l := by
    intro r l
    exact pay5_apply _ _ _ _ _ _ _ _ _ r l
  unfold outQ piecesQ
  generalize zOf (F := Ideal) top y x5 = z at e5 ⊢
  canon_tiles x h
  all_goals
    obtain ⟨a', l, rfl⟩ : ∃ (a : Fin 512) (l : Fin 128), x = ix2 a l := ⟨x 0, x 1, eq_ix2 x⟩
    obtain rfl : r = a' := Fin.ext h0
  · rw [heads_at _ _ r k 7 (by omega) l h1]; exact e5 r l
  · rw [heads_at _ _ r k 6 (by omega) l h1]; exact pay4_apply _ _ _ _
  · rw [heads_at _ _ r k 5 (by omega) l h1]; exact pay15_apply _ _ _ _
  · rw [heads_at _ _ r k 4 (by omega) l h1]; exact pay14_apply _ _ _ _
  · rw [heads_at _ _ r k 3 (by omega) l h1]; exact pay13_apply _ _ _ _
  · rw [heads_at _ _ r k 2 (by omega) l h1]; exact pay11_apply _ _ _ _
  · have h2 : k.val = 128 + l.val := h1
    rw [heads_at _ _ r k 1 (by omega) l (by omega)]; exact pay10_apply _ _ _ _
  · have h2 : k.val = l.val := by first | exact h1 | (simpa using h1)
    rw [heads_at _ _ r k 0 (by omega) l (by omega)]; exact pay9_apply _ _ _ _

end Cert.Proof.Gp

end
-- ==== Proof.CvIdeal.State.lean ====
/-
  The gated delta rule's projection call: what its output and its scratch buffers hold point by point, in closed form.
-/
module

public import proofs.«01_k».proof.Proof.CvIdeal.Pieces

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The rows are normalised at the first column tile of a row block. -/
theorem isJ0 : ∀ t : Fin cfg0.N, condJ0 (grid0.coords t) ↔ t.val % 6 = 0 :=
  (by decide +kernel : ∀ t : Fin grid0.N, condJ0 (grid0.coords t) ↔ t.val % 6 = 0)

/-- The first four column tiles are convolved. -/
theorem isConv : ∀ t : Fin cfg0.N, k0_cond2 (grid0.coords t) = 1#1 ↔ t.val % 6 < 4 :=
  (by decide +kernel : ∀ t : Fin grid0.N, k0_cond2 (grid0.coords t) = 1#1 ↔ t.val % 6 < 4)

/-- A row block is the first of its sequence every eighth time. -/
theorem isFirst : ∀ t : Fin cfg0.N, condFirst (grid0.coords t) ↔ t.val / 6 % 8 = 0 :=
  (by decide +kernel : ∀ t : Fin grid0.N, condFirst (grid0.coords t) ↔ t.val / 6 % 8 = 0)

/-- The other branch is taken the other times. -/
theorem isNext : ∀ t : Fin cfg0.N, k0_cond4 (grid0.coords t) = 1#1 ↔ ¬ t.val / 6 % 8 = 0 :=
  (by decide +kernel : ∀ t : Fin grid0.N, k0_cond4 (grid0.coords t) = 1#1 ↔ ¬ t.val / 6 % 8 = 0)

/-- The first two column tiles are normalised head by head. -/
theorem isQ : ∀ t : Fin cfg0.N, k0_cond5 (grid0.coords t) = 1#1 ↔ t.val % 6 < 2 :=
  (by decide +kernel : ∀ t : Fin grid0.N, k0_cond5 (grid0.coords t) = 1#1 ↔ t.val % 6 < 2)

/-- The others are not. -/
theorem isV : ∀ t : Fin cfg0.N, k0_cond6 (grid0.coords t) = 1#1 ↔ 2 ≤ t.val % 6 :=
  (by decide +kernel : ∀ t : Fin grid0.N, k0_cond6 (grid0.coords t) = 1#1 ↔ 2 ≤ t.val % 6)

/-- The last two column tiles are written as they are. -/
theorem isG : ∀ t : Fin cfg0.N, k0_cond7 (grid0.coords t) = 1#1 ↔ 4 ≤ t.val % 6 :=
  (by decide +kernel : ∀ t : Fin grid0.N, k0_cond7 (grid0.coords t) = 1#1 ↔ 4 ≤ t.val % 6)

/-- Where the carried rows of a tile are read, -/
theorem off1_eq : ∀ t : Fin cfg0.N, t.val % 6 < 4 → k0_off1 (grid0.coords t) = ![t.val % 6, 0, 0] :=
  (by decide +kernel : ∀ t : Fin grid0.N, t.val % 6 < 4 → k0_off1 (grid0.coords t) = ![t.val % 6, 0, 0])

/-- and where they are written. -/
theorem off2_eq : ∀ t : Fin cfg0.N, t.val % 6 < 4 → k0_off2 (grid0.coords t) = ![t.val % 6, 0, 0] :=
  (by decide +kernel : ∀ t : Fin grid0.N, t.val % 6 < 4 → k0_off2 (grid0.coords t) = ![t.val % 6, 0, 0])

/-- A position as a point of the grid. -/
abbrev pt (n : ℕ) : Fin cfg0.N := ⟨n % 384, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- The normalised rows of row block `b`. -/
def rowsOf (c : Dev nD) (b : ℕ) : FVec F S512x1024 .bf16 :=
  k0_pay1 (iblk m c 0 (pt (6 * b))) (iblk m c 1 (pt (6 * b)))

/-- Their projection to the columns of the tile at position `n`. -/
def projOf (c : Dev nD) (n : ℕ) : FVec F S512x1024 .f32 :=
  k0_pay2 (rowsOf m c (n / 6)) (iblk m c 2 (pt n))

/-- The eight rows above a tile: zeros at the start of a sequence, the last eight of the block before elsewhere. -/
def topOf (c : Dev nD) (n : ℕ) : FVec F S8x1024 .f32 :=
  if n / 6 % 8 = 0 then k0_pay19 (F := F) else k0_pay20 (k0_pay22 (projOf m c (n - 6)))

/-- The tile written at a position. -/
def tileOf (c : Dev nD) (n : ℕ) : FVec F S512x1024 .bf16 :=
  if n % 6 < 2 then outQ (BitVec.ofNat 32 ((grid0.coords (pt n)) 1).val) (topOf m c n) (projOf m c n) (iblk m c 3 (pt n))
  else if n % 6 < 4 then outV (topOf m c n) (projOf m c n) (iblk m c 3 (pt n))
  else k0_pay7 (rowsOf m c (n / 6)) (iblk m c 2 (pt n))

/-- The carried rows of tile `j`. -/
def slice (j : Fin 4) (x9 : Vec F S4x8x1024 .f32) : FVec F S1x8x1024 .f32 :=
  VecWindow.window x9 ![j.val, 0, 0] S1x8x1024.size (by
    intro a
    have := j.isLt
    fin_cases a
    · show j.val + 1 ≤ 4
      omega
    · show 0 + 8 ≤ 8
      omega
    · show 0 + 1024 ≤ 1024
      omega)

/-- What the two kept scratch buffers hold before position `n`: the row block's normalised rows, once they are made, and
    for each of the last six tiles that was convolved its last eight projected rows. -/
def Inv (c : Dev nD) (n : ℕ) (x7 : Vec F S512x1024 .bf16) (x9 : Vec F S4x8x1024 .f32) : Prop :=
  (n % 6 ≠ 0 → x7 = rowsOf m c (n / 6)) ∧ ∀ (j : Fin 4) (s : ℕ), s < n → n ≤ s + 6 → s % 6 = j.val → slice j x9 = k0_pay22 (projOf m c s)

/-- Nothing is asked before the first point. -/
theorem inv_zero (c : Dev nD) (x7 : Vec F S512x1024 .bf16) (x9 : Vec F S4x8x1024 .f32) : Inv m c 0 x7 x9 :=
  ⟨fun h => absurd rfl h, fun _ s hs => absurd hs (Nat.not_lt_zero s)⟩

/-- Windows at equal offsets are the same. -/
theorem slice_of_off (x9 : Vec F S4x8x1024 .f32) (j : Fin 4) (off : Fin 3 → ℕ) (h : off = ![j.val, 0, 0]) (inb : ∀ a, off a + S1x8x1024.size a ≤ S4x8x1024.size a) :
    VecWindow.window (s := S4x8x1024) x9 off S1x8x1024.size inb = slice j x9 := by
  subst h; rfl

theorem slice_put_same (x9 : Vec F S4x8x1024 .f32) (j : Fin 4) (off : Fin 3 → ℕ) (h : off = ![j.val, 0, 0]) (w : FVec F S1x8x1024 .f32) :
    slice j (VecWindow.put (s := S4x8x1024) x9 off S1x8x1024.size w) = w := by
  subst h; exact VecWindow.window_put_same (s := S4x8x1024) x9 _ _ _ _

theorem slice_put_other (x9 : Vec F S4x8x1024 .f32) (j k : Fin 4) (hjk : j ≠ k) (off : Fin 3 → ℕ) (h : off = ![k.val, 0, 0]) (w : FVec F S1x8x1024 .f32) :
    slice j (VecWindow.put (s := S4x8x1024) x9 off S1x8x1024.size w) = slice j x9 := by
  subst h
  refine VecWindow.window_put_of_disjoint (s := S4x8x1024) x9 _ _ _ _ _ _ (0 : Fin 3) ?_
  have : j.val ≠ k.val := fun e => hjk (Fin.ext e)
  show j.val + 1 ≤ k.val ∨ k.val + 1 ≤ j.val
  omega

/-- The eight rows a point reads are the ones the tile before it in the sequence left. -/
theorem top_of_inv (c : Dev nD) (t : Fin cfg0.N) (x7 : Vec F S512x1024 .bf16) (x9 : Vec F S4x8x1024 .f32) (hI : Inv m c t.val x7 x9) (h4 : t.val % 6 < 4)
    (h8 : ¬ t.val / 6 % 8 = 0) (inb : ∀ a, k0_off1 (grid0.coords t) a + S1x8x1024.size a ≤ S4x8x1024.size a) :
    k0_pay20 (VecWindow.window (s := S4x8x1024) x9 (k0_off1 (grid0.coords t)) S1x8x1024.size inb) = topOf m c t.val := by
  unfold topOf
  rw [if_neg h8]
  exact congrArg (k0_pay20 (F := F)) ((slice_of_off x9 ⟨t.val % 6, h4⟩ _ (off1_eq t h4) inb).trans
    (hI.2 ⟨t.val % 6, h4⟩ (t.val - 6) (by omega) (by omega) (by show (t.val - 6) % 6 = t.val % 6; omega)))

/-- A convolved tile keeps the invariant, -/
theorem inv_conv (c : Dev nD) (t : Fin cfg0.N) (x7 : Vec F S512x1024 .bf16) (x9 : Vec F S4x8x1024 .f32) (hI : Inv m c t.val x7 x9) (h4 : t.val % 6 < 4) :
    Inv m c (t.val + 1) (rowsOf m c (t.val / 6)) (putHalo (grid0.coords t) x9 (projOf m c t.val)) := by
  refine ⟨fun h => congrArg (rowsOf m c) (by omega), fun j s hs hn hj => ?_⟩
  by_cases hst : s = t.val
  · subst hst
    exact slice_put_same x9 j _ ((off2_eq t h4).trans (by rw [hj])) _
  · have hj' := j.isLt
    refine (slice_put_other x9 j ⟨t.val % 6, h4⟩ (fun e => ?_) _ (off2_eq t h4) _).trans (hI.2 j s (by omega) (by omega) hj)
    have : j.val = t.val % 6 := congrArg Fin.val e
    omega

/-- and so does one that is not. -/
theorem inv_plain (c : Dev nD) (t : Fin cfg0.N) (x7 : Vec F S512x1024 .bf16) (x9 : Vec F S4x8x1024 .f32) (hI : Inv m c t.val x7 x9) (h4 : 4 ≤ t.val % 6) :
    Inv m c (t.val + 1) x7 x9 := by
  refine ⟨fun h => (hI.1 (by omega)).trans (congrArg (rowsOf m c) (by omega)), fun j s hs hn hj => ?_⟩
  have hj' := j.isLt
  have hst : s ≠ t.val := fun e => by subst e; omega
  exact hI.2 j s (by omega) (by omega) hj

theorem rows_of_first (c : Dev nD) (t : Fin cfg0.N) (h : t.val % 6 = 0) :
    k0_pay1 (iblk m c 0 t) (iblk m c 1 t) = rowsOf m c (t.val / 6) := by
  have e : pt (6 * (t.val / 6)) = t := (congrArg pt (by omega)).trans (pt_val t)
  unfold rowsOf
  rw [e]

theorem proj_eq (c : Dev nD) (t : Fin cfg0.N) : k0_pay2 (rowsOf m c (t.val / 6)) (iblk m c 2 t) = projOf m c t.val := by
  unfold projOf
  rw [pt_val]

theorem tile_Q (c : Dev nD) (t : Fin cfg0.N) (h : t.val % 6 < 2) :
    tileOf m c t.val = outQ (BitVec.ofNat 32 ((grid0.coords t) 1).val) (topOf m c t.val) (projOf m c t.val) (iblk m c 3 t) := by
  unfold tileOf
  rw [if_pos h, pt_val]

theorem tile_V (c : Dev nD) (t : Fin cfg0.N) (h : ¬ t.val % 6 < 2) (h4 : t.val % 6 < 4) :
    tileOf m c t.val = outV (topOf m c t.val) (projOf m c t.val) (iblk m c 3 t) := by
  unfold tileOf
  rw [if_neg h, if_pos h4, pt_val]

theorem tile_G (c : Dev nD) (t : Fin cfg0.N) (h : 4 ≤ t.val % 6) :
    tileOf m c t.val = k0_pay7 (rowsOf m c (t.val / 6)) (iblk m c 2 t) := by
  unfold tileOf
  rw [if_neg (by omega), if_neg (by omega), pt_val]

end Cert.ConvIdeal.Gen

end
-- ==== Proof.CvIdeal.Frame.lean ====
/-
  The gated delta rule's projection call runs: its body's obligation at every point, the launch, and the frame.
-/
module

public import proofs.«01_k».proof.Proof.CvIdeal.State
public import Idealize.ShloMosaic.Lib.Claim

@[expose] public section

set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! The buffers a point is given. -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev scM0_0 : Memref sig .tc .vmem S512x1024 .bf16 := Memref.whole cc0_scratch0
abbrev scM0_1 : Memref sig .tc .vmem S520x1024 .f32 := Memref.whole cc0_scratch1
abbrev scM0_2 : Memref sig .tc .vmem S4x8x1024 .f32 := Memref.whole cc0_scratch2

/-- No window is ever idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := by decide +kernel

/-- What the launch hands the region, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n`: two scratch buffers at contents `Inv` speaks of, the third at any. -/
def PhiS (c : Dev nD) (n : ℕ) : sProp 𝕄 :=
  iprop(∃ x7, ∃ x9, ⌜Inv m c n x7 x9⌝ ∗ owns (c : Thread nD τ) scM0_0 fullShare x7 ∗ (∃ d, owns (c : Thread nD τ) scM0_1 fullShare d) ∗ owns (c : Thread nD τ) scM0_2 fullShare x9 ∗ (∃ r, prngReg c r))

/-- The data of the pipeline's proof: inputs keep their blocks, the output's block is its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOf m c t.val
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = tileOf m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The part of the body that fills the convolution's window, at any convolved tile. -/
theorem cut (c : Dev nD) (t : Fin cfg0.N) (x7 : Vec F S512x1024 .bf16) (x9 : Vec F S4x8x1024 .f32) (hI : Inv m c t.val x7 x9) (h4 : t.val % 6 < 4)
    (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S4x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S520x1024 .f32) (harg8 : arg8.IsWhole) (arg9 : Memref sig .tc .vmem S4x8x1024 .f32) (harg9 : arg9.IsWhole) (hc2 : k0_cond2 (grid0.coords t) = 1#1)
    (x8 : Vec F S520x1024 .f32) (y : FVec F S512x1024 .f32) (E : Set ℕ) :
    (iprop((arg8.view.loc (c : Thread nD τ) ↦[arg8.view.set]{fullShare} harg8.unread x8) ∗ (arg9.view.loc (c : Thread nD τ) ↦[arg9.view.set]{fullShare} harg9.unread x9)) : sProp 𝕄)
      ⊢ wp frame (wpE (defs₀ (F := F)) Variants.none c none) E (k0_part3 (grid0.coords t) arg2 harg2 arg3 harg3 arg4 harg4 arg5 harg5 arg6 harg6 arg7 harg7 arg8 harg8 arg9 harg9 (BitVec.ofNat 32 ((grid0.coords t) 0).val) (BitVec.ofNat 32 ((grid0.coords t) 1).val) y hc2)
        (fun _ => iprop((arg8.view.loc (c : Thread nD τ) ↦[arg8.view.set]{fullShare} harg8.unread (yb (topOf m c t.val) (k0_pay21 y))) ∗ (arg9.view.loc (c : Thread nD τ) ↦[arg9.view.set]{fullShare} harg9.unread (putHalo (grid0.coords t) x9 y)))) := by
  by_cases h8 : t.val / 6 % 8 = 0
  · have e : topOf m c t.val = k0_pay19 (F := F) := if_pos h8
    rw [e]
    exact part3_first c (grid0.coords t) arg2 harg2 arg3 harg3 arg4 harg4 arg5 harg5 arg6 harg6 arg7 harg7 arg8 harg8 arg9 harg9 hc2 ((isFirst t).mpr h8) (fun h => (isNext t).mp h h8) x8 x9 y E
  · have hc4 := (isNext t).mpr h8
    rw [← top_of_inv m c t x7 x9 hI h4 h8 (k0_off1_inb (grid0.coords t) hc2 hc4)]
    exact part3_next c (grid0.coords t) arg2 harg2 arg3 harg3 arg4 harg4 arg5 harg5 arg6 harg6 arg7 harg7 arg8 harg8 arg9 harg9 hc2 (fun h => h8 ((isFirst t).mp h)) hc4 x8 x9 y E

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 384 := lt_of_lt_of_eq t.isLt (show cfg0.N = 384 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  unfold PhiS
  by_cases h4 : t.val % 6 < 4
  · by_cases h2 : t.val % 6 < 2
    · by_cases h0 : t.val % 6 = 0
      · iintro ⟨⟨%x7, %x9, %hI, HS0, HS1, HS2, Hg⟩, Ho, ⟨%d0, H0⟩, ⟨%d1, H1⟩, ⟨%d2, H2⟩, ⟨%d3, H3⟩, ⟨%d4, H4⟩⟩
        iapply (bodyA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((isJ0 t).mpr h0) ((isConv t).mpr h4) ((isQ t).mpr h2) (fun h => absurd ((isV t).mp h) (by omega)) (fun h => absurd ((isG t).mp h) (by omega)) (iblk m c 0 t) (iblk m c 1 t) (iblk m c 2 t) (iblk m c 3 t) x9 (topOf m c t.val) (cut m c t x7 x9 hI h4 (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((isConv t).mpr h4)) Set.univ _)
        isplitl [H0]; · iexact H0
        isplitl [H1]; · iexact H1
        isplitl [H2]; · iexact H2
        isplitl [H3]; · iexact H3
        isplitl [H4]; · iexists _; iexact H4
        isplitl [HS0]; · iexists _; iexact HS0
        isplitl [HS1]; · iexact HS1
        isplitl [HS2]; · iexact HS2
        iintro ⟨H0, H1, H2, H3, H4, HS0, HS1, HS2⟩
        rw [rows_of_first m c t h0]
        rw [proj_eq m c t]
        isplitl [HS0 HS1 HS2 Hg]
        · iexists _; iexists _; isplitr
          swap
          · isplitl [HS0]; · iexact HS0
            isplitl [HS1]; · iexact HS1
            isplitl [HS2]; · iexact HS2
            iexact Hg
          ipureintro; exact inv_conv m c t x7 x9 hI h4
        isplitl [Ho]; · iexact Ho
        isplitl [H0]; · iexact H0
        isplitl [H1]; · iexact H1
        isplitl [H2]; · iexact H2
        isplitl [H3]; · iexact H3
        rw [tile_Q m c t h2]
        iexact H4
      · iintro ⟨⟨%x7, %x9, %hI, HS0, HS1, HS2, Hg⟩, Ho, ⟨%d0, H0⟩, ⟨%d1, H1⟩, ⟨%d2, H2⟩, ⟨%d3, H3⟩, ⟨%d4, H4⟩⟩
        have hx := hI.1 (by omega)
        subst hx
        iapply (bodyB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => absurd ((isJ0 t).mp h) h0) ((isConv t).mpr h4) ((isQ t).mpr h2) (fun h => absurd ((isV t).mp h) (by omega)) (fun h => absurd ((isG t).mp h) (by omega)) (iblk m c 0 t) (iblk m c 1 t) (iblk m c 2 t) (iblk m c 3 t) (rowsOf m c (t.val / 6)) x9 (topOf m c t.val) (cut m c t (rowsOf m c (t.val / 6)) x9 hI h4 (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((isConv t).mpr h4)) Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, H4, HS0, HS1, HS2⟩
        rw [proj_eq m c t]
        isplitl [HS0 HS1 HS2 Hg]
        · iexists _; iexists _; isplitr
          swap
          · isplitl [HS0]; · iexact HS0
            isplitl [HS1]; · iexact HS1
            isplitl [HS2]; · iexact HS2
            iexact Hg
          ipureintro; exact inv_conv m c t (rowsOf m c (t.val / 6)) x9 hI h4
        isplitl [Ho]; · iexact Ho
        isplitl [H0]; · iexact H0
        isplitl [H1]; · iexact H1
        isplitl [H2]; · iexact H2
        isplitl [H3]; · iexact H3
        rw [tile_Q m c t h2]
        iexact H4
    · have h0 : ¬ t.val % 6 = 0 := by omega
      iintro ⟨⟨%x7, %x9, %hI, HS0, HS1, HS2, Hg⟩, Ho, ⟨%d0, H0⟩, ⟨%d1, H1⟩, ⟨%d2, H2⟩, ⟨%d3, H3⟩, ⟨%d4, H4⟩⟩
      have hx := hI.1 (by omega)
      subst hx
      iapply (bodyC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => absurd ((isJ0 t).mp h) h0) ((isConv t).mpr h4) (fun h => absurd ((isQ t).mp h) h2) ((isV t).mpr (by omega)) (fun h => absurd ((isG t).mp h) (by omega)) (iblk m c 0 t) (iblk m c 1 t) (iblk m c 2 t) (iblk m c 3 t) (rowsOf m c (t.val / 6)) x9 (topOf m c t.val) (cut m c t (rowsOf m c (t.val / 6)) x9 hI h4 (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((isConv t).mpr h4)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      rw [proj_eq m c t]
      isplitl [HS0 HS1 HS2 Hg]
      · iexists _; iexists _; isplitr
        swap
        · isplitl [HS0]; · iexact HS0
          isplitl [HS1]; · iexact HS1
          isplitl [HS2]; · iexact HS2
          iexact Hg
        ipureintro; exact inv_conv m c t (rowsOf m c (t.val / 6)) x9 hI h4
      isplitl [Ho]; · iexact Ho
      isplitl [H0]; · iexact H0
      isplitl [H1]; · iexact H1
      isplitl [H2]; · iexact H2
      isplitl [H3]; · iexact H3
      rw [tile_V m c t h2 h4]
      iexact H4
  · have h4 : 4 ≤ t.val % 6 := by omega
    iintro ⟨⟨%x7, %x9, %hI, HS0, HS1, HS2, Hg⟩, Ho, ⟨%d0, H0⟩, ⟨%d1, H1⟩, ⟨%d2, H2⟩, ⟨%d3, H3⟩, ⟨%d4, H4⟩⟩
    have hx := hI.1 (by omega)
    subst hx
    iapply (bodyD c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => absurd ((isJ0 t).mp h) (by omega)) (fun h => absurd ((isConv t).mp h) (by omega)) ((isG t).mpr h4) (iblk m c 0 t) (iblk m c 1 t) (iblk m c 2 t) (iblk m c 3 t) (rowsOf m c (t.val / 6)) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 HS1 HS2 Hg]
    · iexists _; iexists _; isplitr
      swap
      · isplitl [HS0]; · iexact HS0
        isplitl [HS1]; · iexact HS1
        isplitl [HS2]; · iexact HS2
        iexact Hg
      ipureintro; exact inv_plain m c t _ x9 hI h4
    isplitl [Ho]; · iexact Ho
    isplitl [H0]; · iexact H0
    isplitl [H1]; · iexact H1
    isplitl [H2]; · iexact H2
    isplitl [H3]; · iexact H3
    rw [tile_G m c t h4]
    iexact H4

theorem defs₀_row (t : Fin cfg0.N) :
    defs₀ (F := F) .tc cfg0.body (cfg0.bodyArgs t (cfg0.slots t)) = bodyAt0 t := by
  unfold defs₀; rw [Defs.onTc_tc]

/-- The pipeline's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%x7, HS0⟩, HS1, ⟨%x9, HS2⟩⟩, Hg⟩
  iexists _; iexists _; isplitr
  swap
  · isplitl [HS0]; · iexact HS0
    isplitl [HS1]; · iexact HS1
    isplitl [HS2]; · iexact HS2
    iexact Hg
  ipureintro; exact inv_zero m c _ _

/-- and after the last it gives that back. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%x7, %x9, -, HS0, HS1, HS2, Hg⟩
  isplitl [HS0 HS1 HS2]
  · isplitl [HS0]; · iexists _; iexact HS0
    isplitl [HS1]; · iexact HS1
    iexists _; iexact HS2
  iexact Hg

set_option backward.isDefEq.respectTransparency.types false in
/-- The launch: the arrays end as the data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, for any values. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ConvIdeal.Gen

end
-- ==== Proof.Gp.Value.lean ====
/-
  The result array of the gated delta rule's projection call, element by element, over the extended reals.
-/
module

public import proofs.«01_k».proof.Proof.Gp.Blocks
public import proofs.«01_k».proof.Proof.CvIdeal.Frame
public import proofs.«01_k».proof.Proof.Rot.Value
public import Idealize.ShloMosaic.Lib.StableHlo.ReadAt

@[expose] public section

set_option maxRecDepth 16384

noncomputable section

namespace Cert.Proof.Gp

open Idealize.ShloMosaic Idealize.ShloMosaic.Tactic Idealize.ShloMosaic.TcCoe Cert.ConvIdeal Cert.ConvIdeal.Gen Cert.Proof.Ffn
open Cert.Proof.Rot (proj)
open scoped BigOperators

/-- The element `3 - j` tokens before token `r` of its sequence, zero before the sequence's start. -/
def prev (Y : Fin 32768 → EReal) (r : Fin 32768) (j : Fin 4) : EReal :=
  if h : r.val % 4096 + j.val < 3 then 0 else Y ⟨r.val + j.val - 3, by omega⟩

/-- A projected column convolved over the last four tokens and gated. -/
def mixed (Y : Fin 32768 → Fin 6144 → EReal) (C : Fin 4 → Fin 4096 → EReal) (r : Fin 32768) (k : Fin 6144) : EReal :=
  silu (conv4 (fun j => C j ⟨k.val % 4096, by omega⟩) (prev (fun r => Y r k) r))

/-- The result: the query heads normalised and scaled, the key heads normalised, the values as they are, the gates as projected. -/
def whole (Y : Fin 32768 → Fin 6144 → EReal) (C : Fin 4 → Fin 4096 → EReal) (r : Fin 32768) (k : Fin 6144) : EReal :=
  if k.val / 1024 = 0 then
    unit (fun l => mixed Y C r ⟨k.val / 128 * 128 + l.val, by omega⟩) (Ideal.ofBits .f32 0x3DB504F3#32) ⟨k.val % 128, by omega⟩
  else if k.val / 1024 = 1 then
    unit (fun l => mixed Y C r ⟨k.val / 128 * 128 + l.val, by omega⟩) 1 ⟨k.val % 128, by omega⟩
  else if k.val / 1024 < 4 then mixed Y C r k else Y r k

variable (m : (ℓ : Loc nD τ sig) → Buf (Elt Ideal) ℓ) (c : Dev nD)

/-- The arguments as functions of coordinates. -/
abbrev X (r : Fin 32768) (k : Fin 1024) : EReal :=
  (m ((c : Thread nD τ).loc main_arg0) : Vec Ideal S8x4096x1024 .f32) (ix3 ⟨r.val / 4096, by omega⟩ ⟨r.val % 4096, by omega⟩ k)
abbrev G (k : Fin 1024) : EReal := (m ((c : Thread nD τ).loc main_arg1) : Vec Ideal S1024 .f32) (ix1 k)
abbrev W (a : Fin 1024) (k : Fin 6144) : EReal := (m ((c : Thread nD τ).loc main_arg2) : Vec Ideal S1024x6144 .f32) (ix2 a k)
abbrev C (a : Fin 4) (k : Fin 4096) : EReal := (m ((c : Thread nD τ).loc main_arg3) : Vec Ideal S4x4096 .f32) (ix2 a k)

/-- The projection of every token. -/
def Y (r : Fin 32768) (u : Fin 6144) : EReal := proj (X m c r) (G m c) (W m c) u

/-- The result array. -/
def out : Vec Ideal S32768x6144 .bf16 := fun i => whole (Y m c) (C m c) (i 0) (i 1)

theorem V_x (r : Fin 32768) (k : Fin 1024) : (V m c main_v0 : Vec Ideal S32768x1024 .f32) (ix2 r k) = X m c r k := by
  unfold V; after_reads_at
theorem V_w (a : Fin 1024) (k : Fin 6144) : (V m c main_v1 : Vec Ideal S1024x6144 .bf16) (ix2 a k) = W m c a k := by
  unfold V; after_reads_at
theorem V_g (k : Fin 1024) : (V m c main_v2 : Vec Ideal S1x1024 .f32) (ix2 0 k) = G m c k := by unfold V; after_reads_at
theorem V_c (a : Fin 4) (k : Fin 4096) : (V m c main_arg3 : Vec Ideal S4x4096 .f32) (ix2 a k) = C m c a k := by
  unfold V; after_reads_at

theorem idx0 : ∀ t : Fin cfg0.N, win0_0.index t = ![t.val / 6, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 6] := (by decide +kernel : ∀ t : Fin grid0.N, _)
theorem idx3 : ∀ t : Fin cfg0.N, t.val % 6 < 4 → win0_3.index t = ![0, t.val % 6] :=
  (by decide +kernel : ∀ t : Fin grid0.N, t.val % 6 < 4 → win0_3.index t = ![0, t.val % 6])
theorem idx4 : ∀ t : Fin cfg0.N, win0_4.index t = ![t.val / 6, t.val % 6] := (by decide +kernel : ∀ t : Fin grid0.N, _)
theorem crd1 : ∀ t : Fin cfg0.N, (grid0.coords t 1).val = t.val % 6 := (by decide +kernel : ∀ t : Fin grid0.N, _)

theorem blk_x (t : Fin cfg0.N) (a : Fin 512) (k : Fin 1024) (h : t.val / 6 * 512 + a.val < 32768) :
    (iblk m c 0 t : Vec Ideal S512x1024 .f32) (ix2 a k) = X m c ⟨t.val / 6 * 512 + a.val, h⟩ k := by
  rw [← V_x]
  blk_simp [iblk]
  refine congrArg (V m c main_v0 : Vec Ideal S32768x1024 .f32) ?_
  blk_ext [idx0]

theorem blk_g (t : Fin cfg0.N) (k : Fin 1024) : (iblk m c 1 t : Vec Ideal S1x1024 .f32) (ix2 0 k) = G m c k := by
  rw [← V_g]
  blk_simp [iblk]
  refine congrArg (V m c main_v2 : Vec Ideal S1x1024 .f32) ?_
  blk_ext [idx1]

theorem blk_w (t : Fin cfg0.N) (u : Fin 1024) (k : Fin 1024) (h : t.val % 6 * 1024 + k.val < 6144) :
    (iblk m c 2 t : Vec Ideal S1024x1024 .bf16) (ix2 u k) = W m c u ⟨t.val % 6 * 1024 + k.val, h⟩ := by
  rw [← V_w]
  blk_simp [iblk]
  refine congrArg (V m c main_v1 : Vec Ideal S1024x6144 .bf16) ?_
  blk_ext [idx2]

theorem blk_c (t : Fin cfg0.N) (j : Fin 4) (k : Fin 1024) (h4 : t.val % 6 < 4) (h : t.val % 6 * 1024 + k.val < 4096) :
    (iblk m c 3 t : Vec Ideal S4x1024 .f32) (ix2 j k) = C m c j ⟨t.val % 6 * 1024 + k.val, h⟩ := by
  have h3 := idx3 t h4
  rw [← V_c]
  blk_simp [iblk]
  refine congrArg (V m c main_arg3 : Vec Ideal S4x4096 .f32) ?_
  blk_ext [h3]

/-- A row of a normalised row block times a column of the weights' block is the row's projection. -/
theorem prod_at (t : Fin cfg0.N) (a : Fin 512) (k : Fin 1024) (h : t.val / 6 * 512 + a.val < 32768) (h' : t.val % 6 * 1024 + k.val < 6144) :
    (∑ l : Fin 1024, rowsOf m c (t.val / 6) (ix2 a l) * (iblk m c 2 t : Vec Ideal S1024x1024 .bf16) (ix2 l k))
      = Y m c ⟨t.val / 6 * 512 + a.val, h⟩ ⟨t.val % 6 * 1024 + k.val, h'⟩ := by
  have hN : cfg0.N = 384 := N_0
  have ht : t.val < cfg0.N := t.isLt
  have hq : (pt (6 * (t.val / 6))).val / 6 = t.val / 6 := by show 6 * (t.val / 6) % 384 / 6 = _; omega
  unfold Y proj
  refine Finset.sum_congr rfl fun l _ => congrArg₂ (· * ·) ?_ ?_
  · unfold rowsOf
    rw [pay1_apply]
    congr 1
    · funext u
      rw [blk_x m c _ a u (by omega)]
      simp only [hq]
    · funext u
      rw [blk_g]
  · rw [blk_w m c t l k h']

/-- The projected block of a point, at an index. -/
theorem projOf_apply (t : Fin cfg0.N) (a : Fin 512) (k : Fin 1024) (h : t.val / 6 * 512 + a.val < 32768) (h' : t.val % 6 * 1024 + k.val < 6144) :
    projOf m c t.val (ix2 a k) = Y m c ⟨t.val / 6 * 512 + a.val, h⟩ ⟨t.val % 6 * 1024 + k.val, h'⟩ := by
  unfold projOf
  rw [pay2_apply, pt_val, prod_at m c t a k h h']

/-- The rows the convolution reads are the last four tokens of the sequence. -/
theorem above_apply (t : Fin cfg0.N) (a : Fin 512) (k : Fin 1024) (j : Fin 4) (h : t.val / 6 * 512 + a.val < 32768) (h' : t.val % 6 * 1024 + k.val < 6144) :
    above (topOf m c t.val) (projOf m c t.val) a k j
      = prev (fun r => Y m c r ⟨t.val % 6 * 1024 + k.val, h'⟩) ⟨t.val / 6 * 512 + a.val, h⟩ j := by
  have hN : cfg0.N = 384 := N_0
  have ht : t.val < cfg0.N := t.isLt
  have ha := a.isLt
  have hj := j.isLt
  unfold above prev topOf
  by_cases h1 : a.val + j.val < 3
  · rw [dif_pos h1]
    by_cases h2 : t.val / 6 % 8 = 0
    · rw [if_pos h2, dif_pos (by dsimp only; omega), pay19_apply]
    · rw [if_neg h2, dif_neg (by dsimp only; omega), pay20_apply]
      obtain ⟨s, hs⟩ : ∃ s : Fin cfg0.N, s.val = t.val - 6 := ⟨⟨t.val - 6, by omega⟩, rfl⟩
      rw [← hs, projOf_apply m c s _ k (by dsimp only; omega) (by omega)]
      refine congrArg₂ (Y m c) (Fin.ext ?_) (Fin.ext ?_)
      · dsimp only; omega
      · dsimp only; omega
  · rw [dif_neg h1, dif_neg (by dsimp only; omega), projOf_apply m c t _ k (by dsimp only; omega) h']
    refine congrArg₂ (Y m c) (Fin.ext ?_) rfl
    dsimp only; omega

/-- The convolved and gated block of a point, at an index. -/
theorem z_apply (t : Fin cfg0.N) (h4 : t.val % 6 < 4) (a : Fin 512) (k : Fin 1024) (h : t.val / 6 * 512 + a.val < 32768) (h' : t.val % 6 * 1024 + k.val < 6144) :
    zOf (F := Ideal) (topOf m c t.val) (projOf m c t.val) (iblk m c 3 t) (ix2 a k)
      = mixed (Y m c) (C m c) ⟨t.val / 6 * 512 + a.val, h⟩ ⟨t.val % 6 * 1024 + k.val, h'⟩ := by
  rw [zOf_apply]
  unfold mixed
  have hk : ∀ h'' : t.val % 6 * 1024 + k.val < 4096, (⟨t.val % 6 * 1024 + k.val, h''⟩ : Fin 4096) = ⟨(t.val % 6 * 1024 + k.val) % 4096, by omega⟩ := fun h'' =>
    Fin.ext (by dsimp only; omega)
  refine congrArg silu (congrArg₂ conv4 (funext fun j => ?_) (funext fun j => above_apply m c t a k j h h'))
  rw [blk_c m c t j k h4 (by omega), hk]

/-- The tile of a point, at an index. -/
theorem tile_apply (t : Fin cfg0.N) (a : Fin 512) (k : Fin 1024) (h : t.val / 6 * 512 + a.val < 32768) (h' : t.val % 6 * 1024 + k.val < 6144) :
    tileOf m c t.val (ix2 a k) = whole (Y m c) (C m c) ⟨t.val / 6 * 512 + a.val, h⟩ ⟨t.val % 6 * 1024 + k.val, h'⟩ := by
  have hk := k.isLt
  have hd : ∀ l : Fin 128, (⟨t.val % 6 * 1024 + (k.val / 128 * 128 + l.val), by omega⟩ : Fin 6144) = ⟨(t.val % 6 * 1024 + k.val) / 128 * 128 + l.val, by omega⟩ :=
    fun l => Fin.ext (by dsimp only; omega)
  have hm : (⟨k.val % 128, by omega⟩ : Fin 128) = ⟨(t.val % 6 * 1024 + k.val) % 128, by omega⟩ := Fin.ext (by dsimp only; omega)
  unfold tileOf whole
  rw [pt_val]
  dsimp only
  by_cases h2 : t.val % 6 < 2
  · rw [if_pos h2, outQ_apply, crd1]
    unfold heads
    have hz : (fun l : Fin 128 => zOf (F := Ideal) (topOf m c t.val) (projOf m c t.val) (iblk m c 3 t) (ix2 a ⟨k.val / 128 * 128 + l.val, by omega⟩))
        = fun l : Fin 128 => mixed (Y m c) (C m c) ⟨t.val / 6 * 512 + a.val, h⟩ ⟨(t.val % 6 * 1024 + k.val) / 128 * 128 + l.val, by omega⟩ := by
      funext l
      rw [z_apply m c t (by omega) a _ h (by dsimp only; omega), hd l]
    rw [hz, hm]
    have h01 : t.val % 6 = 0 ∨ t.val % 6 = 1 := by omega
    rcases h01 with h0 | h0
    · rw [if_pos (show (t.val % 6 * 1024 + k.val) / 1024 = 0 by omega)]
      exact congrArg (fun s => unit _ s _) ((congrArg (fun n => k0_pay8 (F := Ideal) (BitVec.ofNat 32 n)) h0).trans pay8_q)
    · rw [if_neg (show ¬ (t.val % 6 * 1024 + k.val) / 1024 = 0 by omega), if_pos (show (t.val % 6 * 1024 + k.val) / 1024 = 1 by omega)]
      exact congrArg (fun s => unit _ s _) ((congrArg (fun n => k0_pay8 (F := Ideal) (BitVec.ofNat 32 n)) h0).trans pay8_k)
  · rw [if_neg h2, if_neg (show ¬ (t.val % 6 * 1024 + k.val) / 1024 = 0 by omega), if_neg (show ¬ (t.val % 6 * 1024 + k.val) / 1024 = 1 by omega)]
    by_cases h4 : t.val % 6 < 4
    · rw [if_pos h4, if_pos (show (t.val % 6 * 1024 + k.val) / 1024 < 4 by omega), outV_apply, z_apply m c t h4 a k h h']
    · rw [if_neg h4, if_neg (show ¬ (t.val % 6 * 1024 + k.val) / 1024 < 4 by omega), pay7_apply, prod_at m c t a k h h']

/-- The result array. -/
theorem final : (dats m 0 c).arrAt 4 cfg0.N = out m c := by
  refine (dats m 0 c).arrAt_eq_of_covers 4 _ (by decide +kernel) fun t hf y => ?_
  obtain ⟨a, b, rfl⟩ : ∃ (a : Fin 512) (b : Fin 1024), y = ix2 a b := ⟨y 0, y 1, eq_ix2 y⟩
  have hN : cfg0.N = 384 := N_0
  have ht : t.val < cfg0.N := t.isLt
  have h : t.val / 6 * 512 + a.val < 32768 := by omega
  have h' : t.val % 6 * 1024 + b.val < 6144 := by omega
  have he : ((cfg0.win 4).blk t).view.emb (ix2 a b) = (ix2 ⟨t.val / 6 * 512 + a.val, h⟩ ⟨t.val % 6 * 1024 + b.val, h'⟩ : S32768x6144.Idx) := by
    blk_ext [idx4]
  rw [he]
  blk_simp
  rw [after0_4]
  exact tile_apply m c t a b h h'

end Cert.Proof.Gp

end
-- ==== Proof.Gp.Ref.lean ====
/-
  The reference of the gated delta rule's projection call, element by element, over the extended reals.
-/
module

public import proofs.«01_k».proof.Proof.Gp.Value
public import proofs.«01_k».proof.Proof.Gen.ConvRefIdeal.Run
public import proofs.«01_k».proof.Proof.Gen.ConvRefIdeal.Read

@[expose] public section

set_option maxRecDepth 16384

noncomputable section

namespace Cert.Proof.Gp

open Idealize.ShloMosaic Cert.ConvRefIdeal Cert.ConvRefIdeal.Gen Cert.ConvRefIdeal.Read Cert.Proof.Ffn
open Cert.Proof.Rot (proj)
open scoped BigOperators

variable (x0 : Vec Ideal S8x4096x1024 .f32) (x1 : Vec Ideal S1024 .f32) (x2 : Vec Ideal S1024x6144 .f32)
  (x3 : Vec Ideal S4x4096 .f32) (b : Fin 8) (s : Fin 4096)

/-- The projection at an index. -/
theorem ref_proj (u : Fin 6144) : val_main_v13 (F := Ideal) x0 x1 x2 (ix3 b s u) = proj (fun k => x0 (ix3 b s k)) (fun k => x1 (ix1 k)) (fun a k => x2 (ix2 a k)) u := by
  unfold proj Ffn.norm
  pointwise [val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The padded columns at an index. -/
theorem ref_pad (s : Fin 4099) (k : Fin 4096) : val_main_v16 (F := Ideal) x0 x1 x2 (ix3 b s k)
      = if h : s.val < 3 then 0 else val_main_v13 (F := Ideal) x0 x1 x2 (ix3 b ⟨s.val - 3, by omega⟩ ⟨k.val, by omega⟩) := by
  generalize hy : val_main_v13 (F := Ideal) x0 x1 x2 = y
  unfold val_main_v16 val_main_v14
  rw [hy]
  pointwise [val_main_call0_v0, val_main_c]
  have hs := s.isLt
  by_cases h : s.val < 3
  · rw [dif_neg (by omega), dif_pos h]
    show (((0#32 : BitVec 32).toInt : ℝ) : EReal) = 0
    simp
  · rw [dif_pos (by omega), dif_neg h]

/-- The convolved and gated columns at an index. -/
theorem ref_z (k : Fin 4096) : val_main_v46 (F := Ideal) x0 x1 x2 x3 (ix3 b s k)
      = silu (conv4 (fun j => x3 (ix2 j k)) (fun j => val_main_v16 (F := Ideal) x0 x1 x2 (ix3 b ⟨s.val + j.val, by omega⟩ k))) := by
  unfold conv4
  generalize hy : val_main_v16 (F := Ideal) x0 x1 x2 = y
  unfold val_main_v46 val_main_call1_v5 val_main_call1_v3 val_main_call1_v1 val_main_call1_v0 val_main_v45 val_main_v44 val_main_v41 val_main_v38 val_main_v37 val_main_v34 val_main_v31
    val_main_v30 val_main_v27 val_main_v24 val_main_v22 val_main_v19
  rw [hy]
  pointwise [val_main_v43, val_main_v42, val_main_v40, val_main_v39, val_main_v36, val_main_v35, val_main_v33, val_main_v32,
    val_main_v29, val_main_v28, val_main_v26, val_main_v25, val_main_v23, val_main_v21, val_main_v20, val_main_v18, val_main_v17, val_main_cst_2,
    val_main_call1_v4, val_main_call1_v2, val_main_call1_cst, val_main_call1_cst_0]
  have e1 : 1 + s.val = s.val + 1 := by omega
  have e2 : 2 + s.val = s.val + 2 := by omega
  have e3 : 3 + s.val = s.val + 3 := by omega
  simp only [e1, e2, e3]
  rfl

/-- The query heads normalised and scaled, -/
theorem ref_q (h : Fin 8) (l : Fin 128) : val_main_v60 (F := Ideal) x0 x1 x2 x3 (ix4 b s h l)
      = unit (fun l => val_main_v46 (F := Ideal) x0 x1 x2 x3 (ix3 b s ⟨h.val * 128 + l.val, by omega⟩)) (Ideal.ofBits .f32 0x3DB504F3#32) l := by
  unfold unit
  rw [← mul_assoc]
  generalize hy : val_main_v46 (F := Ideal) x0 x1 x2 x3 = y
  unfold val_main_v60 val_main_v58 val_main_v57 val_main_v56 val_main_v55 val_main_v53 val_main_v52 val_main_v51 val_main_v50 val_main_v47
  rw [hy]
  pointwise [val_main_v59, val_main_v54, val_main_cst_5, val_main_cst_4, val_main_cst_3]

/-- and the key heads normalised. -/
theorem ref_k (h : Fin 8) (l : Fin 128) : val_main_v69 (F := Ideal) x0 x1 x2 x3 (ix4 b s h l)
      = unit (fun l => val_main_v46 (F := Ideal) x0 x1 x2 x3 (ix3 b s ⟨1024 + (h.val * 128 + l.val), by omega⟩)) 1 l := by
  unfold unit
  rw [mul_one]
  generalize hy : val_main_v46 (F := Ideal) x0 x1 x2 x3 = y
  unfold val_main_v69 val_main_v68 val_main_v67 val_main_v66 val_main_v64 val_main_v63 val_main_v62 val_main_v61 val_main_v48
  rw [hy]
  pointwise [val_main_v65, val_main_cst_7, val_main_cst_6]

/-- The result at an index, in its four parts. -/
theorem ref_parts (r : Fin 32768) (k : Fin 6144) : val_main_v74 (F := Ideal) x0 x1 x2 x3 (ix2 r k)
      = if k.val < 1024 then
          val_main_v60 (F := Ideal) x0 x1 x2 x3 (ix4 ⟨r.val / 4096, by omega⟩ ⟨r.val % 4096, by omega⟩ ⟨k.val / 128 % 8, by omega⟩ ⟨k.val % 128, by omega⟩)
        else if k.val < 2048 then
          val_main_v69 (F := Ideal) x0 x1 x2 x3 (ix4 ⟨r.val / 4096, by omega⟩ ⟨r.val % 4096, by omega⟩ ⟨k.val / 128 % 8, by omega⟩ ⟨k.val % 128, by omega⟩)
        else if k.val < 4096 then val_main_v46 (F := Ideal) x0 x1 x2 x3 (ix3 ⟨r.val / 4096, by omega⟩ ⟨r.val % 4096, by omega⟩ ⟨k.val % 4096, by omega⟩)
        else val_main_v13 (F := Ideal) x0 x1 x2 (ix3 ⟨r.val / 4096, by omega⟩ ⟨r.val % 4096, by omega⟩ k) := by
  generalize hy : val_main_v46 (F := Ideal) x0 x1 x2 x3 = y
  generalize hq : val_main_v60 (F := Ideal) x0 x1 x2 x3 = q
  generalize hk : val_main_v69 (F := Ideal) x0 x1 x2 x3 = k'
  generalize hp : val_main_v13 (F := Ideal) x0 x1 x2 = p
  unfold val_main_v74 val_main_v73 val_main_v72 val_main_v71 val_main_v70 val_main_v49 val_main_v15
  rw [hy, hq, hk, hp]
  pointwise []
  have hk' := k.isLt
  by_cases h : k.val < 1024
  · rw [dif_pos h, if_pos h]
    have h1 : k.val / 128 % 8 = k.val / 128 := by omega
    simp only [h1]
  · rw [dif_neg h, if_neg h]
    by_cases h' : k.val < 2048
    · rw [dif_pos (by omega), if_pos h']
      have h1 : (k.val - 1024) / 128 = k.val / 128 % 8 := by omega
      have h2 : (k.val - 1024) % 128 = k.val % 128 := by omega
      simp only [h1, h2]
    · rw [dif_neg (by omega), if_neg h']
      by_cases h'' : k.val < 4096
      · rw [dif_pos (by omega), if_pos h'']
        have h1 : 2048 + (k.val - 1024 - 1024) = k.val % 4096 := by omega
        simp only [h1]
      · rw [dif_neg (by omega), if_neg h'']
        have h1 : 4096 + (k.val - 1024 - 1024 - 2048) = k.val := by omega
        simp only [h1]

/-- The projection of every token, of these arguments. -/
abbrev refY (r : Fin 32768) (u : Fin 6144) : EReal :=
  proj (fun k => x0 (ix3 ⟨r.val / 4096, by omega⟩ ⟨r.val % 4096, by omega⟩ k)) (fun k => x1 (ix1 k)) (fun a k => x2 (ix2 a k)) u

/-- The convolved and gated columns are the stated ones. -/
theorem ref_mixed (r : Fin 32768) (k : Fin 6144) (h : k.val < 4096) (k' : Fin 4096) (hk : k'.val = k.val) :
    val_main_v46 (F := Ideal) x0 x1 x2 x3 (ix3 ⟨r.val / 4096, by omega⟩ ⟨r.val % 4096, by omega⟩ k')
      = mixed (refY x0 x1 x2) (fun j k => x3 (ix2 j k)) r k := by
  rw [ref_z]
  unfold mixed
  have h0 : (⟨k.val % 4096, by omega⟩ : Fin 4096) = k' := Fin.ext (by dsimp only; omega)
  have h1 : (⟨k'.val, by omega⟩ : Fin 6144) = k := Fin.ext hk
  refine congrArg silu (congrArg₂ conv4 (funext fun j => ?_) (funext fun j => ?_))
  · rw [h0]
  · rw [ref_pad]
    unfold prev
    dsimp only
    by_cases h2 : r.val % 4096 + j.val < 3
    · rw [dif_pos h2, dif_pos h2]
    · rw [dif_neg h2, dif_neg h2, ref_proj, h1]
      have hj := j.isLt
      have h3 : (r.val + j.val - 3) / 4096 = r.val / 4096 := by omega
      have h4 : (r.val + j.val - 3) % 4096 = r.val % 4096 + j.val - 3 := by omega
      unfold refY
      simp only [h3, h4]

/-- The reference's result at an index. -/
theorem ref_apply (r : Fin 32768) (k : Fin 6144) : val_main_v74 (F := Ideal) x0 x1 x2 x3 (ix2 r k)
      = whole (refY x0 x1 x2) (fun j k => x3 (ix2 j k)) r k := by
  have hk := k.isLt
  rw [ref_parts, ref_q, ref_k, ref_proj]
  unfold whole
  have hk4 : k.val / 1024 = 0 ∨ k.val / 1024 = 1 ∨ (k.val / 1024 = 2 ∨ k.val / 1024 = 3) ∨ 4 ≤ k.val / 1024 := by omega
  rcases hk4 with h | h | h | h
  · rw [if_pos (by omega), if_pos h]
    refine congrArg (fun f => unit f _ _) (funext fun l => ?_)
    exact ref_mixed x0 x1 x2 x3 r _ (by dsimp only; omega) _ (by dsimp only; omega)
  · rw [if_neg (by omega), if_pos (by omega), if_neg (by omega), if_pos h]
    refine congrArg (fun f => unit f _ _) (funext fun l => ?_)
    exact ref_mixed x0 x1 x2 x3 r _ (by dsimp only; omega) _ (by dsimp only; omega)
  · rw [if_neg (by omega), if_neg (by omega), if_pos (by omega), if_neg (by omega), if_neg (by omega), if_pos (by omega)]
    exact ref_mixed x0 x1 x2 x3 r k (by omega) _ (by dsimp only; omega)
  · rw [if_neg (by omega), if_neg (by omega), if_neg (by omega), if_neg (by omega), if_neg (by omega), if_neg (by omega)]

end Cert.Proof.Gp

end
-- ==== Proof.Gp.Claim.lean ====
/-
  The claims of the gated delta rule's projection call: the two arrays are equal, element by element, over the extended
  reals.
-/
module

public import proofs.«01_k».proof.Defs
public import proofs.«01_k».proof.Proof.Gp.Ref
public import proofs.«01_k».proof.Proof.Gen.ConvRefIdeal.Run
public import proofs.«01_k».proof.Proof.Gen.ConvRefIdeal.Read
public import Idealize.ShloMosaic.Lib.Quiescent

@[expose] public section

set_option maxRecDepth 16384

noncomputable section

namespace Cert.Proof.Gp

open Idealize.ShloMosaic Idealize.ShloMosaic.TcCoe Idealize.SL.Sem Cert.ConvIdeal Cert.ConvIdeal.Gen
open scoped BigOperators

/-- The reference runs, leaves its arguments unchanged, and (it has no semaphores) every counter at zero. -/
theorem ref_frame : Cert.quiescent_ConvRefIdeal (hConvRefIdeal := Cert.ConvRefIdeal.Gen.facts) := fun m ρ _ =>
  (θ_run _ _ _).mono (fun r h => ⟨fun c => (h c).2, sem_eq_zero_of_no_sems (by decide) r.2⟩)
    (Cert.ConvRefIdeal.Value.run (F := Ideal) m ρ)

/-- The kernel runs and leaves the stated array, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v3) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨((h c).1 4).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩) (run_main m ρ)

/-- The kernel and the reference leave equal arrays. -/
theorem algebraic : Cert.algebraic_ConvIdeal_ConvRefIdeal (hConvIdeal := Cert.ConvIdeal.Gen.facts)
    (hConvRefIdeal := Cert.ConvRefIdeal.Gen.facts) := by
  intro m g m' g' _ hargs
  refine ⟨fun c => out m c, run m g, ?_⟩
  refine (θ_run _ _ _).mono (fun r h c => ⟨?_, (h c).2⟩) (Cert.ConvRefIdeal.Value.run (F := Ideal) m' g')
  refine (h c).1.trans ((Cert.ConvRefIdeal.Read.val_main_v74_eq (F := Ideal) _ _).trans ?_)
  obtain ⟨h0, h1, h2, h3⟩ := hargs c
  rw [h0, h1, h2, h3]
  funext i
  obtain ⟨a, b, rfl⟩ : ∃ (a : Fin 32768) (b : Fin 6144), i = ix2 a b := ⟨i 0, i 1, eq_ix2 i⟩
  exact ref_apply _ _ _ _ a b

end Cert.Proof.Gp

end
-- ==== Proof.Gg.Value.lean ====
/-
  The gated delta rule's gate, element by element, over the extended reals.
-/
module

public import proofs.«01_k».proof.Proof.Gen.GateIdeal.Value
public import proofs.«01_k».proof.Proof.Ffn.Payload
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.Gg

open Idealize.ShloMosaic Idealize.ShloMosaic.Tactic Idealize.ShloMosaic.TcCoe Cert.GateIdeal Cert.GateIdeal.Gen
open scoped BigOperators

/-- A log decay: the negated rate times softplus. -/
def decay (a l : EReal) : EReal := -Ideal.exp l * (max a 0 + Ideal.log (1 + Ideal.exp (-max a (-a))))

/-- One element of the result: the log decays in the first eight lanes, the write strengths in the others. -/
def gate (x g : Fin 1024 → EReal) (w : Fin 1024 → Fin 128 → EReal) (al dt : Fin 128 → EReal) (k : Fin 128) : EReal :=
  if k.val < 8 then decay ((∑ l, Ffn.norm x g l * w l k) + dt k) (al k) else Ideal.logistic (∑ l, Ffn.norm x g l * w l k)

/-- The product at an index. -/
theorem pay2_apply (x : Vec Ideal S1024x1024 .f32) (g : Vec Ideal S1x1024 .f32) (w : Vec Ideal S1024x128 .bf16) (r : Fin 1024) (k : Fin 128) :
    k0_pay2 (F := Ideal) x g w (ix2 r k) = ∑ l, Ffn.norm (fun u => x (ix2 r u)) (fun u => g (ix2 0 u)) l * w (ix2 l k) := by
  unfold Ffn.norm
  pointwise [k0_pay2]

/-- The log decays at an index. -/
theorem pay3_apply (x : Vec Ideal S1024x1024 .f32) (g : Vec Ideal S1x1024 .f32) (w : Vec Ideal S1024x128 .bf16) (al dt : Vec Ideal S1x128 .f32) (r : Fin 1024) (k : Fin 128) :
    k0_pay3 (F := Ideal) x g w dt al (ix2 r k) = decay (k0_pay2 (F := Ideal) x g w (ix2 r k) + dt (ix2 0 k)) (al (ix2 0 k)) := by
  generalize hy : k0_pay2 (F := Ideal) x g w = y
  unfold k0_pay3 decay
  rw [hy]
  pointwise []
  simp only [zero_sub]
  rfl

theorem lane_lt : ∀ k : Fin 128, IntOp.cmpi .slt (BitVec.ofNat 32 k.val) 8#32 = if k.val < 8 then 1#1 else 0#1 := by decide +kernel

/-- The stored block at an index. -/
theorem pay1_apply (y z : Vec Ideal S1024x128 .f32) (r : Fin 1024) (k : Fin 128) :
    k0_pay1 (F := Ideal) y z (ix2 r k) = if k.val < 8 then z (ix2 r k) else Ideal.logistic (y (ix2 r k)) := by
  pointwise [k0_pay1]
  rw [lane_lt]
  split <;> rfl

variable (m : (ℓ : Loc nD τ sig) → Buf (Elt Ideal) ℓ) (c : Dev nD)

/-- The arguments as functions of coordinates. -/
abbrev X (r : Fin 32768) (k : Fin 1024) : EReal :=
  (m ((c : Thread nD τ).loc main_arg0) : Vec Ideal S8x4096x1024 .f32) (ix3 ⟨r.val / 4096, by omega⟩ ⟨r.val % 4096, by omega⟩ k)
abbrev G (k : Fin 1024) : EReal := (m ((c : Thread nD τ).loc main_arg1) : Vec Ideal S1024 .f32) (ix1 k)
abbrev W (a : Fin 1024) (k : Fin 128) : EReal := (m ((c : Thread nD τ).loc main_arg2) : Vec Ideal S1024x128 .f32) (ix2 a k)
abbrev AL (k : Fin 128) : EReal := (m ((c : Thread nD τ).loc main_arg3) : Vec Ideal S128 .f32) (ix1 k)
abbrev DT (k : Fin 128) : EReal := (m ((c : Thread nD τ).loc main_arg4) : Vec Ideal S128 .f32) (ix1 k)

/-- The gate, as a whole array. -/
def out : Vec Ideal S32768x128 .f32 := fun i => gate (X m c (i 0)) (G m c) (W m c) (AL m c) (DT m c) (i 1)

theorem V_x (r : Fin 32768) (k : Fin 1024) : (V m c main_v0 : Vec Ideal S32768x1024 .f32) (ix2 r k) = X m c r k := by
  unfold V; after_reads_at
theorem V_w (a : Fin 1024) (k : Fin 128) : (V m c main_v1 : Vec Ideal S1024x128 .bf16) (ix2 a k) = W m c a k := by
  unfold V; after_reads_at
theorem V_al (k : Fin 128) : (V m c main_v2 : Vec Ideal S1x128 .f32) (ix2 0 k) = AL m c k := by unfold V; after_reads_at
theorem V_dt (k : Fin 128) : (V m c main_v3 : Vec Ideal S1x128 .f32) (ix2 0 k) = DT m c k := by unfold V; after_reads_at
theorem V_g (k : Fin 1024) : (V m c main_v4 : Vec Ideal S1x1024 .f32) (ix2 0 k) = G m c k := by unfold V; after_reads_at

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

theorem hz : (![0, 0] : Fin 2 → Nat) = fun _ => 0 := funext fun a => by fin_cases a <;> rfl

theorem blk_x (t : Fin cfg0.N) (a : Fin 1024) (u : Fin 1024) (h : t.val * 1024 + a.val < 32768) :
    (iblk m c 0 t : Vec Ideal S1024x1024 .f32) (ix2 a u) = X m c ⟨t.val * 1024 + a.val, h⟩ u := by
  rw [← V_x]
  blk_simp [iblk]
  refine congrArg (V m c main_v0 : Vec Ideal S32768x1024 .f32) ?_
  blk_ext [idx0]

theorem blk_g (t : Fin cfg0.N) (k : Fin 1024) : (iblk m c 1 t : Vec Ideal S1x1024 .f32) (ix2 0 k) = G m c k := by
  rw [← V_g]
  blk_simp [iblk]
  refine congrArg (V m c main_v4 : Vec Ideal S1x1024 .f32) ?_
  blk_ext [idx1]

theorem blk_w (t : Fin cfg0.N) (u : Fin 1024) (k : Fin 128) : (iblk m c 2 t : Vec Ideal S1024x128 .bf16) (ix2 u k) = W m c u k := by
  rw [← V_w m c]
  blk_simp [iblk]
  refine congrArg (V m c main_v1 : Vec Ideal S1024x128 .bf16) ?_
  blk_ext [idx2]

theorem blk_al (t : Fin cfg0.N) (k : Fin 128) : (iblk m c 3 t : Vec Ideal S1x128 .f32) (ix2 0 k) = AL m c k := by
  rw [← V_al]
  blk_simp [iblk]
  refine congrArg (V m c main_v2 : Vec Ideal S1x128 .f32) ?_
  blk_ext [idx3]

theorem blk_dt (t : Fin cfg0.N) (k : Fin 128) : (iblk m c 4 t : Vec Ideal S1x128 .f32) (ix2 0 k) = DT m c k := by
  rw [← V_dt]
  blk_simp [iblk]
  refine congrArg (V m c main_v3 : Vec Ideal S1x128 .f32) ?_
  blk_ext [idx4]

/-- The result array. -/
theorem final : (dats m 0 c).arrAt 5 cfg0.N = out m c := by
  refine (dats m 0 c).arrAt_eq_of_covers 5 _ (by decide +kernel) fun t hf y => ?_
  obtain ⟨a, b, rfl⟩ : ∃ (a : Fin 1024) (b : Fin 128), y = ix2 a b := ⟨y 0, y 1, eq_ix2 y⟩
  have ht : t.val * 1024 + a.val < 32768 := by have h1 : t.val < cfg0.N := t.isLt; have h2 : cfg0.N = 32 := N_0; omega
  have he : ((cfg0.win 5).blk t).view.emb (ix2 a b) = (ix2 ⟨t.val * 1024 + a.val, ht⟩ b : S32768x128.Idx) := by
    blk_ext [idx5]
  rw [he]
  blk_simp
  rw [after0_5]
  unfold out0_5
  rw [View.canon_unit_zero hz]
  simp only [View.ld_unit_zero (S := S1024x1024) hz, View.ld_unit_zero (S := S1024x128) hz, View.ld_unit_zero (S := S1x1024) hz,
    View.ld_unit_zero (S := S1x128) hz]
  rw [pay1_apply, pay3_apply, pay2_apply, blk_al, blk_dt]
  simp only [blk_x m c t a _ ht, blk_g, blk_w]
  rfl

end Cert.Proof.Gg

end
-- ==== Proof.Gg.Claim.lean ====
/-
  The gated delta rule's gate: its reference element by element, and its claims.
-/
module

public import proofs.«01_k».proof.Defs
public import proofs.«01_k».proof.Proof.Gg.Value
public import proofs.«01_k».proof.Proof.Gen.GateRefIdeal.Run
public import proofs.«01_k».proof.Proof.Gen.GateRefIdeal.Read
public import Idealize.ShloMosaic.Lib.Quiescent

@[expose] public section

set_option maxRecDepth 16384

noncomputable section

namespace Cert.Proof.Gg

open Idealize.ShloMosaic Idealize.SL.Sem Cert.GateRefIdeal Cert.GateRefIdeal.Gen Cert.GateRefIdeal.Read
open scoped BigOperators

variable (x0 : Vec Ideal S8x4096x1024 .f32) (x1 : Vec Ideal S1024 .f32) (x2 : Vec Ideal S1024x128 .f32)
  (x3 x4 : Vec Ideal S128 .f32) (b : Fin 8) (s : Fin 4096)

/-- The product at an index. -/
theorem ref_proj (u : Fin 128) : val_main_v13 (F := Ideal) x0 x1 x2 (ix3 b s u)
      = ∑ l, Ffn.norm (fun k => x0 (ix3 b s k)) (fun k => x1 (ix1 k)) l * x2 (ix2 l u) := by
  unfold Ffn.norm
  pointwise [val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The write strengths. -/
theorem ref_beta (u : Fin 120) : val_main_v20 (F := Ideal) x0 x1 x2 (ix3 b s u)
      = Ideal.logistic (val_main_v13 (F := Ideal) x0 x1 x2 (ix3 b s ⟨8 + u.val, by omega⟩)) := by
  unfold val_main_v20 val_main_v18 val_main_v16 val_main_v15 val_main_v14
  generalize val_main_v13 (F := Ideal) x0 x1 x2 = y
  pointwise [val_main_v19, val_main_v17, val_main_cst_2, val_main_cst_3]
  rfl

/-- The log decays. -/
theorem ref_decay (u : Fin 8) : val_main_v32 (F := Ideal) x0 x1 x2 x3 x4 (ix3 b s u)
      = decay (val_main_v13 (F := Ideal) x0 x1 x2 (ix3 b s ⟨u.val, by omega⟩) + x4 (ix1 ⟨u.val, by omega⟩)) (x3 (ix1 ⟨u.val, by omega⟩)) := by
  have e : val_main_v28 (F := Ideal) x0 x1 x2 x4 (ix3 b s u)
      = val_main_v13 (F := Ideal) x0 x1 x2 (ix3 b s ⟨u.val, by omega⟩) + x4 (ix1 ⟨u.val, by omega⟩) := by
    unfold val_main_v28 val_main_v21
    generalize val_main_v13 (F := Ideal) x0 x1 x2 = y
    pointwise [val_main_v27, val_main_v26, val_main_v25]
  rw [← e]
  unfold decay
  pointwise [val_main_v32, val_main_v31, val_main_v30, val_main_v29, val_main_v24, val_main_v23, val_main_v22,
    val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_call0_cst]
  rw [if_neg (fun h => h rfl)]
  rfl

/-- The reference's result at an index. -/
theorem ref_apply (r : Fin 32768) (k : Fin 128) : val_main_v34 (F := Ideal) x0 x1 x2 x3 x4 (ix2 r k)
      = gate (fun k => x0 (ix3 ⟨r.val / 4096, by omega⟩ ⟨r.val % 4096, by omega⟩ k)) (fun k => x1 (ix1 k)) (fun a k => x2 (ix2 a k))
          (fun k => x3 (ix1 k)) (fun k => x4 (ix1 k)) k := by
  unfold gate
  rw [← ref_proj]
  unfold val_main_v34 val_main_v33
  have e1 := ref_decay x0 x1 x2 x3 x4
  have e2 := ref_beta x0 x1 x2
  generalize val_main_v32 (F := Ideal) x0 x1 x2 x3 x4 = p at *
  generalize val_main_v20 (F := Ideal) x0 x1 x2 = q at *
  pointwise []
  split
  · exact e1 _ _ _
  · refine (e2 _ _ _).trans (congrArg (fun u => Ideal.logistic (val_main_v13 (F := Ideal) x0 x1 x2 (ix3 _ _ u))) (Fin.ext ?_))
    dsimp only
    omega

/-- The reference runs, leaves its arguments unchanged, and (it has no semaphores) every counter at zero. -/
theorem ref_frame : Cert.quiescent_GateRefIdeal (hGateRefIdeal := Cert.GateRefIdeal.Gen.facts) := fun m ρ _ =>
  (θ_run _ _ _).mono (fun r h => ⟨fun c => (h c).2, sem_eq_zero_of_no_sems (by decide) r.2⟩)
    (Cert.GateRefIdeal.Value.run (F := Ideal) m ρ)

/-- The kernel and the reference leave equal arrays. -/
theorem algebraic : Cert.algebraic_GateIdeal_GateRefIdeal (hGateIdeal := Cert.GateIdeal.Gen.facts)
    (hGateRefIdeal := Cert.GateRefIdeal.Gen.facts) := by
  intro m g m' g' _ hargs
  refine ⟨fun c => out m c, (θ_run _ _ _).mono (fun r h c => ⟨(h c).1.trans (final m c), (h c).2⟩)
    (Cert.GateIdeal.Value.run_blocks (F := Ideal) m g), ?_⟩
  refine (θ_run _ _ _).mono (fun r h c => ⟨?_, (h c).2⟩) (Cert.GateRefIdeal.Value.run (F := Ideal) m' g')
  refine (h c).1.trans ((Cert.GateRefIdeal.Read.val_main_v34_eq (F := Ideal) _ _).trans ?_)
  obtain ⟨h0, h1, h2, h3, h4⟩ := hargs c
  rw [h0, h1, h2, h3, h4]
  funext i
  obtain ⟨a, b, rfl⟩ : ∃ (a : Fin 32768) (b : Fin 128), i = ix2 a b := ⟨i 0, i 1, eq_ix2 i⟩
  exact ref_apply _ _ _ _ _ a b

end Cert.Proof.Gg

end
-- ==== Proof.Rc.Trip.lean ====
/-
  One trip of the retention core's reference: the state and the row block it writes, element by element, over the
  extended reals.
-/
module

public import proofs.«01_k».proof.Proof.Gen.RetRefIdeal.Run
public import Idealize.ShloMosaic.Lib.Pointwise
public import Idealize.ShloMosaic.Lib.DynamicIndex
public import Idealize.ShloMosaic.Lib.Pipeline.Value

@[expose] public section

set_option maxRecDepth 16384

noncomputable section

namespace Cert.Proof.Rc

open Idealize.ShloMosaic Idealize.ShloMosaic.Tactic Cert.RetRefIdeal Cert.RetRefIdeal.Gen Cert.RetRefIdeal.Value
open scoped BigOperators

variable (V0 : Valuation τ sig (Elt Ideal)) (j : Fin 32)

/-- The starts of a trip's block, as numbers. -/
theorem start_eq (hn : V0 (Proc.devRef .tc main_v63_7) = fun _ => BitVec.ofNat 32 j.val) (a : Fin 5) :
    BitVec.toInt ((![V0 (Proc.devRef .tc main_v63_7), constantI S_ 32 0#32, constantI S_ 32 0#32, constantI S_ 32 0#32, constantI S_ 32 0#32] :
      Fin 5 → (⟨S_, .i32⟩ : BufTy).Contents (Elt Ideal)) a (Shape.Idx.first h_S_)) = (((![j.val, 0, 0, 0, 0] : Fin 5 → ℕ) a : ℕ) : Int) := by
  have hj := j.isLt
  rw [hn]
  fin_cases a
  · exact toInt_ofNat_of_lt (by omega)
  · rfl
  · rfl
  · rfl
  · rfl

theorem fits_q : Shape.Slices S32x8x4x128x256 ![j.val, 0, 0, 0, 0] S1x8x4x128x256 := by
  have hj := j.isLt
  refine ⟨rfl, fun a => ?_⟩
  fin_cases a
  · show j.val + 1 ≤ 32; omega
  · show 0 + 8 ≤ 8; omega
  · show 0 + 4 ≤ 4; omega
  · show 0 + 128 ≤ 128; omega
  · show 0 + 256 ≤ 256; omega

theorem fits_v : Shape.Slices S32x8x4x128x512 ![j.val, 0, 0, 0, 0] S1x8x4x128x512 := by
  have hj := j.isLt
  refine ⟨rfl, fun a => ?_⟩
  fin_cases a
  · show j.val + 1 ≤ 32; omega
  · show 0 + 8 ≤ 8; omega
  · show 0 + 4 ≤ 4; omega
  · show 0 + 128 ≤ 128; omega
  · show 0 + 512 ≤ 512; omega

/-- The blocks a trip reads. -/
theorem take_q (hn : V0 (Proc.devRef .tc main_v63_7) = fun _ => BitVec.ofNat 32 j.val) (b : Fin 8) (h : Fin 4) (r : Fin 128) (d : Fin 256) :
    (res_main_while0b_v85 V0 : Vec Ideal S8x4x128x256 .f32) (ix4 b h r d)
      = (V0 (Proc.devRef .tc main_v63_0) : Vec Ideal S32x8x4x128x256 .f32) (ix5 j b h r d) := by
  unfold res_main_while0b_v85
  rw [Host.dynamicSlice_eq_extractStridedSlice _ _ _ ![j.val, 0, 0, 0, 0] _ (fits_q j) (start_eq V0 j hn)]
  generalize V0 (Proc.devRef .tc main_v63_0) = A
  pointwise []

theorem take_k (hn : V0 (Proc.devRef .tc main_v63_7) = fun _ => BitVec.ofNat 32 j.val) (b : Fin 8) (h : Fin 4) (r : Fin 128) (d : Fin 256) :
    (res_main_while0b_v86 V0 : Vec Ideal S8x4x128x256 .f32) (ix4 b h r d)
      = (V0 (Proc.devRef .tc main_v63_1) : Vec Ideal S32x8x4x128x256 .f32) (ix5 j b h r d) := by
  unfold res_main_while0b_v86
  rw [Host.dynamicSlice_eq_extractStridedSlice _ _ _ ![j.val, 0, 0, 0, 0] _ (fits_q j) (start_eq V0 j hn)]
  generalize V0 (Proc.devRef .tc main_v63_1) = A
  pointwise []

theorem take_v (hn : V0 (Proc.devRef .tc main_v63_7) = fun _ => BitVec.ofNat 32 j.val) (b : Fin 8) (h : Fin 4) (r : Fin 128) (d : Fin 512) :
    (res_main_while0b_v87 V0 : Vec Ideal S8x4x128x512 .f32) (ix4 b h r d)
      = (V0 (Proc.devRef .tc main_v63_2) : Vec Ideal S32x8x4x128x512 .f32) (ix5 j b h r d) := by
  unfold res_main_while0b_v87
  rw [Host.dynamicSlice_eq_extractStridedSlice _ _ _ ![j.val, 0, 0, 0, 0] _ (fits_v j) (start_eq V0 j hn)]
  generalize V0 (Proc.devRef .tc main_v63_2) = A
  pointwise []

section Trip

variable (q k : Vec Ideal S8x4x128x256 .f32) (v : Vec Ideal S8x4x128x512 .f32) (S : Vec Ideal S8x4x256x512 .f32)
  (O : Vec Ideal S32x8x4x128x512 .f32) (wi : Vec Ideal S4x128x128 .f32) (qd kd : Vec Ideal S4x128x1 .f32) (cd : Vec Ideal S4x1x1 .f32)

/-- The state after a trip. -/
theorem trip_state (hk : res_main_while0b_v86 V0 = k) (hv : res_main_while0b_v87 V0 = v) (hS : V0 (Proc.devRef .tc main_v63_8) = S)
    (hcd : V0 (Proc.devRef .tc main_v63_5) = cd) (hkd : V0 (Proc.devRef .tc main_v63_6) = kd)
    (b : Fin 8) (h : Fin 4) (d : Fin 256) (e : Fin 512) :
    (step_main_v63_8 V0 : Vec Ideal S8x4x256x512 .f32) (ix4 b h d e)
      = S (ix4 b h d e) * cd (ix3 h 0 0) + ∑ r : Fin 128, k (ix4 b h r d) * kd (ix3 h r 0) * v (ix4 b h r e) := by
  unfold step_main_v63_8
  rw [id_eq, hk, hv, hS, hcd, hkd]
  pointwise []

/-- The row blocks after a trip: the trip's own is new, the others are as they were. -/
theorem trip_rows (hn : V0 (Proc.devRef .tc main_v63_7) = fun _ => BitVec.ofNat 32 j.val)
    (hq : res_main_while0b_v85 V0 = q) (hk : res_main_while0b_v86 V0 = k) (hv : res_main_while0b_v87 V0 = v)
    (hS : V0 (Proc.devRef .tc main_v63_8) = S) (hO : V0 (Proc.devRef .tc main_v63_9) = O)
    (hwi : V0 (Proc.devRef .tc main_v63_3) = wi) (hqd : V0 (Proc.devRef .tc main_v63_4) = qd)
    (n : Fin 32) (b : Fin 8) (h : Fin 4) (r : Fin 128) (e : Fin 512) :
    (step_main_v63_9 V0 : Vec Ideal S32x8x4x128x512 .f32) (ix5 n b h r e)
      = if n = j then
          (∑ c : Fin 128, (∑ d : Fin 256, q (ix4 b h r d) * k (ix4 b h c d)) * wi (ix3 h r c) * v (ix4 b h c e))
            + ∑ d : Fin 256, q (ix4 b h r d) * qd (ix3 h r 0) * S (ix4 b h d e)
        else O (ix5 n b h r e) := by
  unfold step_main_v63_9
  rw [id_eq, Host.dynamicUpdateSlice_eq_updateSlice _ _ _ _ ![j.val, 0, 0, 0, 0] (fun a => by
    refine (congrArg (fun z : Int => (min (max z 0) _).toNat) (start_eq V0 j hn a)).trans ?_
    have hj := j.isLt
    fin_cases a
    · show (min (max (j.val : Int) 0) ((32 - 1 : ℕ) : Int)).toNat = j.val; omega
    · rfl
    · rfl
    · rfl
    · rfl) (fits_v j)]
  rw [hq, hk, hv, hS, hO, hwi, hqd, updateSlice_apply]
  by_cases h' : n = j
  · subst h'
    rw [dif_pos (fun a => by fin_cases a <;> simp), if_pos rfl]
    pointwise []
  · rw [dif_neg (fun hc => h' (Fin.ext (by have := hc 0; simp at this; omega))), if_neg h']

end Trip

end Cert.Proof.Rc

end
-- ==== Proof.Rc.Payload.lean ====
/-
  The retention core's stored values read at an index, over the extended reals: the decays, one chunk's new state and one
  chunk's normalised and gated output.
-/
module

public import proofs.«01_k».proof.Proof.Gen.RetIdeal.Skeleton
public import Idealize.ShloMosaic.Lib.Pointwise
public import Idealize.ShloMosaic.Lib.WordCmp

@[expose] public section

set_option maxRecDepth 16384

noncomputable section

namespace Cert.Proof.Rc

open Idealize.ShloMosaic Idealize.ShloMosaic.Tactic Idealize.ShloMosaic.TcCoe Cert.RetIdeal Cert.RetIdeal.Gen
open scoped BigOperators

/-- A position in a chunk as a number. -/
def pos (r : Fin 128) : EReal := FloatOps.sitofp (F := Ideal) .f32 (BitVec.ofNat 32 r.val)

theorem pos_eq (r : Fin 128) : pos r = ((r.val : ℝ) : EReal) := by
  have h : ∀ r : Fin 128, (BitVec.ofNat 32 r.val).toInt = (r.val : ℤ) := by decide +kernel
  unfold pos
  show (((BitVec.ofNat 32 r.val).toInt : ℝ) : EReal) = _
  rw [h]
  norm_num

/-- The difference of two positions. -/
theorem pos_sub (r c : Fin 128) :
    FloatOps.sitofp (F := Ideal) .f32 (IntOp.subi (BitVec.ofNat 32 r.val) (BitVec.ofNat 32 c.val)) = pos r - pos c := by
  have h : ∀ r c : Fin 128, (IntOp.subi (BitVec.ofNat 32 r.val) (BitVec.ofNat 32 c.val)).toInt = (r.val : ℤ) - (c.val : ℤ) := by
    decide +kernel
  rw [pos_eq, pos_eq, ← EReal.coe_sub]
  show (((IntOp.subi (BitVec.ofNat 32 r.val) (BitVec.ofNat 32 c.val)).toInt : ℝ) : EReal) = _
  rw [h]
  norm_num

/-- The decay of a query row: one more step than its position in the chunk. -/
def qDec (lg : EReal) (r : Fin 128) : EReal := Ideal.exp ((pos r + 1) * lg)
/-- The decay of a key row: the steps left in the chunk after it. -/
def kDec (lg : EReal) (r : Fin 128) : EReal := Ideal.exp ((Ideal.ofBits .f32 0x42FE0000#32 - pos r) * lg)
/-- The decay over a whole chunk. -/
def cDec (lg : EReal) : EReal := Ideal.exp (Ideal.ofBits .f32 0x43000000#32 * lg)
/-- The decay between two rows of a chunk, nothing of a later row. -/
def within (lg : EReal) (r c : Fin 128) : EReal :=
  if 0 ≤ pos r - pos c then Ideal.exp (max (pos r - pos c) 0 * lg) else 0

/-- The state after a chunk. -/
def next (lg : EReal) (k : Fin 128 → Fin 256 → EReal) (v : Fin 128 → Fin 512 → EReal) (S : Fin 256 → Fin 512 → EReal)
    (d : Fin 256) (e : Fin 512) : EReal :=
  S d e * cDec lg + ∑ c, k c d * kDec lg c * v c e

/-- What a chunk's row reads out: its own chunk's earlier rows and the state before the chunk. -/
def read (lg : EReal) (q k : Fin 128 → Fin 256 → EReal) (v : Fin 128 → Fin 512 → EReal) (S : Fin 256 → Fin 512 → EReal)
    (r : Fin 128) (e : Fin 512) : EReal :=
  (∑ c, (∑ d, q r d * k c d) * within lg r c * v c e) + qDec lg r * ∑ d, q r d * S d e

/-- A row normalised by its root mean square and scaled. -/
def unit (x g : Fin 512 → EReal) (e : Fin 512) : EReal :=
  x e * Ideal.rsqrt (Ideal.div (∑ l, x l * x l) (Ideal.ofBits .f32 0x44000000#32) + Ideal.ofBits .f32 0x358637BD#32) * g e

theorem pay6_apply (x : Vec Ideal S1x1x128 .f32) (r : Fin 128) : k0_pay6 (F := Ideal) x (ix2 r 0) = qDec (x (ix3 0 0 0)) r := by
  unfold qDec
  pointwise [k0_pay6, k0_pay5, k0_pay3]
  rfl

theorem pay7_apply (x : Vec Ideal S1x1x128 .f32) (r : Fin 128) : k0_pay7 (F := Ideal) x (ix2 r 0) = kDec (x (ix3 0 0 0)) r := by
  unfold kDec
  pointwise [k0_pay7, k0_pay5, k0_pay3]
  rfl

theorem pay8_apply (x : Vec Ideal S1x1x128 .f32) : k0_pay8 (F := Ideal) x (ix2 0 0) = cDec (x (ix3 0 0 0)) := by
  unfold cDec
  pointwise [k0_pay8, k0_pay3]

theorem pay4_apply (x : Vec Ideal S1x1x128 .f32) (r c : Fin 128) : k0_pay4 (F := Ideal) x (ix2 r c) = within (x (ix3 0 0 0)) r c := by
  unfold within
  pointwise [k0_pay4, k0_pay3]
  rw [pos_sub]

variable (KD : FVec Ideal S128x1 .f32) (CD : FVec Ideal S1x1 .f32) (QD : FVec Ideal S128x1 .f32) (I : FVec Ideal S128x128 .f32)
  (q k : Vec Ideal S1x128x256 .bf16) (v : Vec Ideal S1x128x512 .bf16) (S : Vec Ideal S256x512 .f32)

theorem pay20_apply (d : Fin 256) (e : Fin 512) : k0_pay20 (F := Ideal) KD CD k v S (ix2 d e)
    = S (ix2 d e) * CD (ix2 0 0) + ∑ c : Fin 128, k (ix3 0 c d) * KD (ix2 c 0) * v (ix3 0 c e) := by
  pointwise [k0_pay20, k0_pay17, k0_pay18]

theorem pay19_apply (r : Fin 128) (e : Fin 512) : k0_pay19 (F := Ideal) I QD q k v S (ix2 r e)
    = (∑ c : Fin 128, (∑ d : Fin 256, q (ix3 0 r d) * k (ix3 0 c d)) * I (ix2 r c) * v (ix3 0 c e)) + QD (ix2 r 0) * ∑ d : Fin 256, q (ix3 0 r d) * S (ix2 d e) := by
  pointwise [k0_pay19, k0_pay17, k0_pay18]

variable (o : FVec Ideal S128x512 .f32) (gt : Vec Ideal S1x128x512 .bf16) (g : Vec Ideal S1x512 .f32)

theorem pay22_apply (r : Fin 128) (e : Fin 512) : k0_pay22 (F := Ideal) o (k0_pay21 (F := Ideal) gt) g (ix3 0 r e)
    = unit (fun l => o (ix2 r l)) (fun l => g (ix2 0 l)) e * (gt (ix3 0 r e) * Ideal.logistic (gt (ix3 0 r e))) := by
  unfold unit
  pointwise [k0_pay22, k0_pay21]

/-! The other three chunks' values are the second's, whole. -/

theorem pay12_eq : k0_pay12 (F := Ideal) KD CD (k0_pay10 (F := Ideal) k) v S = k0_pay20 (F := Ideal) KD CD k v S := rfl
theorem pay28_eq : k0_pay28 (F := Ideal) KD CD (k0_pay24 (F := Ideal) k) (k0_pay25 (F := Ideal) v) S = k0_pay20 (F := Ideal) KD CD k v S := rfl
theorem pay33_eq : k0_pay33 (F := Ideal) KD CD k v S = k0_pay20 (F := Ideal) KD CD k v S := rfl

theorem out0_eq : k0_pay16 (F := Ideal) (k0_pay13 (F := Ideal) gt) (k0_pay14 (F := Ideal) I QD (k0_pay9 (F := Ideal) q) (k0_pay10 (F := Ideal) k) v S g) (k0_pay15 (F := Ideal) gt)
    = k0_pay22 (F := Ideal) (k0_pay19 (F := Ideal) I QD q k v S) (k0_pay21 (F := Ideal) gt) g := rfl
theorem out2_eq : k0_pay29 (F := Ideal) (k0_pay26 (F := Ideal) I q k v) (k0_pay27 (F := Ideal) QD q S) gt g
    = k0_pay22 (F := Ideal) (k0_pay19 (F := Ideal) I QD q k v S) (k0_pay21 (F := Ideal) gt) g := rfl
theorem out3_eq : k0_pay1 (F := Ideal) (k0_pay34 (F := Ideal) gt) (k0_pay35 (F := Ideal) g) (k0_pay36 (F := Ideal) I QD (k0_pay30 (F := Ideal) q) k v S)
    = k0_pay22 (F := Ideal) (k0_pay19 (F := Ideal) I QD q k v S) (k0_pay21 (F := Ideal) gt) g := rfl

/-- A block as a function of its row and lane. -/
abbrev mat {n w : ℕ} (x : Vec Ideal ⟨3, ![1, n, w]⟩ .bf16) : Fin n → Fin w → EReal := fun a b => x (ix3 0 a b)

/-- The stored state is the state after the chunk. -/
theorem next_eq (x : Vec Ideal S1x1x128 .f32) (T : Fin 256 → Fin 512 → EReal) (hS : ∀ d e, S (ix2 d e) = T d e) (d : Fin 256) (e : Fin 512) :
    k0_pay20 (F := Ideal) (k0_pay7 (F := Ideal) x) (k0_pay8 (F := Ideal) x) k v S (ix2 d e) = next (x (ix3 0 0 0)) (mat k) (mat v) T d e := by
  rw [pay20_apply, pay8_apply, hS]
  unfold next
  refine congrArg _ (Finset.sum_congr rfl fun c _ => ?_)
  rw [pay7_apply]

/-- The stored output is what the row reads out, normalised and gated. -/
theorem out_eq (x : Vec Ideal S1x1x128 .f32) (T : Fin 256 → Fin 512 → EReal) (hS : ∀ d e, S (ix2 d e) = T d e) (r : Fin 128) (e : Fin 512) :
    k0_pay22 (F := Ideal) (k0_pay19 (F := Ideal) (k0_pay4 (F := Ideal) x) (k0_pay6 (F := Ideal) x) q k v S) (k0_pay21 (F := Ideal) gt) g (ix3 0 r e)
      = unit (read (x (ix3 0 0 0)) (mat q) (mat k) (mat v) T r) (fun l => g (ix2 0 l)) e * (mat gt r e * Ideal.logistic (mat gt r e)) := by
  rw [pay22_apply]
  refine congrArg (fun z => unit z _ e * _) (funext fun l => ?_)
  rw [pay19_apply, pay6_apply]
  unfold read
  simp only [pay4_apply, hS]

theorem pay2_apply (d : Fin 256) (e : Fin 512) : k0_pay2 (F := Ideal) (ix2 d e) = 0 := by
  pointwise [k0_pay2]

end Cert.Proof.Rc

end
-- ==== Proof.Rc.Blocks.lean ====
/-
  The retention core's two kinds of grid points, read as functions of the blocks they load: each runs four chunks, the first
  kind from an empty state, the second from the state the point before left.
-/
module

public import proofs.«01_k».proof.Proof.Gen.RetIdeal.Value
public import proofs.«01_k».proof.Proof.Rc.Payload
public import Idealize.ShloMosaic.Lib.Pipeline.ValueKit

@[expose] public section

set_option maxRecDepth 16384

noncomputable section

namespace Cert.Proof.Rc

open Idealize.ShloMosaic Idealize.ShloMosaic.Tactic Idealize.ShloMosaic.TcCoe Cert.RetIdeal Cert.RetIdeal.Gen

theorem hz : (![0, 0] : Fin 2 → Nat) = fun _ => 0 := funext fun a => by fin_cases a <;> rfl
theorem hz3 : (![0, 0, 0] : Fin 3 → Nat) = fun _ => 0 := funext fun a => by fin_cases a <;> rfl

/-- One chunk's rows of a block of four chunks. -/
def chunk {w : ℕ} (x : Vec Ideal ⟨3, ![1, 512, w]⟩ .bf16) (n : ℕ) : Fin 128 → Fin w → EReal :=
  fun r k => x (ix3 0 ⟨(n * 128 + r.val) % 512, Nat.mod_lt _ (by omega)⟩ k)

/-- The state after some chunks of a block. -/
def states (lg : EReal) (x2 : Vec Ideal S1x512x256 .bf16) (x3 : Vec Ideal S1x512x512 .bf16) (S : Fin 256 → Fin 512 → EReal) :
    ℕ → Fin 256 → Fin 512 → EReal
  | 0 => S
  | n + 1 => next lg (chunk x2 n) (chunk x3 n) (states lg x2 x3 S n)

theorem ld_eq {w : ℕ} (x : Vec Ideal ⟨3, ![1, 512, w]⟩ .bf16) (n : ℕ) (hn : n < 4) (off : ℕ) (ho : off = n * 128) (inb) :
    mat (View.ld x (Rect.unit (s := ⟨3, ![1, 512, w]⟩) ![0, off, 0] ![1, 128, w] inb)) = chunk x n := by
  subst ho
  funext r k
  have hr := r.isLt
  refine congrArg x ?_
  funext a; apply Fin.ext
  match a with
  | ⟨0, _⟩ => rfl
  | ⟨1, _⟩ => show n * 128 + 1 * r.val = (n * 128 + r.val) % 512; omega
  | ⟨2, _⟩ => show 0 + 1 * k.val = k.val; omega

/-- What a point leaves at a row of its output's block. -/
def rowOut (x0 : Vec Ideal S1x1x128 .f32) (x1 x2 : Vec Ideal S1x512x256 .bf16) (x3 x4 : Vec Ideal S1x512x512 .bf16) (x5 : Vec Ideal S1x512 .f32)
    (S : Fin 256 → Fin 512 → EReal) (n : ℕ) (r : Fin 128) (e : Fin 512) : EReal :=
  unit (read (x0 (ix3 0 0 0)) (chunk x1 n) (chunk x2 n) (chunk x3 n) (states (x0 (ix3 0 0 0)) x2 x3 S n) r) (fun l => x5 (ix2 0 l)) e
    * (chunk x4 n r e * Ideal.logistic (chunk x4 n r e))

theorem row_at (x0 : Vec Ideal S1x1x128 .f32) (x1 x2 : Vec Ideal S1x512x256 .bf16) (x3 x4 : Vec Ideal S1x512x512 .bf16) (x5 : Vec Ideal S1x512 .f32)
    (S : Fin 256 → Fin 512 → EReal) (R : Fin 512) (e : Fin 512) (n : ℕ) (a : Fin 128) (h : R.val = n * 128 + a.val) :
    rowOut x0 x1 x2 x3 x4 x5 S (R.val / 128) ⟨R.val % 128, by omega⟩ e = rowOut x0 x1 x2 x3 x4 x5 S n a e := by
  have h1 : R.val / 128 = n := by omega
  have h2 : (⟨R.val % 128, by omega⟩ : Fin 128) = a := Fin.ext (by dsimp only; omega)
  rw [h1, h2]

section

variable (x0 : Vec Ideal S1x1x128 .f32) (x1 x2 : Vec Ideal S1x512x256 .bf16) (x3 x4 : Vec Ideal S1x512x512 .bf16) (x5 : Vec Ideal S1x512 .f32)
  (S : Vec Ideal S256x512 .f32) (T : Fin 256 → Fin 512 → EReal)

/-- One chunk's load of the keys or queries, and of the values or gates. -/
abbrev ldK (x : Vec Ideal S1x512x256 .bf16) (off : ℕ)
    (inb : ∀ a, (![0, off, 0] : Fin 3 → ℕ) a + (![1, 128, 256] : Fin 3 → ℕ) a ≤ S1x512x256.size a) : Vec Ideal S1x128x256 .bf16 := View.ld x (Rect.unit (s := S1x512x256) ![0, off, 0] ![1, 128, 256] inb)
abbrev ldV (x : Vec Ideal S1x512x512 .bf16) (off : ℕ)
    (inb : ∀ a, (![0, off, 0] : Fin 3 → ℕ) a + (![1, 128, 512] : Fin 3 → ℕ) a ≤ S1x512x512.size a) : Vec Ideal S1x128x512 .bf16 := View.ld x (Rect.unit (s := S1x512x512) ![0, off, 0] ![1, 128, 512] inb)

/-- One chunk takes one state to the next. -/
theorem state_step (n : ℕ) (hn : n < 4) (off : ℕ) (ho : off = n * 128) (i1) (i2) (hS : ∀ d e, S (ix2 d e) = states (x0 (ix3 0 0 0)) x2 x3 T n d e)
    (d : Fin 256) (e : Fin 512) :
    k0_pay20 (F := Ideal) (k0_pay7 (F := Ideal) x0) (k0_pay8 (F := Ideal) x0) (ldK x2 off i1) (ldV x3 off i2) S (ix2 d e)
      = states (x0 (ix3 0 0 0)) x2 x3 T (n + 1) d e := by
  rw [next_eq _ _ _ x0 _ hS]
  show _ = next (x0 (ix3 0 0 0)) (chunk x2 n) (chunk x3 n) (states (x0 (ix3 0 0 0)) x2 x3 T n) d e
  rw [← ld_eq x2 n hn off ho i1, ← ld_eq x3 n hn off ho i2]

/-- One chunk's output. -/
theorem out_step (n : ℕ) (hn : n < 4) (off : ℕ) (ho : off = n * 128) (i0) (i1) (i2) (i3) (hS : ∀ d e, S (ix2 d e) = states (x0 (ix3 0 0 0)) x2 x3 T n d e)
    (r : Fin 128) (e : Fin 512) :
    k0_pay22 (F := Ideal) (k0_pay19 (F := Ideal) (k0_pay4 (F := Ideal) x0) (k0_pay6 (F := Ideal) x0) (ldK x1 off i0) (ldK x2 off i1) (ldV x3 off i2) S)
        (k0_pay21 (F := Ideal) (ldV x4 off i3)) x5 (ix3 0 r e)
      = rowOut x0 x1 x2 x3 x4 x5 T n r e := by
  rw [out_eq _ _ _ _ _ _ x0 _ hS]
  unfold rowOut
  rw [← ld_eq x1 n hn off ho i0, ← ld_eq x2 n hn off ho i1, ← ld_eq x3 n hn off ho i2, ← ld_eq x4 n hn off ho i3]

end

variable (c : Dev nD) (i : grid0.Coords) (a3 : Memref sig .tc .vmem S1x1x128 .f32) (h3 : a3.IsWhole) (a4 : Memref sig .tc .vmem S1x512x256 .bf16)
  (h4 : a4.IsWhole) (a5 : Memref sig .tc .vmem S1x512x256 .bf16) (h5 : a5.IsWhole) (a6 : Memref sig .tc .vmem S1x512x512 .bf16) (h6 : a6.IsWhole)
  (a7 : Memref sig .tc .vmem S1x512x512 .bf16) (h7 : a7.IsWhole) (a8 : Memref sig .tc .vmem S1x512 .f32) (h8 : a8.IsWhole)
  (a9 : Memref sig .tc .vmem S1x512x512 .bf16) (h9 : a9.IsWhole) (a10 : Memref sig .tc .vmem S256x512 .f32) (h10 : a10.IsWhole)
  (x0 : Vec Ideal S1x1x128 .f32) (x1 x2 : Vec Ideal S1x512x256 .bf16) (x3 x4 : Vec Ideal S1x512x512 .bf16) (x5 : Vec Ideal S1x512 .f32)

/-- The state a point of the first kind leaves. -/
theorem sout_A (hc0 : cond0_0 i) (d : Fin 256) (e : Fin 512) :
    sout0_A_0 (F := Ideal) c i a3 h3 a4 h4 a5 h5 a6 h6 a7 h7 a8 h8 a9 h9 a10 h10 hc0 x0 x1 x2 x3 x4 x5 (ix2 d e) = states (x0 (ix3 0 0 0)) x2 x3 (fun _ _ => 0) 4 d e := by
  unfold sout0_A_0
  rw [View.read_writes_eq_canon _ _ _ (scover0_A_0 (F := Ideal) c i a3 h3 a4 h4 a5 h5 a6 h6 a7 h7 a8 h8 a9 h9 a10 h10 hc0 x0 x1 x2 x3 x4 x5)]
  unfold kernelRun0_A
  dsimp only
  sl_unfold_words
  rw [View.canon_cons_unit_zero hz]
  simp only [View.readCov_cons_toLoadRect, View.readAt_eq_ld, h3.read_unread, h4.read_unread, h5.read_unread, h6.read_unread, h7.read_unread,
    h8.read_unread, h10.read_unread, View.ld_unit_zero (S := S256x512) hz, View.ld_unit_zero (S := S1x512) hz, View.ld_unit_zero (S := S1x1x128) hz3,
    pay12_eq, pay28_eq, pay33_eq, out0_eq, out2_eq, out3_eq]
  exact state_step x0 x2 x3 _ _ 3 (by omega) 384 rfl _ _ (state_step x0 x2 x3 _ _ 2 (by omega) 256 rfl _ _
    (state_step x0 x2 x3 _ _ 1 (by omega) 128 rfl _ _ (state_step x0 x2 x3 _ _ 0 (by omega) 0 rfl _ _ (pay2_apply)))) d e

/-- The output a point of the first kind leaves. -/
theorem out_A (hc0 : cond0_0 i) (R : Fin 512) (e : Fin 512) :
    out0_A_6 (F := Ideal) c i a3 h3 a4 h4 a5 h5 a6 h6 a7 h7 a8 h8 a9 h9 a10 h10 hc0 x0 x1 x2 x3 x4 x5 (ix3 0 R e)
      = rowOut x0 x1 x2 x3 x4 x5 (fun _ _ => 0) (R.val / 128) ⟨R.val % 128, by omega⟩ e := by
  unfold out0_A_6
  rw [View.read_writes_eq_canon _ _ _ (cover0_A_6 (F := Ideal) c i a3 h3 a4 h4 a5 h5 a6 h6 a7 h7 a8 h8 a9 h9 a10 h10 hc0 x0 x1 x2 x3 x4 x5)]
  unfold kernelRun0_A
  dsimp only
  sl_unfold_words
  simp only [View.readCov_cons_toLoadRect, View.readAt_eq_ld, h3.read_unread, h4.read_unread, h5.read_unread, h6.read_unread, h7.read_unread,
    h8.read_unread, h10.read_unread, View.ld_unit_zero (S := S256x512) hz, View.ld_unit_zero (S := S1x512) hz, View.ld_unit_zero (S := S1x1x128) hz3,
    pay12_eq, pay28_eq, pay33_eq, out0_eq, out2_eq, out3_eq]
  have hS : ∀ d e, (k0_pay2 (F := Ideal)) (ix2 d e) = states (x0 (ix3 0 0 0)) x2 x3 (fun _ _ => 0) 0 d e := pay2_apply
  have s0 := state_step x0 x2 x3 _ (fun _ _ => 0) 0 (by omega) 0 rfl inb_S1x512x256_S1x128x256_0_0_0 inb_S1x512x512_S1x128x512_0_0_0 hS
  have s1 := state_step x0 x2 x3 _ (fun _ _ => 0) 1 (by omega) 128 rfl inb_S1x512x256_S1x128x256_0_128_0 inb_S1x512x512_S1x128x512_0_128_0 s0
  have s2 := state_step x0 x2 x3 _ (fun _ _ => 0) 2 (by omega) 256 rfl inb_S1x512x256_S1x128x256_0_256_0 inb_S1x512x512_S1x128x512_0_256_0 s1
  canon_tiles x h
  all_goals
    obtain ⟨z, a, l, rfl⟩ : ∃ (z : Fin 1) (a : Fin 128) (l : Fin 512), x = ix3 z a l := ⟨x 0, x 1, x 2, eq_ix3 x⟩
    obtain rfl : z = 0 := Subsingleton.elim _ _
    obtain rfl : e = l := Fin.ext h2
  · rw [row_at _ _ _ _ _ _ _ R e 3 a h1]; exact out_step x0 x1 x2 x3 x4 x5 _ _ 3 (by omega) 384 rfl _ _ _ _ s2 a e
  · rw [row_at _ _ _ _ _ _ _ R e 2 a h1]; exact out_step x0 x1 x2 x3 x4 x5 _ _ 2 (by omega) 256 rfl _ _ _ _ s1 a e
  · have h3 : R.val = 128 + a.val := h1
    rw [row_at _ _ _ _ _ _ _ R e 1 a (by omega)]; exact out_step x0 x1 x2 x3 x4 x5 _ _ 1 (by omega) 128 rfl _ _ _ _ s0 a e
  · have h3 : R.val = a.val := h1
    rw [row_at _ _ _ _ _ _ _ R e 0 a (by omega)]; exact out_step x0 x1 x2 x3 x4 x5 _ _ 0 (by omega) 0 rfl _ _ _ _ hS a e

/-- The state a point of the second kind leaves. -/
theorem sout_B (hc0 : ¬cond0_0 i) (xs0 : Vec Ideal S256x512 .f32) (d : Fin 256) (e : Fin 512) :
    sout0_B_0 (F := Ideal) c i a3 h3 a4 h4 a5 h5 a6 h6 a7 h7 a8 h8 a9 h9 a10 h10 hc0 x0 x1 x2 x3 x4 x5 xs0 (ix2 d e) = states (x0 (ix3 0 0 0)) x2 x3 (fun d e => xs0 (ix2 d e)) 4 d e := by
  unfold sout0_B_0
  rw [View.read_writes_eq_canon _ _ _ (scover0_B_0 (F := Ideal) c i a3 h3 a4 h4 a5 h5 a6 h6 a7 h7 a8 h8 a9 h9 a10 h10 hc0 x0 x1 x2 x3 x4 x5 xs0)]
  unfold kernelRun0_B
  dsimp only
  sl_unfold_words
  rw [View.canon_cons_unit_zero hz]
  simp only [View.readCov_cons_toLoadRect, View.readAt_eq_ld, h3.read_unread, h4.read_unread, h5.read_unread, h6.read_unread, h7.read_unread,
    h8.read_unread, h10.read_unread, View.ld_unit_zero (S := S256x512) hz, View.ld_unit_zero (S := S1x512) hz, View.ld_unit_zero (S := S1x1x128) hz3,
    pay12_eq, pay28_eq, pay33_eq, out0_eq, out2_eq, out3_eq]
  exact state_step x0 x2 x3 _ _ 3 (by omega) 384 rfl _ _ (state_step x0 x2 x3 _ _ 2 (by omega) 256 rfl _ _
    (state_step x0 x2 x3 _ _ 1 (by omega) 128 rfl _ _ (state_step x0 x2 x3 _ _ 0 (by omega) 0 rfl _ _ (fun _ _ => rfl)))) d e

/-- The output a point of the second kind leaves. -/
theorem out_B (hc0 : ¬cond0_0 i) (xs0 : Vec Ideal S256x512 .f32) (R : Fin 512) (e : Fin 512) :
    out0_B_6 (F := Ideal) c i a3 h3 a4 h4 a5 h5 a6 h6 a7 h7 a8 h8 a9 h9 a10 h10 hc0 x0 x1 x2 x3 x4 x5 xs0 (ix3 0 R e)
      = rowOut x0 x1 x2 x3 x4 x5 (fun d e => xs0 (ix2 d e)) (R.val / 128) ⟨R.val % 128, by omega⟩ e := by
  unfold out0_B_6
  rw [View.read_writes_eq_canon _ _ _ (cover0_B_6 (F := Ideal) c i a3 h3 a4 h4 a5 h5 a6 h6 a7 h7 a8 h8 a9 h9 a10 h10 hc0 x0 x1 x2 x3 x4 x5 xs0)]
  unfold kernelRun0_B
  dsimp only
  sl_unfold_words
  simp only [View.readCov_cons_toLoadRect, View.readAt_eq_ld, h3.read_unread, h4.read_unread, h5.read_unread, h6.read_unread, h7.read_unread,
    h8.read_unread, h10.read_unread, View.ld_unit_zero (S := S256x512) hz, View.ld_unit_zero (S := S1x512) hz, View.ld_unit_zero (S := S1x1x128) hz3,
    pay12_eq, pay28_eq, pay33_eq, out0_eq, out2_eq, out3_eq]
  have hS : ∀ d e, xs0 (ix2 d e) = states (x0 (ix3 0 0 0)) x2 x3 (fun d e => xs0 (ix2 d e)) 0 d e := fun _ _ => rfl
  have s0 := state_step x0 x2 x3 _ (fun d e => xs0 (ix2 d e)) 0 (by omega) 0 rfl inb_S1x512x256_S1x128x256_0_0_0 inb_S1x512x512_S1x128x512_0_0_0 hS
  have s1 := state_step x0 x2 x3 _ (fun d e => xs0 (ix2 d e)) 1 (by omega) 128 rfl inb_S1x512x256_S1x128x256_0_128_0 inb_S1x512x512_S1x128x512_0_128_0 s0
  have s2 := state_step x0 x2 x3 _ (fun d e => xs0 (ix2 d e)) 2 (by omega) 256 rfl inb_S1x512x256_S1x128x256_0_256_0 inb_S1x512x512_S1x128x512_0_256_0 s1
  canon_tiles x h
  all_goals
    obtain ⟨z, a, l, rfl⟩ : ∃ (z : Fin 1) (a : Fin 128) (l : Fin 512), x = ix3 z a l := ⟨x 0, x 1, x 2, eq_ix3 x⟩
    obtain rfl : z = 0 := Subsingleton.elim _ _
    obtain rfl : e = l := Fin.ext h2
  · rw [row_at _ _ _ _ _ _ _ R e 3 a h1]; exact out_step x0 x1 x2 x3 x4 x5 _ _ 3 (by omega) 384 rfl _ _ _ _ s2 a e
  · rw [row_at _ _ _ _ _ _ _ R e 2 a h1]; exact out_step x0 x1 x2 x3 x4 x5 _ _ 2 (by omega) 256 rfl _ _ _ _ s1 a e
  · have h3 : R.val = 128 + a.val := h1
    rw [row_at _ _ _ _ _ _ _ R e 1 a (by omega)]; exact out_step x0 x1 x2 x3 x4 x5 _ _ 1 (by omega) 128 rfl _ _ _ _ s0 a e
  · have h3 : R.val = a.val := h1
    rw [row_at _ _ _ _ _ _ _ R e 0 a (by omega)]; exact out_step x0 x1 x2 x3 x4 x5 _ _ 0 (by omega) 0 rfl _ _ _ _ hS a e

end Cert.Proof.Rc

end
-- ==== Proof.Rc.Value.lean ====
/-
  The retention core's result array, element by element, over the extended reals.
-/
module

public import proofs.«01_k».proof.Proof.Rc.Blocks
public import Idealize.ShloMosaic.Lib.StableHlo.ReadAt

@[expose] public section

set_option maxRecDepth 16384

noncomputable section

namespace Cert.Proof.Rc

open Idealize.ShloMosaic Idealize.ShloMosaic.Tactic Idealize.ShloMosaic.TcCoe Cert.RetIdeal Cert.RetIdeal.Gen
open scoped BigOperators

/-- The logarithm of one head's decay. -/
def logDecay (h : Fin 4) : EReal :=
  Ideal.log1p (-(Ideal.exp (Ideal.ofBits .f32 0x3F317218#32 * (Ideal.ofBits .f32 0xC0A00000#32 - FloatOps.sitofp (F := Ideal) .f32 (BitVec.ofNat 32 h.val)))))

/-- The rows of chunk `n`, of the lanes from `off` on. -/
def slab (x : Fin 4096 → Fin 6144 → EReal) (off w : ℕ) (n : ℕ) : Fin 128 → Fin w → EReal :=
  fun r d => x ⟨(n * 128 + r.val) % 4096, Nat.mod_lt _ (by omega)⟩ ⟨(off + d.val) % 6144, Nat.mod_lt _ (by omega)⟩

/-- One head's state before chunk `n`. -/
def state (x : Fin 4096 → Fin 6144 → EReal) (h : Fin 4) : ℕ → Fin 256 → Fin 512 → EReal
  | 0 => fun _ _ => 0
  | n + 1 => next (logDecay h) (slab x ((4 + h.val) * 256) 256 n) (slab x ((4 + h.val) * 512) 512 n) (state x h n)

/-- One head's read-out at row `r` of chunk `n`. -/
def readAt (x : Fin 4096 → Fin 6144 → EReal) (h : Fin 4) (n : ℕ) (r : Fin 128) : Fin 512 → EReal :=
  read (logDecay h) (slab x (h.val * 256) 256 n) (slab x ((4 + h.val) * 256) 256 n) (slab x ((4 + h.val) * 512) 512 n) (state x h n) r

/-- One head's result at row `r` of chunk `n`: the read-out to unit length, scaled, times its gate. -/
def res (x : Fin 4096 → Fin 6144 → EReal) (g : Fin 512 → EReal) (h : Fin 4) (n : ℕ) (r : Fin 128) (e : Fin 512) : EReal :=
  unit (readAt x h n r) g e * (slab x ((8 + h.val) * 512) 512 n r e * Ideal.logistic (slab x ((8 + h.val) * 512) 512 n r e))

variable (m : (ℓ : Loc nD τ sig) → Buf (Elt Ideal) ℓ) (c : Dev nD)

/-- The arguments as functions of coordinates. -/
abbrev X (b : Fin 8) (s : Fin 4096) (k : Fin 6144) : EReal := (m ((c : Thread nD τ).loc main_arg0) : Vec Ideal S8x4096x6144 .bf16) (ix3 b s k)
abbrev G (k : Fin 512) : EReal := (m ((c : Thread nD τ).loc main_arg1) : Vec Ideal S512 .f32) (ix1 k)

/-- The kernel's result array. -/
def out : Vec Ideal S8x4096x2048 .bf16 := fun i =>
  res (X m c (i 0)) (G m c) ⟨(i 2).val / 512, by have := (i 2).isLt; change (i 2).val < 2048 at this; omega⟩ ((i 1).val / 128)
    ⟨(i 1).val % 128, Nat.mod_lt _ (by decide)⟩ ⟨(i 2).val % 512, Nat.mod_lt _ (by decide)⟩

theorem V_lg (h : Fin 4) (l : Fin 128) : (V m c main_v9 : Vec Ideal S4x1x128 .f32) (ix3 h 0 l) = logDecay h := by
  unfold V logDecay; after_reads_at
theorem V_g (k : Fin 512) : (V m c main_v10 : Vec Ideal S1x512 .f32) (ix2 0 k) = G m c k := by unfold V; after_reads_at

theorem idx0 : ∀ t : Fin cfg0.N, win0_0.index t = ![t.val / 8 % 4, 0, 0] := (by decide +kernel : ∀ t : Fin grid0.N, _)
theorem idx1 : ∀ t : Fin cfg0.N, win0_1.index t = ![t.val / 32, t.val % 8, t.val / 8 % 4] := (by decide +kernel : ∀ t : Fin grid0.N, _)
theorem idx2 : ∀ t : Fin cfg0.N, win0_2.index t = ![t.val / 32, t.val % 8, 4 + t.val / 8 % 4] := (by decide +kernel : ∀ t : Fin grid0.N, _)
theorem idx3 : ∀ t : Fin cfg0.N, win0_3.index t = ![t.val / 32, t.val % 8, 4 + t.val / 8 % 4] := (by decide +kernel : ∀ t : Fin grid0.N, _)
theorem idx4 : ∀ t : Fin cfg0.N, win0_4.index t = ![t.val / 32, t.val % 8, 8 + t.val / 8 % 4] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 32, t.val % 8, t.val / 8 % 4] := (by decide +kernel : ∀ t : Fin grid0.N, _)

theorem lt_N (t : Fin cfg0.N) : t.val < 256 := by have h1 : t.val < cfg0.N := t.isLt; have h2 : cfg0.N = 256 := N_0; omega

/-- The head and the batch row of a grid point. -/
abbrev hd (t : Fin cfg0.N) : Fin 4 := ⟨t.val / 8 % 4, Nat.mod_lt _ (by decide)⟩
abbrev bt (t : Fin cfg0.N) : Fin 8 := ⟨t.val / 32, by have := lt_N t; omega⟩

theorem blk_lg (t : Fin cfg0.N) : (iblk m c 0 t : Vec Ideal S1x1x128 .f32) (ix3 0 0 0) = logDecay (hd t) := by
  rw [← V_lg m c (hd t) 0]
  blk_simp [iblk]
  refine congrArg (V m c main_v9 : Vec Ideal S4x1x128 .f32) ?_
  blk_ext [idx0]

theorem blk_g (t : Fin cfg0.N) (k : Fin 512) : (iblk m c 5 t : Vec Ideal S1x512 .f32) (ix2 0 k) = G m c k := by
  rw [← V_g]
  blk_simp [iblk]
  refine congrArg (V m c main_v10 : Vec Ideal S1x512 .f32) ?_
  blk_ext [idx5]

/-- Chunk `n` of a point's block of queries is chunk `4 (t % 8) + n` of the sequence. -/
theorem chunk_q (t : Fin cfg0.N) (n : ℕ) (hn : n < 4) :
    chunk (iblk m c 1 t : Vec Ideal S1x512x256 .bf16) n = slab (X m c (bt t)) ((hd t).val * 256) 256 (4 * (t.val % 8) + n) := by
  funext r d
  unfold chunk slab
  have hN := lt_N t
  have hr := r.isLt
  have hd' := d.isLt
  blk_simp [iblk]
  rw [V_main_arg0]
  refine congrArg (m ((c : Thread nD τ).loc main_arg0) : Vec Ideal S8x4096x6144 .bf16) ?_
  blk_ext [idx1]

theorem chunk_k (t : Fin cfg0.N) (n : ℕ) (hn : n < 4) :
    chunk (iblk m c 2 t : Vec Ideal S1x512x256 .bf16) n = slab (X m c (bt t)) ((4 + (hd t).val) * 256) 256 (4 * (t.val % 8) + n) := by
  funext r d
  unfold chunk slab
  have hN := lt_N t
  have hr := r.isLt
  have hd' := d.isLt
  blk_simp [iblk]
  rw [V_main_arg0]
  refine congrArg (m ((c : Thread nD τ).loc main_arg0) : Vec Ideal S8x4096x6144 .bf16) ?_
  blk_ext [idx2]

theorem chunk_v (t : Fin cfg0.N) (n : ℕ) (hn : n < 4) :
    chunk (iblk m c 3 t : Vec Ideal S1x512x512 .bf16) n = slab (X m c (bt t)) ((4 + (hd t).val) * 512) 512 (4 * (t.val % 8) + n) := by
  funext r d
  unfold chunk slab
  have hN := lt_N t
  have hr := r.isLt
  have hd' := d.isLt
  blk_simp [iblk]
  rw [V_main_arg0]
  refine congrArg (m ((c : Thread nD τ).loc main_arg0) : Vec Ideal S8x4096x6144 .bf16) ?_
  blk_ext [idx3]

theorem chunk_gate (t : Fin cfg0.N) (n : ℕ) (hn : n < 4) :
    chunk (iblk m c 4 t : Vec Ideal S1x512x512 .bf16) n = slab (X m c (bt t)) ((8 + (hd t).val) * 512) 512 (4 * (t.val % 8) + n) := by
  funext r d
  unfold chunk slab
  have hN := lt_N t
  have hr := r.isLt
  have hd' := d.isLt
  blk_simp [iblk]
  rw [V_main_arg0]
  refine congrArg (m ((c : Thread nD τ).loc main_arg0) : Vec Ideal S8x4096x6144 .bf16) ?_
  blk_ext [idx4]

/-- A point's states, begun from the sequence's state before its first chunk, are the sequence's states. -/
theorem states_eq (t : Fin cfg0.N) : ∀ n, n ≤ 4 →
    states ((iblk m c 0 t : Vec Ideal S1x1x128 .f32) (ix3 0 0 0)) (iblk m c 2 t) (iblk m c 3 t) (state (X m c (bt t)) (hd t) (4 * (t.val % 8))) n
      = state (X m c (bt t)) (hd t) (4 * (t.val % 8) + n) := by
  intro n
  induction n with
  | zero => intro _; rfl
  | succ n ih =>
    intro hn
    show next _ (chunk _ n) (chunk _ n) (states _ _ _ _ n) = next _ _ _ (state _ _ (4 * (t.val % 8) + n))
    rw [ih (by omega), blk_lg, chunk_k m c t n (by omega), chunk_v m c t n (by omega)]
    rfl

/-- The state a point leaves in the scratch buffer. -/
theorem scr : ∀ (k : ℕ) (t : Fin cfg0.N) (_ : t.val % 8 = k) (d : Fin 256) (e : Fin 512),
    (outsAt0 m c t.val t.isLt).2 (ix2 d e) = state (X m c (bt t)) (hd t) (4 * (t.val % 8) + 4) d e := by
  intro k
  induction k with
  | zero =>
    intro t h d e
    rw [outsAt0_A m c t h]
    dsimp only
    rw [sout_A, ← states_eq m c t 4 le_rfl]
    simp only [h]
    rfl
  | succ k ih =>
    intro t h d e
    have hN := lt_N t
    have hlt : t.val - 1 < cfg0.N := by have h2 : cfg0.N = 256 := N_0; omega
    have h0 := ih ⟨t.val - 1, hlt⟩ (by dsimp only; omega)
    have hb : bt ⟨t.val - 1, hlt⟩ = bt t := Fin.ext (by dsimp only; omega)
    have hh : hd ⟨t.val - 1, hlt⟩ = hd t := Fin.ext (by dsimp only; omega)
    rw [hb, hh] at h0
    rw [outsAt0_B m c t (by omega)]
    dsimp only
    rw [sout_B, ← states_eq m c t 4 le_rfl]
    refine congrArg (fun S => states _ _ _ S 4 d e) ?_
    funext d e
    refine (h0 d e).trans ?_
    congr 1
    dsimp only
    omega

/-- A row of a point's result block. -/
theorem row_eq (t : Fin cfg0.N) (n : ℕ) (hn : n < 4) (r : Fin 128) (e : Fin 512) :
    rowOut (iblk m c 0 t) (iblk m c 1 t) (iblk m c 2 t) (iblk m c 3 t) (iblk m c 4 t) (iblk m c 5 t)
      (state (X m c (bt t)) (hd t) (4 * (t.val % 8))) n r e = res (X m c (bt t)) (G m c) (hd t) (4 * (t.val % 8) + n) r e := by
  unfold rowOut res readAt
  rw [states_eq m c t n (by omega), blk_lg, chunk_q m c t n hn, chunk_k m c t n hn, chunk_v m c t n hn, chunk_gate m c t n hn]
  simp only [blk_g]

/-- A point's result block. -/
theorem tile_apply (t : Fin cfg0.N) (R : Fin 512) (e : Fin 512) :
    (outsAt0 m c t.val t.isLt).1 (ix3 0 R e) = res (X m c (bt t)) (G m c) (hd t) (4 * (t.val % 8) + R.val / 128)
      ⟨R.val % 128, Nat.mod_lt _ (by decide)⟩ e := by
  have hR := R.isLt
  by_cases h : t.val % 8 = 0
  · rw [outsAt0_A m c t h]
    dsimp only
    rw [out_A, ← row_eq m c t _ (by omega)]
    simp only [h]
    rfl
  · have hN := lt_N t
    have hlt : t.val - 1 < cfg0.N := by have h2 : cfg0.N = 256 := N_0; omega
    have h0 := scr m c _ ⟨t.val - 1, hlt⟩ rfl
    have hb : bt ⟨t.val - 1, hlt⟩ = bt t := Fin.ext (by dsimp only; omega)
    have hh : hd ⟨t.val - 1, hlt⟩ = hd t := Fin.ext (by dsimp only; omega)
    rw [hb, hh] at h0
    rw [outsAt0_B m c t h]
    dsimp only
    rw [out_B, ← row_eq m c t _ (by omega)]
    refine congrArg (fun S => rowOut _ _ _ _ _ _ S _ _ _) ?_
    funext d e
    refine (h0 d e).trans ?_
    congr 1
    dsimp only
    omega

/-- The result array. -/
theorem final : (dats m 0 c).arrAt 6 cfg0.N = out m c := by
  refine (dats m 0 c).arrAt_eq_of_covers 6 _ (by decide +kernel) fun t hf y => ?_
  obtain ⟨a, R, e, rfl⟩ : ∃ (a : Fin 1) (R : Fin 512) (e : Fin 512), y = ix3 a R e := ⟨y 0, y 1, y 2, eq_ix3 y⟩
  obtain rfl : a = 0 := Subsingleton.elim _ _
  have hN := lt_N t
  have hR := R.isLt
  have he' := e.isLt
  have he : ((cfg0.win 6).blk t).view.emb (ix3 0 R e) = (ix3 (bt t) ⟨t.val % 8 * 512 + R.val, by omega⟩
      ⟨(hd t).val * 512 + e.val, by have := (hd t).isLt; omega⟩ : S8x4096x2048.Idx) := by
    blk_ext [idx6]
  rw [he]
  blk_simp
  rw [after0_6, tile_apply]
  unfold out
  have e1 : (⟨((hd t).val * 512 + e.val) / 512, by have := (hd t).isLt; omega⟩ : Fin 4) = hd t := Fin.ext (by dsimp only; omega)
  have e2 : (t.val % 8 * 512 + R.val) / 128 = 4 * (t.val % 8) + R.val / 128 := by omega
  have e3 : (⟨(t.val % 8 * 512 + R.val) % 128, Nat.mod_lt _ (by decide)⟩ : Fin 128) = ⟨R.val % 128, Nat.mod_lt _ (by decide)⟩ := Fin.ext (by dsimp only; omega)
  have e4 : (⟨((hd t).val * 512 + e.val) % 512, Nat.mod_lt _ (by decide)⟩ : Fin 512) = e := Fin.ext (by dsimp only; omega)
  show _ = res (X m c (bt t)) (G m c) ⟨((hd t).val * 512 + e.val) / 512, _⟩ ((t.val % 8 * 512 + R.val) / 128)
    ⟨(t.val % 8 * 512 + R.val) % 128, _⟩ ⟨((hd t).val * 512 + e.val) % 512, _⟩
  rw [e1, e2, e3, e4]

end Cert.Proof.Rc

end
-- ==== Proof.Rc.Ref.lean ====
/-
  The retention core's reference, element by element, over the extended reals: the state and the row blocks before every
  trip of its loop, and the result.
-/
module

public import proofs.«01_k».proof.Proof.Rc.Trip
public import proofs.«01_k».proof.Proof.Rc.Value
public import proofs.«01_k».proof.Proof.Gen.RetRefIdeal.Step

@[expose] public section

set_option maxRecDepth 16384

noncomputable section

namespace Cert.Proof.Rc

open Idealize.ShloMosaic Idealize.ShloMosaic.Tactic Idealize.ShloMosaic.TcCoe Idealize.ShloMosaic.StableHlo Idealize.SL.Sem Cert.RetRefIdeal Cert.RetRefIdeal.Gen Cert.RetRefIdeal.Value Cert.RetRefIdeal.Step
open scoped BigOperators

/-! The query decay is a real number at least zero, so it leaves the sum over the state's rows. -/

theorem exp_nonneg (x : EReal) : 0 ≤ Ideal.exp x := by
  induction x with
  | bot => exact le_rfl
  | top => exact le_top
  | coe x => exact EReal.coe_nonneg.2 (Real.exp_pos x).le

theorem exp_ne_top {x : EReal} (h : x ≠ ⊤) : Ideal.exp x ≠ ⊤ := by
  induction x with
  | bot => exact EReal.zero_ne_top
  | top => exact absurd rfl h
  | coe x => exact EReal.coe_ne_top _

theorem log_ne_top {x : EReal} (h : x ≠ ⊤) : Ideal.log x ≠ ⊤ := by
  induction x with
  | bot => exact bot_ne_top
  | top => exact absurd rfl h
  | coe x =>
    show (if x ≤ 0 then ⊥ else (Real.log x : EReal)) ≠ ⊤
    split
    · exact bot_ne_top
    · exact EReal.coe_ne_top _

theorem logDecay_ne_top (h : Fin 4) : logDecay h ≠ ⊤ := by
  unfold logDecay Ideal.log1p
  refine log_ne_top (ne_top_of_le_ne_top (EReal.coe_ne_top 1) ?_)
  generalize hz : Ideal.exp _ = z
  have h0 : 0 ≤ z := hz ▸ exp_nonneg _
  calc (1 : EReal) + -z ≤ 1 + 0 := add_le_add le_rfl (by rw [EReal.neg_le, neg_zero]; exact h0)
    _ = ((1 : ℝ) : EReal) := by simp

theorem qDec_ne_top (h : Fin 4) (r : Fin 128) : qDec (logDecay h) r ≠ ⊤ := by
  unfold qDec
  refine exp_ne_top ?_
  have hl := logDecay_ne_top h
  have hp : pos r + 1 = (((r.val : ℝ) + 1 : ℝ) : EReal) := by rw [pos_eq, EReal.coe_add]; rfl
  have hr : (0 : ℝ) < (r.val : ℝ) + 1 := by positivity
  rw [hp]
  generalize logDecay h = l at hl
  induction l with
  | bot => rw [EReal.coe_mul_bot_of_pos hr]; exact bot_ne_top
  | top => exact absurd rfl hl
  | coe l => rw [← EReal.coe_mul]; exact EReal.coe_ne_top _

theorem scale_sum {ι : Type} (s : Finset ι) (a : EReal) (h0 : 0 ≤ a) (h1 : a ≠ ⊤) (f : ι → EReal) : ∑ i ∈ s, a * f i = a * ∑ i ∈ s, f i := by
  classical
  induction s using Finset.induction_on with
  | empty => simp
  | insert i s hi ih => rw [Finset.sum_insert hi, Finset.sum_insert hi, ih, EReal.left_distrib_of_nonneg_of_ne_top h0 h1]

theorem query_sum (h : Fin 4) (r : Fin 128) (q S : Fin 256 → EReal) :
    ∑ d, q d * qDec (logDecay h) r * S d = qDec (logDecay h) r * ∑ d, q d * S d := by
  rw [← scale_sum Finset.univ (qDec (logDecay h) r) (exp_nonneg _) (qDec_ne_top h r)]
  exact Finset.sum_congr rfl fun d _ => by rw [mul_comm (q d), mul_assoc]

/-! The decays and the chunks the loop starts from. -/

theorem lg_apply (h : Fin 4) : (K_main_v15 (F := Ideal) : Vec Ideal S4 .f32) (ix1 h) = logDecay h := by
  unfold logDecay
  pointwise [K_main_v15, K_main_v14, K_main_v13, K_main_v12, K_main_v11, K_main_v10, K_main_v9, K_main_v8, K_main_cst, K_main_cst_0]

theorem within_apply (h : Fin 4) (r c : Fin 128) : (K_main_v32 (F := Ideal) : Vec Ideal S4x128x128 .f32) (ix3 h r c) = within (logDecay h) r c := by
  unfold within
  have hl := lg_apply h
  unfold K_main_v32 K_main_v31 K_main_v30 K_main_v29 K_main_v27
  generalize K_main_v15 (F := Ideal) = lg at hl ⊢
  pointwise [K_main_v28, K_main_v26, K_main_v25, K_main_v24, K_main_v23, K_main_v22, K_main_v21, K_main_v20, K_main_v19, K_main_v18, K_main_v17, K_main_v16,
    K_main_cst_1, K_main_cst_2, K_main_cst_3, K_main_call0_v0, K_main_call0_v1, K_main_call0_v2]
  rw [hl]
  have hz : (id (constant (F := Ideal) S_ .f32 0#32) : Vec Ideal S_ .f32) ix0 = (0 : EReal) := Ideal.ofBits_zero_f32
  rw [hz]
  rfl

theorem qDec_apply (h : Fin 4) (r : Fin 128) : (K_main_v41 (F := Ideal) : Vec Ideal S4x128x1 .f32) (ix3 h r 0) = qDec (logDecay h) r := by
  unfold qDec
  have hl := lg_apply h
  unfold K_main_v41 K_main_v40 K_main_v39 K_main_v38 K_main_v36
  generalize K_main_v15 (F := Ideal) = lg at hl ⊢
  pointwise [K_main_v37, K_main_v35, K_main_v34, K_main_v33, K_main_v16, K_main_cst_4]
  rw [hl]
  rfl

theorem kDec_apply (h : Fin 4) (r : Fin 128) : (K_main_v50 (F := Ideal) : Vec Ideal S4x128x1 .f32) (ix3 h r 0) = kDec (logDecay h) r := by
  unfold kDec
  have hl := lg_apply h
  unfold K_main_v50 K_main_v49 K_main_v48 K_main_v47 K_main_v45
  generalize K_main_v15 (F := Ideal) = lg at hl ⊢
  pointwise [K_main_v46, K_main_v44, K_main_v43, K_main_v42, K_main_v16, K_main_cst_5]
  rw [hl]
  rfl

theorem cDec_apply (h : Fin 4) : (K_main_v54 (F := Ideal) : Vec Ideal S4x1x1 .f32) (ix3 h 0 0) = cDec (logDecay h) := by
  unfold cDec
  have hl := lg_apply h
  unfold K_main_v54 K_main_v53 K_main_v52
  generalize K_main_v15 (F := Ideal) = lg at hl ⊢
  pointwise [K_main_v51, K_main_cst_6]
  rw [hl]

variable (x : Vec Ideal S8x4096x6144 .bf16)

theorem q_apply (n : Fin 32) (b : Fin 8) (h : Fin 4) (r : Fin 128) (d : Fin 256) :
    (A_main_v57 (F := Ideal) x : Vec Ideal S32x8x4x128x256 .f32) (ix5 n b h r d) = slab (fun s k => x (ix3 b s k)) (h.val * 256) 256 n.val r d := by
  unfold slab
  pointwise [A_main_v57, A_main_v56, A_main_v5, A_main_v2, A_main_v1, A_main_v0]
  have hn := n.isLt
  have hr := r.isLt
  have hh := h.isLt
  have hd := d.isLt
  exact congrArg x (congrArg₂ (ix3 b) (Fin.ext (by dsimp only; omega)) (Fin.ext (by dsimp only; omega)))

theorem k_apply (n : Fin 32) (b : Fin 8) (h : Fin 4) (r : Fin 128) (d : Fin 256) :
    (A_main_v59 (F := Ideal) x : Vec Ideal S32x8x4x128x256 .f32) (ix5 n b h r d) = slab (fun s k => x (ix3 b s k)) ((4 + h.val) * 256) 256 n.val r d := by
  unfold slab
  pointwise [A_main_v59, A_main_v58, A_main_v6, A_main_v3, A_main_v1, A_main_v0]
  have hn := n.isLt
  have hr := r.isLt
  have hh := h.isLt
  have hd := d.isLt
  exact congrArg x (congrArg₂ (ix3 b) (Fin.ext (by dsimp only; omega)) (Fin.ext (by dsimp only; omega)))

theorem v_apply (n : Fin 32) (b : Fin 8) (h : Fin 4) (r : Fin 128) (d : Fin 512) :
    (A_main_v61 (F := Ideal) x : Vec Ideal S32x8x4x128x512 .f32) (ix5 n b h r d) = slab (fun s k => x (ix3 b s k)) ((4 + h.val) * 512) 512 n.val r d := by
  unfold slab
  pointwise [A_main_v61, A_main_v60, A_main_v7, A_main_v4, A_main_v1, A_main_v0]
  have hn := n.isLt
  have hr := r.isLt
  have hh := h.isLt
  have hd := d.isLt
  exact congrArg x (congrArg₂ (ix3 b) (Fin.ext (by dsimp only; omega)) (Fin.ext (by dsimp only; omega)))

/-- The contents before trip `k`: the counter, the decays and the chunks, one state per head, and the row blocks written so far. -/
structure Before (V0 : Valuation τ sig (Elt Ideal)) (k : ℕ) : Prop where
  ctr : V0 (Proc.devRef .tc main_v63_7) = fun _ => BitVec.ofNat 32 k
  dq : V0 (Proc.devRef .tc main_v63_0) = A_main_v57 (F := Ideal) x
  dk : V0 (Proc.devRef .tc main_v63_1) = A_main_v59 (F := Ideal) x
  dv : V0 (Proc.devRef .tc main_v63_2) = A_main_v61 (F := Ideal) x
  wi : V0 (Proc.devRef .tc main_v63_3) = K_main_v32 (F := Ideal)
  qd : V0 (Proc.devRef .tc main_v63_4) = K_main_v41 (F := Ideal)
  cd : V0 (Proc.devRef .tc main_v63_5) = K_main_v54 (F := Ideal)
  kd : V0 (Proc.devRef .tc main_v63_6) = K_main_v50 (F := Ideal)
  st : ∀ b h d e, (V0 (Proc.devRef .tc main_v63_8) : Vec Ideal S8x4x256x512 .f32) (ix4 b h d e) = state (fun s k => x (ix3 b s k)) h k d e
  rows : ∀ n b h r e, n.val < k → (V0 (Proc.devRef .tc main_v63_9) : Vec Ideal S32x8x4x128x512 .f32) (ix5 n b h r e) = readAt (fun s k => x (ix3 b s k)) h n.val r e

/-- A trip carries it on. -/
theorem before_step (V0 : Valuation τ sig (Elt Ideal)) (k : ℕ) (hk : k < 32) (H : Before x V0 k) : Before x (STEP V0) (k + 1) where
  ctr := by
    refine (STEP_main_v63_7 V0).trans ?_
    unfold step_main_v63_7
    rw [H.ctr]
    funext i
    show BitVec.ofNat 32 k + 1#32 = BitVec.ofNat 32 (k + 1)
    simp only [BitVec.ofNat_add]
  dq := (STEP_main_v63_0 V0).trans H.dq
  dk := (STEP_main_v63_1 V0).trans H.dk
  dv := (STEP_main_v63_2 V0).trans H.dv
  wi := (STEP_main_v63_3 V0).trans H.wi
  qd := (STEP_main_v63_4 V0).trans H.qd
  cd := (STEP_main_v63_5 V0).trans H.cd
  kd := (STEP_main_v63_6 V0).trans H.kd
  st := by
    intro b h d e
    refine (congrFun (STEP_main_v63_8 V0) _).trans ?_
    refine (trip_state V0 _ _ _ _ _ rfl rfl rfl H.cd H.kd b h d e).trans ?_
    show _ = next _ _ _ _ d e
    unfold next
    refine congrArg₂ (· + ·) (congrArg₂ (· * ·) (H.st b h d e) (cDec_apply h)) (Finset.sum_congr rfl fun r _ => ?_)
    refine congrArg₂ (· * ·) (congrArg₂ (· * ·) ?_ (kDec_apply h r)) ?_
    · exact (take_k V0 ⟨k, hk⟩ H.ctr b h r d).trans ((congrFun H.dk _).trans (k_apply x ⟨k, hk⟩ b h r d))
    · exact (take_v V0 ⟨k, hk⟩ H.ctr b h r e).trans ((congrFun H.dv _).trans (v_apply x ⟨k, hk⟩ b h r e))
  rows := by
    intro n b h r e hn
    refine (congrFun (STEP_main_v63_9 V0) _).trans ?_
    refine (trip_rows V0 ⟨k, hk⟩ _ _ _ _ _ _ _ H.ctr rfl rfl rfl rfl rfl H.wi H.qd n b h r e).trans ?_
    by_cases hnk : n = ⟨k, hk⟩
    · rw [if_pos hnk]
      subst hnk
      unfold readAt read
      have hq : ∀ d, (res_main_while0b_v85 V0 : Vec Ideal S8x4x128x256 .f32) (ix4 b h r d) = slab (fun s k => x (ix3 b s k)) (h.val * 256) 256 k r d := fun d =>
        (take_q V0 ⟨k, hk⟩ H.ctr b h r d).trans ((congrFun H.dq _).trans (q_apply x ⟨k, hk⟩ b h r d))
      refine congrArg₂ (· + ·) (Finset.sum_congr rfl fun c _ => ?_) (Eq.trans (Finset.sum_congr rfl fun d _ => ?_) (query_sum h r _ _))
      · refine congrArg₂ (· * ·) (congrArg₂ (· * ·) (Finset.sum_congr rfl fun d _ => congrArg₂ (· * ·) (hq d) ?_) (within_apply h r c)) ?_
        · exact (take_k V0 ⟨k, hk⟩ H.ctr b h c d).trans ((congrFun H.dk _).trans (k_apply x ⟨k, hk⟩ b h c d))
        · exact (take_v V0 ⟨k, hk⟩ H.ctr b h c e).trans ((congrFun H.dv _).trans (v_apply x ⟨k, hk⟩ b h c e))
      · exact congrArg₂ (· * ·) (congrArg₂ (· * ·) (hq d) (qDec_apply h r)) (H.st b h d e)
    · rw [if_neg hnk]
      exact H.rows n b h r e (by have : n.val ≠ k := fun h' => hnk (Fin.ext h'); omega)

variable (m : (ℓ : Loc nD τ sig) → Buf (Elt Ideal) ℓ) (c : Dev nD)

set_option maxRecDepth 65536 in
set_option maxHeartbeats 1000000 in
/-- The loop's entry. -/
theorem before_entry : Before (m ((c.tc : Thread nD τ).loc main_arg0)) (entryContents preI m c) 0 where
  ctr := ctr_entry m c
  dq := by simp only [entryContents, afterL_cons, afterL_nil]; after_reads_simp; rfl
  dk := by simp only [entryContents, afterL_cons, afterL_nil]; after_reads_simp; rfl
  dv := by simp only [entryContents, afterL_cons, afterL_nil]; after_reads_simp; rfl
  wi := by simp only [entryContents, afterL_cons, afterL_nil]; after_reads_simp; rfl
  qd := by simp only [entryContents, afterL_cons, afterL_nil]; after_reads_simp; rfl
  cd := by simp only [entryContents, afterL_cons, afterL_nil]; after_reads_simp; rfl
  kd := by simp only [entryContents, afterL_cons, afterL_nil]; after_reads_simp; rfl
  st := by
    intro b h d e
    have hS : entryContents preI m c (Proc.devRef .tc main_v63_8) = K_main_v55 (F := Ideal) := by
      simp only [entryContents, afterL_cons, afterL_nil]; after_reads_simp; rfl
    refine (congrFun hS _).trans ?_
    show _ = (0 : EReal)
    pointwise [K_main_v55, K_main_cst_7]
  rows := fun n _ _ _ _ hn => absurd hn (Nat.not_lt_zero _)

/-- Every trip's contents. -/
theorem before_iter : ∀ k, k ≤ 32 → Before (m ((c.tc : Thread nD τ).loc main_arg0)) (STEP^[k] (entryContents preI m c)) k
  | 0, _ => before_entry m c
  | k + 1, h => by
    rw [Function.iterate_succ_apply']
    exact before_step _ _ k (by omega) (before_iter k (by omega))

/-- The reference's result at an index, of the row blocks. -/
theorem out_apply (V0 : Valuation τ sig (Elt Ideal)) (g : Vec Ideal S512 .f32) (O : Vec Ideal S32x8x4x128x512 .f32)
    (hx : V0 (Proc.devRef .tc main_arg0) = x) (hg : V0 (Proc.devRef .tc main_arg1) = g) (hO : V0 (Proc.devRef .tc main_v63_9) = O)
    (b : Fin 8) (s : Fin 4096) (k : Fin 2048) :
    (out_main_v84 V0 : Vec Ideal S8x4096x2048 .bf16) (ix3 b s k)
      = unit (fun e => O (ix5 (⟨s.val / 128, by omega⟩ : Fin 32) b (⟨k.val / 512, by omega⟩ : Fin 4) (⟨s.val % 128, by omega⟩ : Fin 128) e)) (fun e => g (ix1 e)) ⟨k.val % 512, by omega⟩
        * (x (ix3 b s ⟨4096 + k.val, by omega⟩) * Ideal.logistic (x (ix3 b s ⟨4096 + k.val, by omega⟩))) := by
  unfold out_main_v84 unit
  rw [hx, hg, hO]
  pointwise []
  rfl

end Cert.Proof.Rc

end
-- ==== Proof.Rc.Claim.lean ====
/-
  The retention core's claims: the two arrays are equal, element by element, over the extended reals.
-/
module

public import proofs.«01_k».proof.Defs
public import proofs.«01_k».proof.Proof.Rc.Ref
public import Idealize.ShloMosaic.Lib.Quiescent

@[expose] public section

set_option maxRecDepth 16384

noncomputable section

namespace Cert.Proof.Rc

open Idealize.ShloMosaic Idealize.ShloMosaic.TcCoe Idealize.ShloMosaic.StableHlo Idealize.SL.Sem Cert.RetRefIdeal Cert.RetRefIdeal.Gen Cert.RetRefIdeal.Value
open scoped BigOperators

/-- The reference runs, leaves its arguments unchanged, and (it has no semaphores) every counter at zero. -/
theorem ref_frame : Cert.quiescent_RetRefIdeal (hRetRefIdeal := Cert.RetRefIdeal.Gen.facts) := fun m ρ _ =>
  (θ_run _ _ _).mono (fun r h => ⟨fun c => (h c).2, sem_eq_zero_of_no_sems (by decide) r.2⟩)
    (Cert.RetRefIdeal.Value.run (F := Ideal) m ρ)

/-- The kernel runs and leaves the stated array, its arguments unchanged. -/
theorem run (m : (ℓ : Loc Cert.RetIdeal.nD Cert.RetIdeal.τ Cert.RetIdeal.sig) → Buf (Elt Ideal) ℓ) (ρ : Dev Cert.RetIdeal.nD → PrngReg) :
    θ_run (Cert.RetIdeal.defs (F := Ideal)) (onTc (τ := Cert.RetIdeal.τ) (Cert.RetIdeal.main (F := Ideal))) ⟨m, fun _ => 0, ρ⟩ (fun r => ∀ c : Dev Cert.RetIdeal.nD,
      r.2.mem ((c : Thread Cert.RetIdeal.nD Cert.RetIdeal.τ).loc Cert.RetIdeal.main_v11) = out m c
      ∧ r.2.mem ((c : Thread Cert.RetIdeal.nD Cert.RetIdeal.τ).loc Cert.RetIdeal.main_arg0) = m ((c : Thread Cert.RetIdeal.nD Cert.RetIdeal.τ).loc Cert.RetIdeal.main_arg0)
      ∧ r.2.mem ((c : Thread Cert.RetIdeal.nD Cert.RetIdeal.τ).loc Cert.RetIdeal.main_arg1) = m ((c : Thread Cert.RetIdeal.nD Cert.RetIdeal.τ).loc Cert.RetIdeal.main_arg1)) :=
  (θ_run _ _ _).mono (fun _ h c => ⟨(h c).1.trans (final m c), (h c).2⟩) (Cert.RetIdeal.Value.run_blocks (F := Ideal) m ρ)

/-- The reference's array, of the arguments. -/
theorem ref_apply (m : (ℓ : Loc nD τ sig) → Buf (Elt Ideal) ℓ) (c : Dev nD) (b : Fin 8) (s : Fin 4096) (k : Fin 2048) :
    (out_main_v84 (STEP^[32] (entryContents preI m c)) : Vec Ideal S8x4096x2048 .bf16) (ix3 b s k)
      = res (fun s k => (m ((c : Thread nD τ).loc main_arg0) : Vec Ideal S8x4096x6144 .bf16) (ix3 b s k))
          (fun e => (m ((c : Thread nD τ).loc main_arg1) : Vec Ideal S512 .f32) (ix1 e))
          ⟨k.val / 512, by omega⟩ (s.val / 128) ⟨s.val % 128, Nat.mod_lt _ (by decide)⟩ ⟨k.val % 512, Nat.mod_lt _ (by decide)⟩ := by
  have H := before_iter m c 32 le_rfl
  refine (out_apply _ _ _ _ (iter_main_arg0 m c 32) (iter_main_arg1 m c 32) rfl b s k).trans ?_
  have hs := s.isLt
  have hk := k.isLt
  have hg : slab (fun s k => (m ((c : Thread nD τ).loc main_arg0) : Vec Ideal S8x4096x6144 .bf16) (ix3 b s k)) ((8 + k.val / 512) * 512) 512 (s.val / 128)
      ⟨s.val % 128, Nat.mod_lt _ (by decide)⟩ ⟨k.val % 512, Nat.mod_lt _ (by decide)⟩
        = (m ((c : Thread nD τ).loc main_arg0) : Vec Ideal S8x4096x6144 .bf16) (ix3 b s ⟨4096 + k.val, by omega⟩) := by
    unfold slab
    exact congrArg (m ((c : Thread nD τ).loc main_arg0) : Vec Ideal S8x4096x6144 .bf16)
      (congrArg₂ (ix3 b) (Fin.ext (by dsimp only; omega)) (Fin.ext (by dsimp only; omega)))
  unfold res
  rw [hg]
  refine congrArg (fun z => unit z _ _ * _) (funext fun e => ?_)
  exact H.rows ⟨s.val / 128, by omega⟩ b _ _ e (by dsimp only; omega)

/-- The kernel and the reference leave equal arrays. -/
theorem algebraic : Cert.algebraic_RetIdeal_RetRefIdeal (hRetIdeal := Cert.RetIdeal.Gen.facts)
    (hRetRefIdeal := Cert.RetRefIdeal.Gen.facts) := by
  intro m g m' g' _ hargs
  refine ⟨fun c => out m c, run m g, ?_⟩
  refine (θ_run _ _ _).mono (fun r h c => ⟨?_, (h c).2⟩) (Cert.RetRefIdeal.Value.run (F := Ideal) m' g')
  refine (h c).1.trans ?_
  obtain ⟨h0, h1⟩ := hargs c
  funext i
  obtain ⟨b, s, k, rfl⟩ : ∃ (b : Fin 8) (s : Fin 4096) (k : Fin 2048), i = ix3 b s k := ⟨i 0, i 1, i 2, eq_ix3 i⟩
  refine (ref_apply m' c b s k).trans ?_
  rw [h0, h1]
  rfl

end Cert.Proof.Rc

end
-- ==== Proof.Gd.Trip.lean ====
/-
  One trip of the gated delta rule's reference: the values it writes, the state and the row block it leaves, element by element, over
  the extended reals.
-/
module

public import proofs.«01_k».proof.Proof.Gen.GdnRefIdeal.Run
public import Idealize.ShloMosaic.Lib.Pointwise
public import Idealize.ShloMosaic.Lib.DynamicIndex
public import Idealize.ShloMosaic.Lib.Pipeline.Value

@[expose] public section

set_option maxRecDepth 16384

noncomputable section

namespace Cert.Proof.Gd

open Idealize.ShloMosaic Idealize.ShloMosaic.Tactic Cert.GdnRefIdeal Cert.GdnRefIdeal.Gen Cert.GdnRefIdeal.Value
open scoped BigOperators

variable (V0 : Valuation τ sig (Elt Ideal)) (j : Fin 64)

/-- The starts of a trip's block, as numbers. -/
theorem start_eq (hn : V0 (Proc.devRef .tc main_v324_6) = fun _ => BitVec.ofNat 32 j.val) (a : Fin 5) :
    BitVec.toInt ((![V0 (Proc.devRef .tc main_v324_6), constantI S_ 32 0#32, constantI S_ 32 0#32, constantI S_ 32 0#32, constantI S_ 32 0#32] :
      Fin 5 → (⟨S_, .i32⟩ : BufTy).Contents (Elt Ideal)) a (Shape.Idx.first h_S_)) = (((![j.val, 0, 0, 0, 0] : Fin 5 → ℕ) a : ℕ) : Int) := by
  have hj := j.isLt
  rw [hn]
  fin_cases a
  · exact toInt_ofNat_of_lt (by omega)
  · rfl
  · rfl
  · rfl
  · rfl

theorem start4_eq (hn : V0 (Proc.devRef .tc main_v324_6) = fun _ => BitVec.ofNat 32 j.val) (a : Fin 4) :
    BitVec.toInt ((![V0 (Proc.devRef .tc main_v324_6), constantI S_ 32 0#32, constantI S_ 32 0#32, constantI S_ 32 0#32] :
      Fin 4 → (⟨S_, .i32⟩ : BufTy).Contents (Elt Ideal)) a (Shape.Idx.first h_S_)) = (((![j.val, 0, 0, 0] : Fin 4 → ℕ) a : ℕ) : Int) := by
  have hj := j.isLt
  rw [hn]
  fin_cases a
  · exact toInt_ofNat_of_lt (by omega)
  · rfl
  · rfl
  · rfl

theorem fits_256 : Shape.Slices S64x8x8x64x256 ![j.val, 0, 0, 0, 0] S1x8x8x64x256 := by
  have hj := j.isLt
  refine ⟨rfl, fun a => ?_⟩
  fin_cases a
  · show j.val + 1 ≤ 64; omega
  · show 0 + 8 ≤ 8; omega
  · show 0 + 8 ≤ 8; omega
  · show 0 + 64 ≤ 64; omega
  · show 0 + 256 ≤ 256; omega

theorem fits_128 : Shape.Slices S64x8x8x64x128 ![j.val, 0, 0, 0, 0] S1x8x8x64x128 := by
  have hj := j.isLt
  refine ⟨rfl, fun a => ?_⟩
  fin_cases a
  · show j.val + 1 ≤ 64; omega
  · show 0 + 8 ≤ 8; omega
  · show 0 + 8 ≤ 8; omega
  · show 0 + 64 ≤ 64; omega
  · show 0 + 128 ≤ 128; omega

theorem fits_64 : Shape.Slices S64x8x8x64x64 ![j.val, 0, 0, 0, 0] S1x8x8x64x64 := by
  have hj := j.isLt
  refine ⟨rfl, fun a => ?_⟩
  fin_cases a
  · show j.val + 1 ≤ 64; omega
  · show 0 + 8 ≤ 8; omega
  · show 0 + 8 ≤ 8; omega
  · show 0 + 64 ≤ 64; omega
  · show 0 + 64 ≤ 64; omega

theorem fits_1 : Shape.Slices S64x8x8x1 ![j.val, 0, 0, 0] S1x8x8x1 := by
  have hj := j.isLt
  refine ⟨rfl, fun a => ?_⟩
  fin_cases a
  · show j.val + 1 ≤ 64; omega
  · show 0 + 8 ≤ 8; omega
  · show 0 + 8 ≤ 8; omega
  · show 0 + 1 ≤ 1; omega

/-- A trip's block of an array of 64 blocks, 256 numbers to a row. -/
def take_256 (A : Vec Ideal S64x8x8x64x256 .f32) : Vec Ideal S8x8x64x256 .f32 :=
  shapeCast S8x8x64x256 (Host.dynamicSlice S1x8x8x64x256 A (fun k => (((![V0 (Proc.devRef .tc main_v324_6), constantI S_ 32 0#32, constantI S_ 32 0#32, constantI S_ 32 0#32, constantI S_ 32 0#32] : Fin 5 → (⟨S_, .i32⟩ : BufTy).Contents (Elt Ideal))) k (Shape.Idx.first h_S_)).toInt) sliceFits_S64x8x8x64x256_S1x8x8x64x256) shapeCasts_S1x8x8x64x256_S8x8x64x256

theorem take_256_apply (hn : V0 (Proc.devRef .tc main_v324_6) = fun _ => BitVec.ofNat 32 j.val) (A : Vec Ideal S64x8x8x64x256 .f32) (b h : Fin 8) (r : Fin 64) (d : Fin 256) :
    take_256 V0 A (ix4 b h r d) = A (ix5 j b h r d) := by
  unfold take_256
  rw [Host.dynamicSlice_eq_extractStridedSlice _ _ _ ![j.val, 0, 0, 0, 0] _ (fits_256 j) (start_eq V0 j hn)]
  pointwise []

/-- A trip's block of an array of 64 blocks, 128 numbers to a row. -/
def take_128 (A : Vec Ideal S64x8x8x64x128 .f32) : Vec Ideal S8x8x64x128 .f32 :=
  shapeCast S8x8x64x128 (Host.dynamicSlice S1x8x8x64x128 A (fun k => (((![V0 (Proc.devRef .tc main_v324_6), constantI S_ 32 0#32, constantI S_ 32 0#32, constantI S_ 32 0#32, constantI S_ 32 0#32] : Fin 5 → (⟨S_, .i32⟩ : BufTy).Contents (Elt Ideal))) k (Shape.Idx.first h_S_)).toInt) sliceFits_S64x8x8x64x128_S1x8x8x64x128) shapeCasts_S1x8x8x64x128_S8x8x64x128

theorem take_128_apply (hn : V0 (Proc.devRef .tc main_v324_6) = fun _ => BitVec.ofNat 32 j.val) (A : Vec Ideal S64x8x8x64x128 .f32) (b h : Fin 8) (r : Fin 64) (d : Fin 128) :
    take_128 V0 A (ix4 b h r d) = A (ix5 j b h r d) := by
  unfold take_128
  rw [Host.dynamicSlice_eq_extractStridedSlice _ _ _ ![j.val, 0, 0, 0, 0] _ (fits_128 j) (start_eq V0 j hn)]
  pointwise []

/-- A trip's block of an array of 64 blocks, 64 numbers to a row. -/
def take_64 (A : Vec Ideal S64x8x8x64x64 .f32) : Vec Ideal S8x8x64x64 .f32 :=
  shapeCast S8x8x64x64 (Host.dynamicSlice S1x8x8x64x64 A (fun k => (((![V0 (Proc.devRef .tc main_v324_6), constantI S_ 32 0#32, constantI S_ 32 0#32, constantI S_ 32 0#32, constantI S_ 32 0#32] : Fin 5 → (⟨S_, .i32⟩ : BufTy).Contents (Elt Ideal))) k (Shape.Idx.first h_S_)).toInt) sliceFits_S64x8x8x64x64_S1x8x8x64x64) shapeCasts_S1x8x8x64x64_S8x8x64x64

theorem take_64_apply (hn : V0 (Proc.devRef .tc main_v324_6) = fun _ => BitVec.ofNat 32 j.val) (A : Vec Ideal S64x8x8x64x64 .f32) (b h : Fin 8) (r : Fin 64) (d : Fin 64) :
    take_64 V0 A (ix4 b h r d) = A (ix5 j b h r d) := by
  unfold take_64
  rw [Host.dynamicSlice_eq_extractStridedSlice _ _ _ ![j.val, 0, 0, 0, 0] _ (fits_64 j) (start_eq V0 j hn)]
  pointwise []

/-- A trip's block of the chunk decays. -/
def take_1 (A : Vec Ideal S64x8x8x1 .f32) : Vec Ideal S8x8x1 .f32 :=
  shapeCast S8x8x1 (Host.dynamicSlice S1x8x8x1 A (fun k => (((![V0 (Proc.devRef .tc main_v324_6), constantI S_ 32 0#32, constantI S_ 32 0#32, constantI S_ 32 0#32] : Fin 4 → (⟨S_, .i32⟩ : BufTy).Contents (Elt Ideal))) k (Shape.Idx.first h_S_)).toInt) sliceFits_S64x8x8x1_S1x8x8x1) shapeCasts_S1x8x8x1_S8x8x1

theorem take_1_apply (hn : V0 (Proc.devRef .tc main_v324_6) = fun _ => BitVec.ofNat 32 j.val) (A : Vec Ideal S64x8x8x1 .f32) (b h : Fin 8) :
    take_1 V0 A (ix3 b h 0) = A (ix4 j b h 0) := by
  unfold take_1
  rw [Host.dynamicSlice_eq_extractStridedSlice _ _ _ ![j.val, 0, 0, 0] _ (fits_1 j) (start4_eq V0 j hn)]
  pointwise []

section Forms

variable (U : Vec Ideal S64x8x8x64x256 .f32) (W Q K : Vec Ideal S64x8x8x64x128 .f32) (T : Vec Ideal S64x8x8x64x64 .f32) (L : Vec Ideal S64x8x8x1 .f32)
  (S : Vec Ideal S8x8x128x256 .f32) (O : Vec Ideal S64x8x8x64x256 .f32) (v : Vec Ideal S8x8x64x256 .f32)

/-- A trip's three values, of the blocks it reads. -/
theorem fresh_eq (hU : V0 (Proc.devRef .tc main_v324_0) = U) (hW : V0 (Proc.devRef .tc main_v324_1) = W) (hS : V0 (Proc.devRef .tc main_v324_7) = S) :
    (res_main_while0b_v353 V0 : Vec Ideal S8x8x64x256 .f32) = subf (φ := .f32) (take_256 V0 U)
      (Host.dotGeneral (φ₁ := .f32) (φ₂ := .f32) (F := Ideal) dot_S8x8x64x128_S8x8x128x256_S8x8x64x256_3_2_2_3_01_01 none (take_128 V0 W) S) := by
  subst hU hW hS
  rfl

theorem state_eq (hK : V0 (Proc.devRef .tc main_v324_4) = K) (hL : V0 (Proc.devRef .tc main_v324_5) = L) (hS : V0 (Proc.devRef .tc main_v324_7) = S)
    (hv : res_main_while0b_v353 V0 = v) :
    (step_main_v324_7 V0 : Vec Ideal S8x8x128x256 .f32) = addf (φ := .f32) (mulf (φ := .f32) S (broadcastInDim S8x8x128x256 ![0, 1, 2, 3] bcast_S8x8x1x1_S8x8x128x256_0_1_2_3
      (broadcastInDim S8x8x1x1 ![0, 1, 2] bcast_S8x8x1_S8x8x1x1_0_1_2 (Host.exp (F := Ideal) (φ := .f32) (take_1 V0 L)))))
      (Host.dotGeneral (φ₁ := .f32) (φ₂ := .f32) (F := Ideal) dot_S8x8x64x128_S8x8x64x256_S8x8x128x256_2_2_3_3_01_01 none (take_128 V0 K) v) := by
  subst hK hL hS hv
  rfl

theorem rows_eq (hQ : V0 (Proc.devRef .tc main_v324_3) = Q) (hT : V0 (Proc.devRef .tc main_v324_2) = T) (hS : V0 (Proc.devRef .tc main_v324_7) = S)
    (hO : V0 (Proc.devRef .tc main_v324_8) = O) (hv : res_main_while0b_v353 V0 = v) :
    (step_main_v324_8 V0 : Vec Ideal S64x8x8x64x256 .f32) = Host.dynamicUpdateSlice O (broadcastInDim S1x8x8x64x256 ![1, 2, 3, 4] bcast_S8x8x64x256_S1x8x8x64x256_1_2_3_4
      (addf (φ := .f32) (Host.dotGeneral (φ₁ := .f32) (φ₂ := .f32) (F := Ideal) dot_S8x8x64x128_S8x8x128x256_S8x8x64x256_3_2_2_3_01_01 none (take_128 V0 Q) S)
        (Host.dotGeneral (φ₁ := .f32) (φ₂ := .f32) (F := Ideal) dot_S8x8x64x64_S8x8x64x256_S8x8x64x256_3_2_2_3_01_01 none (take_64 V0 T) v)))
      (fun k => (((![V0 (Proc.devRef .tc main_v324_6), constantI S_ 32 0#32, constantI S_ 32 0#32, constantI S_ 32 0#32, constantI S_ 32 0#32] : Fin 5 → (⟨S_, .i32⟩ : BufTy).Contents (Elt Ideal))) k (Shape.Idx.first h_S_)).toInt)
      updateFits_S64x8x8x64x256_S1x8x8x64x256 := by
  subst hQ hT hS hO hv
  rfl

end Forms

section Trip

variable (U : Vec Ideal S64x8x8x64x256 .f32) (W Q K : Vec Ideal S64x8x8x64x128 .f32) (T : Vec Ideal S64x8x8x64x64 .f32) (L : Vec Ideal S64x8x8x1 .f32)
  (S : Vec Ideal S8x8x128x256 .f32) (O : Vec Ideal S64x8x8x64x256 .f32)
  (hn : V0 (Proc.devRef .tc main_v324_6) = fun _ => BitVec.ofNat 32 j.val)

include hn

/-- The values a trip's rows write. -/
theorem trip_fresh (hU : V0 (Proc.devRef .tc main_v324_0) = U) (hW : V0 (Proc.devRef .tc main_v324_1) = W) (hS : V0 (Proc.devRef .tc main_v324_7) = S)
    (b h : Fin 8) (r : Fin 64) (e : Fin 256) :
    (res_main_while0b_v353 V0 : Vec Ideal S8x8x64x256 .f32) (ix4 b h r e) = U (ix5 j b h r e) - ∑ d : Fin 128, W (ix5 j b h r d) * S (ix4 b h d e) := by
  have hu : take_256 V0 U (ix4 b h r e) = _ := take_256_apply V0 j hn U b h r e
  have hw : ∀ d, take_128 V0 W (ix4 b h r d) = _ := take_128_apply V0 j hn W b h r
  rw [← hu]
  simp only [← hw]
  rw [fresh_eq V0 U W S hU hW hS]
  generalize take_256 V0 U = tu
  generalize take_128 V0 W = tw
  pointwise []

/-- The state after a trip. -/
theorem trip_state (hK : V0 (Proc.devRef .tc main_v324_4) = K) (hL : V0 (Proc.devRef .tc main_v324_5) = L) (hS : V0 (Proc.devRef .tc main_v324_7) = S)
    (v : Vec Ideal S8x8x64x256 .f32) (hv : res_main_while0b_v353 V0 = v) (b h : Fin 8) (d : Fin 128) (e : Fin 256) :
    (step_main_v324_7 V0 : Vec Ideal S8x8x128x256 .f32) (ix4 b h d e)
      = S (ix4 b h d e) * Ideal.exp (L (ix4 j b h 0)) + ∑ r : Fin 64, K (ix5 j b h r d) * v (ix4 b h r e) := by
  have hl : take_1 V0 L (ix3 b h 0) = _ := take_1_apply V0 j hn L b h
  have hk : ∀ r, take_128 V0 K (ix4 b h r d) = _ := fun r => take_128_apply V0 j hn K b h r d
  rw [← hl]
  simp only [← hk]
  rw [state_eq V0 K L S v hK hL hS hv]
  generalize take_1 V0 L = tl
  generalize take_128 V0 K = tk
  pointwise []

/-- The row blocks after a trip: the trip's own is new, the others are as they were. -/
theorem trip_rows (hQ : V0 (Proc.devRef .tc main_v324_3) = Q) (hT : V0 (Proc.devRef .tc main_v324_2) = T) (hS : V0 (Proc.devRef .tc main_v324_7) = S)
    (hO : V0 (Proc.devRef .tc main_v324_8) = O)
    (v : Vec Ideal S8x8x64x256 .f32) (hv : res_main_while0b_v353 V0 = v)
    (n : Fin 64) (b h : Fin 8) (r : Fin 64) (e : Fin 256) :
    (step_main_v324_8 V0 : Vec Ideal S64x8x8x64x256 .f32) (ix5 n b h r e)
      = if n = j then
          (∑ d : Fin 128, Q (ix5 j b h r d) * S (ix4 b h d e)) + ∑ c : Fin 64, T (ix5 j b h r c) * v (ix4 b h c e)
        else O (ix5 n b h r e) := by
  have hq : ∀ d, take_128 V0 Q (ix4 b h r d) = _ := take_128_apply V0 j hn Q b h r
  have ht : ∀ c, take_64 V0 T (ix4 b h r c) = _ := take_64_apply V0 j hn T b h r
  simp only [← hq, ← ht]
  rw [rows_eq V0 Q T S O v hQ hT hS hO hv, Host.dynamicUpdateSlice_eq_updateSlice _ _ _ _ ![j.val, 0, 0, 0, 0] (fun a => by
    refine (congrArg (fun z : Int => (min (max z 0) _).toNat) (start_eq V0 j hn a)).trans ?_
    have hj := j.isLt
    fin_cases a
    · show (min (max (j.val : Int) 0) ((64 - 1 : ℕ) : Int)).toNat = j.val; omega
    · rfl
    · rfl
    · rfl
    · rfl) (fits_256 j)]
  rw [updateSlice_apply]
  generalize take_128 V0 Q = tq
  generalize take_64 V0 T = tt
  by_cases h' : n = j
  · subst h'
    rw [dif_pos (fun a => by fin_cases a <;> simp), if_pos rfl]
    pointwise []
  · rw [dif_neg (fun hc => h' (Fin.ext (by have := hc 0; simp at this; omega))), if_neg h']

end Trip

end Cert.Proof.Gd

end
-- ==== Proof.Gd.Neu.lean ====
/-
  Strictly lower triangular real matrices of 64 rows: the inverse of one plus such a matrix as a product of six factors, and
  forward substitution's 64 rounds.
-/
module

public import Mathlib.LinearAlgebra.Matrix.NonsingularInverse
public import Mathlib.Data.Matrix.Mul
public import Mathlib.Algebra.Ring.Commute
public import Mathlib.Data.Real.Basic
public import Mathlib.Tactic.Abel

@[expose] public section

noncomputable section

namespace Cert.Proof.Gd

open scoped BigOperators

/-- Square real matrices of a chunk's 64 rows. -/
abbrev M := Matrix (Fin 64) (Fin 64) ℝ

/-- A matrix with nothing on or above its diagonal. -/
def Strict (N : M) : Prop := ∀ i j : Fin 64, i ≤ j → N i j = 0

/-- One refinement of an approximate inverse by the next power. -/
def grow (V P : M) : M := V + V * P

/-- The inverse of one plus `N`: six factors, one for each doubling of the power. -/
def inv (N : M) : M :=
  let P := N * N
  let P1 := P * P
  let P2 := P1 * P1
  let P3 := P2 * P2
  let P4 := P3 * P3
  grow (grow (grow (grow (grow (1 - N) P) P1) P2) P3) P4

/-- The `k`-th power starts `k` rows lower. -/
theorem pow_zero_of_lt {N : M} (h : Strict N) : ∀ (k : ℕ) (i j : Fin 64), i.val < j.val + k → (N ^ k) i j = 0
  | 0, i, j, hij => by
    rw [pow_zero, Matrix.one_apply_ne]
    intro e
    rw [e] at hij
    omega
  | k + 1, i, j, hij => by
    rw [pow_succ, Matrix.mul_apply]
    refine Finset.sum_eq_zero fun m _ => ?_
    by_cases hm : i.val < m.val + k
    · rw [pow_zero_of_lt h k i m hm, zero_mul]
    · rw [h m j (by rw [Fin.le_def]; omega), mul_zero]

theorem pow_64 {N : M} (h : Strict N) : N ^ 64 = 0 := by
  ext i j
  rw [pow_zero_of_lt h 64 i j (by have := i.isLt; omega)]
  rfl

theorem grow_mul {N V P : M} (h : V * (1 + N) = 1 - P) (hc : Commute P N) : grow V P * (1 + N) = 1 - P * P := by
  have hc' : P * (1 + N) = (1 + N) * P := by rw [mul_add, add_mul, mul_one, one_mul, hc.eq]
  unfold grow
  rw [add_mul, mul_assoc, hc', ← mul_assoc, h, sub_mul, one_mul]
  abel

theorem inv_mul {N : M} (h : Strict N) : inv N * (1 + N) = 1 := by
  have c0 : Commute (N * N) N := (Commute.refl N).mul_left (Commute.refl N)
  have c1 := c0.mul_left c0
  have c2 := c1.mul_left c1
  have c3 := c2.mul_left c2
  have c4 := c3.mul_left c3
  have h0 : (1 - N) * (1 + N) = 1 - N * N := by rw [sub_mul, one_mul, mul_add, mul_one]; abel
  have h5 := grow_mul (grow_mul (grow_mul (grow_mul (grow_mul h0 c0) c1) c2) c3) c4
  refine h5.trans ?_
  have e : ∀ k, N ^ k * N ^ k = N ^ (2 * k) := fun k => by rw [← pow_add, two_mul]
  have e0 : N * N = N ^ 2 := (pow_two N).symm
  rw [e0, e, e, e, e, e, pow_64 h, sub_zero]

/-- One round of forward substitution. -/
def round {w : ℕ} (N : M) (R X : Matrix (Fin 64) (Fin w) ℝ) : Matrix (Fin 64) (Fin w) ℝ := R - N * X

/-- After 64 rounds the rows are the inverse's. -/
theorem round_64 {w : ℕ} {N : M} (h : Strict N) (R : Matrix (Fin 64) (Fin w) ℝ) : (round N R)^[64] 0 = inv N * R := by
  have hr : (1 + N) * inv N = 1 := mul_eq_one_comm.1 (inv_mul h)
  have hy : R = inv N * R + N * (inv N * R) := by
    calc R = ((1 + N) * inv N) * R := by rw [hr, Matrix.one_mul]
      _ = inv N * R + N * (inv N * R) := by rw [add_mul, one_mul, Matrix.add_mul, Matrix.mul_assoc]
  have key : ∀ p : ℕ, (round N R)^[p] 0 = inv N * R - (-N) ^ p * (inv N * R) := by
    intro p
    induction p with
    | zero => simp
    | succ p ih =>
      rw [Function.iterate_succ_apply', ih]
      show R - N * (inv N * R - (-N) ^ p * (inv N * R)) = _
      have hz : inv N * R = R - N * (inv N * R) := eq_sub_of_add_eq hy.symm
      rw [pow_succ', Matrix.mul_sub, neg_mul, Matrix.neg_mul, Matrix.mul_assoc N, sub_neg_eq_add, sub_sub_eq_add_sub, add_sub_right_comm, ← hz]
  rw [key, Even.neg_pow (by decide), pow_64 h, Matrix.zero_mul, sub_zero]

end Cert.Proof.Gd

end
-- ==== Proof.Gd.Form.lean ====
/-
  One chunk of the gated delta rule as a formula: the decays, the triangular system's solution, the new values, the state
  after the chunk and what a row of it reads out. Keys, values, decays and write strengths are real numbers; the state and the queries
  are extended reals.
-/
module

public import proofs.«01_k».proof.Proof.Gd.Neu
public import Idealize.ShloMosaic.Lib.Pointwise

@[expose] public section

noncomputable section

namespace Cert.Proof.Gd

open Idealize.ShloMosaic
open scoped BigOperators

/-- The embedding of the real numbers takes sums to sums. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

section

variable (κ : Fin 64 → Fin 128 → ℝ) (ν : Fin 64 → Fin 256 → ℝ) (β γ : Fin 64 → ℝ)

/-- The decays' logarithms, summed up to a row. -/
def cum (i : Fin 64) : ℝ := ∑ m, if m ≤ i then γ m else 0
/-- The decay from an earlier row to a later one. -/
def dec (i j : Fin 64) : ℝ := if j ≤ i then Real.exp (cum γ i - cum γ j) else 0
/-- The chunk's strictly lower triangular matrix: what a row's write changes of a later row's. -/
def low : M := Matrix.of fun i j => if j < i then (∑ d, κ i d * β i * κ j d) * dec γ i j else 0
/-- The system solved for the scaled values, and for the scaled and decayed keys. -/
def solV : Matrix (Fin 64) (Fin 256) ℝ := inv (low κ β γ) * Matrix.of fun i e => ν i e * β i
def solK : Matrix (Fin 64) (Fin 128) ℝ := inv (low κ β γ) * Matrix.of fun i d => κ i d * β i * Real.exp (cum γ i)

theorem low_strict : Strict (low κ β γ) := fun i j h => by
  show (if j < i then _ else (0 : ℝ)) = 0
  rw [if_neg (not_lt.2 h)]

variable (S : Fin 128 → Fin 256 → EReal)

/-- The values the chunk's rows write. -/
def fresh (i : Fin 64) (e : Fin 256) : EReal := (solV κ ν β γ i e : EReal) - ∑ d, (solK κ β γ i d : EReal) * S d e
/-- The state after the chunk. -/
def next (d : Fin 128) (e : Fin 256) : EReal :=
  S d e * (Real.exp (cum γ 63) : EReal) + ∑ i, (κ i d : EReal) * (Real.exp (cum γ 63 - cum γ i) : EReal) * fresh κ ν β γ S i e
/-- What a row reads out: the state before the chunk, decayed, and its own chunk's rows so far. -/
def read (q : Fin 64 → Fin 128 → EReal) (i : Fin 64) (e : Fin 256) : EReal :=
  (Real.exp (cum γ i) : EReal) * (∑ d, q i d * S d e)
    + ∑ j, (if j ≤ i then (∑ d, q i d * (κ j d : EReal)) * (dec γ i j : EReal) else 0) * fresh κ ν β γ S j e

end

/-- A row normalised by its root mean square and scaled. -/
def unit (x g : Fin 256 → EReal) (e : Fin 256) : EReal :=
  x e * Ideal.rsqrt (Ideal.div (∑ l, x l * x l) (Ideal.ofBits .f32 0x43800000#32) + Ideal.ofBits .f32 0x358637BD#32) * g e

end Cert.Proof.Gd

end
-- ==== Proof.Gd.Masks.lean ====
/-
  The gated delta rule's masks and partial sums, read at an index.
-/
module

public import proofs.«01_k».proof.Proof.Gen.GdnIdeal.Skeleton
public import proofs.«01_k».proof.Proof.Gd.Form
public import Idealize.ShloMosaic.Lib.Pointwise
public import Idealize.ShloMosaic.Lib.WordCmp

@[expose] public section

set_option maxRecDepth 16384

noncomputable section

namespace Cert.Proof.Gd

open Idealize.ShloMosaic Idealize.ShloMosaic.Tactic Idealize.ShloMosaic.TcCoe Cert.GdnIdeal Cert.GdnIdeal.Gen
open scoped BigOperators

/-! The masks. -/

theorem pick {p : Prop} [Decidable p] {α : Type} {b : BitVec 1} (h : b = if p then 1#1 else 0#1) (x y : α) : Scalar.select b x y = if p then x else y := by
  subst h
  split <;> rfl

theorem pay3_apply (r c : Fin 64) : k0_pay3 (ix2 r c) = if c ≤ r then 1#1 else 0#1 := by
  have h : ∀ r c : Fin 64, IntOp.cmpi .sle (BitVec.ofNat 32 c.val) (BitVec.ofNat 32 r.val) = if c ≤ r then 1#1 else 0#1 := by decide +kernel
  pointwise [k0_pay3]
  exact h r c

theorem pay4_apply (r c : Fin 64) : k0_pay4 (ix2 r c) = if c < r then 1#1 else 0#1 := by
  have h : ∀ r c : Fin 64, IntOp.cmpi .slt (BitVec.ofNat 32 c.val) (BitVec.ofNat 32 r.val) = if c < r then 1#1 else 0#1 := by decide +kernel
  pointwise [k0_pay4]
  exact h r c

theorem pay5_apply (r c : Fin 64) : k0_pay5 (F := Ideal) (ix2 r c) = (((1 : M) r c : ℝ) : EReal) := by
  have h : ∀ r c : Fin 64, IntOp.cmpi .eq (BitVec.ofNat 32 c.val) (BitVec.ofNat 32 r.val) = if r = c then 1#1 else 0#1 := by decide +kernel
  pointwise [k0_pay5]
  rw [pick (h r c), Matrix.one_apply]
  split <;> simp

/-- A row of the partial sums: the upper half sums up to the row, the lower half beyond it. -/
def selRow (r : Fin 128) (c : Fin 64) : Prop := (r.val < 64 ∧ c.val ≤ r.val) ∨ (64 ≤ r.val ∧ r.val < c.val + 64)
instance (r : Fin 128) (c : Fin 64) : Decidable (selRow r c) := by unfold selRow; infer_instance
/-- A column of the partial sums: beyond the column, or everything in the last 64 columns. -/
def selCol (r : Fin 64) (c : Fin 128) : Prop := c.val < r.val ∨ 64 ≤ c.val
instance (r : Fin 64) (c : Fin 128) : Decidable (selCol r c) := by unfold selCol; infer_instance

theorem pay6_apply (r : Fin 128) (c : Fin 64) : k0_pay6 (F := Ideal) (ix2 r c) = (((if selRow r c then 1 else 0) : ℝ) : EReal) := by
  have h : ∀ (r : Fin 128) (c : Fin 64), (IntOp.ori
        (IntOp.andi (IntOp.cmpi .slt (BitVec.ofNat 32 r.val) 64#32)
          (IntOp.cmpi .sle (BitVec.ofNat 32 c.val) (BitVec.ofNat 32 r.val)))
        (IntOp.andi (IntOp.cmpi .sge (BitVec.ofNat 32 r.val) 64#32)
          (IntOp.cmpi .sgt (BitVec.ofNat 32 c.val) (IntOp.subi (BitVec.ofNat 32 r.val) 64#32)))) = if selRow r c then 1#1 else 0#1 := by decide +kernel
  pointwise [k0_pay6]
  rw [pick (h r c)]
  split <;> simp

theorem pay7_apply (r : Fin 64) (c : Fin 128) : k0_pay7 (F := Ideal) (ix2 r c) = (((if selCol r c then 1 else 0) : ℝ) : EReal) := by
  have h : ∀ (r : Fin 64) (c : Fin 128), (IntOp.ori (IntOp.cmpi .sgt (BitVec.ofNat 32 r.val) (BitVec.ofNat 32 c.val))
        (IntOp.cmpi .sge (BitVec.ofNat 32 c.val) 64#32)) = if selCol r c then 1#1 else 0#1 := by decide +kernel
  pointwise [k0_pay7]
  rw [pick (h r c)]
  split <;> simp

/-- Summing one lane's entry over a row gives the entry. -/
theorem lane_sum (f : Fin 128 → EReal) (w : BitVec 32) (n : Fin 128) (h : ∀ l : Fin 128, IntOp.cmpi .eq (BitVec.ofNat 32 l.val) w = if l = n then 1#1 else 0#1) :
    ∑ l : Fin 128, Scalar.select (IntOp.cmpi .eq (BitVec.ofNat 32 l.val) w) (f l) 0 = f n := by
  rw [Finset.sum_congr rfl fun l _ => pick (h l) (f l) 0]
  simp

/-- A head's lanes: its decay's and its write strength's. -/
def laneG (h : Fin 8) : Fin 128 := ⟨h.val, by omega⟩
def laneB (h : Fin 8) : Fin 128 := ⟨h.val + 8, by omega⟩

theorem laneG_word : ∀ (h : Fin 8) (l : Fin 128), IntOp.cmpi .eq (BitVec.ofNat 32 l.val) (BitVec.ofNat 32 h.val) = if l = laneG h then 1#1 else 0#1 := by
  decide +kernel
theorem laneB_word : ∀ (h : Fin 8) (l : Fin 128),
    IntOp.cmpi .eq (BitVec.ofNat 32 l.val) (Scalar.addi (BitVec.ofNat 32 h.val) 8#32) = if l = laneB h then 1#1 else 0#1 := by
  decide +kernel

/-! The partial sums of the decays' logarithms. -/

theorem sum_upto (γ : Fin 64 → ℝ) (r : Fin 128) (c : Fin 128) (hr : r.val < 64) (hc : 64 ≤ c.val) :
    ∑ m : Fin 64, (if selRow r m then (1 : ℝ) else 0) * (γ m * (if selCol m c then 1 else 0)) = cum γ ⟨r.val, hr⟩ := by
  unfold cum
  refine Finset.sum_congr rfl fun m _ => ?_
  have h1 : selRow r m ↔ m ≤ (⟨r.val, hr⟩ : Fin 64) := by unfold selRow; rw [Fin.le_def]; dsimp only; omega
  have h2 : selCol m c := Or.inr hc
  rw [if_pos h2]
  simp only [h1, mul_one, ite_mul, one_mul, zero_mul]

theorem sum_between (γ : Fin 64 → ℝ) (i j : Fin 64) (hij : j ≤ i) (r c : Fin 128) (hr : r.val = i.val) (hc : c.val = j.val) :
    ∑ m : Fin 64, (if selRow r m then (1 : ℝ) else 0) * (γ m * (if selCol m c then 1 else 0)) = cum γ i - cum γ j := by
  unfold cum
  rw [← Finset.sum_sub_distrib]
  refine Finset.sum_congr rfl fun m _ => ?_
  have hi := i.isLt
  have hj := j.isLt
  have h1 : selRow r m ↔ m ≤ i := by unfold selRow; rw [Fin.le_def]; omega
  have h2 : selCol m c ↔ ¬m ≤ j := by unfold selCol; rw [Fin.le_def]; omega
  simp only [h1, h2]
  by_cases a : m ≤ i <;> by_cases b : m ≤ j
  · simp [a, b]
  · simp [a, b]
  · exact absurd (b.trans hij) a
  · simp [a, b]

theorem sum_beyond (γ : Fin 64 → ℝ) (i : Fin 64) (r c : Fin 128) (hr : r.val = i.val + 64) (hc : 64 ≤ c.val) :
    ∑ m : Fin 64, (if selRow r m then (1 : ℝ) else 0) * (γ m * (if selCol m c then 1 else 0)) = cum γ 63 - cum γ i := by
  unfold cum
  rw [← Finset.sum_sub_distrib]
  refine Finset.sum_congr rfl fun m _ => ?_
  have hi := i.isLt
  have hm := m.isLt
  have h1 : selRow r m ↔ ¬m ≤ i := by unfold selRow; rw [Fin.le_def]; omega
  have h2 : selCol m c := Or.inr hc
  have h3 : m ≤ (63 : Fin 64) := by rw [Fin.le_def]; show m.val ≤ 63; omega
  rw [if_pos h2, if_pos h3]
  simp only [h1]
  by_cases b : m ≤ i <;> simp [b]

end Cert.Proof.Gd

end
-- ==== Proof.Gd.Payload.lean ====
/-
  The gated delta rule's stored values read at an index, over the extended reals: one chunk's new state and one chunk's
  normalised and gated output.
-/
module

public import proofs.«01_k».proof.Proof.Gd.Masks

@[expose] public section

set_option maxRecDepth 16384

noncomputable section

namespace Cert.Proof.Gd

open Idealize.ShloMosaic Idealize.ShloMosaic.Tactic Idealize.ShloMosaic.TcCoe Cert.GdnIdeal Cert.GdnIdeal.Gen
open scoped BigOperators

/-! One chunk's stored values, of the blocks it loads. -/

section

variable (i : grid0.Coords) (q k : Vec Ideal S1x64x128 .bf16) (v z : Vec Ideal S1x64x256 .bf16) (bg : Vec Ideal S1x64x128 .f32) (g : Vec Ideal S1x256 .f32)
  (S : Vec Ideal S128x256 .f32)

/-- The head's number and a row's lanes' numbers. -/
abbrev AI : BitVec 32 := BitVec.ofNat 32 (i 1).val
abbrev LN : IVec S64x128 32 := iota .tc S64x128 32 [1] iota_S64x128_d1_w32

abbrev colB : FVec Ideal S64x1 .f32 := k0_pay10 (F := Ideal) (AI i) LN (k0_pay8 (F := Ideal) bg)
abbrev sums : FVec Ideal S128x128 .f32 := k0_pay11 (F := Ideal) LN (k0_pay6 (F := Ideal)) (k0_pay7 (F := Ideal)) (k0_pay8 (F := Ideal) bg) (k0_pay9 i)
abbrev rem : FVec Ideal S64x1 .f32 := k0_pay13 (F := Ideal) LN (k0_pay6 (F := Ideal)) (k0_pay7 (F := Ideal)) (k0_pay8 (F := Ideal) bg) (k0_pay9 i)
abbrev last : FVec Ideal S1x1 .f32 := k0_pay14 (F := Ideal) LN (k0_pay6 (F := Ideal)) (k0_pay7 (F := Ideal)) (k0_pay8 (F := Ideal) bg) (k0_pay9 i)
abbrev decV : FVec Ideal S64x64 .f32 := k0_pay15 (F := Ideal) LN k0_pay3 (k0_pay6 (F := Ideal)) (k0_pay7 (F := Ideal)) (k0_pay8 (F := Ideal) bg) (k0_pay9 i)
abbrev expG : FVec Ideal S64x1 .f32 := k0_pay16 (F := Ideal) LN (k0_pay6 (F := Ideal)) (k0_pay7 (F := Ideal)) (k0_pay8 (F := Ideal) bg) (k0_pay9 i)
abbrev kB : FVec Ideal S64x128 .f32 := k0_pay20 (F := Ideal) (AI i) LN (k0_pay8 (F := Ideal) bg) k
abbrev lowV : FVec Ideal S64x64 .f32 := k0_pay21 (F := Ideal) (AI i) LN k0_pay3 k0_pay4 (k0_pay6 (F := Ideal)) (k0_pay7 (F := Ideal)) (k0_pay8 (F := Ideal) bg) (k0_pay9 i) k
abbrev oneV : FVec Ideal S64x64 .f32 := k0_pay22 (F := Ideal) (AI i) LN k0_pay3 k0_pay4 (k0_pay5 (F := Ideal)) (k0_pay6 (F := Ideal)) (k0_pay7 (F := Ideal)) (k0_pay8 (F := Ideal) bg) (k0_pay9 i) k
abbrev lowL : FVec Ideal S64x64 .bf16 := k0_pay23 (F := Ideal) (AI i) LN k0_pay3 k0_pay4 (k0_pay6 (F := Ideal)) (k0_pay7 (F := Ideal)) (k0_pay8 (F := Ideal) bg) (k0_pay9 i) k
abbrev lowR : FVec Ideal S64x64 .bf16 := k0_pay24 (F := Ideal) (AI i) LN k0_pay3 k0_pay4 (k0_pay6 (F := Ideal)) (k0_pay7 (F := Ideal)) (k0_pay8 (F := Ideal) bg) (k0_pay9 i) k
abbrev solV0 : FVec Ideal S64x256 .f32 := k0_pay26 (F := Ideal) (colB i bg) (expG i bg) (kB i k bg) (oneV i k bg) (lowL i k bg) (lowR i k bg) v
abbrev solK0 : FVec Ideal S64x128 .f32 := k0_pay27 (F := Ideal) (colB i bg) (expG i bg) (kB i k bg) (oneV i k bg) (lowL i k bg) (lowR i k bg) v

/-- The state one chunk stores. -/
def stepK : Vec Ideal S128x256 .f32 :=
  k0_pay31 (F := Ideal) (rem i bg) (last i bg) (k0_pay17 (F := Ideal) q) (k0_pay19 (F := Ideal) k) (solV0 i k v bg) (solK0 i k v bg) S
/-- The rows one chunk reads out. -/
def readK : FVec Ideal S64x256 .f32 :=
  k0_pay30 (F := Ideal) k0_pay3 (decV i bg) (expG i bg) (k0_pay17 (F := Ideal) q) (k0_pay18 (F := Ideal) k) (solV0 i k v bg) (solK0 i k v bg) S
/-- The output one chunk stores. -/
def outK : Vec Ideal S1x64x256 .bf16 :=
  k0_pay35 (F := Ideal) (readK i q k v bg S) (k0_pay32 (F := Ideal) z) (k0_pay33 (F := Ideal) g)
    (k0_pay34 (F := Ideal) k0_pay3 (decV i bg) (expG i bg) (k0_pay17 (F := Ideal) q) (k0_pay18 (F := Ideal) k) (solV0 i k v bg) (solK0 i k v bg) S)

/-! The partial sums, and the decays they give. -/

variable (h : Fin 8) (hi : (i 1).val = h.val) (κ : Fin 64 → Fin 128 → ℝ) (ν : Fin 64 → Fin 256 → ℝ) (β γ : Fin 64 → ℝ)
  (hκ : ∀ r d, k (ix3 0 r d) = (κ r d : EReal)) (hν : ∀ r e, v (ix3 0 r e) = (ν r e : EReal))
  (hβ : ∀ r, bg (ix3 0 r (laneB h)) = (β r : EReal)) (hγ : ∀ r, bg (ix3 0 r (laneG h)) = (γ r : EReal))

include hi

theorem colB_apply (r : Fin 64) : colB i bg (ix2 r 0) = bg (ix3 0 r (laneB h)) := by
  refine Eq.trans ?_ (lane_sum (fun l => bg (ix3 0 r l)) _ _ (laneB_word h))
  rw [← hi]
  pointwise [k0_pay10, k0_pay8]

include hγ

theorem sums_apply (r c : Fin 128) : sums i bg (ix2 r c) = ((∑ m : Fin 64, (if selRow r m then 1 else 0) * (γ m * (if selCol m c then 1 else 0)) : ℝ) : EReal) := by
  have e := fun m : Fin 64 => (lane_sum (fun l => bg (ix3 0 m l)) _ _ (laneG_word h)).trans (hγ m)
  rw [← hi] at e
  pointwise [k0_pay11, k0_pay8, k0_pay9]
  simp only [e, pay6_apply, pay7_apply, ← EReal.coe_mul, ← EReal.coe_sub, sub_self, mul_zero, EReal.coe_zero, Finset.sum_const_zero, add_zero]
  rw [coe_sum]

theorem gcum_apply (r : Fin 64) : k0_pay12 (F := Ideal) LN (k0_pay6 (F := Ideal)) (k0_pay7 (F := Ideal)) (k0_pay8 (F := Ideal) bg) (k0_pay9 i) (ix2 r 0) = (cum γ r : EReal) := by
  have e := sums_apply i bg h hi γ hγ ⟨r.val, by omega⟩ ⟨64, by decide⟩
  rw [sum_upto γ _ _ r.isLt le_rfl] at e
  refine Eq.trans ?_ e
  unfold k0_pay12
  show _ = k0_pay11 (F := Ideal) LN (k0_pay6 (F := Ideal)) (k0_pay7 (F := Ideal)) (k0_pay8 (F := Ideal) bg) (k0_pay9 i) _
  generalize k0_pay11 (F := Ideal) LN (k0_pay6 (F := Ideal)) (k0_pay7 (F := Ideal)) (k0_pay8 (F := Ideal) bg) (k0_pay9 i) = A
  pointwise []

theorem expG_apply (r : Fin 64) : expG i bg (ix2 r 0) = (Real.exp (cum γ r) : EReal) := by
  have e := gcum_apply i bg h hi γ hγ r
  show Ideal.exp _ = _
  rw [e]
  rfl

theorem last_apply : last i bg (ix2 0 0) = (cum γ 63 : EReal) := by
  have e := gcum_apply i bg h hi γ hγ 63
  refine Eq.trans ?_ e
  show k0_pay14 (F := Ideal) LN (k0_pay6 (F := Ideal)) (k0_pay7 (F := Ideal)) (k0_pay8 (F := Ideal) bg) (k0_pay9 i) _ = _
  unfold k0_pay14
  generalize k0_pay12 (F := Ideal) LN (k0_pay6 (F := Ideal)) (k0_pay7 (F := Ideal)) (k0_pay8 (F := Ideal) bg) (k0_pay9 i) = A
  pointwise []

theorem rem_apply (r : Fin 64) : rem i bg (ix2 r 0) = ((cum γ 63 - cum γ r : ℝ) : EReal) := by
  have e := sums_apply i bg h hi γ hγ ⟨r.val + 64, by omega⟩ ⟨64, by decide⟩
  rw [sum_beyond γ r _ _ rfl le_rfl] at e
  refine Eq.trans ?_ e
  show k0_pay13 (F := Ideal) LN (k0_pay6 (F := Ideal)) (k0_pay7 (F := Ideal)) (k0_pay8 (F := Ideal) bg) (k0_pay9 i) _
    = k0_pay11 (F := Ideal) LN (k0_pay6 (F := Ideal)) (k0_pay7 (F := Ideal)) (k0_pay8 (F := Ideal) bg) (k0_pay9 i) _
  unfold k0_pay13
  generalize k0_pay11 (F := Ideal) LN (k0_pay6 (F := Ideal)) (k0_pay7 (F := Ideal)) (k0_pay8 (F := Ideal) bg) (k0_pay9 i) = A
  pointwise []
  refine congrArg A (congrArg₂ ix2 (Fin.ext ?_) (Fin.ext ?_))
  · dsimp only; omega
  · rfl

theorem decV_apply (r c : Fin 64) : decV i bg (ix2 r c) = (dec γ r c : EReal) := by
  have e := sums_apply i bg h hi γ hγ ⟨r.val, by omega⟩ ⟨c.val, by omega⟩
  have hp := pay3_apply r c
  show k0_pay15 (F := Ideal) LN k0_pay3 (k0_pay6 (F := Ideal)) (k0_pay7 (F := Ideal)) (k0_pay8 (F := Ideal) bg) (k0_pay9 i) _ = _
  change k0_pay11 (F := Ideal) LN (k0_pay6 (F := Ideal)) (k0_pay7 (F := Ideal)) (k0_pay8 (F := Ideal) bg) (k0_pay9 i) _ = _ at e
  unfold k0_pay15
  generalize k0_pay11 (F := Ideal) LN (k0_pay6 (F := Ideal)) (k0_pay7 (F := Ideal)) (k0_pay8 (F := Ideal) bg) (k0_pay9 i) = A at e ⊢
  generalize k0_pay3 = P at hp ⊢
  pointwise []
  rw [pick hp]
  unfold dec
  by_cases hcr : c ≤ r
  · rw [if_pos hcr, if_pos hcr]
    rw [sum_between γ r c hcr _ _ rfl rfl] at e
    refine (congrArg Ideal.exp e).trans rfl
  · rw [if_neg hcr, if_neg hcr, EReal.coe_zero]

end

end Cert.Proof.Gd

end
-- ==== Proof.Gd.Chunk.lean ====
/-
  One chunk of the gated delta rule's kernel is the chunk's formula: the doubling product of matrices is the inverse of the
  triangular system, and the stored state and output are the formula's.
-/
module

public import proofs.«01_k».proof.Proof.Gd.Payload

@[expose] public section

set_option maxRecDepth 16384

noncomputable section

namespace Cert.Proof.Gd

open Idealize.ShloMosaic Idealize.ShloMosaic.Tactic Idealize.ShloMosaic.TcCoe Cert.GdnIdeal Cert.GdnIdeal.Gen
open scoped BigOperators

/-- An array holds a real matrix. -/
def Holds {w : ℕ} (X : FVec Ideal ⟨2, ![64, w]⟩ .f32) (A : Matrix (Fin 64) (Fin w) ℝ) : Prop := ∀ r c, X (ix2 r c) = (A r c : EReal)

/-- The product of two arrays of 64 rows and columns, and one refinement of the inverse. -/
def mm (X Y : FVec Ideal S64x64 .f32) : FVec Ideal S64x64 .f32 :=
  matmul dot_S64x64_S64x64_S64x64_1_0_0_1_n_n none (truncf .bf16 X bitsLt_bf16_f32) (truncf .bf16 Y bitsLt_bf16_f32) (constant S64x64 .f32 0x00000000#32)
def growA (V P : FVec Ideal S64x64 .f32) : FVec Ideal S64x64 .f32 := addf V (mm V P)

theorem mm_holds {X Y : FVec Ideal S64x64 .f32} {A B : M} (hX : Holds X A) (hY : Holds Y B) : Holds (mm X Y) (A * B) := fun r c => by
  unfold mm
  pointwise []
  rw [Matrix.mul_apply, coe_sum]
  refine Finset.sum_congr rfl fun m _ => ?_
  rw [EReal.coe_mul, hX, hY]

theorem grow_holds {V P : FVec Ideal S64x64 .f32} {A B : M} (hV : Holds V A) (hP : Holds P B) : Holds (growA V P) (grow A B) := fun r c => by
  have e := mm_holds hV hP r c
  show V (ix2 r c) + mm V P (ix2 r c) = _
  rw [hV, e, ← EReal.coe_add]
  rfl

/-- The six factors multiplied out, of the matrix and of one less it. -/
def invA (N O : FVec Ideal S64x64 .f32) : FVec Ideal S64x64 .f32 :=
  let P := mm N N
  let P1 := mm P P
  let P2 := mm P1 P1
  let P3 := mm P2 P2
  let P4 := mm P3 P3
  growA (growA (growA (growA (growA O P) P1) P2) P3) P4

theorem inv_holds {N O : FVec Ideal S64x64 .f32} {A : M} (hN : Holds N A) (hO : Holds O (1 - A)) : Holds (invA N O) (inv A) := by
  have p0 := mm_holds hN hN
  have p1 := mm_holds p0 p0
  have p2 := mm_holds p1 p1
  have p3 := mm_holds p2 p2
  have p4 := mm_holds p3 p3
  exact grow_holds (grow_holds (grow_holds (grow_holds (grow_holds hO p0) p1) p2) p3) p4

/-- The two systems' solutions side by side. -/
theorem pay25_eq (B E : FVec Ideal S64x1 .f32) (K : FVec Ideal S64x128 .f32) (N O : FVec Ideal S64x64 .f32) (v : Vec Ideal S1x64x256 .bf16) :
    k0_pay25 (F := Ideal) B E K O (truncf .bf16 N bitsLt_bf16_f32) (truncf .bf16 N bitsLt_bf16_f32) v
      = matmul dot_S64x64_S64x384_S64x384_1_0_0_1_n_n none (truncf .bf16 (invA N O) bitsLt_bf16_f32)
          (truncf .bf16 (concatenate S64x384 1 [⟨S64x256, mulf (extf .f32 (shapeCast S64x256 v shapeCasts_S1x64x256_S64x256) bitsLt_bf16_f32) (broadcastTo S64x256 B broadcasts_S64x1_S64x256)⟩,
            ⟨S64x128, mulf K (broadcastTo S64x128 E broadcasts_S64x1_S64x128)⟩] concatenates_S64x256_S64x128_S64x384_d1) bitsLt_bf16_f32)
          (constant S64x384 .f32 0x00000000#32) := rfl

variable (B E : FVec Ideal S64x1 .f32) (K : FVec Ideal S64x128 .f32) (N O : FVec Ideal S64x64 .f32) (v : Vec Ideal S1x64x256 .bf16) (A : M)

theorem pay26_apply (hA : Holds (invA N O) A) (r : Fin 64) (e : Fin 256) :
    k0_pay26 (F := Ideal) B E K O (truncf .bf16 N bitsLt_bf16_f32) (truncf .bf16 N bitsLt_bf16_f32) v (ix2 r e)
      = ∑ m : Fin 64, (A r m : EReal) * (v (ix3 0 m e) * B (ix2 m 0)) := by
  unfold k0_pay26
  rw [pay25_eq]
  generalize invA N O = Y at hA ⊢
  have he := e.isLt
  pointwise []
  refine Finset.sum_congr rfl fun m _ => ?_
  rw [hA]

theorem pay27_apply (hA : Holds (invA N O) A) (r : Fin 64) (d : Fin 128) :
    k0_pay27 (F := Ideal) B E K O (truncf .bf16 N bitsLt_bf16_f32) (truncf .bf16 N bitsLt_bf16_f32) v (ix2 r d)
      = ∑ m : Fin 64, (A r m : EReal) * (K (ix2 m d) * E (ix2 m 0)) := by
  unfold k0_pay27
  rw [pay25_eq]
  generalize invA N O = Y at hA ⊢
  have hd := d.isLt
  pointwise []
  refine Finset.sum_congr rfl fun m _ => ?_
  rw [hA]

section

variable (R L1 : FVec Ideal S64x1 .f32) (L : FVec Ideal S1x1 .f32) (D : FVec Ideal S64x64 .f32) (q k : Vec Ideal S1x64x128 .bf16) (z : Vec Ideal S1x64x256 .bf16) (g : Vec Ideal S1x256 .f32)
  (U : FVec Ideal S64x256 .f32) (W : FVec Ideal S64x128 .f32) (S : Vec Ideal S128x256 .f32)

theorem pay31_apply (d : Fin 128) (e : Fin 256) : k0_pay31 (F := Ideal) R L (k0_pay17 (F := Ideal) q) (k0_pay19 (F := Ideal) k) U W S (ix2 d e)
    = S (ix2 d e) * Ideal.exp (L (ix2 0 0)) + ∑ r : Fin 64, k (ix3 0 r d) * Ideal.exp (R (ix2 r 0)) * (U (ix2 r e) - ∑ d : Fin 128, W (ix2 r d) * S (ix2 d e)) := by
  pointwise [k0_pay31, k0_pay29, k0_pay28, k0_pay17, k0_pay19, k0_pay18]

theorem pay30_apply (r : Fin 64) (e : Fin 256) : k0_pay30 (F := Ideal) k0_pay3 D L1 (k0_pay17 (F := Ideal) q) (k0_pay18 (F := Ideal) k) U W S (ix2 r e)
    = L1 (ix2 r 0) * (∑ d : Fin 128, q (ix3 0 r d) * S (ix2 d e))
      + ∑ c : Fin 64, (if c ≤ r then (∑ d : Fin 128, q (ix3 0 r d) * k (ix3 0 c d)) * D (ix2 r c) else 0) * (U (ix2 c e) - ∑ d : Fin 128, W (ix2 c d) * S (ix2 d e)) := by
  have hp := pay3_apply
  generalize k0_pay3 = P at hp ⊢
  pointwise [k0_pay30, k0_pay29, k0_pay28, k0_pay17, k0_pay18]
  simp only [pick (hp r _), ite_mul, zero_mul]

theorem pay35_apply (r : Fin 64) (e : Fin 256) : k0_pay35 (F := Ideal) (k0_pay30 (F := Ideal) k0_pay3 D L1 (k0_pay17 (F := Ideal) q) (k0_pay18 (F := Ideal) k) U W S)
      (k0_pay32 (F := Ideal) z) (k0_pay33 (F := Ideal) g) (k0_pay34 (F := Ideal) k0_pay3 D L1 (k0_pay17 (F := Ideal) q) (k0_pay18 (F := Ideal) k) U W S) (ix3 0 r e)
    = unit (fun l => k0_pay30 (F := Ideal) k0_pay3 D L1 (k0_pay17 (F := Ideal) q) (k0_pay18 (F := Ideal) k) U W S (ix2 r l)) (fun l => g (ix2 0 l)) e
      * (z (ix3 0 r e) * Ideal.logistic (z (ix3 0 r e))) := by
  unfold k0_pay34 unit
  generalize k0_pay30 (F := Ideal) k0_pay3 D L1 (k0_pay17 (F := Ideal) q) (k0_pay18 (F := Ideal) k) U W S = X
  pointwise [k0_pay35, k0_pay32, k0_pay33]

end

section

variable (i : grid0.Coords) (q k : Vec Ideal S1x64x128 .bf16) (v z : Vec Ideal S1x64x256 .bf16) (bg : Vec Ideal S1x64x128 .f32) (g : Vec Ideal S1x256 .f32)
  (S : Vec Ideal S128x256 .f32) (h : Fin 8) (hi : (i 1).val = h.val) (κ : Fin 64 → Fin 128 → ℝ) (ν : Fin 64 → Fin 256 → ℝ) (β γ : Fin 64 → ℝ)
  (hκ : ∀ r d, k (ix3 0 r d) = (κ r d : EReal)) (hν : ∀ r e, v (ix3 0 r e) = (ν r e : EReal))
  (hβ : ∀ r, bg (ix3 0 r (laneB h)) = (β r : EReal)) (hγ : ∀ r, bg (ix3 0 r (laneG h)) = (γ r : EReal))

/-! The four chunks' stored values are one function of what they load. -/

theorem step0_eq : k0_pay31 (F := Ideal) (rem i bg) (last i bg) (k0_pay17 (F := Ideal) q) (k0_pay19 (F := Ideal) k) (solV0 i k v bg) (solK0 i k v bg) S
    = stepK i q k v bg S := rfl
theorem step1_eq : k0_pay60 (F := Ideal) (k0_pay59 (F := Ideal) (k0_pay37 (F := Ideal) (AI i) LN bg) (k0_pay40 (F := Ideal) (AI i) LN (k0_pay6 (F := Ideal)) (k0_pay7 (F := Ideal)) bg) (k0_pay41 (F := Ideal) (AI i) LN (k0_pay6 (F := Ideal)) (k0_pay7 (F := Ideal)) bg) (k0_pay43 (F := Ideal) (AI i) LN (k0_pay6 (F := Ideal)) (k0_pay7 (F := Ideal)) bg) (k0_pay44 (F := Ideal) q) (k0_pay46 (F := Ideal) k) (k0_pay47 (F := Ideal) (k0_pay37 (F := Ideal) (AI i) LN bg) k) (k0_pay53 (F := Ideal) k0_pay4 (k0_pay5 (F := Ideal)) (k0_pay37 (F := Ideal) (AI i) LN bg) (k0_pay42 (F := Ideal) (AI i) LN k0_pay3 (k0_pay6 (F := Ideal)) (k0_pay7 (F := Ideal)) bg) k) (k0_pay54 (F := Ideal) k0_pay4 (k0_pay37 (F := Ideal) (AI i) LN bg) (k0_pay42 (F := Ideal) (AI i) LN k0_pay3 (k0_pay6 (F := Ideal)) (k0_pay7 (F := Ideal)) bg) k) v S)
    = stepK i q k v bg S := rfl
theorem step2_eq : k0_pay85 (F := Ideal) (k0_pay68 (F := Ideal) (k0_pay6 (F := Ideal)) (k0_pay7 (F := Ideal)) (k0_pay63 (F := Ideal) (AI i) LN bg)) (k0_pay69 (F := Ideal) (k0_pay6 (F := Ideal)) (k0_pay7 (F := Ideal)) (k0_pay63 (F := Ideal) (AI i) LN bg)) (k0_pay74 (F := Ideal) k) S (k0_pay83 (F := Ideal) (k0_pay65 (F := Ideal) (k0_pay64 (F := Ideal) (AI i) LN bg)) (k0_pay71 (F := Ideal) (k0_pay6 (F := Ideal)) (k0_pay7 (F := Ideal)) (k0_pay63 (F := Ideal) (AI i) LN bg)) (k0_pay72 (F := Ideal) q) (k0_pay75 (F := Ideal) (k0_pay64 (F := Ideal) (AI i) LN bg) k) (k0_pay78 (F := Ideal) k0_pay3 k0_pay4 (k0_pay6 (F := Ideal)) (k0_pay7 (F := Ideal)) (k0_pay63 (F := Ideal) (AI i) LN bg) (k0_pay64 (F := Ideal) (AI i) LN bg) k) (k0_pay79 (F := Ideal) k0_pay3 k0_pay4 (k0_pay5 (F := Ideal)) (k0_pay6 (F := Ideal)) (k0_pay7 (F := Ideal)) (k0_pay63 (F := Ideal) (AI i) LN bg) (k0_pay64 (F := Ideal) (AI i) LN bg) k) v S)
    = stepK i q k v bg S := rfl
theorem step3_eq : k0_pay106 (F := Ideal) (k0_pay91 (F := Ideal) (AI i) LN (k0_pay6 (F := Ideal)) (k0_pay7 (F := Ideal)) bg) (k0_pay92 (F := Ideal) (AI i) LN (k0_pay6 (F := Ideal)) (k0_pay7 (F := Ideal)) bg) (k0_pay95 (F := Ideal) q) (k0_pay97 (F := Ideal) k) (k0_pay100 (F := Ideal) k0_pay4 (k0_pay5 (F := Ideal)) (k0_pay99 (F := Ideal) (AI i) LN k0_pay3 (k0_pay6 (F := Ideal)) (k0_pay7 (F := Ideal)) bg k)) (k0_pay101 (F := Ideal) (k0_pay88 (F := Ideal) (AI i) LN bg) (k0_pay94 (F := Ideal) (AI i) LN (k0_pay6 (F := Ideal)) (k0_pay7 (F := Ideal)) bg) (k0_pay98 (F := Ideal) (AI i) LN bg k) v) S
    = stepK i q k v bg S := rfl
theorem out3_eq : k0_pay1 (F := Ideal) (k0_pay105 (F := Ideal) k0_pay3 (k0_pay93 (F := Ideal) (AI i) LN k0_pay3 (k0_pay6 (F := Ideal)) (k0_pay7 (F := Ideal)) bg) (k0_pay94 (F := Ideal) (AI i) LN (k0_pay6 (F := Ideal)) (k0_pay7 (F := Ideal)) bg) (k0_pay95 (F := Ideal) q) (k0_pay96 (F := Ideal) k) (k0_pay100 (F := Ideal) k0_pay4 (k0_pay5 (F := Ideal)) (k0_pay99 (F := Ideal) (AI i) LN k0_pay3 (k0_pay6 (F := Ideal)) (k0_pay7 (F := Ideal)) bg k)) (k0_pay101 (F := Ideal) (k0_pay88 (F := Ideal) (AI i) LN bg) (k0_pay94 (F := Ideal) (AI i) LN (k0_pay6 (F := Ideal)) (k0_pay7 (F := Ideal)) bg) (k0_pay98 (F := Ideal) (AI i) LN bg k) v) S) (k0_pay107 (F := Ideal) z) (k0_pay108 (F := Ideal) g) (k0_pay109 (F := Ideal) k0_pay3 (k0_pay93 (F := Ideal) (AI i) LN k0_pay3 (k0_pay6 (F := Ideal)) (k0_pay7 (F := Ideal)) bg) (k0_pay94 (F := Ideal) (AI i) LN (k0_pay6 (F := Ideal)) (k0_pay7 (F := Ideal)) bg) (k0_pay95 (F := Ideal) q) (k0_pay96 (F := Ideal) k) (k0_pay100 (F := Ideal) k0_pay4 (k0_pay5 (F := Ideal)) (k0_pay99 (F := Ideal) (AI i) LN k0_pay3 (k0_pay6 (F := Ideal)) (k0_pay7 (F := Ideal)) bg k)) (k0_pay101 (F := Ideal) (k0_pay88 (F := Ideal) (AI i) LN bg) (k0_pay94 (F := Ideal) (AI i) LN (k0_pay6 (F := Ideal)) (k0_pay7 (F := Ideal)) bg) (k0_pay98 (F := Ideal) (AI i) LN bg k) v) S)
    = outK i q k v z bg g S := rfl
theorem out2_eq : k0_pay86 (F := Ideal) (k0_pay71 (F := Ideal) (k0_pay6 (F := Ideal)) (k0_pay7 (F := Ideal)) (k0_pay63 (F := Ideal) (AI i) LN bg)) (k0_pay81 (F := Ideal) k0_pay3 (k0_pay70 (F := Ideal) k0_pay3 (k0_pay6 (F := Ideal)) (k0_pay7 (F := Ideal)) (k0_pay63 (F := Ideal) (AI i) LN bg)) (k0_pay72 (F := Ideal) q) (k0_pay73 (F := Ideal) k)) (k0_pay82 (F := Ideal) (k0_pay65 (F := Ideal) (k0_pay64 (F := Ideal) (AI i) LN bg)) (k0_pay71 (F := Ideal) (k0_pay6 (F := Ideal)) (k0_pay7 (F := Ideal)) (k0_pay63 (F := Ideal) (AI i) LN bg)) (k0_pay72 (F := Ideal) q) (k0_pay75 (F := Ideal) (k0_pay64 (F := Ideal) (AI i) LN bg) k) (k0_pay78 (F := Ideal) k0_pay3 k0_pay4 (k0_pay6 (F := Ideal)) (k0_pay7 (F := Ideal)) (k0_pay63 (F := Ideal) (AI i) LN bg) (k0_pay64 (F := Ideal) (AI i) LN bg) k) (k0_pay79 (F := Ideal) k0_pay3 k0_pay4 (k0_pay5 (F := Ideal)) (k0_pay6 (F := Ideal)) (k0_pay7 (F := Ideal)) (k0_pay63 (F := Ideal) (AI i) LN bg) (k0_pay64 (F := Ideal) (AI i) LN bg) k) v S) (k0_pay83 (F := Ideal) (k0_pay65 (F := Ideal) (k0_pay64 (F := Ideal) (AI i) LN bg)) (k0_pay71 (F := Ideal) (k0_pay6 (F := Ideal)) (k0_pay7 (F := Ideal)) (k0_pay63 (F := Ideal) (AI i) LN bg)) (k0_pay72 (F := Ideal) q) (k0_pay75 (F := Ideal) (k0_pay64 (F := Ideal) (AI i) LN bg) k) (k0_pay78 (F := Ideal) k0_pay3 k0_pay4 (k0_pay6 (F := Ideal)) (k0_pay7 (F := Ideal)) (k0_pay63 (F := Ideal) (AI i) LN bg) (k0_pay64 (F := Ideal) (AI i) LN bg) k) (k0_pay79 (F := Ideal) k0_pay3 k0_pay4 (k0_pay5 (F := Ideal)) (k0_pay6 (F := Ideal)) (k0_pay7 (F := Ideal)) (k0_pay63 (F := Ideal) (AI i) LN bg) (k0_pay64 (F := Ideal) (AI i) LN bg) k) v S) z g
    = outK i q k v z bg g S := rfl
theorem out1_eq : k0_pay61 (F := Ideal) (k0_pay58 (F := Ideal) k0_pay3 (k0_pay37 (F := Ideal) (AI i) LN bg) (k0_pay42 (F := Ideal) (AI i) LN k0_pay3 (k0_pay6 (F := Ideal)) (k0_pay7 (F := Ideal)) bg) (k0_pay43 (F := Ideal) (AI i) LN (k0_pay6 (F := Ideal)) (k0_pay7 (F := Ideal)) bg) (k0_pay44 (F := Ideal) q) (k0_pay45 (F := Ideal) k) (k0_pay47 (F := Ideal) (k0_pay37 (F := Ideal) (AI i) LN bg) k) (k0_pay53 (F := Ideal) k0_pay4 (k0_pay5 (F := Ideal)) (k0_pay37 (F := Ideal) (AI i) LN bg) (k0_pay42 (F := Ideal) (AI i) LN k0_pay3 (k0_pay6 (F := Ideal)) (k0_pay7 (F := Ideal)) bg) k) (k0_pay54 (F := Ideal) k0_pay4 (k0_pay37 (F := Ideal) (AI i) LN bg) (k0_pay42 (F := Ideal) (AI i) LN k0_pay3 (k0_pay6 (F := Ideal)) (k0_pay7 (F := Ideal)) bg) k) v S) z g
    = outK i q k v z bg g S := rfl
theorem out0_eq : k0_pay35 (F := Ideal) (k0_pay30 (F := Ideal) k0_pay3 (k0_pay15 (F := Ideal) LN k0_pay3 (k0_pay6 (F := Ideal)) (k0_pay7 (F := Ideal)) (k0_pay8 (F := Ideal) bg) (k0_pay9 i)) (k0_pay16 (F := Ideal) LN (k0_pay6 (F := Ideal)) (k0_pay7 (F := Ideal)) (k0_pay8 (F := Ideal) bg) (k0_pay9 i)) (k0_pay17 (F := Ideal) q) (k0_pay18 (F := Ideal) k) (k0_pay26 (F := Ideal) (k0_pay10 (F := Ideal) (AI i) LN (k0_pay8 (F := Ideal) bg)) (k0_pay16 (F := Ideal) LN (k0_pay6 (F := Ideal)) (k0_pay7 (F := Ideal)) (k0_pay8 (F := Ideal) bg) (k0_pay9 i)) (k0_pay20 (F := Ideal) (AI i) LN (k0_pay8 (F := Ideal) bg) k) (k0_pay22 (F := Ideal) (AI i) LN k0_pay3 k0_pay4 (k0_pay5 (F := Ideal)) (k0_pay6 (F := Ideal)) (k0_pay7 (F := Ideal)) (k0_pay8 (F := Ideal) bg) (k0_pay9 i) k) (k0_pay23 (F := Ideal) (AI i) LN k0_pay3 k0_pay4 (k0_pay6 (F := Ideal)) (k0_pay7 (F := Ideal)) (k0_pay8 (F := Ideal) bg) (k0_pay9 i) k) (k0_pay24 (F := Ideal) (AI i) LN k0_pay3 k0_pay4 (k0_pay6 (F := Ideal)) (k0_pay7 (F := Ideal)) (k0_pay8 (F := Ideal) bg) (k0_pay9 i) k) v) (k0_pay27 (F := Ideal) (k0_pay10 (F := Ideal) (AI i) LN (k0_pay8 (F := Ideal) bg)) (k0_pay16 (F := Ideal) LN (k0_pay6 (F := Ideal)) (k0_pay7 (F := Ideal)) (k0_pay8 (F := Ideal) bg) (k0_pay9 i)) (k0_pay20 (F := Ideal) (AI i) LN (k0_pay8 (F := Ideal) bg) k) (k0_pay22 (F := Ideal) (AI i) LN k0_pay3 k0_pay4 (k0_pay5 (F := Ideal)) (k0_pay6 (F := Ideal)) (k0_pay7 (F := Ideal)) (k0_pay8 (F := Ideal) bg) (k0_pay9 i) k) (k0_pay23 (F := Ideal) (AI i) LN k0_pay3 k0_pay4 (k0_pay6 (F := Ideal)) (k0_pay7 (F := Ideal)) (k0_pay8 (F := Ideal) bg) (k0_pay9 i) k) (k0_pay24 (F := Ideal) (AI i) LN k0_pay3 k0_pay4 (k0_pay6 (F := Ideal)) (k0_pay7 (F := Ideal)) (k0_pay8 (F := Ideal) bg) (k0_pay9 i) k) v) S) (k0_pay32 (F := Ideal) z) (k0_pay33 (F := Ideal) g) (k0_pay34 (F := Ideal) k0_pay3 (k0_pay15 (F := Ideal) LN k0_pay3 (k0_pay6 (F := Ideal)) (k0_pay7 (F := Ideal)) (k0_pay8 (F := Ideal) bg) (k0_pay9 i)) (k0_pay16 (F := Ideal) LN (k0_pay6 (F := Ideal)) (k0_pay7 (F := Ideal)) (k0_pay8 (F := Ideal) bg) (k0_pay9 i)) (k0_pay17 (F := Ideal) q) (k0_pay18 (F := Ideal) k) (k0_pay26 (F := Ideal) (k0_pay10 (F := Ideal) (AI i) LN (k0_pay8 (F := Ideal) bg)) (k0_pay16 (F := Ideal) LN (k0_pay6 (F := Ideal)) (k0_pay7 (F := Ideal)) (k0_pay8 (F := Ideal) bg) (k0_pay9 i)) (k0_pay20 (F := Ideal) (AI i) LN (k0_pay8 (F := Ideal) bg) k) (k0_pay22 (F := Ideal) (AI i) LN k0_pay3 k0_pay4 (k0_pay5 (F := Ideal)) (k0_pay6 (F := Ideal)) (k0_pay7 (F := Ideal)) (k0_pay8 (F := Ideal) bg) (k0_pay9 i) k) (k0_pay23 (F := Ideal) (AI i) LN k0_pay3 k0_pay4 (k0_pay6 (F := Ideal)) (k0_pay7 (F := Ideal)) (k0_pay8 (F := Ideal) bg) (k0_pay9 i) k) (k0_pay24 (F := Ideal) (AI i) LN k0_pay3 k0_pay4 (k0_pay6 (F := Ideal)) (k0_pay7 (F := Ideal)) (k0_pay8 (F := Ideal) bg) (k0_pay9 i) k) v) (k0_pay27 (F := Ideal) (k0_pay10 (F := Ideal) (AI i) LN (k0_pay8 (F := Ideal) bg)) (k0_pay16 (F := Ideal) LN (k0_pay6 (F := Ideal)) (k0_pay7 (F := Ideal)) (k0_pay8 (F := Ideal) bg) (k0_pay9 i)) (k0_pay20 (F := Ideal) (AI i) LN (k0_pay8 (F := Ideal) bg) k) (k0_pay22 (F := Ideal) (AI i) LN k0_pay3 k0_pay4 (k0_pay5 (F := Ideal)) (k0_pay6 (F := Ideal)) (k0_pay7 (F := Ideal)) (k0_pay8 (F := Ideal) bg) (k0_pay9 i) k) (k0_pay23 (F := Ideal) (AI i) LN k0_pay3 k0_pay4 (k0_pay6 (F := Ideal)) (k0_pay7 (F := Ideal)) (k0_pay8 (F := Ideal) bg) (k0_pay9 i) k) (k0_pay24 (F := Ideal) (AI i) LN k0_pay3 k0_pay4 (k0_pay6 (F := Ideal)) (k0_pay7 (F := Ideal)) (k0_pay8 (F := Ideal) bg) (k0_pay9 i) k) v) S)
    = outK i q k v z bg g S := rfl

include hi hκ hβ

theorem kB_apply (r : Fin 64) (d : Fin 128) : kB i k bg (ix2 r d) = ((κ r d * β r : ℝ) : EReal) := by
  have e := colB_apply i bg h hi r
  show k0_pay20 (F := Ideal) (AI i) LN (k0_pay8 (F := Ideal) bg) k _ = _
  change k0_pay10 (F := Ideal) (AI i) LN (k0_pay8 (F := Ideal) bg) _ = _ at e
  unfold k0_pay20
  generalize k0_pay10 (F := Ideal) (AI i) LN (k0_pay8 (F := Ideal) bg) = C at e ⊢
  pointwise [k0_pay19, k0_pay18]
  rw [e, hκ, hβ, EReal.coe_mul]

include hγ

theorem low_holds : Holds (lowV i k bg) (low κ β γ) := fun r c => by
  have e1 := kB_apply i k bg h hi κ β hκ hβ r
  have e2 := decV_apply i bg h hi γ hγ r c
  have hp := pay4_apply r c
  show k0_pay21 (F := Ideal) (AI i) LN k0_pay3 k0_pay4 (k0_pay6 (F := Ideal)) (k0_pay7 (F := Ideal)) (k0_pay8 (F := Ideal) bg) (k0_pay9 i) k _ = _
  change ∀ d, k0_pay20 (F := Ideal) (AI i) LN (k0_pay8 (F := Ideal) bg) k _ = _ at e1
  change k0_pay15 (F := Ideal) LN k0_pay3 (k0_pay6 (F := Ideal)) (k0_pay7 (F := Ideal)) (k0_pay8 (F := Ideal) bg) (k0_pay9 i) _ = _ at e2
  unfold k0_pay21
  generalize k0_pay20 (F := Ideal) (AI i) LN (k0_pay8 (F := Ideal) bg) k = C at e1 ⊢
  generalize k0_pay15 (F := Ideal) LN k0_pay3 (k0_pay6 (F := Ideal)) (k0_pay7 (F := Ideal)) (k0_pay8 (F := Ideal) bg) (k0_pay9 i) = D at e2 ⊢
  generalize k0_pay4 = P at hp ⊢
  pointwise [k0_pay18]
  rw [pick hp, e2]
  show _ = (((if c < r then (∑ d, κ r d * β r * κ c d) * dec γ r c else 0 : ℝ)) : EReal)
  by_cases hcr : c < r
  · rw [if_pos hcr, if_pos hcr, EReal.coe_mul, coe_sum]
    simp only [e1, hκ, EReal.coe_mul]
  · rw [if_neg hcr, if_neg hcr, EReal.coe_zero]

theorem one_holds : Holds (oneV i k bg) (1 - low κ β γ) := fun r c => by
  have e1 := low_holds i k bg h hi κ β γ hκ hβ hγ r c
  show k0_pay5 (F := Ideal) (ix2 r c) - lowV i k bg (ix2 r c) = _
  rw [e1, pay5_apply, ← EReal.coe_sub]
  rfl

theorem invA_holds : Holds (invA (lowV i k bg) (oneV i k bg)) (inv (low κ β γ)) :=
  inv_holds (low_holds i k bg h hi κ β γ hκ hβ hγ) (one_holds i k bg h hi κ β γ hκ hβ hγ)

theorem solK_apply (r : Fin 64) (d : Fin 128) : solK0 i k v bg (ix2 r d) = (solK κ β γ r d : EReal) := by
  refine (pay27_apply (colB i bg) (expG i bg) (kB i k bg) (lowV i k bg) (oneV i k bg) v _ (invA_holds i k bg h hi κ β γ hκ hβ hγ) r d).trans ?_
  unfold solK
  rw [Matrix.mul_apply, coe_sum]
  refine Finset.sum_congr rfl fun m _ => ?_
  rw [kB_apply i k bg h hi κ β hκ hβ, expG_apply i bg h hi γ hγ, ← EReal.coe_mul, ← EReal.coe_mul]
  rfl

include hν

theorem solV_apply (r : Fin 64) (e : Fin 256) : solV0 i k v bg (ix2 r e) = (solV κ ν β γ r e : EReal) := by
  refine (pay26_apply (colB i bg) (expG i bg) (kB i k bg) (lowV i k bg) (oneV i k bg) v _ (invA_holds i k bg h hi κ β γ hκ hβ hγ) r e).trans ?_
  unfold solV
  rw [Matrix.mul_apply, coe_sum]
  refine Finset.sum_congr rfl fun m _ => ?_
  rw [hν, colB_apply i bg h hi, hβ, ← EReal.coe_mul, ← EReal.coe_mul]
  rfl

/-- The stored state is the formula's. -/
theorem stepK_apply (T : Fin 128 → Fin 256 → EReal) (hS : ∀ d e, S (ix2 d e) = T d e) (d : Fin 128) (e : Fin 256) :
    stepK i q k v bg S (ix2 d e) = next κ ν β γ T d e := by
  unfold stepK next fresh
  rw [pay31_apply, last_apply i bg h hi γ hγ, hS]
  refine congrArg₂ (· + ·) rfl (Finset.sum_congr rfl fun r _ => ?_)
  rw [hκ, rem_apply i bg h hi γ hγ, solV_apply i k v bg h hi κ ν β γ hκ hν hβ hγ]
  simp only [solK_apply i k v bg h hi κ β γ hκ hβ hγ, hS]
  rfl

/-- The stored output is the formula's. -/
theorem outK_apply (T : Fin 128 → Fin 256 → EReal) (hS : ∀ d e, S (ix2 d e) = T d e) (r : Fin 64) (e : Fin 256) :
    outK i q k v z bg g S (ix3 0 r e)
      = unit (read κ ν β γ T (fun a d => q (ix3 0 a d)) r) (fun l => g (ix2 0 l)) e * (z (ix3 0 r e) * Ideal.logistic (z (ix3 0 r e))) := by
  unfold outK readK
  rw [pay35_apply]
  refine congrArg (fun x => unit x _ e * _) (funext fun l => ?_)
  unfold read fresh
  rw [pay30_apply, expG_apply i bg h hi γ hγ]
  simp only [hκ, decV_apply i bg h hi γ hγ, solV_apply i k v bg h hi κ ν β γ hκ hν hβ hγ, solK_apply i k v bg h hi κ β γ hκ hβ hγ, hS]

end

end Cert.Proof.Gd

end
-- ==== Proof.Gd.Blocks.lean ====
/-
  The gated delta rule's two kinds of grid points, read as functions of the blocks they load: each runs four chunks, the first
  kind from an empty state, the second from the state the point before left.
-/
module

public import proofs.«01_k».proof.Proof.Gen.GdnIdeal.Value
public import proofs.«01_k».proof.Proof.Gd.Chunk
public import Idealize.ShloMosaic.Lib.Pipeline.ValueKit

@[expose] public section

set_option maxRecDepth 16384

noncomputable section

namespace Cert.Proof.Gd

open Idealize.ShloMosaic Idealize.ShloMosaic.Tactic Idealize.ShloMosaic.TcCoe Cert.GdnIdeal Cert.GdnIdeal.Gen

theorem hz : (![0, 0] : Fin 2 → Nat) = fun _ => 0 := funext fun a => by fin_cases a <;> rfl

/-- The state after a chunk, of keys, values, write strengths and decays that are real numbers. -/
def nextE (k : Fin 64 → Fin 128 → EReal) (v : Fin 64 → Fin 256 → EReal) (b g : Fin 64 → EReal) (S : Fin 128 → Fin 256 → EReal) : Fin 128 → Fin 256 → EReal :=
  next (fun a d => (k a d).toReal) (fun a e => (v a e).toReal) (fun a => (b a).toReal) (fun a => (g a).toReal) S

/-- What the chunk's rows read out. -/
def readE (q k : Fin 64 → Fin 128 → EReal) (v : Fin 64 → Fin 256 → EReal) (b g : Fin 64 → EReal) (S : Fin 128 → Fin 256 → EReal) : Fin 64 → Fin 256 → EReal :=
  read (fun a d => (k a d).toReal) (fun a e => (v a e).toReal) (fun a => (b a).toReal) (fun a => (g a).toReal) S q

/-- A number that is real. -/
def IsReal (x : EReal) : Prop := x = (x.toReal : EReal)

/-- One chunk's rows of a block of four chunks. -/
def chunk {w : ℕ} (x : Fin 256 → Fin w → EReal) (n : ℕ) : Fin 64 → Fin w → EReal :=
  fun r k => x ⟨(n * 64 + r.val) % 256, Nat.mod_lt _ (by omega)⟩ k

/-- A block as a function of its row and lane. -/
abbrev mat {w : ℕ} (x : Vec Ideal ⟨3, ![1, 256, w]⟩ .bf16) : Fin 256 → Fin w → EReal := fun a b => x (ix3 0 a b)
abbrev matF {w : ℕ} (x : Vec Ideal ⟨3, ![1, 256, w]⟩ .f32) : Fin 256 → Fin w → EReal := fun a b => x (ix3 0 a b)

/-- The state after some chunks of a block. -/
def states (h : Fin 8) (x1 : Vec Ideal S1x256x128 .bf16) (x2 : Vec Ideal S1x256x256 .bf16) (x4 : Vec Ideal S1x256x128 .f32) (S : Fin 128 → Fin 256 → EReal) :
    ℕ → Fin 128 → Fin 256 → EReal
  | 0 => S
  | n + 1 => nextE (chunk (mat x1) n) (chunk (mat x2) n) (fun r => chunk (matF x4) n r (laneB h)) (fun r => chunk (matF x4) n r (laneG h)) (states h x1 x2 x4 S n)

/-- What a point leaves at a row of its output's block. -/
def rowOut (h : Fin 8) (x0 x1 : Vec Ideal S1x256x128 .bf16) (x2 x3 : Vec Ideal S1x256x256 .bf16) (x4 : Vec Ideal S1x256x128 .f32) (x5 : Vec Ideal S1x256 .f32)
    (S : Fin 128 → Fin 256 → EReal) (n : ℕ) (r : Fin 64) (e : Fin 256) : EReal :=
  unit (readE (chunk (mat x0) n) (chunk (mat x1) n) (chunk (mat x2) n) (fun r => chunk (matF x4) n r (laneB h)) (fun r => chunk (matF x4) n r (laneG h))
      (states h x1 x2 x4 S n) r) (fun l => x5 (ix2 0 l)) e
    * (chunk (mat x3) n r e * Ideal.logistic (chunk (mat x3) n r e))

theorem row_at (h : Fin 8) (x0 x1 : Vec Ideal S1x256x128 .bf16) (x2 x3 : Vec Ideal S1x256x256 .bf16) (x4 : Vec Ideal S1x256x128 .f32) (x5 : Vec Ideal S1x256 .f32)
    (S : Fin 128 → Fin 256 → EReal) (R : Fin 256) (e : Fin 256) (n : ℕ) (a : Fin 64) (hR : R.val = n * 64 + a.val) :
    rowOut h x0 x1 x2 x3 x4 x5 S (R.val / 64) ⟨R.val % 64, by omega⟩ e = rowOut h x0 x1 x2 x3 x4 x5 S n a e := by
  have h1 : R.val / 64 = n := by omega
  have h2 : (⟨R.val % 64, by omega⟩ : Fin 64) = a := Fin.ext (by dsimp only; omega)
  rw [h1, h2]

/-- The keys, the values and the head's two lanes hold real numbers. -/
structure Fine (h : Fin 8) (x1 : Vec Ideal S1x256x128 .bf16) (x2 : Vec Ideal S1x256x256 .bf16) (x4 : Vec Ideal S1x256x128 .f32) : Prop where
  key : ∀ r d, IsReal (x1 (ix3 0 r d))
  val : ∀ r e, IsReal (x2 (ix3 0 r e))
  str : ∀ r, IsReal (x4 (ix3 0 r (laneB h)))
  log : ∀ r, IsReal (x4 (ix3 0 r (laneG h)))

/-- One chunk's loads. -/
abbrev ldK (x : Vec Ideal S1x256x128 .bf16) (off : ℕ)
    (inb : ∀ a, (![0, off, 0] : Fin 3 → ℕ) a + (![1, 64, 128] : Fin 3 → ℕ) a ≤ S1x256x128.size a) : Vec Ideal S1x64x128 .bf16 := View.ld x (Rect.unit (s := S1x256x128) ![0, off, 0] ![1, 64, 128] inb)
abbrev ldV (x : Vec Ideal S1x256x256 .bf16) (off : ℕ)
    (inb : ∀ a, (![0, off, 0] : Fin 3 → ℕ) a + (![1, 64, 256] : Fin 3 → ℕ) a ≤ S1x256x256.size a) : Vec Ideal S1x64x256 .bf16 := View.ld x (Rect.unit (s := S1x256x256) ![0, off, 0] ![1, 64, 256] inb)
abbrev ldB (x : Vec Ideal S1x256x128 .f32) (off : ℕ)
    (inb : ∀ a, (![0, off, 0] : Fin 3 → ℕ) a + (![1, 64, 128] : Fin 3 → ℕ) a ≤ S1x256x128.size a) : Vec Ideal S1x64x128 .f32 := View.ld x (Rect.unit (s := S1x256x128) ![0, off, 0] ![1, 64, 128] inb)

theorem off_idx {w : ℕ} (n : ℕ) (hn : n < 4) (off : ℕ) (ho : off = n * 64) (inb) (r : Fin 64) (d : Fin w) :
    (Rect.unit (s := ⟨3, ![1, 256, w]⟩) ![0, off, 0] ![1, 64, w] inb).emb (ix3 0 r d)
      = ix3 (0 : Fin 1) (⟨(n * 64 + r.val) % 256, Nat.mod_lt _ (by omega)⟩ : Fin 256) d := by
  subst ho
  have hr := r.isLt
  funext a; apply Fin.ext
  match a with
  | ⟨0, _⟩ => rfl
  | ⟨1, _⟩ => show n * 64 + 1 * r.val = (n * 64 + r.val) % 256; omega
  | ⟨2, _⟩ => show 0 + 1 * d.val = d.val; omega

theorem ldK_apply (x : Vec Ideal S1x256x128 .bf16) (n : ℕ) (hn : n < 4) (off : ℕ) (ho : off = n * 64) (inb) (r : Fin 64) (d : Fin 128) :
    ldK x off inb (ix3 0 r d) = chunk (mat x) n r d := congrArg x (off_idx n hn off ho inb r d)
theorem ldV_apply (x : Vec Ideal S1x256x256 .bf16) (n : ℕ) (hn : n < 4) (off : ℕ) (ho : off = n * 64) (inb) (r : Fin 64) (d : Fin 256) :
    ldV x off inb (ix3 0 r d) = chunk (mat x) n r d := congrArg x (off_idx n hn off ho inb r d)
theorem ldB_apply (x : Vec Ideal S1x256x128 .f32) (n : ℕ) (hn : n < 4) (off : ℕ) (ho : off = n * 64) (inb) (r : Fin 64) (d : Fin 128) :
    ldB x off inb (ix3 0 r d) = chunk (matF x) n r d := congrArg x (off_idx n hn off ho inb r d)

section

variable (i : grid0.Coords) (h : Fin 8) (hi : (i 1).val = h.val)
  (x0 x1 : Vec Ideal S1x256x128 .bf16) (x2 x3 : Vec Ideal S1x256x256 .bf16) (x4 : Vec Ideal S1x256x128 .f32) (x5 : Vec Ideal S1x256 .f32)
  (S : Vec Ideal S128x256 .f32) (T : Fin 128 → Fin 256 → EReal) (H : Fine h x1 x2 x4)

include hi H

/-- One chunk takes one state to the next. -/
theorem state_step (n : ℕ) (hn : n < 4) (off : ℕ) (ho : off = n * 64) (i0) (i1) (i2) (i4) (hS : ∀ d e, S (ix2 d e) = states h x1 x2 x4 T n d e)
    (d : Fin 128) (e : Fin 256) :
    stepK i (ldK x0 off i0) (ldK x1 off i1) (ldV x2 off i2) (ldB x4 off i4) S (ix2 d e) = states h x1 x2 x4 T (n + 1) d e :=
  stepK_apply i _ _ _ _ S h hi _ _ _ _
    (fun r d => (ldK_apply x1 n hn off ho i1 r d).trans (H.key _ _)) (fun r e => (ldV_apply x2 n hn off ho i2 r e).trans (H.val _ _))
    (fun r => (ldB_apply x4 n hn off ho i4 r _).trans (H.str _)) (fun r => (ldB_apply x4 n hn off ho i4 r _).trans (H.log _)) _ hS d e

/-- One chunk's output. -/
theorem out_step (n : ℕ) (hn : n < 4) (off : ℕ) (ho : off = n * 64) (i0) (i1) (i2) (i3) (i4) (hS : ∀ d e, S (ix2 d e) = states h x1 x2 x4 T n d e)
    (r : Fin 64) (e : Fin 256) :
    outK i (ldK x0 off i0) (ldK x1 off i1) (ldV x2 off i2) (ldV x3 off i3) (ldB x4 off i4) x5 S (ix3 0 r e) = rowOut h x0 x1 x2 x3 x4 x5 T n r e := by
  refine (outK_apply i _ _ _ _ _ x5 S h hi _ _ _ _
    (fun r d => (ldK_apply x1 n hn off ho i1 r d).trans (H.key _ _)) (fun r e => (ldV_apply x2 n hn off ho i2 r e).trans (H.val _ _))
    (fun r => (ldB_apply x4 n hn off ho i4 r _).trans (H.str _)) (fun r => (ldB_apply x4 n hn off ho i4 r _).trans (H.log _)) _ hS r e).trans ?_
  rw [ldV_apply x3 n hn off ho i3]
  have hq : (fun (a : Fin 64) (d : Fin 128) => ldK x0 off i0 (ix3 0 a d)) = chunk (mat x0) n := funext fun a => funext fun d => ldK_apply x0 n hn off ho i0 a d
  rw [hq]
  rfl

end

theorem pay2_apply (d : Fin 128) (e : Fin 256) : k0_pay2 (F := Ideal) (ix2 d e) = 0 := by
  pointwise [k0_pay2]

variable (c : Dev nD) (i : grid0.Coords) (a3 : Memref sig .tc .vmem S1x256x128 .bf16) (h3 : a3.IsWhole) (a4 : Memref sig .tc .vmem S1x256x128 .bf16)
  (h4 : a4.IsWhole) (a5 : Memref sig .tc .vmem S1x256x256 .bf16) (h5 : a5.IsWhole) (a6 : Memref sig .tc .vmem S1x256x256 .bf16) (h6 : a6.IsWhole)
  (a7 : Memref sig .tc .vmem S1x256x128 .f32) (h7 : a7.IsWhole) (a8 : Memref sig .tc .vmem S1x256 .f32) (h8 : a8.IsWhole)
  (a9 : Memref sig .tc .vmem S1x256x256 .bf16) (h9 : a9.IsWhole) (a10 : Memref sig .tc .vmem S128x256 .f32) (h10 : a10.IsWhole)
  (x0 x1 : Vec Ideal S1x256x128 .bf16) (x2 x3 : Vec Ideal S1x256x256 .bf16) (x4 : Vec Ideal S1x256x128 .f32) (x5 : Vec Ideal S1x256 .f32)
  (h : Fin 8) (hi : (i 1).val = h.val) (H : Fine h x1 x2 x4)

include hi H

/-- The state a point of the first kind leaves. -/
theorem sout_A (hc0 : cond0_0 i) (d : Fin 128) (e : Fin 256) :
    sout0_A_0 (F := Ideal) c i a3 h3 a4 h4 a5 h5 a6 h6 a7 h7 a8 h8 a9 h9 a10 h10 hc0 x0 x1 x2 x3 x4 x5 (ix2 d e) = states h x1 x2 x4 (fun _ _ => 0) 4 d e := by
  unfold sout0_A_0
  rw [View.read_writes_eq_canon _ _ _ (scover0_A_0 (F := Ideal) c i a3 h3 a4 h4 a5 h5 a6 h6 a7 h7 a8 h8 a9 h9 a10 h10 hc0 x0 x1 x2 x3 x4 x5)]
  unfold kernelRun0_A
  dsimp only
  sl_unfold_words
  rw [View.canon_cons_unit_zero hz]
  simp only [View.readCov_cons_toLoadRect, View.readAt_eq_ld, h3.read_unread, h4.read_unread, h5.read_unread, h6.read_unread, h7.read_unread,
    h8.read_unread, h10.read_unread, View.ld_unit_zero (S := S128x256) hz, View.ld_unit_zero (S := S1x256) hz, step0_eq, step1_eq, step2_eq, step3_eq, out0_eq, out1_eq, out2_eq, out3_eq]
  exact state_step i h hi x0 x1 x2 x4 _ _ H 3 (by omega) 192 rfl _ _ _ _ (state_step i h hi x0 x1 x2 x4 _ _ H 2 (by omega) 128 rfl _ _ _ _
    (state_step i h hi x0 x1 x2 x4 _ _ H 1 (by omega) 64 rfl _ _ _ _ (state_step i h hi x0 x1 x2 x4 _ _ H 0 (by omega) 0 rfl _ _ _ _ pay2_apply))) d e

/-- The output a point of the first kind leaves. -/
theorem out_A (hc0 : cond0_0 i) (R : Fin 256) (e : Fin 256) :
    out0_A_6 (F := Ideal) c i a3 h3 a4 h4 a5 h5 a6 h6 a7 h7 a8 h8 a9 h9 a10 h10 hc0 x0 x1 x2 x3 x4 x5 (ix3 0 R e)
      = rowOut h x0 x1 x2 x3 x4 x5 (fun _ _ => 0) (R.val / 64) ⟨R.val % 64, by omega⟩ e := by
  unfold out0_A_6
  rw [View.read_writes_eq_canon _ _ _ (cover0_A_6 (F := Ideal) c i a3 h3 a4 h4 a5 h5 a6 h6 a7 h7 a8 h8 a9 h9 a10 h10 hc0 x0 x1 x2 x3 x4 x5)]
  unfold kernelRun0_A
  dsimp only
  sl_unfold_words
  simp only [View.readCov_cons_toLoadRect, View.readAt_eq_ld, h3.read_unread, h4.read_unread, h5.read_unread, h6.read_unread, h7.read_unread,
    h8.read_unread, h10.read_unread, View.ld_unit_zero (S := S128x256) hz, View.ld_unit_zero (S := S1x256) hz, step0_eq, step1_eq, step2_eq, step3_eq, out0_eq, out1_eq, out2_eq, out3_eq]
  have hS : ∀ d e, (k0_pay2 (F := Ideal)) (ix2 d e) = states h x1 x2 x4 (fun _ _ => 0) 0 d e := pay2_apply
  have s0 := state_step i h hi x0 x1 x2 x4 _ (fun _ _ => 0) H 0 (by omega) 0 rfl inb_S1x256x128_S1x64x128_0_0_0 inb_S1x256x128_S1x64x128_0_0_0 inb_S1x256x256_S1x64x256_0_0_0 inb_S1x256x128_S1x64x128_0_0_0 hS
  have s1 := state_step i h hi x0 x1 x2 x4 _ (fun _ _ => 0) H 1 (by omega) 64 rfl inb_S1x256x128_S1x64x128_0_64_0 inb_S1x256x128_S1x64x128_0_64_0 inb_S1x256x256_S1x64x256_0_64_0 inb_S1x256x128_S1x64x128_0_64_0 s0
  have s2 := state_step i h hi x0 x1 x2 x4 _ (fun _ _ => 0) H 2 (by omega) 128 rfl inb_S1x256x128_S1x64x128_0_128_0 inb_S1x256x128_S1x64x128_0_128_0 inb_S1x256x256_S1x64x256_0_128_0 inb_S1x256x128_S1x64x128_0_128_0 s1
  canon_tiles x h
  all_goals
    obtain ⟨z, a, l, rfl⟩ : ∃ (z : Fin 1) (a : Fin 64) (l : Fin 256), x = ix3 z a l := ⟨x 0, x 1, x 2, eq_ix3 x⟩
    obtain rfl : z = 0 := Subsingleton.elim _ _
    obtain rfl : e = l := Fin.ext h2
  · rw [row_at _ _ _ _ _ _ _ _ R e 3 a h1]; exact out_step i _ hi x0 x1 x2 x3 x4 x5 _ _ H 3 (by omega) 192 rfl _ _ _ _ _ s2 a e
  · rw [row_at _ _ _ _ _ _ _ _ R e 2 a h1]; exact out_step i _ hi x0 x1 x2 x3 x4 x5 _ _ H 2 (by omega) 128 rfl _ _ _ _ _ s1 a e
  · have h3 : R.val = 64 + a.val := h1
    rw [row_at _ _ _ _ _ _ _ _ R e 1 a (by omega)]; exact out_step i _ hi x0 x1 x2 x3 x4 x5 _ _ H 1 (by omega) 64 rfl _ _ _ _ _ s0 a e
  · have h3 : R.val = a.val := h1
    rw [row_at _ _ _ _ _ _ _ _ R e 0 a (by omega)]; exact out_step i _ hi x0 x1 x2 x3 x4 x5 _ _ H 0 (by omega) 0 rfl _ _ _ _ _ hS a e

/-- The state a point of the second kind leaves. -/
theorem sout_B (hc0 : ¬cond0_0 i) (xs0 : Vec Ideal S128x256 .f32) (d : Fin 128) (e : Fin 256) :
    sout0_B_0 (F := Ideal) c i a3 h3 a4 h4 a5 h5 a6 h6 a7 h7 a8 h8 a9 h9 a10 h10 hc0 x0 x1 x2 x3 x4 x5 xs0 (ix2 d e) = states h x1 x2 x4 (fun d e => xs0 (ix2 d e)) 4 d e := by
  unfold sout0_B_0
  rw [View.read_writes_eq_canon _ _ _ (scover0_B_0 (F := Ideal) c i a3 h3 a4 h4 a5 h5 a6 h6 a7 h7 a8 h8 a9 h9 a10 h10 hc0 x0 x1 x2 x3 x4 x5 xs0)]
  unfold kernelRun0_B
  dsimp only
  sl_unfold_words
  rw [View.canon_cons_unit_zero hz]
  simp only [View.readCov_cons_toLoadRect, View.readAt_eq_ld, h3.read_unread, h4.read_unread, h5.read_unread, h6.read_unread, h7.read_unread,
    h8.read_unread, h10.read_unread, View.ld_unit_zero (S := S128x256) hz, View.ld_unit_zero (S := S1x256) hz, step0_eq, step1_eq, step2_eq, step3_eq, out0_eq, out1_eq, out2_eq, out3_eq]
  exact state_step i h hi x0 x1 x2 x4 _ _ H 3 (by omega) 192 rfl _ _ _ _ (state_step i h hi x0 x1 x2 x4 _ _ H 2 (by omega) 128 rfl _ _ _ _
    (state_step i h hi x0 x1 x2 x4 _ _ H 1 (by omega) 64 rfl _ _ _ _ (state_step i h hi x0 x1 x2 x4 _ _ H 0 (by omega) 0 rfl _ _ _ _ (fun _ _ => rfl)))) d e

/-- The output a point of the second kind leaves. -/
theorem out_B (hc0 : ¬cond0_0 i) (xs0 : Vec Ideal S128x256 .f32) (R : Fin 256) (e : Fin 256) :
    out0_B_6 (F := Ideal) c i a3 h3 a4 h4 a5 h5 a6 h6 a7 h7 a8 h8 a9 h9 a10 h10 hc0 x0 x1 x2 x3 x4 x5 xs0 (ix3 0 R e)
      = rowOut h x0 x1 x2 x3 x4 x5 (fun d e => xs0 (ix2 d e)) (R.val / 64) ⟨R.val % 64, by omega⟩ e := by
  unfold out0_B_6
  rw [View.read_writes_eq_canon _ _ _ (cover0_B_6 (F := Ideal) c i a3 h3 a4 h4 a5 h5 a6 h6 a7 h7 a8 h8 a9 h9 a10 h10 hc0 x0 x1 x2 x3 x4 x5 xs0)]
  unfold kernelRun0_B
  dsimp only
  sl_unfold_words
  simp only [View.readCov_cons_toLoadRect, View.readAt_eq_ld, h3.read_unread, h4.read_unread, h5.read_unread, h6.read_unread, h7.read_unread,
    h8.read_unread, h10.read_unread, View.ld_unit_zero (S := S128x256) hz, View.ld_unit_zero (S := S1x256) hz, step0_eq, step1_eq, step2_eq, step3_eq, out0_eq, out1_eq, out2_eq, out3_eq]
  have hS : ∀ d e, xs0 (ix2 d e) = states h x1 x2 x4 (fun d e => xs0 (ix2 d e)) 0 d e := (fun _ _ => rfl)
  have s0 := state_step i h hi x0 x1 x2 x4 _ (fun d e => xs0 (ix2 d e)) H 0 (by omega) 0 rfl inb_S1x256x128_S1x64x128_0_0_0 inb_S1x256x128_S1x64x128_0_0_0 inb_S1x256x256_S1x64x256_0_0_0 inb_S1x256x128_S1x64x128_0_0_0 hS
  have s1 := state_step i h hi x0 x1 x2 x4 _ (fun d e => xs0 (ix2 d e)) H 1 (by omega) 64 rfl inb_S1x256x128_S1x64x128_0_64_0 inb_S1x256x128_S1x64x128_0_64_0 inb_S1x256x256_S1x64x256_0_64_0 inb_S1x256x128_S1x64x128_0_64_0 s0
  have s2 := state_step i h hi x0 x1 x2 x4 _ (fun d e => xs0 (ix2 d e)) H 2 (by omega) 128 rfl inb_S1x256x128_S1x64x128_0_128_0 inb_S1x256x128_S1x64x128_0_128_0 inb_S1x256x256_S1x64x256_0_128_0 inb_S1x256x128_S1x64x128_0_128_0 s1
  canon_tiles x h
  all_goals
    obtain ⟨z, a, l, rfl⟩ : ∃ (z : Fin 1) (a : Fin 64) (l : Fin 256), x = ix3 z a l := ⟨x 0, x 1, x 2, eq_ix3 x⟩
    obtain rfl : z = 0 := Subsingleton.elim _ _
    obtain rfl : e = l := Fin.ext h2
  · rw [row_at _ _ _ _ _ _ _ _ R e 3 a h1]; exact out_step i _ hi x0 x1 x2 x3 x4 x5 _ _ H 3 (by omega) 192 rfl _ _ _ _ _ s2 a e
  · rw [row_at _ _ _ _ _ _ _ _ R e 2 a h1]; exact out_step i _ hi x0 x1 x2 x3 x4 x5 _ _ H 2 (by omega) 128 rfl _ _ _ _ _ s1 a e
  · have h3 : R.val = 64 + a.val := h1
    rw [row_at _ _ _ _ _ _ _ _ R e 1 a (by omega)]; exact out_step i _ hi x0 x1 x2 x3 x4 x5 _ _ H 1 (by omega) 64 rfl _ _ _ _ _ s0 a e
  · have h3 : R.val = a.val := h1
    rw [row_at _ _ _ _ _ _ _ _ R e 0 a (by omega)]; exact out_step i _ hi x0 x1 x2 x3 x4 x5 _ _ H 0 (by omega) 0 rfl _ _ _ _ _ hS a e

end Cert.Proof.Gd

end
-- ==== Proof.Gd.Value.lean ====
/-
  The gated delta rule's result array, element by element, over the extended reals.
-/
module

public import proofs.«01_k».proof.Proof.Gd.Blocks
public import Idealize.ShloMosaic.Lib.StableHlo.ReadAt

@[expose] public section

set_option maxRecDepth 16384

noncomputable section

namespace Cert.Proof.Gd

open Idealize.ShloMosaic Idealize.ShloMosaic.Tactic Idealize.ShloMosaic.TcCoe Cert.GdnIdeal Cert.GdnIdeal.Gen
open scoped BigOperators

/-- The rows of chunk `n`, of the lanes from `off` on. -/
def slab (x : Fin 4096 → Fin 6144 → EReal) (off w : ℕ) (n : ℕ) : Fin 64 → Fin w → EReal :=
  fun r d => x ⟨(n * 64 + r.val) % 4096, Nat.mod_lt _ (by omega)⟩ ⟨(off + d.val) % 6144, Nat.mod_lt _ (by omega)⟩

/-- One lane of chunk `n`'s rows. -/
def lane (y : Fin 4096 → Fin 128 → EReal) (l : Fin 128) (n : ℕ) : Fin 64 → EReal :=
  fun r => y ⟨(n * 64 + r.val) % 4096, Nat.mod_lt _ (by omega)⟩ l

variable (x : Fin 4096 → Fin 6144 → EReal) (y : Fin 4096 → Fin 128 → EReal)

/-- One head's state before chunk `n`. -/
def state (h : Fin 8) : ℕ → Fin 128 → Fin 256 → EReal
  | 0 => fun _ _ => 0
  | n + 1 => nextE (slab x ((8 + h.val) * 128) 128 n) (slab x ((8 + h.val) * 256) 256 n) (lane y (laneB h) n) (lane y (laneG h) n) (state h n)

/-- One head's read-out at row `r` of chunk `n`. -/
def readAt (h : Fin 8) (n : ℕ) (r : Fin 64) : Fin 256 → EReal :=
  readE (slab x (h.val * 128) 128 n) (slab x ((8 + h.val) * 128) 128 n) (slab x ((8 + h.val) * 256) 256 n) (lane y (laneB h) n) (lane y (laneG h) n)
    (state x y h n) r

/-- One head's result at row `r` of chunk `n`: the read-out to unit length, scaled, times its gate. -/
def res (g : Fin 256 → EReal) (h : Fin 8) (n : ℕ) (r : Fin 64) (e : Fin 256) : EReal :=
  unit (readAt x y h n r) g e * (slab x ((16 + h.val) * 256) 256 n r e * Ideal.logistic (slab x ((16 + h.val) * 256) 256 n r e))

/-- The keys, the values and the lanes of decays and write strengths hold real numbers. -/
structure AllReal : Prop where
  kv : ∀ s (k : Fin 6144), 1024 ≤ k.val → k.val < 4096 → IsReal (x s k)
  bg : ∀ s (l : Fin 128), l.val < 16 → IsReal (y s l)

variable (m : (ℓ : Loc nD τ sig) → Buf (Elt Ideal) ℓ) (c : Dev nD)

/-- The arguments as functions of coordinates. -/
abbrev X (b : Fin 8) (s : Fin 4096) (k : Fin 6144) : EReal := (m ((c : Thread nD τ).loc main_arg0) : Vec Ideal S8x4096x6144 .bf16) (ix3 b s k)
abbrev Y (b : Fin 8) (s : Fin 4096) (k : Fin 128) : EReal := (m ((c : Thread nD τ).loc main_arg1) : Vec Ideal S8x4096x128 .f32) (ix3 b s k)
abbrev G (k : Fin 256) : EReal := (m ((c : Thread nD τ).loc main_arg2) : Vec Ideal S256 .f32) (ix1 k)

/-- The kernel's result array. -/
def out : Vec Ideal S8x4096x2048 .bf16 := fun i =>
  res (X m c (i 0)) (Y m c (i 0)) (G m c) ⟨(i 2).val / 256, by have := (i 2).isLt; change (i 2).val < 2048 at this; omega⟩ ((i 1).val / 64)
    ⟨(i 1).val % 64, Nat.mod_lt _ (by decide)⟩ ⟨(i 2).val % 256, Nat.mod_lt _ (by decide)⟩

theorem V_g (k : Fin 256) : (V m c main_v0 : Vec Ideal S1x256 .f32) (ix2 0 k) = G m c k := by unfold V; after_reads_at

theorem idx0 : ∀ t : Fin cfg0.N, win0_0.index t = ![t.val / 128, t.val % 16, t.val / 16 % 8] := (by decide +kernel : ∀ t : Fin grid0.N, _)
theorem idx1 : ∀ t : Fin cfg0.N, win0_1.index t = ![t.val / 128, t.val % 16, 8 + t.val / 16 % 8] := (by decide +kernel : ∀ t : Fin grid0.N, _)
theorem idx2 : ∀ t : Fin cfg0.N, win0_2.index t = ![t.val / 128, t.val % 16, 8 + t.val / 16 % 8] := (by decide +kernel : ∀ t : Fin grid0.N, _)
theorem idx3 : ∀ t : Fin cfg0.N, win0_3.index t = ![t.val / 128, t.val % 16, 16 + t.val / 16 % 8] := (by decide +kernel : ∀ t : Fin grid0.N, _)
theorem idx4 : ∀ t : Fin cfg0.N, win0_4.index t = ![t.val / 128, t.val % 16, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 128, t.val % 16, t.val / 16 % 8] := (by decide +kernel : ∀ t : Fin grid0.N, _)

theorem lt_N (t : Fin cfg0.N) : t.val < 1024 := by have h1 : t.val < cfg0.N := t.isLt; have h2 : cfg0.N = 1024 := N_0; omega

/-- The head and the batch row of a grid point. -/
abbrev hd (t : Fin cfg0.N) : Fin 8 := ⟨t.val / 16 % 8, Nat.mod_lt _ (by decide)⟩
abbrev bt (t : Fin cfg0.N) : Fin 8 := ⟨t.val / 128, by have := lt_N t; omega⟩

theorem coord_hd : ∀ t : Fin cfg0.N, ((grid0.coords t) 1).val = (hd t).val := (by decide +kernel : ∀ t : Fin grid0.N, ((grid0.coords t) 1).val = t.val / 16 % 8)

theorem blk_g (t : Fin cfg0.N) (k : Fin 256) : (iblk m c 5 t : Vec Ideal S1x256 .f32) (ix2 0 k) = G m c k := by
  rw [← V_g]
  blk_simp [iblk]
  refine congrArg (V m c main_v0 : Vec Ideal S1x256 .f32) ?_
  blk_ext [idx5]

/-- Chunk `n` of a point's block of queries is chunk `4 (t % 16) + n` of the sequence. -/
theorem chunk_q (t : Fin cfg0.N) (n : ℕ) (hn : n < 4) :
    chunk (mat (iblk m c 0 t : Vec Ideal S1x256x128 .bf16)) n = slab (X m c (bt t)) ((hd t).val * 128) 128 (4 * (t.val % 16) + n) := by
  funext r d
  unfold chunk slab
  have hN := lt_N t
  have hr := r.isLt
  have hd' := d.isLt
  blk_simp [iblk]
  rw [V_main_arg0]
  refine congrArg (m ((c : Thread nD τ).loc main_arg0) : Vec Ideal S8x4096x6144 .bf16) ?_
  blk_ext [idx0]

theorem chunk_k (t : Fin cfg0.N) (n : ℕ) (hn : n < 4) :
    chunk (mat (iblk m c 1 t : Vec Ideal S1x256x128 .bf16)) n = slab (X m c (bt t)) ((8 + (hd t).val) * 128) 128 (4 * (t.val % 16) + n) := by
  funext r d
  unfold chunk slab
  have hN := lt_N t
  have hr := r.isLt
  have hd' := d.isLt
  blk_simp [iblk]
  rw [V_main_arg0]
  refine congrArg (m ((c : Thread nD τ).loc main_arg0) : Vec Ideal S8x4096x6144 .bf16) ?_
  blk_ext [idx1]

theorem chunk_v (t : Fin cfg0.N) (n : ℕ) (hn : n < 4) :
    chunk (mat (iblk m c 2 t : Vec Ideal S1x256x256 .bf16)) n = slab (X m c (bt t)) ((8 + (hd t).val) * 256) 256 (4 * (t.val % 16) + n) := by
  funext r d
  unfold chunk slab
  have hN := lt_N t
  have hr := r.isLt
  have hd' := d.isLt
  blk_simp [iblk]
  rw [V_main_arg0]
  refine congrArg (m ((c : Thread nD τ).loc main_arg0) : Vec Ideal S8x4096x6144 .bf16) ?_
  blk_ext [idx2]

theorem chunk_gate (t : Fin cfg0.N) (n : ℕ) (hn : n < 4) :
    chunk (mat (iblk m c 3 t : Vec Ideal S1x256x256 .bf16)) n = slab (X m c (bt t)) ((16 + (hd t).val) * 256) 256 (4 * (t.val % 16) + n) := by
  funext r d
  unfold chunk slab
  have hN := lt_N t
  have hr := r.isLt
  have hd' := d.isLt
  blk_simp [iblk]
  rw [V_main_arg0]
  refine congrArg (m ((c : Thread nD τ).loc main_arg0) : Vec Ideal S8x4096x6144 .bf16) ?_
  blk_ext [idx3]

theorem chunk_bg (t : Fin cfg0.N) (n : ℕ) (hn : n < 4) (l : Fin 128) :
    (fun r => chunk (matF (iblk m c 4 t : Vec Ideal S1x256x128 .f32)) n r l) = lane (Y m c (bt t)) l (4 * (t.val % 16) + n) := by
  funext r
  unfold chunk lane
  have hN := lt_N t
  have hr := r.isLt
  blk_simp [iblk]
  rw [V_main_arg1]
  refine congrArg (m ((c : Thread nD τ).loc main_arg1) : Vec Ideal S8x4096x128 .f32) ?_
  blk_ext [idx4]

/-- A point's states, begun from the sequence's state before its first chunk, are the sequence's states. -/
theorem states_eq (t : Fin cfg0.N) : ∀ n, n ≤ 4 →
    states (hd t) (iblk m c 1 t) (iblk m c 2 t) (iblk m c 4 t) (state (X m c (bt t)) (Y m c (bt t)) (hd t) (4 * (t.val % 16))) n
      = state (X m c (bt t)) (Y m c (bt t)) (hd t) (4 * (t.val % 16) + n) := by
  intro n
  induction n with
  | zero => intro _; rfl
  | succ n ih =>
    intro hn
    show nextE (chunk _ n) (chunk _ n) _ _ (states _ _ _ _ _ n) = nextE _ _ _ _ (state _ _ _ (4 * (t.val % 16) + n))
    rw [ih (by omega), chunk_k m c t n (by omega), chunk_v m c t n (by omega), chunk_bg m c t n (by omega), chunk_bg m c t n (by omega)]
    rfl

section

variable (H : ∀ b, AllReal (X m c b) (Y m c b))

include H

/-- Every point's blocks hold real numbers. -/
theorem fine (t : Fin cfg0.N) : Fine (hd t) (iblk m c 1 t) (iblk m c 2 t) (iblk m c 4 t) := by
  have hh := (hd t).isLt
  have split : ∀ r : Fin 256, r = ⟨(r.val / 64 * 64 + (⟨r.val % 64, Nat.mod_lt _ (by decide)⟩ : Fin 64).val) % 256, Nat.mod_lt _ (by omega)⟩ := fun r =>
    Fin.ext (by have := r.isLt; dsimp only; omega)
  refine ⟨fun r d => ?_, fun r e => ?_, fun r => ?_, fun r => ?_⟩
  · have hr := r.isLt
    have hd := d.isLt
    have e := congrFun (congrFun (chunk_k m c t (r.val / 64) (by omega)) ⟨r.val % 64, Nat.mod_lt _ (by decide)⟩) d
    unfold chunk at e
    rw [← split r] at e
    rw [show (iblk m c 1 t : Vec Ideal S1x256x128 .bf16) (ix3 0 r d) = _ from e]
    exact (H (bt t)).kv _ _ (by dsimp only; omega) (by dsimp only; omega)
  · have hr := r.isLt
    have he := e.isLt
    have e' := congrFun (congrFun (chunk_v m c t (r.val / 64) (by omega)) ⟨r.val % 64, Nat.mod_lt _ (by decide)⟩) e
    unfold chunk at e'
    rw [← split r] at e'
    rw [show (iblk m c 2 t : Vec Ideal S1x256x256 .bf16) (ix3 0 r e) = _ from e']
    exact (H (bt t)).kv _ _ (by dsimp only; omega) (by dsimp only; omega)
  · have hr := r.isLt
    have e' := congrFun (chunk_bg m c t (r.val / 64) (by omega) (laneB (hd t))) ⟨r.val % 64, Nat.mod_lt _ (by decide)⟩
    unfold chunk at e'
    rw [← split r] at e'
    rw [show (iblk m c 4 t : Vec Ideal S1x256x128 .f32) (ix3 0 r (laneB (hd t))) = _ from e']
    exact (H (bt t)).bg _ _ (by show (hd t).val + 8 < 16; omega)
  · have hr := r.isLt
    have e' := congrFun (chunk_bg m c t (r.val / 64) (by omega) (laneG (hd t))) ⟨r.val % 64, Nat.mod_lt _ (by decide)⟩
    unfold chunk at e'
    rw [← split r] at e'
    rw [show (iblk m c 4 t : Vec Ideal S1x256x128 .f32) (ix3 0 r (laneG (hd t))) = _ from e']
    exact (H (bt t)).bg _ _ (by show (hd t).val < 16; omega)

/-- The state a point leaves in the scratch buffer. -/
theorem scr : ∀ (k : ℕ) (t : Fin cfg0.N) (_ : t.val % 16 = k) (d : Fin 128) (e : Fin 256),
    (outsAt0 m c t.val t.isLt).2 (ix2 d e) = state (X m c (bt t)) (Y m c (bt t)) (hd t) (4 * (t.val % 16) + 4) d e := by
  intro k
  induction k with
  | zero =>
    intro t h d e
    rw [outsAt0_A m c t h]
    dsimp only
    rw [sout_A (h := hd t) (hi := coord_hd t) (H := fine m c H t), ← states_eq m c t 4 le_rfl]
    simp only [h]
    rfl
  | succ k ih =>
    intro t h d e
    have hN := lt_N t
    have hlt : t.val - 1 < cfg0.N := by have h2 : cfg0.N = 1024 := N_0; omega
    have h0 := ih ⟨t.val - 1, hlt⟩ (by dsimp only; omega)
    have hb : bt ⟨t.val - 1, hlt⟩ = bt t := Fin.ext (by dsimp only; omega)
    have hh : hd ⟨t.val - 1, hlt⟩ = hd t := Fin.ext (by dsimp only; omega)
    rw [hb, hh] at h0
    rw [outsAt0_B m c t (by omega)]
    dsimp only
    rw [sout_B (h := hd t) (hi := coord_hd t) (H := fine m c H t), ← states_eq m c t 4 le_rfl]
    refine congrArg (fun S => states _ _ _ _ S 4 d e) ?_
    funext d e
    refine (h0 d e).trans ?_
    congr 1
    dsimp only
    omega

omit H in
/-- A row of a point's result block. -/
theorem row_eq (t : Fin cfg0.N) (n : ℕ) (hn : n < 4) (r : Fin 64) (e : Fin 256) :
    rowOut (hd t) (iblk m c 0 t) (iblk m c 1 t) (iblk m c 2 t) (iblk m c 3 t) (iblk m c 4 t) (iblk m c 5 t)
      (state (X m c (bt t)) (Y m c (bt t)) (hd t) (4 * (t.val % 16))) n r e = res (X m c (bt t)) (Y m c (bt t)) (G m c) (hd t) (4 * (t.val % 16) + n) r e := by
  unfold rowOut res readAt
  rw [states_eq m c t n (by omega), chunk_q m c t n hn, chunk_k m c t n hn, chunk_v m c t n hn, chunk_gate m c t n hn, chunk_bg m c t n hn, chunk_bg m c t n hn]
  simp only [blk_g]

/-- A point's result block. -/
theorem tile_apply (t : Fin cfg0.N) (R : Fin 256) (e : Fin 256) :
    (outsAt0 m c t.val t.isLt).1 (ix3 0 R e) = res (X m c (bt t)) (Y m c (bt t)) (G m c) (hd t) (4 * (t.val % 16) + R.val / 64)
      ⟨R.val % 64, Nat.mod_lt _ (by decide)⟩ e := by
  have hR := R.isLt
  by_cases h : t.val % 16 = 0
  · rw [outsAt0_A m c t h]
    dsimp only
    rw [out_A (h := hd t) (hi := coord_hd t) (H := fine m c H t), ← row_eq m c t _ (by omega)]
    simp only [h]
    rfl
  · have hN := lt_N t
    have hlt : t.val - 1 < cfg0.N := by have h2 : cfg0.N = 1024 := N_0; omega
    have h0 := scr m c H _ ⟨t.val - 1, hlt⟩ rfl
    have hb : bt ⟨t.val - 1, hlt⟩ = bt t := Fin.ext (by dsimp only; omega)
    have hh : hd ⟨t.val - 1, hlt⟩ = hd t := Fin.ext (by dsimp only; omega)
    rw [hb, hh] at h0
    rw [outsAt0_B m c t h]
    dsimp only
    rw [out_B (h := hd t) (hi := coord_hd t) (H := fine m c H t), ← row_eq m c t _ (by omega)]
    refine congrArg (fun S => rowOut _ _ _ _ _ _ _ S _ _ _) ?_
    funext d e
    refine (h0 d e).trans ?_
    congr 1
    dsimp only
    omega

/-- The result array. -/
theorem final : (dats m 0 c).arrAt 6 cfg0.N = out m c := by
  refine (dats m 0 c).arrAt_eq_of_covers 6 _ (by decide +kernel) fun t hf y => ?_
  obtain ⟨a, R, e, rfl⟩ : ∃ (a : Fin 1) (R : Fin 256) (e : Fin 256), y = ix3 a R e := ⟨y 0, y 1, y 2, eq_ix3 y⟩
  obtain rfl : a = 0 := Subsingleton.elim _ _
  have hN := lt_N t
  have hR := R.isLt
  have he' := e.isLt
  have he : ((cfg0.win 6).blk t).view.emb (ix3 0 R e) = (ix3 (bt t) ⟨t.val % 16 * 256 + R.val, by omega⟩
      ⟨(hd t).val * 256 + e.val, by have := (hd t).isLt; omega⟩ : S8x4096x2048.Idx) := by
    blk_ext [idx6]
  rw [he]
  blk_simp
  rw [after0_6, tile_apply m c H]
  unfold out
  have e1 : (⟨((hd t).val * 256 + e.val) / 256, by have := (hd t).isLt; omega⟩ : Fin 8) = hd t := Fin.ext (by dsimp only; omega)
  have e2 : (t.val % 16 * 256 + R.val) / 64 = 4 * (t.val % 16) + R.val / 64 := by omega
  have e3 : (⟨(t.val % 16 * 256 + R.val) % 64, Nat.mod_lt _ (by decide)⟩ : Fin 64) = ⟨R.val % 64, Nat.mod_lt _ (by decide)⟩ := Fin.ext (by dsimp only; omega)
  have e4 : (⟨((hd t).val * 256 + e.val) % 256, Nat.mod_lt _ (by decide)⟩ : Fin 256) = e := Fin.ext (by dsimp only; omega)
  show _ = res (X m c (bt t)) (Y m c (bt t)) (G m c) ⟨((hd t).val * 256 + e.val) / 256, _⟩ ((t.val % 16 * 256 + R.val) / 64)
    ⟨(t.val % 16 * 256 + R.val) % 64, _⟩ ⟨((hd t).val * 256 + e.val) % 256, _⟩
  rw [e1, e2, e3, e4]

end

end Cert.Proof.Gd

end
-- ==== Proof.Gd.Lead.lean ====
/-
  What the gated delta rule's reference computes before its loop, element by element, over the extended reals: the chunks, the
  decays, the triangular systems and their solutions by 64 rounds of forward substitution.
-/
module

public import proofs.«01_k».proof.Proof.Gen.GdnRefIdeal.Step
public import proofs.«01_k».proof.Proof.Gd.Value
public import proofs.«01_k».proof.Proof.Sb.Ref

@[expose] public section

set_option maxRecDepth 16384

noncomputable section

namespace Cert.Proof.Gd

open Idealize.ShloMosaic Idealize.ShloMosaic.Tactic Cert.GdnRefIdeal Cert.GdnRefIdeal.Gen Cert.GdnRefIdeal.Step
open scoped BigOperators

variable (x : Vec Ideal S8x4096x6144 .bf16) (y : Vec Ideal S8x4096x128 .f32)

/-- One batch row of the arguments. -/
abbrev xs (b : Fin 8) (s : Fin 4096) (k : Fin 6144) : EReal := x (ix3 b s k)
abbrev ys (b : Fin 8) (s : Fin 4096) (l : Fin 128) : EReal := y (ix3 b s l)

/-- A chunk's keys, values, write strengths and log decays, as real numbers. -/
def keys (n : Fin 64) (b h : Fin 8) (r : Fin 64) (d : Fin 128) : ℝ := (slab (xs x b) ((8 + h.val) * 128) 128 n.val r d).toReal
def vals (n : Fin 64) (b h : Fin 8) (r : Fin 64) (e : Fin 256) : ℝ := (slab (xs x b) ((8 + h.val) * 256) 256 n.val r e).toReal
def strs (n : Fin 64) (b h : Fin 8) (r : Fin 64) : ℝ := (lane (ys y b) (laneB h) n.val r).toReal
def logs (n : Fin 64) (b h : Fin 8) (r : Fin 64) : ℝ := (lane (ys y b) (laneG h) n.val r).toReal

theorem q_apply (n : Fin 64) (b h : Fin 8) (r : Fin 64) (d : Fin 128) :
    (A_main_v15 (F := Ideal) x y : Vec Ideal S64x8x8x64x128 .f32) (ix5 n b h r d) = slab (xs x b) (h.val * 128) 128 n.val r d := by
  unfold slab
  pointwise [A_main_v15, A_main_v14, A_main_v5, A_main_v2, A_main_v1, A_main_v0]
  have hn := n.isLt
  have hr := r.isLt
  have hh := h.isLt
  have hd := d.isLt
  exact congrArg x (congrArg₂ (ix3 b) (Fin.ext (by dsimp only; omega)) (Fin.ext (by dsimp only; omega)))

/-! The masks. -/

theorem tril_table : ∀ i j : Fin 64, IntOp.cmpi .sge (IntOp.addi (BitVec.ofNat 32 i.val) 0#32) (BitVec.ofNat 32 j.val) = BitVec.ofBool (decide (j ≤ i)) := by decide +kernel
theorem strict_table : ∀ i j : Fin 64, IntOp.cmpi .sge (IntOp.addi (BitVec.ofNat 32 i.val) 4294967295#32) (BitVec.ofNat 32 j.val) = BitVec.ofBool (decide (j < i)) := by decide +kernel

theorem select_one (c : BitVec 1) : Scalar.select c (1#1) (0#1) = c := by
  revert c; decide

theorem tril_apply (i j : Fin 64) : (K_main_v11 (F := Ideal) : Vec Ideal S64x64 .i1) (ix2 i j) = BitVec.ofBool (decide (j ≤ i)) := by
  rw [← tril_table i j, ← select_one (IntOp.cmpi _ _ _)]
  pointwise [K_main_v11, K_main_call0_v5, K_main_call0_c_0, K_main_call0_v4, K_main_call0_v3, K_main_call0_v2, K_main_call0_v1, K_main_call0_c, K_main_call0_v0, K_main_v10, K_main_c]

theorem strict_apply (i j : Fin 64) : (K_main_v13 (F := Ideal) : Vec Ideal S64x64 .i1) (ix2 i j) = BitVec.ofBool (decide (j < i)) := by
  rw [← strict_table i j, ← select_one (IntOp.cmpi _ _ _)]
  pointwise [K_main_v13, K_main_call1_v5, K_main_call1_c_0, K_main_call1_v4, K_main_call1_v3, K_main_call1_v2, K_main_call1_v1, K_main_call1_c, K_main_call1_v0, K_main_v12, K_main_c_0]

theorem zero_apply : (id (constant (F := Ideal) S_ .f32 0#32) : Vec Ideal S_ .f32) ix0 = (0 : EReal) := Ideal.ofBits_zero_f32

section

variable (H : ∀ b, AllReal (xs x b) (ys y b))

include H

theorem k_apply (n : Fin 64) (b h : Fin 8) (r : Fin 64) (d : Fin 128) :
    (A_main_v17 (F := Ideal) x y : Vec Ideal S64x8x8x64x128 .f32) (ix5 n b h r d) = keys x n b h r d := by
  have hn := n.isLt
  have hr := r.isLt
  have hh := h.isLt
  have hd := d.isLt
  refine Eq.trans ?_ ((H b).kv ⟨(n.val * 64 + r.val) % 4096, Nat.mod_lt _ (by omega)⟩ ⟨((8 + h.val) * 128 + d.val) % 6144, Nat.mod_lt _ (by omega)⟩ (by dsimp only; omega) (by dsimp only; omega))
  pointwise [A_main_v17, A_main_v16, A_main_v6, A_main_v3, A_main_v1, A_main_v0]
  exact congrArg x (congrArg₂ (ix3 b) (Fin.ext (by dsimp only; omega)) (Fin.ext (by dsimp only; omega)))

theorem v_apply (n : Fin 64) (b h : Fin 8) (r : Fin 64) (e : Fin 256) :
    (A_main_v19 (F := Ideal) x y : Vec Ideal S64x8x8x64x256 .f32) (ix5 n b h r e) = vals x n b h r e := by
  have hn := n.isLt
  have hr := r.isLt
  have hh := h.isLt
  have he := e.isLt
  refine Eq.trans ?_ ((H b).kv ⟨(n.val * 64 + r.val) % 4096, Nat.mod_lt _ (by omega)⟩ ⟨((8 + h.val) * 256 + e.val) % 6144, Nat.mod_lt _ (by omega)⟩ (by dsimp only; omega) (by dsimp only; omega))
  pointwise [A_main_v19, A_main_v18, A_main_v7, A_main_v4, A_main_v1, A_main_v0]
  exact congrArg x (congrArg₂ (ix3 b) (Fin.ext (by dsimp only; omega)) (Fin.ext (by dsimp only; omega)))

theorem b_apply (n : Fin 64) (b h : Fin 8) (r : Fin 64) :
    (A_main_v23 (F := Ideal) x y : Vec Ideal S64x8x8x64 .f32) (ix4 n b h r) = strs y n b h r := by
  have hn := n.isLt
  have hr := r.isLt
  have hh := h.isLt
  refine Eq.trans ?_ ((H b).bg ⟨(n.val * 64 + r.val) % 4096, Nat.mod_lt _ (by omega)⟩ (laneB h) (by show h.val + 8 < 16; omega))
  pointwise [A_main_v23, A_main_v22, A_main_v21, A_main_v20, A_main_v9]
  exact congrArg y (congrArg₂ (ix3 b) (Fin.ext (by dsimp only; omega)) (Fin.ext (by show _ = h.val + 8; dsimp only; omega)))

theorem g_apply (n : Fin 64) (b h : Fin 8) (r : Fin 64) :
    (A_main_v27 (F := Ideal) x y : Vec Ideal S64x8x8x64 .f32) (ix4 n b h r) = logs y n b h r := by
  have hn := n.isLt
  have hr := r.isLt
  have hh := h.isLt
  refine Eq.trans ?_ ((H b).bg ⟨(n.val * 64 + r.val) % 4096, Nat.mod_lt _ (by omega)⟩ (laneG h) (by show h.val < 16; omega))
  pointwise [A_main_v27, A_main_v26, A_main_v25, A_main_v24, A_main_v8]
  exact congrArg y (congrArg₂ (ix3 b) (Fin.ext (by dsimp only; omega)) (Fin.ext (by show _ = h.val; dsimp only)))

end

/-! The running sum of a chunk's log decays. -/

/-- A window over the last axis only: its indices are that axis's. -/
theorem sum_window (f : Fin 64 → EReal) : ∑ w : (⟨4, ![1, 1, 1, 64]⟩ : Shape).Idx, f (w 3) = ∑ u : Fin 64, f u := by
  symm
  refine Finset.sum_bij (fun u _ => (ix4 0 0 0 u : (⟨4, ![1, 1, 1, 64]⟩ : Shape).Idx)) (fun _ _ => Finset.mem_univ _) ?_ ?_ (fun _ _ => rfl)
  · intro a _ b _ h
    exact congrFun h 3
  · intro w _
    refine ⟨w 3, Finset.mem_univ _, ?_⟩
    funext a
    fin_cases a
    · exact (Subsingleton.elim (α := Fin 1) _ _)
    · exact (Subsingleton.elim (α := Fin 1) _ _)
    · exact (Subsingleton.elim (α := Fin 1) _ _)
    · rfl

/-- A prefix sum by distance from the window's end is the one by position. -/
theorem sum_shift (f : Fin 64 → EReal) (t : Fin 64) :
    (∑ u : Fin 64, if h : 63 ≤ t.val + u.val then f ⟨t.val + u.val - 63, by have := t.isLt; have := u.isLt; omega⟩ else 0) = ∑ v : Fin 64, if v ≤ t then f v else 0 := by
  rw [← Finset.sum_filter]
  have e : (∑ u : Fin 64, if h : 63 ≤ t.val + u.val then f ⟨t.val + u.val - 63, by have := t.isLt; have := u.isLt; omega⟩ else 0)
      = ∑ u ∈ Finset.univ.filter (fun u : Fin 64 => 63 ≤ t.val + u.val), f ⟨t.val + u.val - 63, by have := t.isLt; have := u.isLt; omega⟩ := by
    rw [Finset.sum_filter]
    refine Finset.sum_congr rfl fun u _ => ?_
    by_cases h : 63 ≤ t.val + u.val
    · rw [dif_pos h, if_pos h]
    · rw [dif_neg h, if_neg h]
  rw [e]
  have ht := t.isLt
  refine Finset.sum_bij (fun u _ => (⟨t.val + u.val - 63, by have := u.isLt; omega⟩ : Fin 64)) ?_ ?_ ?_ (fun _ _ => rfl)
  · intro u _
    refine Finset.mem_filter.2 ⟨Finset.mem_univ _, ?_⟩
    rw [Fin.le_def]
    have := u.isLt
    dsimp only
    omega
  · intro u hu w hw h
    have h1 := (Finset.mem_filter.1 hu).2
    have h2 := (Finset.mem_filter.1 hw).2
    have := congrArg Fin.val h
    dsimp only at this
    exact Fin.ext (by omega)
  · intro v hv
    have hv' : v.val ≤ t.val := Fin.le_def.1 (Finset.mem_filter.1 hv).2
    exact ⟨⟨v.val + 63 - t.val, by omega⟩, Finset.mem_filter.2 ⟨Finset.mem_univ _, by dsimp only; omega⟩, Fin.ext (by dsimp only; omega)⟩

theorem prefix_apply (n : Fin 64) (b h : Fin 8) (t : Fin 64) :
    (A_main_v28 (F := Ideal) x y : Vec Ideal S64x8x8x64 .f32) (ix4 n b h t)
      = ∑ u : Fin 64, if u ≤ t then (A_main_v27 (F := Ideal) x y : Vec Ideal S64x8x8x64 .f32) (ix4 n b h u) else 0 := by
  generalize hz : A_main_v27 (F := Ideal) x y = z
  unfold A_main_v28 Host.reduceWindowAdd
  rw [hz]
  simp only [Ideal.hostReduceWindowAdd_def]
  unfold Ideal.hostReduceWindowAdd Host.reduceWindow
  dsimp only
  have h0 : ∀ y, (K_main_call2_call0_v0 (F := Ideal) : Vec Ideal S_ .f32) y = (0 : EReal) := by
    intro y
    pointwise [K_main_call2_call0_v0, K_main_call2_call0_cst]
  simp only [h0]
  refine (Sb.Ref.foldl_add _ _ _).trans ?_
  rw [zero_add, ← Fin.sum_univ_def]
  rw [← sum_shift (fun u => z (ix4 n b h u)), ← sum_window (fun u => if hu : 63 ≤ t.val + u.val then z (ix4 n b h ⟨t.val + u.val - 63, by have := t.isLt; have := u.isLt; omega⟩) else 0),
    ← Equiv.sum_comp (⟨4, ![1, 1, 1, 64]⟩ : Shape).rowMajor.symm]
  refine Finset.sum_congr rfl fun k _ => ?_
  have hw : ∀ a : Fin 3, ((⟨4, ![1, 1, 1, 64]⟩ : Shape).rowMajor.symm k a.castSucc).val = 0 := fun a => by
    have h := ((⟨4, ![1, 1, 1, 64]⟩ : Shape).rowMajor.symm k a.castSucc).isLt
    fin_cases a <;> exact Nat.lt_one_iff.1 h
  have w0 : ((⟨4, ![1, 1, 1, 64]⟩ : Shape).rowMajor.symm k 0).val = 0 := hw 0
  have w1 : ((⟨4, ![1, 1, 1, 64]⟩ : Shape).rowMajor.symm k 1).val = 0 := hw 1
  have w2 : ((⟨4, ![1, 1, 1, 64]⟩ : Shape).rowMajor.symm k 2).val = 0 := hw 2
  have w3 : ((⟨4, ![1, 1, 1, 64]⟩ : Shape).rowMajor.symm k 3).val < 64 := ((⟨4, ![1, 1, 1, 64]⟩ : Shape).rowMajor.symm k 3).isLt
  have hn := n.isLt
  have hb := b.isLt
  have hh := h.isLt
  have ht := t.isLt
  by_cases hu : 63 ≤ t.val + ((⟨4, ![1, 1, 1, 64]⟩ : Shape).rowMajor.symm k 3).val
  · rw [dif_pos hu, dif_pos]
    · refine congrArg z ?_
      funext a
      fin_cases a
      · exact Fin.ext (by show n.val * 1 + ((⟨4, ![1, 1, 1, 64]⟩ : Shape).rowMajor.symm k 0).val - 0 = n.val; omega)
      · exact Fin.ext (by show b.val * 1 + ((⟨4, ![1, 1, 1, 64]⟩ : Shape).rowMajor.symm k 1).val - 0 = b.val; omega)
      · exact Fin.ext (by show h.val * 1 + ((⟨4, ![1, 1, 1, 64]⟩ : Shape).rowMajor.symm k 2).val - 0 = h.val; omega)
      · exact Fin.ext (by show t.val * 1 + ((⟨4, ![1, 1, 1, 64]⟩ : Shape).rowMajor.symm k 3).val - 63 = t.val + ((⟨4, ![1, 1, 1, 64]⟩ : Shape).rowMajor.symm k 3).val - 63; omega)
    · intro a
      fin_cases a
      · show 0 ≤ n.val * 1 + ((⟨4, ![1, 1, 1, 64]⟩ : Shape).rowMajor.symm k 0).val ∧ n.val * 1 + ((⟨4, ![1, 1, 1, 64]⟩ : Shape).rowMajor.symm k 0).val - 0 < 64; omega
      · show 0 ≤ b.val * 1 + ((⟨4, ![1, 1, 1, 64]⟩ : Shape).rowMajor.symm k 1).val ∧ b.val * 1 + ((⟨4, ![1, 1, 1, 64]⟩ : Shape).rowMajor.symm k 1).val - 0 < 8; omega
      · show 0 ≤ h.val * 1 + ((⟨4, ![1, 1, 1, 64]⟩ : Shape).rowMajor.symm k 2).val ∧ h.val * 1 + ((⟨4, ![1, 1, 1, 64]⟩ : Shape).rowMajor.symm k 2).val - 0 < 8; omega
      · show 63 ≤ t.val * 1 + ((⟨4, ![1, 1, 1, 64]⟩ : Shape).rowMajor.symm k 3).val ∧ t.val * 1 + ((⟨4, ![1, 1, 1, 64]⟩ : Shape).rowMajor.symm k 3).val - 63 < 64; omega
  · rw [dif_neg hu, dif_neg]
    intro hall
    have h3 : 63 ≤ t.val * 1 + ((⟨4, ![1, 1, 1, 64]⟩ : Shape).rowMajor.symm k 3).val := (hall 3).1
    omega

/-! Forward substitution. -/

/-- One round of it on the whole array. -/
abbrev roundV (N : Vec Ideal S64x8x8x64x64 .f32) (R X : Vec Ideal S64x8x8x64x256 .f32) : Vec Ideal S64x8x8x64x256 .f32 :=
  subf (φ := .f32) R (Host.dotGeneral (φ₁ := .f32) (φ₂ := .f32) (F := Ideal) dot_S64x8x8x64x64_S64x8x8x64x256_S64x8x8x64x256_4_3_3_4_012_012 none N X)
abbrev roundK (N : Vec Ideal S64x8x8x64x64 .f32) (R X : Vec Ideal S64x8x8x64x128 .f32) : Vec Ideal S64x8x8x64x128 .f32 :=
  subf (φ := .f32) R (Host.dotGeneral (φ₁ := .f32) (φ₂ := .f32) (F := Ideal) dot_S64x8x8x64x64_S64x8x8x64x128_S64x8x8x64x128_4_3_3_4_012_012 none N X)

theorem roundV_apply (N : Vec Ideal S64x8x8x64x64 .f32) (R X : Vec Ideal S64x8x8x64x256 .f32) (n : Fin 64) (b h : Fin 8) (i : Fin 64) (e : Fin 256) :
    roundV N R X (ix5 n b h i e) = R (ix5 n b h i e) - ∑ c : Fin 64, N (ix5 n b h i c) * X (ix5 n b h c e) := by
  pointwise []
theorem roundK_apply (N : Vec Ideal S64x8x8x64x64 .f32) (R X : Vec Ideal S64x8x8x64x128 .f32) (n : Fin 64) (b h : Fin 8) (i : Fin 64) (e : Fin 128) :
    roundK N R X (ix5 n b h i e) = R (ix5 n b h i e) - ∑ c : Fin 64, N (ix5 n b h i c) * X (ix5 n b h c e) := by
  pointwise []

/-- One round of real numbers, in the extended reals. -/
theorem round_coe {w : ℕ} (N : M) (R X : Matrix (Fin 64) (Fin w) ℝ) (i : Fin 64) (e : Fin w) :
    (R i e : EReal) - ∑ c : Fin 64, (N i c : EReal) * (X c e : EReal) = (round N R X i e : ℝ) := by
  have h : round N R X i e = R i e - ∑ c, N i c * X c e := by
    show (R - N * X) i e = _
    rw [Matrix.sub_apply, Matrix.mul_apply]
  rw [h, EReal.coe_sub, coe_sum]
  simp only [EReal.coe_mul]

/-- Some rounds. -/
def rounds {w : ℕ} (N : M) (R : Matrix (Fin 64) (Fin w) ℝ) : ℕ → Matrix (Fin 64) (Fin w) ℝ
  | 0 => 0
  | k + 1 => round N R (rounds N R k)

theorem rounds_64 {w : ℕ} {N : M} (h : Strict N) (R : Matrix (Fin 64) (Fin w) ℝ) : rounds N R 64 = inv N * R := by
  rw [← round_64 h R]
  have e : ∀ k, rounds N R k = (round N R)^[k] 0 := by
    intro k
    induction k with
    | zero => rfl
    | succ k ih => rw [Function.iterate_succ_apply', ← ih]; rfl
  exact e 64

section Rounds

variable (N : Fin 64 → Fin 8 → Fin 8 → M) (NV : Vec Ideal S64x8x8x64x64 .f32) (hN : ∀ n b h i j, NV (ix5 n b h i j) = (N n b h i j : EReal))

include hN

theorem stepV (R : Fin 64 → Fin 8 → Fin 8 → Matrix (Fin 64) (Fin 256) ℝ) (RV : Vec Ideal S64x8x8x64x256 .f32)
    (hR : ∀ n b h i e, RV (ix5 n b h i e) = (R n b h i e : EReal)) (k : ℕ) (XV : Vec Ideal S64x8x8x64x256 .f32)
    (hX : ∀ n b h i e, XV (ix5 n b h i e) = (rounds (N n b h) (R n b h) k i e : EReal)) :
    ∀ n b h i e, roundV NV RV XV (ix5 n b h i e) = (rounds (N n b h) (R n b h) (k + 1) i e : EReal) := by
  intro n b h i e
  rw [roundV_apply, hR]
  simp only [hN, hX]
  exact round_coe _ _ _ _ _

theorem stepKey (R : Fin 64 → Fin 8 → Fin 8 → Matrix (Fin 64) (Fin 128) ℝ) (RV : Vec Ideal S64x8x8x64x128 .f32)
    (hR : ∀ n b h i e, RV (ix5 n b h i e) = (R n b h i e : EReal)) (k : ℕ) (XV : Vec Ideal S64x8x8x64x128 .f32)
    (hX : ∀ n b h i e, XV (ix5 n b h i e) = (rounds (N n b h) (R n b h) k i e : EReal)) :
    ∀ n b h i e, roundK NV RV XV (ix5 n b h i e) = (rounds (N n b h) (R n b h) (k + 1) i e : EReal) := by
  intro n b h i e
  rw [roundK_apply, hR]
  simp only [hN, hX]
  exact round_coe _ _ _ _ _

end Rounds

end Cert.Proof.Gd

end
-- ==== Proof.Gd.Solve.lean ====
/-
  What the gated delta rule's reference carries into its loop, for keys, values, decays and write strengths that are real numbers: the
  solved systems, the masked scores, the decayed queries and keys and the chunk decays.
-/
module

public import proofs.«01_k».proof.Proof.Gd.Lead

@[expose] public section

set_option maxRecDepth 16384

noncomputable section

namespace Cert.Proof.Gd

open Idealize.ShloMosaic Idealize.ShloMosaic.Tactic Cert.GdnRefIdeal Cert.GdnRefIdeal.Gen Cert.GdnRefIdeal.Step
open scoped BigOperators

variable (x : Vec Ideal S8x4096x6144 .bf16) (y : Vec Ideal S8x4096x128 .f32) (H : ∀ b, AllReal (xs x b) (ys y b))

include H

theorem cum_apply (n : Fin 64) (b h : Fin 8) (i : Fin 64) :
    (A_main_v28 (F := Ideal) x y : Vec Ideal S64x8x8x64 .f32) (ix4 n b h i) = (cum (logs y n b h) i : ℝ) := by
  rw [prefix_apply]
  unfold cum
  rw [coe_sum]
  refine Finset.sum_congr rfl fun u _ => ?_
  by_cases h' : u ≤ i
  · rw [if_pos h', if_pos h', g_apply x y H]
  · rw [if_neg h', if_neg h', EReal.coe_zero]

/-- The decays between a chunk's rows. -/
theorem dec_apply (n : Fin 64) (b h : Fin 8) (i j : Fin 64) :
    (A_main_v36 (F := Ideal) x y : Vec Ideal S64x8x8x64x64 .f32) (ix5 n b h i j) = (dec (logs y n b h) i j : ℝ) := by
  have hi := cum_apply x y H n b h i
  have hj := cum_apply x y H n b h j
  have hm := tril_apply i j
  have e : (A_main_v36 (F := Ideal) x y : Vec Ideal S64x8x8x64x64 .f32) (ix5 n b h i j)
      = Scalar.select ((K_main_v11 (F := Ideal) : Vec Ideal S64x64 .i1) (ix2 i j))
          (Ideal.exp (Scalar.select ((K_main_v11 (F := Ideal) : Vec Ideal S64x64 .i1) (ix2 i j))
            ((A_main_v28 (F := Ideal) x y : Vec Ideal S64x8x8x64 .f32) (ix4 n b h i) - (A_main_v28 (F := Ideal) x y : Vec Ideal S64x8x8x64 .f32) (ix4 n b h j))
            ((id (constant (F := Ideal) S_ .f32 0#32) : Vec Ideal S_ .f32) ix0)))
          ((id (constant (F := Ideal) S_ .f32 0#32) : Vec Ideal S_ .f32) ix0) := by
    unfold A_main_v36 A_main_v35 A_main_v34 A_main_v33 A_main_v32 A_main_v31 A_main_v30 A_main_v29
    generalize A_main_v28 (F := Ideal) x y = c
    unfold K_main_call4_v1 K_main_call3_v1
    generalize K_main_v11 (F := Ideal) = w
    pointwise [K_main_call4_v2, K_main_call4_v0, K_main_cst_1, K_main_call3_v2, K_main_call3_v0, K_main_cst]
  rw [e, hm, hi, hj, zero_apply, Sb.Ref.select_mask, Sb.Ref.select_mask]
  unfold dec
  by_cases h' : j ≤ i
  · rw [if_pos h', if_pos h', if_pos h', ← EReal.coe_sub]
    rfl
  · rw [if_neg h', if_neg h', EReal.coe_zero]

theorem kb_apply (n : Fin 64) (b h : Fin 8) (r : Fin 64) (d : Fin 128) :
    (A_main_v39 (F := Ideal) x y : Vec Ideal S64x8x8x64x128 .f32) (ix5 n b h r d) = (keys x n b h r d * strs y n b h r : ℝ) := by
  rw [EReal.coe_mul, ← k_apply x y H, ← b_apply x y H]
  unfold A_main_v39 A_main_v38 A_main_v37
  generalize A_main_v17 (F := Ideal) x y = k
  generalize A_main_v23 (F := Ideal) x y = c
  pointwise []

/-- The triangular system's matrix. -/
theorem low_apply (n : Fin 64) (b h : Fin 8) (i j : Fin 64) :
    (A_main_v42 (F := Ideal) x y : Vec Ideal S64x8x8x64x64 .f32) (ix5 n b h i j) = (low (keys x n b h) (strs y n b h) (logs y n b h) i j : ℝ) := by
  have hm := strict_apply i j
  have e : (A_main_v42 (F := Ideal) x y : Vec Ideal S64x8x8x64x64 .f32) (ix5 n b h i j)
      = Scalar.select ((K_main_v13 (F := Ideal) : Vec Ideal S64x64 .i1) (ix2 i j))
          ((∑ d : Fin 128, (A_main_v39 (F := Ideal) x y : Vec Ideal S64x8x8x64x128 .f32) (ix5 n b h i d) * (A_main_v17 (F := Ideal) x y : Vec Ideal S64x8x8x64x128 .f32) (ix5 n b h j d))
            * (A_main_v36 (F := Ideal) x y : Vec Ideal S64x8x8x64x64 .f32) (ix5 n b h i j))
          ((id (constant (F := Ideal) S_ .f32 0#32) : Vec Ideal S_ .f32) ix0) := by
    unfold A_main_v42 A_main_v41 A_main_v40
    generalize A_main_v36 (F := Ideal) x y = c
    generalize A_main_v39 (F := Ideal) x y = k
    generalize A_main_v17 (F := Ideal) x y = l
    unfold K_main_call5_v1
    generalize K_main_v13 (F := Ideal) = w
    pointwise [K_main_call5_v2, K_main_call5_v0, K_main_cst_2]
  rw [e, hm, zero_apply, Sb.Ref.select_mask, dec_apply x y H]
  simp only [kb_apply x y H, k_apply x y H]
  show _ = ((if j < i then (∑ d, keys x n b h i d * strs y n b h i * keys x n b h j d) * dec (logs y n b h) i j else 0 : ℝ) : EReal)
  by_cases h' : j < i
  · rw [if_pos h', if_pos h', EReal.coe_mul, coe_sum]
    simp only [EReal.coe_mul]
  · rw [if_neg h', if_neg h', EReal.coe_zero]

theorem vb_apply (n : Fin 64) (b h : Fin 8) (r : Fin 64) (e : Fin 256) :
    (A_main_v45 (F := Ideal) x y : Vec Ideal S64x8x8x64x256 .f32) (ix5 n b h r e) = (vals x n b h r e * strs y n b h r : ℝ) := by
  rw [EReal.coe_mul, ← v_apply x y H, ← b_apply x y H]
  unfold A_main_v45 A_main_v44 A_main_v43
  generalize A_main_v19 (F := Ideal) x y = k
  generalize A_main_v23 (F := Ideal) x y = c
  pointwise []

theorem kg_apply (n : Fin 64) (b h : Fin 8) (r : Fin 64) (d : Fin 128) :
    (A_main_v49 (F := Ideal) x y : Vec Ideal S64x8x8x64x128 .f32) (ix5 n b h r d)
      = (keys x n b h r d * strs y n b h r * Real.exp (cum (logs y n b h) r) : ℝ) := by
  have e : (A_main_v49 (F := Ideal) x y : Vec Ideal S64x8x8x64x128 .f32) (ix5 n b h r d)
      = (A_main_v39 (F := Ideal) x y : Vec Ideal S64x8x8x64x128 .f32) (ix5 n b h r d) * Ideal.exp ((A_main_v28 (F := Ideal) x y : Vec Ideal S64x8x8x64 .f32) (ix4 n b h r)) := by
    unfold A_main_v49 A_main_v48 A_main_v47 A_main_v46
    generalize A_main_v39 (F := Ideal) x y = k
    generalize A_main_v28 (F := Ideal) x y = c
    pointwise []
  rw [e, kb_apply x y H, cum_apply x y H, EReal.coe_mul]
  rfl

/-- The masked scores. -/
theorem attn_apply (n : Fin 64) (b h : Fin 8) (i j : Fin 64) :
    (A_main_v52 (F := Ideal) x y : Vec Ideal S64x8x8x64x64 .f32) (ix5 n b h i j)
      = if j ≤ i then (∑ d, slab (xs x b) (h.val * 128) 128 n.val i d * (keys x n b h j d : EReal)) * (dec (logs y n b h) i j : EReal) else 0 := by
  have hm := tril_apply i j
  have e : (A_main_v52 (F := Ideal) x y : Vec Ideal S64x8x8x64x64 .f32) (ix5 n b h i j)
      = Scalar.select ((K_main_v11 (F := Ideal) : Vec Ideal S64x64 .i1) (ix2 i j))
          ((∑ d : Fin 128, (A_main_v15 (F := Ideal) x y : Vec Ideal S64x8x8x64x128 .f32) (ix5 n b h i d) * (A_main_v17 (F := Ideal) x y : Vec Ideal S64x8x8x64x128 .f32) (ix5 n b h j d))
            * (A_main_v36 (F := Ideal) x y : Vec Ideal S64x8x8x64x64 .f32) (ix5 n b h i j))
          ((id (constant (F := Ideal) S_ .f32 0#32) : Vec Ideal S_ .f32) ix0) := by
    unfold A_main_v52 A_main_v51 A_main_v50
    generalize A_main_v36 (F := Ideal) x y = c
    generalize A_main_v15 (F := Ideal) x y = k
    generalize A_main_v17 (F := Ideal) x y = l
    unfold K_main_call6_v1
    generalize K_main_v11 (F := Ideal) = w
    pointwise [K_main_call6_v2, K_main_call6_v0, K_main_cst_3]
  rw [e, hm, zero_apply, Sb.Ref.select_mask, dec_apply x y H]
  simp only [q_apply, k_apply x y H]

theorem qg_apply (n : Fin 64) (b h : Fin 8) (r : Fin 64) (d : Fin 128) :
    (A_main_v56 (F := Ideal) x y : Vec Ideal S64x8x8x64x128 .f32) (ix5 n b h r d)
      = slab (xs x b) (h.val * 128) 128 n.val r d * (Real.exp (cum (logs y n b h) r) : EReal) := by
  have e : (A_main_v56 (F := Ideal) x y : Vec Ideal S64x8x8x64x128 .f32) (ix5 n b h r d)
      = (A_main_v15 (F := Ideal) x y : Vec Ideal S64x8x8x64x128 .f32) (ix5 n b h r d) * Ideal.exp ((A_main_v28 (F := Ideal) x y : Vec Ideal S64x8x8x64 .f32) (ix4 n b h r)) := by
    unfold A_main_v56 A_main_v55 A_main_v54 A_main_v53
    generalize A_main_v15 (F := Ideal) x y = k
    generalize A_main_v28 (F := Ideal) x y = c
    pointwise []
  rw [e, q_apply, cum_apply x y H]
  rfl

theorem chunkDecay_apply (n : Fin 64) (b h : Fin 8) :
    (A_main_v57 (F := Ideal) x y : Vec Ideal S64x8x8x1 .f32) (ix4 n b h 0) = (cum (logs y n b h) 63 : ℝ) := by
  rw [← cum_apply x y H]
  unfold A_main_v57
  generalize A_main_v28 (F := Ideal) x y = c
  pointwise []

theorem kd_apply (n : Fin 64) (b h : Fin 8) (r : Fin 64) (d : Fin 128) :
    (A_main_v63 (F := Ideal) x y : Vec Ideal S64x8x8x64x128 .f32) (ix5 n b h r d)
      = (keys x n b h r d : EReal) * (Real.exp (cum (logs y n b h) 63 - cum (logs y n b h) r) : EReal) := by
  have e : (A_main_v63 (F := Ideal) x y : Vec Ideal S64x8x8x64x128 .f32) (ix5 n b h r d)
      = (A_main_v17 (F := Ideal) x y : Vec Ideal S64x8x8x64x128 .f32) (ix5 n b h r d)
        * Ideal.exp ((A_main_v57 (F := Ideal) x y : Vec Ideal S64x8x8x1 .f32) (ix4 n b h 0) - (A_main_v28 (F := Ideal) x y : Vec Ideal S64x8x8x64 .f32) (ix4 n b h r)) := by
    unfold A_main_v63 A_main_v62 A_main_v61 A_main_v60 A_main_v59 A_main_v58
    generalize A_main_v17 (F := Ideal) x y = k
    generalize A_main_v57 (F := Ideal) x y = l
    generalize A_main_v28 (F := Ideal) x y = c
    pointwise []
  rw [e, k_apply x y H, chunkDecay_apply x y H, cum_apply x y H, ← EReal.coe_sub]
  rfl

/-- The systems solved for the scaled values. -/
theorem solved_values (n : Fin 64) (b h : Fin 8) (i : Fin 64) (e : Fin 256) :
    (A_main_v192 (F := Ideal) x y : Vec Ideal S64x8x8x64x256 .f32) (ix5 n b h i e)
      = (solV (keys x n b h) (vals x n b h) (strs y n b h) (logs y n b h) i e : ℝ) := by
  have base : ∀ n b h i e, (K_main_v64 (F := Ideal) : Vec Ideal S64x8x8x64x256 .f32) (ix5 n b h i e)
      = (rounds (low (keys x n b h) (strs y n b h) (logs y n b h)) (Matrix.of fun i e => vals x n b h i e * strs y n b h i) 0 i e : ℝ) := by
    intro n b h i e
    refine Eq.trans ?_ EReal.coe_zero.symm
    pointwise [K_main_v64, K_main_cst_4]
  unfold solV
  rw [← rounds_64 (low_strict _ _ _)]
  revert n b h i e
  iterate 64 refine stepV (fun n b h => low (keys x n b h) (strs y n b h) (logs y n b h)) _ (low_apply x y H) (fun n b h => Matrix.of fun i e => vals x n b h i e * strs y n b h i) _ (vb_apply x y H) _ _ ?_
  exact base

/-- The systems solved for the scaled and decayed keys. -/
theorem solved_keys (n : Fin 64) (b h : Fin 8) (i : Fin 64) (d : Fin 128) :
    (A_main_v321 (F := Ideal) x y : Vec Ideal S64x8x8x64x128 .f32) (ix5 n b h i d)
      = (solK (keys x n b h) (strs y n b h) (logs y n b h) i d : ℝ) := by
  have base : ∀ n b h i d, (K_main_v193 (F := Ideal) : Vec Ideal S64x8x8x64x128 .f32) (ix5 n b h i d)
      = (rounds (low (keys x n b h) (strs y n b h) (logs y n b h)) (Matrix.of fun i d => keys x n b h i d * strs y n b h i * Real.exp (cum (logs y n b h) i)) 0 i d : ℝ) := by
    intro n b h i d
    refine Eq.trans ?_ EReal.coe_zero.symm
    pointwise [K_main_v193, K_main_cst_5]
  unfold solK
  rw [← rounds_64 (low_strict _ _ _)]
  revert n b h i d
  iterate 64 refine stepKey (fun n b h => low (keys x n b h) (strs y n b h) (logs y n b h)) _ (low_apply x y H) (fun n b h => Matrix.of fun i d => keys x n b h i d * strs y n b h i * Real.exp (cum (logs y n b h) i)) _ (kg_apply x y H) _ _ ?_
  exact base

end Cert.Proof.Gd

end
-- ==== Proof.Gd.Ref.lean ====
/-
  The gated delta rule's reference, element by element, over the extended reals: the state and the row blocks before every
  trip of its loop, and the result.
-/
module

public import proofs.«01_k».proof.Proof.Gd.Trip
public import proofs.«01_k».proof.Proof.Gd.Solve
public import proofs.«01_k».proof.Proof.Rc.Ref

@[expose] public section

set_option maxRecDepth 16384

noncomputable section

namespace Cert.Proof.Gd

open Idealize.ShloMosaic Idealize.ShloMosaic.Tactic Idealize.ShloMosaic.TcCoe Idealize.ShloMosaic.StableHlo Idealize.SL.Sem Cert.GdnRefIdeal Cert.GdnRefIdeal.Gen Cert.GdnRefIdeal.Value Cert.GdnRefIdeal.Step
open scoped BigOperators

/-- The query decay is a real number at least zero, so it leaves the sum over the state's rows. -/
theorem query_sum (a : ℝ) (q S : Fin 128 → EReal) :
    ∑ d, q d * (Real.exp a : EReal) * S d = (Real.exp a : EReal) * ∑ d, q d * S d := by
  rw [← Rc.scale_sum Finset.univ (Real.exp a : EReal) (EReal.coe_nonneg.2 (Real.exp_pos a).le) (EReal.coe_ne_top _)]
  exact Finset.sum_congr rfl fun d _ => by rw [mul_comm (q d), mul_assoc]

variable (x : Vec Ideal S8x4096x6144 .bf16) (y : Vec Ideal S8x4096x128 .f32)

/-- The contents before trip `k`: the counter, the arrays computed before the loop, one state per head, and the row blocks written so far. -/
structure Before (V0 : Valuation τ sig (Elt Ideal)) (k : ℕ) : Prop where
  ctr : V0 (Proc.devRef .tc main_v324_6) = fun _ => BitVec.ofNat 32 k
  du : V0 (Proc.devRef .tc main_v324_0) = A_main_v192 (F := Ideal) x y
  dw : V0 (Proc.devRef .tc main_v324_1) = A_main_v321 (F := Ideal) x y
  dt : V0 (Proc.devRef .tc main_v324_2) = A_main_v52 (F := Ideal) x y
  dq : V0 (Proc.devRef .tc main_v324_3) = A_main_v56 (F := Ideal) x y
  dk : V0 (Proc.devRef .tc main_v324_4) = A_main_v63 (F := Ideal) x y
  dl : V0 (Proc.devRef .tc main_v324_5) = A_main_v57 (F := Ideal) x y
  st : ∀ b h d e, (V0 (Proc.devRef .tc main_v324_7) : Vec Ideal S8x8x128x256 .f32) (ix4 b h d e) = state (xs x b) (ys y b) h k d e
  rows : ∀ n b h r e, n.val < k → (V0 (Proc.devRef .tc main_v324_8) : Vec Ideal S64x8x8x64x256 .f32) (ix5 n b h r e) = readAt (xs x b) (ys y b) h n.val r e

section

variable (H : ∀ b, AllReal (xs x b) (ys y b))

include H

/-- The values a trip's rows write. -/
theorem fresh_apply (V0 : Valuation τ sig (Elt Ideal)) (k : ℕ) (hk : k < 64) (B : Before x y V0 k) (b h : Fin 8) (r : Fin 64) (e : Fin 256) :
    (res_main_while0b_v353 V0 : Vec Ideal S8x8x64x256 .f32) (ix4 b h r e)
      = fresh (keys x ⟨k, hk⟩ b h) (vals x ⟨k, hk⟩ b h) (strs y ⟨k, hk⟩ b h) (logs y ⟨k, hk⟩ b h) (state (xs x b) (ys y b) h k) r e := by
  refine (trip_fresh V0 ⟨k, hk⟩ _ _ _ B.ctr B.du B.dw rfl b h r e).trans ?_
  unfold fresh
  refine congrArg₂ (· - ·) (solved_values x y H _ b h r e) (Finset.sum_congr rfl fun d _ => ?_)
  exact congrArg₂ (· * ·) (solved_keys x y H _ b h r d) (B.st b h d e)

/-- A trip carries it on. -/
theorem before_step (V0 : Valuation τ sig (Elt Ideal)) (k : ℕ) (hk : k < 64) (B : Before x y V0 k) : Before x y (STEP V0) (k + 1) where
  ctr := by
    refine (STEP_main_v324_6 V0).trans ?_
    unfold step_main_v324_6
    rw [B.ctr]
    funext i
    show BitVec.ofNat 32 k + 1#32 = BitVec.ofNat 32 (k + 1)
    simp only [BitVec.ofNat_add]
  du := (STEP_main_v324_0 V0).trans B.du
  dw := (STEP_main_v324_1 V0).trans B.dw
  dt := (STEP_main_v324_2 V0).trans B.dt
  dq := (STEP_main_v324_3 V0).trans B.dq
  dk := (STEP_main_v324_4 V0).trans B.dk
  dl := (STEP_main_v324_5 V0).trans B.dl
  st := by
    intro b h d e
    refine (congrFun (STEP_main_v324_7 V0) _).trans ?_
    refine (trip_state V0 ⟨k, hk⟩ _ _ _ B.ctr B.dk B.dl rfl _ rfl b h d e).trans ?_
    show _ = next (keys x ⟨k, hk⟩ b h) (vals x ⟨k, hk⟩ b h) (strs y ⟨k, hk⟩ b h) (logs y ⟨k, hk⟩ b h) (state (xs x b) (ys y b) h k) d e
    unfold next
    refine congrArg₂ (· + ·) (congrArg₂ (· * ·) (B.st b h d e) ((congrArg Ideal.exp (chunkDecay_apply x y H ⟨k, hk⟩ b h)).trans rfl)) (Finset.sum_congr rfl fun r _ => ?_)
    exact congrArg₂ (· * ·) (kd_apply x y H ⟨k, hk⟩ b h r d) (fresh_apply x y H V0 k hk B b h r e)
  rows := by
    intro n b h r e hn
    refine (congrFun (STEP_main_v324_8 V0) _).trans ?_
    refine (trip_rows V0 ⟨k, hk⟩ _ _ _ _ B.ctr B.dq B.dt rfl rfl _ rfl n b h r e).trans ?_
    by_cases hnk : n = ⟨k, hk⟩
    · rw [if_pos hnk]
      subst hnk
      show _ = read (keys x ⟨k, hk⟩ b h) (vals x ⟨k, hk⟩ b h) (strs y ⟨k, hk⟩ b h) (logs y ⟨k, hk⟩ b h) (state (xs x b) (ys y b) h k) (slab (xs x b) (h.val * 128) 128 k) r e
      unfold read
      refine congrArg₂ (· + ·) (Eq.trans (Finset.sum_congr rfl fun d _ => ?_) (query_sum (cum (logs y ⟨k, hk⟩ b h) r) (slab (xs x b) (h.val * 128) 128 k r) (fun d => state (xs x b) (ys y b) h k d e)))
        (Finset.sum_congr rfl fun c _ => ?_)
      · exact congrArg₂ (· * ·) (qg_apply x y H ⟨k, hk⟩ b h r d) (B.st b h d e)
      · exact congrArg₂ (· * ·) (attn_apply x y H ⟨k, hk⟩ b h r c) (fresh_apply x y H V0 k hk B b h c e)
    · rw [if_neg hnk]
      exact B.rows n b h r e (by have : n.val ≠ k := fun h' => hnk (Fin.ext h'); omega)

end

/-- The reference's result at an index, of the row blocks. -/
theorem out_apply (V0 : Valuation τ sig (Elt Ideal)) (g : Vec Ideal S256 .f32) (O : Vec Ideal S64x8x8x64x256 .f32)
    (hx : V0 (Proc.devRef .tc main_arg0) = x) (hg : V0 (Proc.devRef .tc main_arg2) = g) (hO : V0 (Proc.devRef .tc main_v324_8) = O)
    (b : Fin 8) (s : Fin 4096) (k : Fin 2048) :
    (out_main_v345 V0 : Vec Ideal S8x4096x2048 .bf16) (ix3 b s k)
      = unit (fun e => O (ix5 (⟨s.val / 64, by omega⟩ : Fin 64) b (⟨k.val / 256, by omega⟩ : Fin 8) (⟨s.val % 64, by omega⟩ : Fin 64) e)) (fun e => g (ix1 e)) ⟨k.val % 256, by omega⟩
        * (x (ix3 b s ⟨4096 + k.val, by omega⟩) * Ideal.logistic (x (ix3 b s ⟨4096 + k.val, by omega⟩))) := by
  unfold out_main_v345 unit
  rw [hx, hg, hO]
  pointwise []
  rfl

end Cert.Proof.Gd

end
-- ==== Proof.Gd.Entry.lean ====
/-
  The gated delta rule's reference before its first trip.
-/
module

public import proofs.«01_k».proof.Proof.Gd.Ref

@[expose] public section

set_option maxRecDepth 65536

noncomputable section

namespace Cert.Proof.Gd

open Idealize.ShloMosaic Idealize.ShloMosaic.Tactic Idealize.ShloMosaic.TcCoe Idealize.ShloMosaic.StableHlo Idealize.SL.Sem Cert.GdnRefIdeal Cert.GdnRefIdeal.Gen Cert.GdnRefIdeal.Value Cert.GdnRefIdeal.Step

variable (m : (ℓ : Loc nD τ sig) → Buf (Elt Ideal) ℓ) (c : Dev nD)

set_option maxHeartbeats 1000000 in
theorem entry_l : entryContents preI m c (Proc.devRef .tc main_v324_5) = A_main_v57 (F := Ideal) (m ((c.tc : Thread nD τ).loc main_arg0)) (m ((c.tc : Thread nD τ).loc main_arg1)) := by
  simp only [entryContents, afterL_cons, afterL_nil]; after_reads_simp; rfl

set_option maxHeartbeats 1000000 in
theorem entry_t : entryContents preI m c (Proc.devRef .tc main_v324_2) = A_main_v52 (F := Ideal) (m ((c.tc : Thread nD τ).loc main_arg0)) (m ((c.tc : Thread nD τ).loc main_arg1)) := by
  simp only [entryContents, afterL_cons, afterL_nil]; after_reads_simp; rfl

set_option maxHeartbeats 1000000 in
theorem entry_q : entryContents preI m c (Proc.devRef .tc main_v324_3) = A_main_v56 (F := Ideal) (m ((c.tc : Thread nD τ).loc main_arg0)) (m ((c.tc : Thread nD τ).loc main_arg1)) := by
  simp only [entryContents, afterL_cons, afterL_nil]; after_reads_simp; rfl

set_option maxHeartbeats 1000000 in
theorem entry_k : entryContents preI m c (Proc.devRef .tc main_v324_4) = A_main_v63 (F := Ideal) (m ((c.tc : Thread nD τ).loc main_arg0)) (m ((c.tc : Thread nD τ).loc main_arg1)) := by
  simp only [entryContents, afterL_cons, afterL_nil]; after_reads_simp; rfl

/-- The contents before the last stretch ahead of the loop. -/
def lead (c : Dev nD) : Valuation τ sig (Elt Ideal) := entryContents (preI.take 14) m c

/-- The contents before the strictly lower part is taken. -/
def mid (c : Dev nD) : Valuation τ sig (Elt Ideal) := entryContents (preI.take 11) m c

/-- The contents before the strict mask is built. -/
def early (c : Dev nD) : Valuation τ sig (Elt Ideal) := entryContents (preI.take 3) m c

set_option maxHeartbeats 1000000 in
theorem mid_41 : mid m c (Proc.devRef .tc main_v41) = A_main_v41 (F := Ideal) (m ((c.tc : Thread nD τ).loc main_arg0)) (m ((c.tc : Thread nD τ).loc main_arg1)) := by
  unfold mid
  simp only [entryContents, List.take, afterL_cons, afterL_nil]; after_reads_simp; rfl

/-- The strict mask's operations leave the strict mask (the diagonal's offset read as a variable). -/
theorem strict_of (V : Valuation τ sig (Elt Ideal)) (z : BitVec 32) (hz : 4294967295#32 = z) (h : V (Proc.devRef .tc main_v12) = K_main_v12 (F := Ideal)) :
    after hostOps0_3 V (Proc.devRef .tc main_v13) = K_main_v13 (F := Ideal) := by
  after_reads_simp
  rw [h]
  unfold K_main_v13 K_main_call1_v4 K_main_call1_v2 K_main_call1_v1 K_main_call1_c
  rw [hz]
  rfl

theorem early_12 : early m c (Proc.devRef .tc main_v12) = K_main_v12 (F := Ideal) := by
  unfold early
  simp only [entryContents, List.take, afterL_cons, afterL_nil]; after_reads_simp; rfl

theorem mid_eq (r : DevRef τ sig) : mid m c r = after hostOps0_10 (after hostOps0_9 (after hostOps0_8 (after hostOps0_7 (after hostOps0_6 (after hostOps0_5 (after hostOps0_4 (after hostOps0_3 (early m c)))))))) r := by
  unfold mid early
  simp only [entryContents, List.take, afterL_cons, afterL_nil]

theorem mid_13 : mid m c (Proc.devRef .tc main_v13) = K_main_v13 (F := Ideal) := by
  rw [mid_eq]
  have h := strict_of (early m c) _ rfl (early_12 m c)
  generalize after hostOps0_3 (early m c) = V at h ⊢
  after_reads_simp
  exact h

theorem lead_eq (r : DevRef τ sig) : lead m c r = after hostOps0_13 (after hostOps0_12 (after hostOps0_11 (mid m c))) r := by
  unfold lead mid
  simp only [entryContents, List.take, afterL_cons, afterL_nil]

/-- The part below the diagonal, with the mask and the masked array read as variables. -/
theorem low_of (V : Valuation τ sig (Elt Ideal)) (M : Vec Ideal S64x64 .i1) (W : Vec Ideal S64x8x8x64x64 .f32)
    (hM : V (Proc.devRef .tc main_v13) = M) (hW : V (Proc.devRef .tc main_v41) = W) (hz : V (Proc.devRef .tc main_cst_2) = K_main_cst_2 (F := Ideal)) :
    after hostOps0_13 (after hostOps0_12 (after hostOps0_11 V)) (Proc.devRef .tc main_v42)
      = select (broadcastInDim S64x8x8x64x64 ![3, 4] bcast_S64x64_S64x8x8x64x64_3_4 M) W (K_main_call5_v2 (F := Ideal)) := by
  after_reads_simp
  rw [hM, hW, hz]
  rfl

theorem mid_cst : mid m c (Proc.devRef .tc main_cst_2) = K_main_cst_2 (F := Ideal) := by
  rw [mid_eq]
  generalize after hostOps0_3 (early m c) = V
  after_reads_simp
  rfl

theorem lead_42 : lead m c (Proc.devRef .tc main_v42) = A_main_v42 (F := Ideal) (m ((c.tc : Thread nD τ).loc main_arg0)) (m ((c.tc : Thread nD τ).loc main_arg1)) := by
  rw [lead_eq]
  refine (low_of _ _ _ (mid_13 m c) (mid_41 m c) (mid_cst m c)).trans ?_
  unfold A_main_v42 K_main_call5_v1
  rfl

set_option maxHeartbeats 1000000 in
theorem lead_45 : lead m c (Proc.devRef .tc main_v45) = A_main_v45 (F := Ideal) (m ((c.tc : Thread nD τ).loc main_arg0)) (m ((c.tc : Thread nD τ).loc main_arg1)) := by
  unfold lead
  simp only [entryContents, List.take, afterL_cons, afterL_nil]; after_reads_simp; rfl

set_option maxHeartbeats 1000000 in
theorem lead_49 : lead m c (Proc.devRef .tc main_v49) = A_main_v49 (F := Ideal) (m ((c.tc : Thread nD τ).loc main_arg0)) (m ((c.tc : Thread nD τ).loc main_arg1)) := by
  unfold lead
  simp only [entryContents, List.take, afterL_cons, afterL_nil]; after_reads_simp; rfl

theorem entry_lead (r : DevRef τ sig) : entryContents preI m c r = after hostOps0_14 (lead m c) r := by
  unfold lead
  simp only [entryContents, List.take, afterL_cons, afterL_nil]

set_option maxHeartbeats 4000000 in
theorem entry_u : entryContents preI m c (Proc.devRef .tc main_v324_0) = A_main_v192 (F := Ideal) (m ((c.tc : Thread nD τ).loc main_arg0)) (m ((c.tc : Thread nD τ).loc main_arg1)) := by
  rw [entry_lead]
  have hN := lead_42 m c
  have hR := lead_45 m c
  generalize lead m c = V1 at hN hR ⊢
  after_reads_simp
  rw [hN, hR]
  rfl

set_option maxHeartbeats 4000000 in
theorem entry_w : entryContents preI m c (Proc.devRef .tc main_v324_1) = A_main_v321 (F := Ideal) (m ((c.tc : Thread nD τ).loc main_arg0)) (m ((c.tc : Thread nD τ).loc main_arg1)) := by
  rw [entry_lead]
  have hN := lead_42 m c
  have hR := lead_49 m c
  generalize lead m c = V1 at hN hR ⊢
  after_reads_simp
  rw [hN, hR]
  rfl

set_option maxHeartbeats 1000000 in
theorem entry_s : entryContents preI m c (Proc.devRef .tc main_v324_7) = K_main_v322 (F := Ideal) := by
  rw [entry_lead]
  generalize lead m c = V1
  after_reads_simp
  rfl

/-- What holds before the first trip. -/
theorem before_entry : Before (m ((c.tc : Thread nD τ).loc main_arg0)) (m ((c.tc : Thread nD τ).loc main_arg1)) (entryContents preI m c) 0 where
  ctr := ctr_entry m c
  du := entry_u m c
  dw := entry_w m c
  dt := entry_t m c
  dq := entry_q m c
  dk := entry_k m c
  dl := entry_l m c
  st := by
    intro b h d e
    refine (congrFun (entry_s m c) _).trans ?_
    show _ = (0 : EReal)
    pointwise [K_main_v322, K_main_cst_6]
  rows := fun n _ _ _ _ hn => absurd hn (Nat.not_lt_zero _)

/-- Every trip's contents. -/
theorem before_iter (H : ∀ b, AllReal (xs (m ((c.tc : Thread nD τ).loc main_arg0)) b) (ys (m ((c.tc : Thread nD τ).loc main_arg1)) b)) : ∀ k, k ≤ 64 → Before (m ((c.tc : Thread nD τ).loc main_arg0)) (m ((c.tc : Thread nD τ).loc main_arg1)) (STEP^[k] (entryContents preI m c)) k
  | 0, _ => before_entry m c
  | k + 1, h => by
    rw [Function.iterate_succ_apply']
    exact before_step _ _ H _ k (by omega) (before_iter H k (by omega))

end Cert.Proof.Gd

end
-- ==== Proof.Gd.Claim.lean ====
/-
  The gated delta rule's claims: where the keys, the values, the log decays and the write strengths are finite, the two
  arrays are equal, element by element, over the extended reals.
-/
module

public import proofs.«01_k».proof.Defs
public import proofs.«01_k».proof.Proof.Gd.Entry
public import Idealize.ShloMosaic.Lib.Quiescent

@[expose] public section

set_option maxRecDepth 16384

noncomputable section

namespace Cert.Proof.Gd

open Idealize.ShloMosaic Idealize.ShloMosaic.TcCoe Idealize.ShloMosaic.StableHlo Idealize.SL.Sem Cert.GdnRefIdeal Cert.GdnRefIdeal.Gen Cert.GdnRefIdeal.Value
open scoped BigOperators

/-- The shape relations the precondition states. -/
theorem preFacts : Cert.Pre_kvg_finite.Facts where
  slices_S8x4096x6144_S8x4096x3072_0_0_1024 := by decide
  bitsLt_bf16_f32 := by decide
  bcast_S_S8x4096x3072 := by decide
  slices_S8x4096x128_S8x4096x16_0_0_0 := by decide
  bcast_S_S8x4096x16 := by decide
  concatenates_S8x4096x3072_S8x4096x16_S8x4096x3088_d2 := by decide

/-- A number whose larger of itself and its negation passes the test for less than infinity is real. -/
theorem real_of_lt (y : EReal) (e : BitVec.ofBool (decide (max y (-y) < (⊤ : EReal))) = 1#1) : IsReal y := by
  have hlt : max y (-y) < ⊤ := by
    by_contra hn
    rw [decide_eq_false hn] at e
    exact absurd e (by decide)
  obtain ⟨h1, h2⟩ := max_lt_iff.1 hlt
  have h3 : y ≠ ⊥ := fun hb => by rw [hb] at h2; exact absurd h2 (by simp)
  exact (EReal.coe_toReal h1.ne h3).symm

/-- The infinity the precondition compares with. -/
theorem bits_top : Ideal.ofBits .f32 2139095040#32 = (⊤ : EReal) := by simp [Ideal.ofBits, Ideal.ieee]

/-- The precondition: the keys, the values, the log decays and the write strengths are real numbers. -/
theorem real_of_pre (x : Vec Ideal S8x4096x6144 .bf16) (y : Vec Ideal S8x4096x128 .f32) (g : Vec Ideal S256 .f32)
    (h : (haveI := preFacts; Cert.Pre_kvg_finite.fn (F := Ideal) x y g) = fun _ => 1#1) (b : Fin 8) : AllReal (xs x b) (ys y b) where
  kv := fun s k h1 h2 => by
    have e := congrFun h (ix3 b s ⟨k.val - 1024, by omega⟩)
    unfold Cert.Pre_kvg_finite.fn at e
    pointwise [] at e
    have hk : k.val - 1024 < 3072 := by omega
    simp only [hk, if_true, dif_pos] at e
    rw [bits_top] at e
    have hk2 : (⟨1024 + (k.val - 1024), by omega⟩ : Fin 6144) = k := Fin.ext (by dsimp only; omega)
    rw [hk2] at e
    exact real_of_lt _ e
  bg := fun s l hl => by
    have e := congrFun h (ix3 b s ⟨3072 + l.val, by omega⟩)
    unfold Cert.Pre_kvg_finite.fn at e
    pointwise [] at e
    rw [bits_top] at e
    exact real_of_lt _ e

/-- The reference runs, leaves its arguments unchanged, and (it has no semaphores) every counter at zero. -/
theorem ref_frame : Cert.quiescent_GdnRefIdeal (hGdnRefIdeal := Cert.GdnRefIdeal.Gen.facts) := fun m ρ _ =>
  (θ_run _ _ _).mono (fun r h => ⟨fun c => (h c).2, sem_eq_zero_of_no_sems (by decide) r.2⟩)
    (Cert.GdnRefIdeal.Value.run (F := Ideal) m ρ)

/-- The same for the inputs the precondition admits. -/
theorem ref_frame_pre : Cert.quiescent_GdnRefIdeal_pre_kvg_finite (hGdnRefIdeal := Cert.GdnRefIdeal.Gen.facts) (hPre_kvg_finite := preFacts) := fun m ρ _ =>
  (θ_run _ _ _).mono (fun r h => ⟨fun c => (h c).2, sem_eq_zero_of_no_sems (by decide) r.2⟩)
    (Cert.GdnRefIdeal.Value.run (F := Ideal) m ρ)

/-- The kernel runs and, where its numbers are real, leaves the stated array, its arguments unchanged. -/
theorem run (m : (ℓ : Loc Cert.GdnIdeal.nD Cert.GdnIdeal.τ Cert.GdnIdeal.sig) → Buf (Elt Ideal) ℓ) (ρ : Dev Cert.GdnIdeal.nD → PrngReg)
    (H : ∀ c b, AllReal (X m c b) (Y m c b)) :
    θ_run (Cert.GdnIdeal.defs (F := Ideal)) (onTc (τ := Cert.GdnIdeal.τ) (Cert.GdnIdeal.main (F := Ideal))) ⟨m, fun _ => 0, ρ⟩ (fun r => ∀ c : Dev Cert.GdnIdeal.nD,
      r.2.mem ((c : Thread Cert.GdnIdeal.nD Cert.GdnIdeal.τ).loc Cert.GdnIdeal.main_v1) = out m c
      ∧ r.2.mem ((c : Thread Cert.GdnIdeal.nD Cert.GdnIdeal.τ).loc Cert.GdnIdeal.main_arg0) = m ((c : Thread Cert.GdnIdeal.nD Cert.GdnIdeal.τ).loc Cert.GdnIdeal.main_arg0)
      ∧ r.2.mem ((c : Thread Cert.GdnIdeal.nD Cert.GdnIdeal.τ).loc Cert.GdnIdeal.main_arg1) = m ((c : Thread Cert.GdnIdeal.nD Cert.GdnIdeal.τ).loc Cert.GdnIdeal.main_arg1)
      ∧ r.2.mem ((c : Thread Cert.GdnIdeal.nD Cert.GdnIdeal.τ).loc Cert.GdnIdeal.main_arg2) = m ((c : Thread Cert.GdnIdeal.nD Cert.GdnIdeal.τ).loc Cert.GdnIdeal.main_arg2)) :=
  (θ_run _ _ _).mono (fun _ h c => ⟨(h c).1.trans (final m c (H c)), (h c).2⟩) (Cert.GdnIdeal.Value.run_blocks (F := Ideal) m ρ)

/-- The reference's array, of the arguments. -/
theorem ref_apply (m : (ℓ : Loc nD τ sig) → Buf (Elt Ideal) ℓ) (c : Dev nD)
    (H : ∀ b, AllReal (xs (m ((c : Thread nD τ).loc main_arg0) : Vec Ideal S8x4096x6144 .bf16) b) (ys (m ((c : Thread nD τ).loc main_arg1) : Vec Ideal S8x4096x128 .f32) b)) (b : Fin 8) (s : Fin 4096) (k : Fin 2048) :
    (out_main_v345 (STEP^[64] (entryContents preI m c)) : Vec Ideal S8x4096x2048 .bf16) (ix3 b s k)
      = res (xs (m ((c : Thread nD τ).loc main_arg0) : Vec Ideal S8x4096x6144 .bf16) b) (ys (m ((c : Thread nD τ).loc main_arg1) : Vec Ideal S8x4096x128 .f32) b) (fun e => (m ((c : Thread nD τ).loc main_arg2) : Vec Ideal S256 .f32) (ix1 e))
          ⟨k.val / 256, by omega⟩ (s.val / 64) ⟨s.val % 64, Nat.mod_lt _ (by decide)⟩ ⟨k.val % 256, Nat.mod_lt _ (by decide)⟩ := by
  have B := before_iter m c H 64 le_rfl
  refine (out_apply _ _ _ _ (iter_main_arg0 m c 64) (iter_main_arg2 m c 64) rfl b s k).trans ?_
  have hs := s.isLt
  have hk := k.isLt
  have hg : slab (xs (m ((c : Thread nD τ).loc main_arg0) : Vec Ideal S8x4096x6144 .bf16) b) ((16 + k.val / 256) * 256) 256 (s.val / 64)
      ⟨s.val % 64, Nat.mod_lt _ (by decide)⟩ ⟨k.val % 256, Nat.mod_lt _ (by decide)⟩
        = (m ((c : Thread nD τ).loc main_arg0) : Vec Ideal S8x4096x6144 .bf16) (ix3 b s ⟨4096 + k.val, by omega⟩) := by
    unfold slab
    exact congrArg (m ((c : Thread nD τ).loc main_arg0) : Vec Ideal S8x4096x6144 .bf16)
      (congrArg₂ (ix3 b) (Fin.ext (by dsimp only; omega)) (Fin.ext (by dsimp only; omega)))
  unfold res
  rw [hg]
  refine congrArg (fun z => unit z _ _ * _) (funext fun e => ?_)
  exact B.rows ⟨s.val / 64, by omega⟩ b _ _ e (by dsimp only; omega)

/-- The kernel and the reference leave equal arrays. -/
theorem algebraic : Cert.algebraic_GdnIdeal_GdnRefIdeal_pre_kvg_finite (hGdnIdeal := Cert.GdnIdeal.Gen.facts)
    (hGdnRefIdeal := Cert.GdnRefIdeal.Gen.facts) (hPre_kvg_finite := preFacts) := by
  intro m g m' g' hpre hargs
  have H : ∀ c b, AllReal (X m c b) (Y m c b) := fun c b => real_of_pre _ _ _ (hpre c) b
  refine ⟨fun c => out m c, run m g H, ?_⟩
  refine (θ_run _ _ _).mono (fun r h c => ⟨?_, (h c).2⟩) (Cert.GdnRefIdeal.Value.run (F := Ideal) m' g')
  refine (h c).1.trans ?_
  obtain ⟨h0, h1, h2⟩ := hargs c
  funext i
  obtain ⟨b, s, k, rfl⟩ : ∃ (b : Fin 8) (s : Fin 4096) (k : Fin 2048), i = ix3 b s k := ⟨i 0, i 1, i 2, eq_ix3 i⟩
  refine (ref_apply m' c (fun b => by rw [h0, h1]; exact H c b) b s k).trans ?_
  rw [h0, h1, h2]
  rfl

end Cert.Proof.Gd

end
-- ==== Proof.lean ====
/-
  The certificate's claims, assembled: each call's frames are the generated ones
  (the gated delta rule's projection's are proved beside this file), each value claim is proved in the
  call's own module beside this file.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Sb
public import proofs.«01_k».proof.Proof.Gen.Sb.Skeleton
public import proofs.«01_k».proof.Proof.Gen.Sb.Loops
public import proofs.«01_k».proof.Proof.Gen.Sb.Launch
public import proofs.«01_k».proof.Proof.Gen.Sb.Points
public import proofs.«01_k».proof.Proof.Gen.Sb.Frame
public import proofs.«01_k».proof.Proof.Gen.SbIdeal
public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Points
public import proofs.«01_k».proof.Proof.Gen.SbIdeal.Frame
public import proofs.«01_k».proof.Proof.Gen.SbRefIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.SbIdeal.Value
public import proofs.«01_k».proof.Proof.Gen.SbRefIdeal.Run
public import proofs.«01_k».proof.Proof.Gen.SbRefIdeal.Read
public import proofs.«01_k».proof.Proof.Ffn.Claim
public import proofs.«01_k».proof.Proof.Op.Claim
public import proofs.«01_k».proof.Proof.Wide.Claim
public import proofs.«01_k».proof.Proof.Qkv.Claim
public import proofs.«01_k».proof.Proof.Rot.Claim
public import proofs.«01_k».proof.Proof.Sb.Claim
public import proofs.«01_k».proof.Proof.Gp.Claim
public import proofs.«01_k».proof.Proof.Cv.Frame
public import proofs.«01_k».proof.Proof.Gen.Op.Frame
public import proofs.«01_k».proof.Proof.Gen.OpIdeal.Value
public import proofs.«01_k».proof.Proof.Gen.OpRefIdeal.Run
public import proofs.«01_k».proof.Proof.Gen.OpRefIdeal.Read
public import proofs.«01_k».proof.Proof.Gen.Wide.Frame
public import proofs.«01_k».proof.Proof.Gen.WideIdeal.Value
public import proofs.«01_k».proof.Proof.Gen.WideRefIdeal.Run
public import proofs.«01_k».proof.Proof.Gen.WideRefIdeal.Read
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Rot.Frame
public import proofs.«01_k».proof.Proof.Gen.RotIdeal.Value
public import proofs.«01_k».proof.Proof.Gen.RotRefIdeal.Run
public import proofs.«01_k».proof.Proof.Gen.RotRefIdeal.Read
public import proofs.«01_k».proof.Proof.Gen.Conv.Frame
public import proofs.«01_k».proof.Proof.Gen.ConvIdeal.Frame
public import proofs.«01_k».proof.Proof.Gen.ConvIdeal.Skeleton
public import proofs.«01_k».proof.Proof.Gen.Conv.Skeleton
public import proofs.«01_k».proof.Proof.Gen.ConvRefIdeal.Run
public import proofs.«01_k».proof.Proof.Gen.ConvRefIdeal.Read
public import proofs.«01_k».proof.Proof.Gen.Ret.Frame
public import proofs.«01_k».proof.Proof.Gen.RetIdeal.Value
public import proofs.«01_k».proof.Proof.Gen.RetRefIdeal.Run
public import proofs.«01_k».proof.Proof.Gen.RetRefIdeal.Step
public import proofs.«01_k».proof.Proof.Gen.Gdn.Frame
public import proofs.«01_k».proof.Proof.Gen.GdnIdeal.Value
public import proofs.«01_k».proof.Proof.Gen.GdnRefIdeal.Run
public import proofs.«01_k».proof.Proof.Gen.GdnRefIdeal.Step
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gg.Claim
public import proofs.«01_k».proof.Proof.Rc.Claim
public import proofs.«01_k».proof.Proof.Gd.Claim
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts,
    Cert.KernelIdeal.Gen.facts,
    Cert.ReferenceIdeal.Gen.facts,
    Cert.Op.Gen.facts,
    Cert.OpIdeal.Gen.facts,
    Cert.OpRefIdeal.Gen.facts,
    Cert.Wide.Gen.facts,
    Cert.WideIdeal.Gen.facts,
    Cert.WideRefIdeal.Gen.facts,
    Cert.Qkv.Gen.facts,
    Cert.QkvIdeal.Gen.facts,
    Cert.QkvRefIdeal.Gen.facts,
    Cert.Rot.Gen.facts,
    Cert.RotIdeal.Gen.facts,
    Cert.RotRefIdeal.Gen.facts,
    Cert.Sb.Gen.facts,
    Cert.SbIdeal.Gen.facts,
    Cert.SbRefIdeal.Gen.facts,
    Cert.Conv.Gen.facts,
    Cert.ConvIdeal.Gen.facts,
    Cert.ConvRefIdeal.Gen.facts,
    Cert.Ret.Gen.facts,
    Cert.RetIdeal.Gen.facts,
    Cert.RetRefIdeal.Gen.facts,
    Cert.Gdn.Gen.facts,
    Cert.GdnIdeal.Gen.facts,
    Cert.GdnRefIdeal.Gen.facts,
    Cert.Gate.Gen.facts,
    Cert.GateIdeal.Gen.facts,
    Cert.GateRefIdeal.Gen.facts,
    Sb.preFacts,
    Gd.preFacts,
    fun m ρ _ => Cert.Kernel.Gen.frame m ρ, fun m ρ _ => Cert.KernelIdeal.Gen.frame m ρ, Ffn.ref_frame,
    fun m ρ _ => Cert.Op.Gen.frame m ρ, fun m ρ _ => Cert.OpIdeal.Gen.frame m ρ, Op.ref_frame,
    fun m ρ _ => Cert.Wide.Gen.frame m ρ, fun m ρ _ => Cert.WideIdeal.Gen.frame m ρ, Wide.ref_frame,
    fun m ρ _ => Cert.Qkv.Gen.frame m ρ, fun m ρ _ => Cert.QkvIdeal.Gen.frame m ρ, Qkv.ref_frame,
    fun m ρ _ => Cert.Rot.Gen.frame m ρ, fun m ρ _ => Cert.RotIdeal.Gen.frame m ρ, Rot.ref_frame,
    fun m ρ _ => Cert.Sb.Gen.frame m ρ, fun m ρ _ => Cert.SbIdeal.Gen.frame m ρ, fun m ρ _ => Cert.SbIdeal.Gen.frame m ρ,
    Sb.ref_frame, Sb.ref_frame_pre,
    fun m ρ _ => Cert.Conv.Gen.frame_run m ρ, fun m ρ _ => Cert.ConvIdeal.Gen.frame_run m ρ, Gp.ref_frame,
    fun m ρ _ => Cert.Ret.Gen.frame m ρ, fun m ρ _ => Cert.RetIdeal.Gen.frame m ρ, Rc.ref_frame,
    fun m ρ _ => Cert.Gdn.Gen.frame m ρ, fun m ρ _ => Cert.GdnIdeal.Gen.frame m ρ, fun m ρ _ => Cert.GdnIdeal.Gen.frame m ρ,
    Gd.ref_frame, Gd.ref_frame_pre,
    fun m ρ _ => Cert.Gate.Gen.frame m ρ, fun m ρ _ => Cert.GateIdeal.Gen.frame m ρ, Gg.ref_frame,
    trivial, Ffn.algebraic, trivial, Op.algebraic, trivial, Wide.algebraic, trivial, Qkv.algebraic, trivial, Rot.algebraic, trivial, Sb.algebraic,
    trivial, Gp.algebraic, trivial, Rc.algebraic, trivial, Gd.algebraic, trivial, Gg.algebraic⟩

end Cert.Proof

end
